-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg_log2e" .bf16 0xBFB9#16 ((-((Real.log 2)⁻¹) : ℝ) : EReal)
  ∧ IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x128 : Shape := ⟨2, ![4096, 128]⟩
abbrev S4096x64 : Shape := ⟨2, ![4096, 64]⟩
abbrev S4096x101 : Shape := ⟨2, ![4096, 101]⟩
abbrev S4096 : Shape := ⟨1, ![4096]⟩
abbrev S101x101 : Shape := ⟨2, ![101, 101]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x101 : S_.BroadcastsInDim S4096x101 (![] : Fin 0 → Fin S4096x101.rank)
  reducesTo_S4096x101_S_d0_1 : S4096x101.ReducesTo [0, 1] S_

variable [Facts]

def fn {F : FTy → Type} [FloatOps F] (main_arg0 : FVec F S4096x128 .f32) (main_arg1 : FVec F S4096x64 .f32) (main_arg2 : FVec F S4096x101 .f32) (main_arg3 : IVec S4096 32) (main_arg4 : FVec F S101x101 .f32) (main_arg5 : FVec F S101x101 .f32) (main_arg6 : FVec F S101x101 .f32) (main_arg7 : IVec S_ 32) : IVec S_ 1 :=
  let main_c : IVec S_ 32 := constantI S_ 32 0#32
  let main_v0 : IVec S4096 32 := broadcastInDim S4096 ![] bcast_S_S4096 main_c
  let main_v1 : IVec S4096 1 := cmpi .sge main_arg3 main_v0
  let main_c_0 : IVec S_ 32 := constantI S_ 32 101#32
  let main_v2 : IVec S4096 32 := broadcastInDim S4096 ![] bcast_S_S4096 main_c_0
  let main_v3 : IVec S4096 1 := cmpi .slt main_arg3 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S4096x101 .f32 := Host.absf main_arg2
  let main_cst : FVec F S_ .f32 := constant S_ .f32 0x7F800000#32
  let main_v7 : FVec F S4096x101 .f32 := broadcastInDim S4096x101 ![] bcast_S_S4096x101 main_cst
  let main_v8 : IVec S4096x101 1 := cmpf .olt main_v6 main_v7
  let main_c_2 : IVec S_ 1 := constantI S_ 1 1#1
  let main_v9 : IVec S_ 1 := (fun x v => Host.reduce IntOp.andi x v reducesTo_S4096x101_S_d0_1 h_S_) main_v8 main_c_2
  let main_v10 : IVec S_ 1 := andi main_v5 main_v9
  main_v10
-- ==== Kernel.lean ====
abbrev S4096x128 : Shape := ⟨2, ![4096, 128]⟩
abbrev S4096x64 : Shape := ⟨2, ![4096, 64]⟩
abbrev S4096x101 : Shape := ⟨2, ![4096, 101]⟩
abbrev S4096 : Shape := ⟨1, ![4096]⟩
abbrev S101x101 : Shape := ⟨2, ![101, 101]⟩
abbrev S_ : Shape := ⟨0, ![]⟩
abbrev S128x128 : Shape := ⟨2, ![128, 128]⟩
abbrev S2x1x2048 : Shape := ⟨3, ![2, 1, 2048]⟩
abbrev S1x128 : Shape := ⟨2, ![1, 128]⟩
abbrev S2048x64 : Shape := ⟨2, ![2048, 64]⟩
abbrev S2048x128 : Shape := ⟨2, ![2048, 128]⟩
abbrev S1x1x2048 : Shape := ⟨3, ![1, 1, 2048]⟩
abbrev S8x64 : Shape := ⟨2, ![8, 64]⟩
abbrev S128x64 : Shape := ⟨2, ![128, 64]⟩
abbrev S1x1 : Shape := ⟨2, ![1, 1]⟩
abbrev S2048 : Shape := ⟨1, ![2048]⟩
abbrev S2048x1 : Shape := ⟨2, ![2048, 1]⟩
abbrev S2048x2048 : Shape := ⟨2, ![2048, 2048]⟩
abbrev S1x2048x128 : Shape := ⟨3, ![1, 2048, 128]⟩
abbrev S1 : Shape := ⟨1, ![1]⟩
abbrev S1x1x1 : Shape := ⟨3, ![1, 1, 1]⟩
abbrev S1x2048 : Shape := ⟨2, ![1, 2048]⟩
abbrev S128 : Shape := ⟨1, ![128]⟩
abbrev S8x8 : Shape := ⟨2, ![8, 8]⟩
abbrev S1x1x8 : Shape := ⟨3, ![1, 1, 8]⟩
abbrev S8 : Shape := ⟨1, ![8]⟩
abbrev S8x1 : Shape := ⟨2, ![8, 1]⟩
abbrev S8x128 : Shape := ⟨2, ![8, 128]⟩
abbrev S1x8 : Shape := ⟨2, ![1, 8]⟩
abbrev S1x1x128 : Shape := ⟨3, ![1, 1, 128]⟩
abbrev S1x8x8 : Shape := ⟨3, ![1, 8, 8]⟩
abbrev S1x128x64 : Shape := ⟨3, ![1, 128, 64]⟩
abbrev S128x1 : Shape := ⟨2, ![128, 1]⟩

abbrev nBuf : Space → Nat
  | .hbm => 37
  | .vmem => 31
  | .smem => 0
  | _ => 0

abbrev bufTy : (tb : Table) → Fin (tcTables nBuf tb) → BufTy
  | .hbm, ⟨0, _⟩ => ⟨S4096x128, .f32⟩
  | .hbm, ⟨1, _⟩ => ⟨S4096x64, .f32⟩
  | .hbm, ⟨2, _⟩ => ⟨S4096x101, .f32⟩
  | .hbm, ⟨3, _⟩ => ⟨S4096, .i32⟩
  | .hbm, ⟨4, _⟩ => ⟨S101x101, .f32⟩
  | .hbm, ⟨5, _⟩ => ⟨S101x101, .f32⟩
  | .hbm, ⟨6, _⟩ => ⟨S101x101, .f32⟩
  | .hbm, ⟨7, _⟩ => ⟨S_, .i32⟩
  | .hbm, ⟨8, _⟩ => ⟨S_, .f32⟩
  | .hbm, ⟨9, _⟩ => ⟨S4096x64, .f32⟩
  | .hbm, ⟨10, _⟩ => ⟨S4096x64, .f32⟩
  | .hbm, ⟨11, _⟩ => ⟨S4096x64, .bf16⟩
  | .hbm, ⟨12, _⟩ => ⟨S4096x64, .bf16⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S_, .i32⟩
  | .hbm, ⟨17, _⟩ => ⟨S_, .f32⟩
  | .hbm, ⟨18, _⟩ => ⟨S128x128, .f32⟩
  | .hbm, ⟨19, _⟩ => ⟨S_, .i32⟩
  | .hbm, ⟨20, _⟩ => ⟨S_, .f32⟩
  | .hbm, ⟨21, _⟩ => ⟨S128x128, .f32⟩
  | .hbm, ⟨22, _⟩ => ⟨S_, .i32⟩
  | .hbm, ⟨23, _⟩ => ⟨S_, .f32⟩
  | .hbm, ⟨24, _⟩ => ⟨S128x128, .f32⟩
  | .hbm, ⟨25, _⟩ => ⟨S2x1x2048, .i32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S101x101, .f32⟩
  | .hbm, ⟨30, _⟩ => ⟨S101x101, .f32⟩
  | .hbm, ⟨31, _⟩ => ⟨S1x1, .f32⟩
  | .hbm, ⟨32, _⟩ => ⟨S_, .f32⟩
  | .hbm, ⟨33, _⟩ => ⟨S1x1, .f32⟩
  | .hbm, ⟨34, _⟩ => ⟨S_, .f32⟩
  | .hbm, ⟨35, _⟩ => ⟨S1x1, .f32⟩
  | .hbm, ⟨36, _⟩ => ⟨S_, .f32⟩
  | .local _ .vmem, ⟨0, _⟩ => ⟨S2048x64, .bf16⟩
  | .local _ .vmem, ⟨1, _⟩ => ⟨S2048x64, .bf16⟩
  | .local _ .vmem, ⟨2, _⟩ => ⟨S2048x64, .bf16⟩
  | .local _ .vmem, ⟨3, _⟩ => ⟨S2048x64, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x1x2048, .i32⟩
  | .local _ .vmem, ⟨9, _⟩ => ⟨S1x1x2048, .i32⟩
  | .local _ .vmem, ⟨10, _⟩ => ⟨S1x1x2048, .i32⟩
  | .local _ .vmem, ⟨11, _⟩ => ⟨S1x1x2048, .i32⟩
  | .local _ .vmem, ⟨12, _⟩ => ⟨S8x64, .bf16⟩
  | .local _ .vmem, ⟨13, _⟩ => ⟨S8x64, .bf16⟩
  | .local _ .vmem, ⟨14, _⟩ => ⟨S1x1x2048, .i32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S128x64, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | .local _ .vmem, ⟨30, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![3], ![false]⟩

def k0_cond3 (i : grid0.Coords) : BitVec 1 :=
  let arg0 : BitVec 32 := BitVec.ofNat 32 (i 0).val
  let c2_i32_42 : BitVec 32 := 2#32
  let v95 : BitVec 1 := Scalar.cmpi .eq arg0 c2_i32_42
  let v96 : BitVec 32 := Scalar.extui v95
  let c0_i32_43 : BitVec 32 := 0#32
  let v97 : BitVec 1 := Scalar.cmpi .ne v96 c0_i32_43
  v97

def cc0_transform_0 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c2_i32 : BitVec 32 := 2#32
  let v2 : BitVec 1 := Scalar.cmpi .sge v1 c2_i32
  let v3 : BitVec 32 := Scalar.extui v2
  let c0_i32_0 : BitVec 32 := 0#32
  let v4 : BitVec 32 := Scalar.addi c0_i32_0 v3
  let c2_i32_1 : BitVec 32 := 2#32
  let v5 : BitVec 32 := Scalar.muli v4 c2_i32_1
  let c1_i32_2 : BitVec 32 := 1#32
  let v6 : BitVec 32 := Scalar.subi v4 c1_i32_2
  let v7 : BitVec 32 := Scalar.muli v4 v6
  let c2_i32_3 : BitVec 32 := 2#32
  let v8 : BitVec 32 := Scalar.divsi v7 c2_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c0_i32_6 : BitVec 32 := 0#32
  let v14 : BitVec 1 := Scalar.cmpi .sgt c2_i32_3 c0_i32_6
  let v15 : BitVec 32 := Scalar.extui v14
  let c0_i32_7 : BitVec 32 := 0#32
  let v16 : BitVec 1 := Scalar.cmpi .slt c2_i32_3 c0_i32_7
  let v17 : BitVec 32 := Scalar.extui v16
  let v18 : BitVec 32 := Scalar.subi v15 v17
  let v19 : BitVec 1 := Scalar.cmpi .ne v13 v18
  let v20 : BitVec 32 := Scalar.remsi v7 c2_i32_3
  let c0_i32_8 : BitVec 32 := 0#32
  let v21 : BitVec 1 := Scalar.cmpi .ne v20 c0_i32_8
  let v22 : BitVec 1 := Scalar.andi v19 v21
  let c1_i32_9 : BitVec 32 := 1#32
  let v23 : BitVec 32 := Scalar.subi v8 c1_i32_9
  let v24 : BitVec 32 := Scalar.select v22 v23 v8
  let v25 : BitVec 32 := Scalar.subi v5 v24
  let v26 : BitVec 32 := Scalar.subi v1 v25
  let v27 : BitVec 32 := Scalar.addi v26 v4
  let c0_i32_10 : BitVec 32 := 0#32
  let c0_i32_11 : BitVec 32 := 0#32
  ![v4.toNat, c0_i32_10.toNat]

def cc0_transform_1 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c2_i32 : BitVec 32 := 2#32
  let v2 : BitVec 1 := Scalar.cmpi .sge v1 c2_i32
  let v3 : BitVec 32 := Scalar.extui v2
  let c0_i32_0 : BitVec 32 := 0#32
  let v4 : BitVec 32 := Scalar.addi c0_i32_0 v3
  let c2_i32_1 : BitVec 32 := 2#32
  let v5 : BitVec 32 := Scalar.muli v4 c2_i32_1
  let c1_i32_2 : BitVec 32 := 1#32
  let v6 : BitVec 32 := Scalar.subi v4 c1_i32_2
  let v7 : BitVec 32 := Scalar.muli v4 v6
  let c2_i32_3 : BitVec 32 := 2#32
  let v8 : BitVec 32 := Scalar.divsi v7 c2_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c0_i32_6 : BitVec 32 := 0#32
  let v14 : BitVec 1 := Scalar.cmpi .sgt c2_i32_3 c0_i32_6
  let v15 : BitVec 32 := Scalar.extui v14
  let c0_i32_7 : BitVec 32 := 0#32
  let v16 : BitVec 1 := Scalar.cmpi .slt c2_i32_3 c0_i32_7
  let v17 : BitVec 32 := Scalar.extui v16
  let v18 : BitVec 32 := Scalar.subi v15 v17
  let v19 : BitVec 1 := Scalar.cmpi .ne v13 v18
  let v20 : BitVec 32 := Scalar.remsi v7 c2_i32_3
  let c0_i32_8 : BitVec 32 := 0#32
  let v21 : BitVec 1 := Scalar.cmpi .ne v20 c0_i32_8
  let v22 : BitVec 1 := Scalar.andi v19 v21
  let c1_i32_9 : BitVec 32 := 1#32
  let v23 : BitVec 32 := Scalar.subi v8 c1_i32_9
  let v24 : BitVec 32 := Scalar.select v22 v23 v8
  let v25 : BitVec 32 := Scalar.subi v5 v24
  let v26 : BitVec 32 := Scalar.subi v1 v25
  let v27 : BitVec 32 := Scalar.addi v26 v4
  let c0_i32_10 : BitVec 32 := 0#32
  let c0_i32_11 : BitVec 32 := 0#32
  ![v27.toNat, c0_i32_10.toNat]

def cc0_transform_2 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c2_i32 : BitVec 32 := 2#32
  let v2 : BitVec 1 := Scalar.cmpi .sge v1 c2_i32
  let v3 : BitVec 32 := Scalar.extui v2
  let c0_i32_0 : BitVec 32 := 0#32
  let v4 : BitVec 32 := Scalar.addi c0_i32_0 v3
  let c2_i32_1 : BitVec 32 := 2#32
  let v5 : BitVec 32 := Scalar.muli v4 c2_i32_1
  let c1_i32_2 : BitVec 32 := 1#32
  let v6 : BitVec 32 := Scalar.subi v4 c1_i32_2
  let v7 : BitVec 32 := Scalar.muli v4 v6
  let c2_i32_3 : BitVec 32 := 2#32
  let v8 : BitVec 32 := Scalar.divsi v7 c2_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c0_i32_6 : BitVec 32 := 0#32
  let v14 : BitVec 1 := Scalar.cmpi .sgt c2_i32_3 c0_i32_6
  let v15 : BitVec 32 := Scalar.extui v14
  let c0_i32_7 : BitVec 32 := 0#32
  let v16 : BitVec 1 := Scalar.cmpi .slt c2_i32_3 c0_i32_7
  let v17 : BitVec 32 := Scalar.extui v16
  let v18 : BitVec 32 := Scalar.subi v15 v17
  let v19 : BitVec 1 := Scalar.cmpi .ne v13 v18
  let v20 : BitVec 32 := Scalar.remsi v7 c2_i32_3
  let c0_i32_8 : BitVec 32 := 0#32
  let v21 : BitVec 1 := Scalar.cmpi .ne v20 c0_i32_8
  let v22 : BitVec 1 := Scalar.andi v19 v21
  let c1_i32_9 : BitVec 32 := 1#32
  let v23 : BitVec 32 := Scalar.subi v8 c1_i32_9
  let v24 : BitVec 32 := Scalar.select v22 v23 v8
  let v25 : BitVec 32 := Scalar.subi v5 v24
  let v26 : BitVec 32 := Scalar.subi v1 v25
  let v27 : BitVec 32 := Scalar.addi v26 v4
  let c1_i32_10 : BitVec 32 := 1#32
  let v28 : BitVec 32 := Scalar.muli c1_i32_10 arg0
  let c0_i32_11 : BitVec 32 := 0#32
  let v29 : BitVec 32 := Scalar.addi v28 c0_i32_11
  let c2_i32_12 : BitVec 32 := 2#32
  let v30 : BitVec 1 := Scalar.cmpi .slt v29 c2_i32_12
  let c0_i32_13 : BitVec 32 := 0#32
  let v31 : BitVec 32 := Scalar.select v30 v27 c0_i32_13
  let c0_i32_14 : BitVec 32 := 0#32
  let c0_i32_15 : BitVec 32 := 0#32
  ![v31.toNat, c0_i32_14.toNat]

def cc0_transform_3 (i : grid0.Coords) : Fin 2 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c2_i32 : BitVec 32 := 2#32
  let v2 : BitVec 1 := Scalar.cmpi .sge v1 c2_i32
  let v3 : BitVec 32 := Scalar.extui v2
  let c0_i32_0 : BitVec 32 := 0#32
  let v4 : BitVec 32 := Scalar.addi c0_i32_0 v3
  let c2_i32_1 : BitVec 32 := 2#32
  let v5 : BitVec 32 := Scalar.muli v4 c2_i32_1
  let c1_i32_2 : BitVec 32 := 1#32
  let v6 : BitVec 32 := Scalar.subi v4 c1_i32_2
  let v7 : BitVec 32 := Scalar.muli v4 v6
  let c2_i32_3 : BitVec 32 := 2#32
  let v8 : BitVec 32 := Scalar.divsi v7 c2_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c0_i32_6 : BitVec 32 := 0#32
  let v14 : BitVec 1 := Scalar.cmpi .sgt c2_i32_3 c0_i32_6
  let v15 : BitVec 32 := Scalar.extui v14
  let c0_i32_7 : BitVec 32 := 0#32
  let v16 : BitVec 1 := Scalar.cmpi .slt c2_i32_3 c0_i32_7
  let v17 : BitVec 32 := Scalar.extui v16
  let v18 : BitVec 32 := Scalar.subi v15 v17
  let v19 : BitVec 1 := Scalar.cmpi .ne v13 v18
  let v20 : BitVec 32 := Scalar.remsi v7 c2_i32_3
  let c0_i32_8 : BitVec 32 := 0#32
  let v21 : BitVec 1 := Scalar.cmpi .ne v20 c0_i32_8
  let v22 : BitVec 1 := Scalar.andi v19 v21
  let c1_i32_9 : BitVec 32 := 1#32
  let v23 : BitVec 32 := Scalar.subi v8 c1_i32_9
  let v24 : BitVec 32 := Scalar.select v22 v23 v8
  let v25 : BitVec 32 := Scalar.subi v5 v24
  let v26 : BitVec 32 := Scalar.subi v1 v25
  let v27 : BitVec 32 := Scalar.addi v26 v4
  let c1_i32_10 : BitVec 32 := 1#32
  let v28 : BitVec 32 := Scalar.muli c1_i32_10 arg0
  let c0_i32_11 : BitVec 32 := 0#32
  let v29 : BitVec 32 := Scalar.addi v28 c0_i32_11
  let c2_i32_12 : BitVec 32 := 2#32
  let v30 : BitVec 1 := Scalar.cmpi .slt v29 c2_i32_12
  let c0_i32_13 : BitVec 32 := 0#32
  let v31 : BitVec 32 := Scalar.select v30 v27 c0_i32_13
  let c0_i32_14 : BitVec 32 := 0#32
  let c0_i32_15 : BitVec 32 := 0#32
  ![v31.toNat, c0_i32_14.toNat]

def cc0_transform_4 (i : grid0.Coords) : Fin 3 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c2_i32 : BitVec 32 := 2#32
  let v2 : BitVec 1 := Scalar.cmpi .sge v1 c2_i32
  let v3 : BitVec 32 := Scalar.extui v2
  let c0_i32_0 : BitVec 32 := 0#32
  let v4 : BitVec 32 := Scalar.addi c0_i32_0 v3
  let c2_i32_1 : BitVec 32 := 2#32
  let v5 : BitVec 32 := Scalar.muli v4 c2_i32_1
  let c1_i32_2 : BitVec 32 := 1#32
  let v6 : BitVec 32 := Scalar.subi v4 c1_i32_2
  let v7 : BitVec 32 := Scalar.muli v4 v6
  let c2_i32_3 : BitVec 32 := 2#32
  let v8 : BitVec 32 := Scalar.divsi v7 c2_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c0_i32_6 : BitVec 32 := 0#32
  let v14 : BitVec 1 := Scalar.cmpi .sgt c2_i32_3 c0_i32_6
  let v15 : BitVec 32 := Scalar.extui v14
  let c0_i32_7 : BitVec 32 := 0#32
  let v16 : BitVec 1 := Scalar.cmpi .slt c2_i32_3 c0_i32_7
  let v17 : BitVec 32 := Scalar.extui v16
  let v18 : BitVec 32 := Scalar.subi v15 v17
  let v19 : BitVec 1 := Scalar.cmpi .ne v13 v18
  let v20 : BitVec 32 := Scalar.remsi v7 c2_i32_3
  let c0_i32_8 : BitVec 32 := 0#32
  let v21 : BitVec 1 := Scalar.cmpi .ne v20 c0_i32_8
  let v22 : BitVec 1 := Scalar.andi v19 v21
  let c1_i32_9 : BitVec 32 := 1#32
  let v23 : BitVec 32 := Scalar.subi v8 c1_i32_9
  let v24 : BitVec 32 := Scalar.select v22 v23 v8
  let v25 : BitVec 32 := Scalar.subi v5 v24
  let v26 : BitVec 32 := Scalar.subi v1 v25
  let v27 : BitVec 32 := Scalar.addi v26 v4
  let c0_i32_10 : BitVec 32 := 0#32
  let c0_i32_11 : BitVec 32 := 0#32
  let c0_i32_12 : BitVec 32 := 0#32
  ![v4.toNat, c0_i32_10.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.muli c1_i32 arg0
  let c0_i32 : BitVec 32 := 0#32
  let v1 : BitVec 32 := Scalar.addi v0 c0_i32
  let c2_i32 : BitVec 32 := 2#32
  let v2 : BitVec 1 := Scalar.cmpi .sge v1 c2_i32
  let v3 : BitVec 32 := Scalar.extui v2
  let c0_i32_0 : BitVec 32 := 0#32
  let v4 : BitVec 32 := Scalar.addi c0_i32_0 v3
  let c2_i32_1 : BitVec 32 := 2#32
  let v5 : BitVec 32 := Scalar.muli v4 c2_i32_1
  let c1_i32_2 : BitVec 32 := 1#32
  let v6 : BitVec 32 := Scalar.subi v4 c1_i32_2
  let v7 : BitVec 32 := Scalar.muli v4 v6
  let c2_i32_3 : BitVec 32 := 2#32
  let v8 : BitVec 32 := Scalar.divsi v7 c2_i32_3
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c0_i32_6 : BitVec 32 := 0#32
  let v14 : BitVec 1 := Scalar.cmpi .sgt c2_i32_3 c0_i32_6
  let v15 : BitVec 32 := Scalar.extui v14
  let c0_i32_7 : BitVec 32 := 0#32
  let v16 : BitVec 1 := Scalar.cmpi .slt c2_i32_3 c0_i32_7
  let v17 : BitVec 32 := Scalar.extui v16
  let v18 : BitVec 32 := Scalar.subi v15 v17
  let v19 : BitVec 1 := Scalar.cmpi .ne v13 v18
  let v20 : BitVec 32 := Scalar.remsi v7 c2_i32_3
  let c0_i32_8 : BitVec 32 := 0#32
  let v21 : BitVec 1 := Scalar.cmpi .ne v20 c0_i32_8
  let v22 : BitVec 1 := Scalar.andi v19 v21
  let c1_i32_9 : BitVec 32 := 1#32
  let v23 : BitVec 32 := Scalar.subi v8 c1_i32_9
  let v24 : BitVec 32 := Scalar.select v22 v23 v8
  let v25 : BitVec 32 := Scalar.subi v5 v24
  let v26 : BitVec 32 := Scalar.subi v1 v25
  let v27 : BitVec 32 := Scalar.addi v26 v4
  let c0_i32_10 : BitVec 32 := 0#32
  let c0_i32_11 : BitVec 32 := 0#32
  let c0_i32_12 : BitVec 32 := 0#32
  ![v27.toNat, c0_i32_10.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | "neg_log2e" => some ((-((Real.log 2)⁻¹) : ℝ) : EReal)
  | _ => none
-- ==== ReferenceIdeal.lean ====
abbrev S4096x128 : Shape := ⟨2, ![4096, 128]⟩
abbrev S4096x64 : Shape := ⟨2, ![4096, 64]⟩
abbrev S4096x101 : Shape := ⟨2, ![4096, 101]⟩
abbrev S4096 : Shape := ⟨1, ![4096]⟩
abbrev S101x101 : Shape := ⟨2, ![101, 101]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S128x4096 : Shape := ⟨2, ![128, 4096]⟩
abbrev S4096x4096 : Shape := ⟨2, ![4096, 4096]⟩
abbrev S1x4096 : Shape := ⟨2, ![1, 4096]⟩
abbrev S4096x4096x1 : Shape := ⟨3, ![4096, 4096, 1]⟩
abbrev S4096x4096x2 : Shape := ⟨3, ![4096, 4096, 2]⟩
abbrev S64x4096 : Shape := ⟨2, ![64, 4096]⟩
abbrev S1x101 : Shape := ⟨2, ![1, 101]⟩
abbrev S101x4096 : Shape := ⟨2, ![101, 4096]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x6x1 : Shape := ⟨3, ![6, 6, 1]⟩
abbrev S6x6x2 : Shape := ⟨3, ![6, 6, 2]⟩
abbrev S2 : Shape := ⟨1, ![2]⟩

abbrev nBuf : Space → Nat
  | .hbm => 265
  | .vmem => 0
  | .smem => 0
  | _ => 0

abbrev hbmTy0_0 (i : Nat) : BufTy := match i % 128 with
  | 0 => ⟨S4096x128, .f32⟩
  | 1 => ⟨S4096x64, .f32⟩
  | 2 => ⟨S4096x101, .f32⟩
  | 3 => ⟨S4096, .i32⟩
  | 4 => ⟨S101x101, .f32⟩
  | 5 => ⟨S101x101, .f32⟩
  | 6 => ⟨S101x101, .f32⟩
  | 7 => ⟨S_, .i32⟩
  | 8 => ⟨S_, .f32⟩
  | 9 => ⟨S4096, .f32⟩
  | 10 => ⟨S_, .f32⟩
  | 11 => ⟨S4096, .f32⟩
  | 12 => ⟨S4096, .f32⟩
  | 13 => ⟨S4096x1, .f32⟩
  | 14 => ⟨S4096x101, .f32⟩
  | 15 => ⟨S4096x101, .f32⟩
  | 16 => ⟨S4096x101, .f32⟩
  | 17 => ⟨S_, .f32⟩
  | 18 => ⟨S4096, .f32⟩
  | 19 => ⟨S4096x1, .f32⟩
  | 20 => ⟨S4096x1, .f32⟩
  | 21 => ⟨S4096x101, .f32⟩
  | 22 => ⟨S4096x101, .f32⟩
  | 23 => ⟨S4096x1, .i32⟩
  | 24 => ⟨S_, .i32⟩
  | 25 => ⟨S4096x1, .i32⟩
  | 26 => ⟨S4096x1, .i1⟩
  | 27 => ⟨S_, .i32⟩
  | 28 => ⟨S4096x1, .i32⟩
  | 29 => ⟨S4096x1, .i32⟩
  | 30 => ⟨S4096x1, .i32⟩
  | 31 => ⟨S4096x1x1, .i32⟩
  | 32 => ⟨S1, .i32⟩
  | 33 => ⟨S_, .i32⟩
  | 34 => ⟨S4096x1x1, .i32⟩
  | 35 => ⟨S4096x1x1, .i1⟩
  | 36 => ⟨S1x1x1, .i32⟩
  | 37 => ⟨S4096x1x1, .i32⟩
  | 38 => ⟨S4096x1x1, .i1⟩
  | 39 => ⟨S4096x1x1, .i1⟩
  | 40 => ⟨S_, .i1⟩
  | 41 => ⟨S4096x1, .i1⟩
  | 42 => ⟨S4096x1, .f32⟩
  | 43 => ⟨S_, .f32⟩
  | 44 => ⟨S4096x1, .f32⟩
  | 45 => ⟨S4096x1, .f32⟩
  | 46 => ⟨S4096, .f32⟩
  | 47 => ⟨S4096, .f32⟩
  | 48 => ⟨S_, .f32⟩
  | 49 => ⟨S_, .f32⟩
  | 50 => ⟨S_, .f32⟩
  | 51 => ⟨S_, .f32⟩
  | 52 => ⟨S4096x128, .f32⟩
  | 53 => ⟨S_, .f32⟩
  | 54 => ⟨S4096, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x128, .f32⟩
  | 61 => ⟨S4096x128, .f32⟩
  | 62 => ⟨S128x4096, .f32⟩
  | 63 => ⟨S4096x4096, .f32⟩
  | 64 => ⟨S4096x101, .i32⟩
  | 65 => ⟨S_, .f32⟩
  | 66 => ⟨S_, .i32⟩
  | 67 => ⟨S4096, .f32⟩
  | 68 => ⟨S4096, .i32⟩
  | 69 => ⟨S4096, .i1⟩
  | 70 => ⟨S4096, .i32⟩
  | 71 => ⟨S4096x1, .i1⟩
  | 72 => ⟨S1x4096, .i1⟩
  | 73 => ⟨S4096x4096, .i1⟩
  | 74 => ⟨S4096x4096, .i1⟩
  | 75 => ⟨S4096x4096, .i1⟩
  | 76 => ⟨S1x4096, .i32⟩
  | 77 => ⟨S4096x1, .i32⟩
  | 78 => ⟨S4096x4096, .i32⟩
  | 79 => ⟨S4096x4096, .i32⟩
  | 80 => ⟨S4096x4096, .i1⟩
  | 81 => ⟨S4096x4096, .i1⟩
  | 82 => ⟨S4096x4096, .f32⟩
  | 83 => ⟨S4096x4096, .f32⟩
  | 84 => ⟨S4096x1, .i32⟩
  | 85 => ⟨S4096x4096, .i32⟩
  | 86 => ⟨S1x4096, .i32⟩
  | 87 => ⟨S4096x4096, .i32⟩
  | 88 => ⟨S_, .f32⟩
  | 89 => ⟨S101x101, .f32⟩
  | 90 => ⟨S_, .i32⟩
  | 91 => ⟨S4096x4096, .i32⟩
  | 92 => ⟨S4096x4096, .i1⟩
  | 93 => ⟨S_, .i32⟩
  | 94 => ⟨S4096x4096, .i32⟩
  | 95 => ⟨S4096x4096, .i32⟩
  | 96 => ⟨S4096x4096, .i32⟩
  | 97 => ⟨S_, .i32⟩
  | 98 => ⟨S4096x4096, .i32⟩
  | 99 => ⟨S4096x4096, .i1⟩
  | 100 => ⟨S_, .i32⟩
  | 101 => ⟨S4096x4096, .i32⟩
  | 102 => ⟨S4096x4096, .i32⟩
  | 103 => ⟨S4096x4096, .i32⟩
  | 104 => ⟨S4096x4096x1, .i32⟩
  | 105 => ⟨S4096x4096x1, .i32⟩
  | 106 => ⟨S4096x4096x2, .i32⟩
  | 107 => ⟨S101x101, .f32⟩
  | 108 => ⟨S_, .f32⟩
  | 109 => ⟨S101x101, .f32⟩
  | 110 => ⟨S_, .i32⟩
  | 111 => ⟨S4096x4096, .i32⟩
  | 112 => ⟨S4096x4096, .i1⟩
  | 113 => ⟨S_, .i32⟩
  | 114 => ⟨S4096x4096, .i32⟩
  | 115 => ⟨S4096x4096, .i32⟩
  | 116 => ⟨S4096x4096, .i32⟩
  | 117 => ⟨S_, .i32⟩
  | 118 => ⟨S4096x4096, .i32⟩
  | 119 => ⟨S4096x4096, .i1⟩
  | 120 => ⟨S_, .i32⟩
  | 121 => ⟨S4096x4096, .i32⟩
  | 122 => ⟨S4096x4096, .i32⟩
  | 123 => ⟨S4096x4096, .i32⟩
  | 124 => ⟨S4096x4096x1, .i32⟩
  | 125 => ⟨S4096x4096x1, .i32⟩
  | 126 => ⟨S4096x4096x2, .i32⟩
  | 127 => ⟨S101x101, .f32⟩
  | _ => ⟨S4096x128, .f32⟩

abbrev hbmTy0_1 (i : Nat) : BufTy := match i % 128 with
  | 0 => ⟨S101x101, .i32⟩
  | 1 => ⟨S101x101, .i32⟩
  | 2 => ⟨S_, .i32⟩
  | 3 => ⟨S101x101, .i32⟩
  | 4 => ⟨S101x101, .i32⟩
  | 5 => ⟨S101x101, .i1⟩
  | 6 => ⟨S101x101, .f32⟩
  | 7 => ⟨S101x101, .f32⟩
  | 8 => ⟨S_, .f32⟩
  | 9 => ⟨S_, .f32⟩
  | 10 => ⟨S101x101, .f32⟩
  | 11 => ⟨S101x101, .f32⟩
  | 12 => ⟨S101x101, .f32⟩
  | 13 => ⟨S101x101, .f32⟩
  | 14 => ⟨S101x101, .f32⟩
  | 15 => ⟨S_, .f32⟩
  | 16 => ⟨S_, .f32⟩
  | 17 => ⟨S101x101, .f32⟩
  | 18 => ⟨S101x101, .f32⟩
  | 19 => ⟨S101x101, .f32⟩
  | 20 => ⟨S101x101, .f32⟩
  | 21 => ⟨S101x101, .f32⟩
  | 22 => ⟨S64x4096, .f32⟩
  | 23 => ⟨S4096x4096, .f32⟩
  | 24 => ⟨S_, .f32⟩
  | 25 => ⟨S4096x4096, .f32⟩
  | 26 => ⟨S4096x4096, .f32⟩
  | 27 => ⟨S4096x1, .i32⟩
  | 28 => ⟨S1x101, .i32⟩
  | 29 => ⟨S4096x101, .i32⟩
  | 30 => ⟨S4096x101, .i32⟩
  | 31 => ⟨S4096x101, .i1⟩
  | 32 => ⟨S4096x101, .f32⟩
  | 33 => ⟨S101x4096, .f32⟩
  | 34 => ⟨S4096x4096, .f32⟩
  | 35 => ⟨S_, .f32⟩
  | 36 => ⟨S4096x4096, .f32⟩
  | 37 => ⟨S4096x4096, .i1⟩
  | 38 => ⟨S4096x4096, .f32⟩
  | 39 => ⟨S6, .i32⟩
  | 40 => ⟨S6x1, .i32⟩
  | 41 => ⟨S6, .i32⟩
  | 42 => ⟨S1x6, .i32⟩
  | 43 => ⟨S_, .i32⟩
  | 44 => ⟨S6x1, .i32⟩
  | 45 => ⟨S6x1, .i1⟩
  | 46 => ⟨S_, .i32⟩
  | 47 => ⟨S6x1, .i32⟩
  | 48 => ⟨S6x1, .i32⟩
  | 49 => ⟨S6x1, .i32⟩
  | 50 => ⟨S_, .i32⟩
  | 51 => ⟨S1x6, .i32⟩
  | 52 => ⟨S1x6, .i1⟩
  | 53 => ⟨S_, .i32⟩
  | 54 => ⟨S1x6, .i32⟩
  | 55 => ⟨S1x6, .i32⟩
  | 56 => ⟨S1x6, .i32⟩
  | 57 => ⟨S6x6, .i32⟩
  | 58 => ⟨S6x6, .i32⟩
  | 59 => ⟨S6x6x1, .i32⟩
  | 60 => ⟨S6x6x1, .i32⟩
  | 61 => ⟨S6x6x2, .i32⟩
  | 62 => ⟨S6x6, .f32⟩
  | 63 => ⟨S_, .i32⟩
  | 64 => ⟨S1, .i32⟩
  | 65 => ⟨S_, .i32⟩
  | 66 => ⟨S1, .i32⟩
  | 67 => ⟨S2, .i32⟩
  | 68 => ⟨S4096x4096, .f32⟩
  | 69 => ⟨S_, .f32⟩
  | 70 => ⟨S4096x4096, .f32⟩
  | 71 => ⟨S4096x4096, .f32⟩
  | 72 => ⟨S4096x4096, .f32⟩
  | 73 => ⟨S4096x4096, .f32⟩
  | 74 => ⟨S4096x4096, .i1⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S4096x4096, .f32⟩
  | 82 => ⟨S4096x4096, .f32⟩
  | 83 => ⟨S4096x4096, .f32⟩
  | 84 => ⟨S4096x4096, .f32⟩
  | 85 => ⟨S_, .f32⟩
  | 86 => ⟨S4096x4096, .f32⟩
  | 87 => ⟨S4096x4096, .i1⟩
  | 88 => ⟨S4096x4096, .i1⟩
  | 89 => ⟨S4096x4096, .f32⟩
  | 90 => ⟨S_, .f32⟩
  | 91 => ⟨S_, .f32⟩
  | 92 => ⟨S_, .f32⟩
  | 93 => ⟨S_, .f32⟩
  | 94 => ⟨S4096x4096, .f32⟩
  | 95 => ⟨S_, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S_, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x4096, .f32⟩
  | 115 => ⟨S4096x4096, .i32⟩
  | 116 => ⟨S4096x4096, .i32⟩
  | 117 => ⟨S_, .i32⟩
  | 118 => ⟨S4096x4096, .i32⟩
  | 119 => ⟨S4096x4096, .i32⟩
  | 120 => ⟨S4096x4096, .i1⟩
  | 121 => ⟨S_, .f32⟩
  | 122 => ⟨S_, .f32⟩
  | 123 => ⟨S4096x4096, .f32⟩
  | 124 => ⟨S4096x4096, .f32⟩
  | 125 => ⟨S4096x4096, .f32⟩
  | 126 => ⟨S_, .f32⟩
  | 127 => ⟨S_, .f32⟩
  | _ => ⟨S4096x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev main_v1 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_cst : Ref sig .tc := ⟨.hbm, 48, rfl⟩
abbrev main_v5 : Ref sig .tc := ⟨.hbm, 49, rfl⟩
abbrev main_cst_0 : Ref sig .tc := ⟨.hbm, 50, rfl⟩
abbrev main_v6 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v7 : Ref sig .tc := ⟨.hbm, 56, rfl⟩
abbrev main_cst_1 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_call3_v0 : Ref sig .tc := ⟨.hbm, 64, rfl⟩
abbrev main_call3_cst : Ref sig .tc := ⟨.hbm, 65, rfl⟩
abbrev main_call3_c : Ref sig .tc := ⟨.hbm, 66, rfl⟩
abbrev main_call3_v1_0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_2 : Ref sig .tc := ⟨.hbm, 88, rfl⟩
abbrev main_v34 : Ref sig .tc := ⟨.hbm, 89, rfl⟩
abbrev main_c : Ref sig .tc := ⟨.hbm, 90, rfl⟩
abbrev main_v35 : Ref sig .tc := ⟨.hbm, 91, rfl⟩
abbrev main_v36 : Ref sig .tc := ⟨.hbm, 92, rfl⟩
abbrev main_c_3 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_c_4 : Ref sig .tc := ⟨.hbm, 97, rfl⟩
abbrev main_v40 : Ref sig .tc := ⟨.hbm, 98, rfl⟩
abbrev main_v41 : Ref sig .tc := ⟨.hbm, 99, rfl⟩
abbrev main_c_5 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_cst_6 : Ref sig .tc := ⟨.hbm, 108, rfl⟩
abbrev main_v49 : Ref sig .tc := ⟨.hbm, 109, rfl⟩
abbrev main_c_7 : Ref sig .tc := ⟨.hbm, 110, rfl⟩
abbrev main_v50 : Ref sig .tc := ⟨.hbm, 111, rfl⟩
abbrev main_v51 : Ref sig .tc := ⟨.hbm, 112, rfl⟩
abbrev main_c_8 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_c_9 : Ref sig .tc := ⟨.hbm, 117, rfl⟩
abbrev main_v55 : Ref sig .tc := ⟨.hbm, 118, rfl⟩
abbrev main_v56 : Ref sig .tc := ⟨.hbm, 119, rfl⟩
abbrev main_c_10 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_11 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_12 : Ref sig .tc := ⟨.hbm, 136, rfl⟩
abbrev main_call4_v0 : Ref sig .tc := ⟨.hbm, 137, rfl⟩
abbrev main_call4_v1 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_13 : Ref sig .tc := ⟨.hbm, 143, rfl⟩
abbrev main_call5_v0 : Ref sig .tc := ⟨.hbm, 144, rfl⟩
abbrev main_call5_v1 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_cst_14 : Ref sig .tc := ⟨.hbm, 152, rfl⟩
abbrev main_v81 : Ref sig .tc := ⟨.hbm, 153, rfl⟩
abbrev main_v82 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_15 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_c_16 : Ref sig .tc := ⟨.hbm, 171, rfl⟩
abbrev main_v93 : Ref sig .tc := ⟨.hbm, 172, rfl⟩
abbrev main_v94 : Ref sig .tc := ⟨.hbm, 173, rfl⟩
abbrev main_c_17 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_c_18 : Ref sig .tc := ⟨.hbm, 178, rfl⟩
abbrev main_v98 : Ref sig .tc := ⟨.hbm, 179, rfl⟩
abbrev main_v99 : Ref sig .tc := ⟨.hbm, 180, rfl⟩
abbrev main_c_19 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_c_20 : Ref sig .tc := ⟨.hbm, 191, rfl⟩
abbrev main_v109 : Ref sig .tc := ⟨.hbm, 192, rfl⟩
abbrev main_c_21 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_cst_22 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_23 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_cst_24 : Ref sig .tc := ⟨.hbm, 218, rfl⟩
abbrev main_v132 : Ref sig .tc := ⟨.hbm, 219, rfl⟩
abbrev main_cst_25 : Ref sig .tc := ⟨.hbm, 220, rfl⟩
abbrev main_v133 : Ref sig .tc := ⟨.hbm, 221, rfl⟩
abbrev main_v134 : Ref sig .tc := ⟨.hbm, 222, rfl⟩
abbrev main_cst_26 : Ref sig .tc := ⟨.hbm, 223, rfl⟩
abbrev main_v135 : Ref sig .tc := ⟨.hbm, 224, rfl⟩
abbrev main_cst_27 : Ref sig .tc := ⟨.hbm, 225, rfl⟩
abbrev main_v136 : Ref sig .tc := ⟨.hbm, 226, rfl⟩
abbrev main_cst_28 : Ref sig .tc := ⟨.hbm, 227, rfl⟩
abbrev main_call7_v0 : Ref sig .tc := ⟨.hbm, 228, rfl⟩
abbrev main_v137 : Ref sig .tc := ⟨.hbm, 229, rfl⟩
abbrev main_cst_29 : Ref sig .tc := ⟨.hbm, 230, rfl⟩
abbrev main_v138 : Ref sig .tc := ⟨.hbm, 231, rfl⟩
abbrev main_cst_30 : Ref sig .tc := ⟨.hbm, 232, rfl⟩
abbrev main_call8_v0 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_c_31 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_cst_32 : Ref sig .tc := ⟨.hbm, 249, rfl⟩
abbrev main_call10_v0 : Ref sig .tc := ⟨.hbm, 250, rfl⟩
abbrev main_call10_v1 : Ref sig .tc := ⟨.hbm, 251, rfl⟩
abbrev main_v153 : Ref sig .tc := ⟨.hbm, 252, rfl⟩
abbrev main_v154 : Ref sig .tc := ⟨.hbm, 253, rfl⟩
abbrev main_cst_33 : Ref sig .tc := ⟨.hbm, 254, rfl⟩
abbrev main_v155 : Ref sig .tc := ⟨.hbm, 255, rfl⟩
abbrev main_cst_34 : Ref sig .tc := ⟨.hbm, 256, rfl⟩
abbrev main_v156 : Ref sig .tc := ⟨.hbm, 257, rfl⟩
abbrev main_cst_35 : Ref sig .tc := ⟨.hbm, 258, rfl⟩
abbrev main_v157 : Ref sig .tc := ⟨.hbm, 259, rfl⟩
abbrev main_cst_36 : Ref sig .tc := ⟨.hbm, 260, rfl⟩
abbrev main_v158 : Ref sig .tc := ⟨.hbm, 261, rfl⟩
abbrev main_cst_37 : Ref sig .tc := ⟨.hbm, 262, rfl⟩
abbrev main_v159 : Ref sig .tc := ⟨.hbm, 263, rfl⟩
abbrev main_v160 : Ref sig .tc := ⟨.hbm, 264, rfl⟩

abbrev nD : Nat := 1
abbrev τ : Topo := Topo.v7x

variable {F : FTy → Type} [FloatOps F]
-- ==== Proof.Steps.lean ====
module

public import proofs.«01_k».proof.Proof.Gen.KernelIdeal.Frame.RunC
public import Idealize.ShloMosaic.Lib.VecWindow
public import Idealize.ShloMosaic.Lib.Pipeline.Value
public import Idealize.ShloMosaic.Lib.Claim

/-!
# One grid point of the kernel as a function

The kernel carries ten accumulators from point to point.  `Acc` holds their contents, `zero` is what the first point stores
before it accumulates, `pair` adds one pair of row halves to the two pair sums, `row` adds one row half to the other eight, and
`simOut`, `cntOut`, `stats` are what the last point writes to the three results.  `runFirst`, `runSecond`, `runLast` are the body's
runs at the three points.
-/

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F] [Named F]

/-- The contents of the ten accumulators. -/
structure Acc (F : FTy → Type) where
  /-- correct rows, per class, of the normalised features -/
  g : Vec F S128x128 .f32
  /-- rows, per class, of the hash codes -/
  sh : Vec F S128x64 .f32
  /-- number of rows per class -/
  nc : Vec F S1x128 .f32
  /-- number of correct rows per class -/
  u : Vec F S1x128 .f32
  /-- squared lengths of the correct rows per class -/
  dv : Vec F S1x128 .f32
  /-- softplus over the pairs of one class -/
  sP : Vec F S1x1 .f32
  /-- softplus over all pairs -/
  sA : Vec F S1x1 .f32
  /-- softplus over the diagonal -/
  dP : Vec F S1x1 .f32
  /-- the diagonal itself -/
  dT : Vec F S1x1 .f32
  /-- the negative log likelihood -/
  nl : Vec F S1x1 .f32

/-- The grid coordinate as the body's word, and its comparison with two. -/
abbrev coord (i : grid0.Coords) : BitVec 32 := Scalar.addi (Scalar.muli 1#32 (BitVec.ofNat 32 (i 0).val)) 0#32
abbrev late (i : grid0.Coords) : BitVec 32 := Scalar.extui (Scalar.cmpi .sge (coord i) 2#32)

/-- What the first point stores before it accumulates. -/
def zero : Acc F where
  g := k0_pay6
  sh := k0_pay7
  nc := k0_pay8
  u := k0_pay9
  dv := k0_pay10
  sP := k0_pay11
  sA := k0_pay12
  dP := k0_pay63 k0_pay13
  dT := k0_pay64
  nl := k0_pay65

/-- One pair of row halves: hash codes `x0` and `x1`, targets `x4` and `x5`. -/
def pair (i : grid0.Coords) (x0 x1 : Vec F S2048x64 .bf16) (x4 x5 : Vec F S1x1x2048 .i32) (a : Acc F) : Acc F where
  g := a.g
  sh := a.sh
  nc := a.nc
  u := a.u
  dv := a.dv
  sP := k0_pay1 (k0_pay72 (k0_pay67 x4) (k0_pay69 x5 x0 x1) (coord i) (late i) a.sP)
  sA := k0_pay2 (k0_pay71 (k0_pay69 x5 x0 x1) (coord i) (late i)) a.sA
  dP := a.dP
  dT := a.dT
  nl := a.nl

/-- One row half: hash codes `x1`, features `x2`, logits `x3`, targets `x5`. -/
def row (x1 : Vec F S2048x64 .bf16) (x2 x3 : Vec F S2048x128 .f32) (x5 : Vec F S1x1x2048 .i32) (a : Acc F) : Acc F where
  g := k0_pay22 (k0_pay14 (k0_pay68 x5)) (k0_pay17 (k0_pay66 x5) x3) x2 (k0_pay19 x2) a.g
  sh := k0_pay23 (k0_pay68 x5) a.sh x1
  nc := k0_pay24 (k0_pay14 (k0_pay68 x5)) a.nc
  u := k0_pay26 (k0_pay25 (k0_pay14 (k0_pay68 x5)) (k0_pay17 (k0_pay66 x5) x3) a.u)
  dv := k0_pay27 (k0_pay20 x2 (k0_pay19 x2)) (k0_pay21 (k0_pay14 (k0_pay68 x5)) (k0_pay17 (k0_pay66 x5) x3)) a.dv
  sP := a.sP
  sA := a.sA
  dP := k0_pay3 (k0_pay29 x1 a.dP)
  dT := k0_pay4 (k0_pay28 x1) a.dT
  nl := k0_pay18 (k0_pay68 x5) x3 a.nl

/-- The first result: the similarity matrix `x10` updated. -/
def simOut (x10 : Vec F S128x128 .f32) (a : Acc F) : Vec F S128x128 .f32 :=
  k0_pay59 k0_pay57 (k0_pay58 a.g a.dv) x10

/-- The second result: the count matrix `x11` updated. -/
def cntOut (x11 : Vec F S128x128 .f32) (a : Acc F) : Vec F S128x128 .f32 :=
  k0_pay60 k0_pay57 a.u x11

/-- The first eight targets. -/
def first8 (x8 : Vec F S1x1x2048 .i32) : Vec F S1x1x8 .i32 :=
  View.ld x8 (Rect.unit (s := S1x1x2048) ![0, 0, 0] S1x1x8.size inb_S1x1x2048_S1x1x8_0_0_0)

section Final

variable (x6 x7 : Vec F S8x64 .bf16) (x8 : Vec F S1x1x2048 .i32) (x9 : Vec F S128x128 .f32) (a : Acc F)

/-- The correction of the pairs of one class, and of the others, on the first eight rows. -/
def corrP : FVec F S8x8 .f32 :=
  k0_pay42 (k0_pay30 x6 x7) (k0_pay32 (first8 x8) x9) k0_pay33 (k0_pay35 (first8 x8)) (k0_pay36 (first8 x8) x9)
    (k0_pay37 x6 x7) (k0_pay38 x6 x7)
def corrN : FVec F S8x8 .f32 :=
  k0_pay43 (k0_pay30 x6 x7) (k0_pay32 (first8 x8) x9) k0_pay33 (k0_pay35 (first8 x8)) (k0_pay36 (first8 x8) x9)
    (k0_pay37 x6 x7) (k0_pay38 x6 x7)
/-- The number of positive pairs. -/
def nPos : F .f32 := k0_pay44 k0_pay33 (k0_pay35 (first8 x8)) (k0_pay36 (first8 x8) x9) a.nc
/-- The four sums of the hash loss: positive pairs, negative pairs, and the diagonal's share of each. -/
def sumP : F .f32 := k0_pay48 (corrP x6 x7 x8 x9) (k0_pay45 a.sh) (k0_pay46 a.sP)
def sumN : F .f32 := k0_pay49 (corrN x6 x7 x8 x9) (k0_pay46 a.sP) a.sA
def diaP : F .f32 := k0_pay50 k0_pay34 (corrP x6 x7 x8 x9) a.dP a.dT
def diaN : F .f32 := k0_pay51 k0_pay34 (corrN x6 x7 x8 x9)
/-- The hash loss. -/
def hashLoss : F .f32 :=
  k0_pay54 (sumP x6 x7 x8 x9 a) (sumN x6 x7 x8 x9 a) (diaP x6 x7 x8 x9 a) (diaN x6 x7 x8 x9)
    (k0_pay52 (nPos x8 x9 a)) (k0_pay53 (nPos x8 x9 a)) (Scalar.ofBits .f32 0x00000000#32)
/-- The whole loss. -/
def loss : F .f32 :=
  k0_pay56 (sumP x6 x7 x8 x9 a) (sumN x6 x7 x8 x9 a) (diaP x6 x7 x8 x9 a) (diaN x6 x7 x8 x9)
    (k0_pay52 (nPos x8 x9 a)) (k0_pay53 (nPos x8 x9 a)) (Scalar.ofBits .f32 0x00000000#32) a.nl
/-- The third result: the three losses in its first three lanes. -/
def stats : Vec F S1x128 .f32 :=
  k0_pay5 (loss x6 x7 x8 x9 a) (iota .tc S1x128 32 [1] iota_S1x128_d1_w32)
    (k0_pay61 (hashLoss x6 x7 x8 x9 a) (k0_pay55 a.nl)) k0_pay62

end Final

/-! ## Reading a whole buffer -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Each accumulator's buffer reads back what was written into it whole. -/
theorem readBack0 (X : Vec F S128x128 .f32) : View.read (Elt F) (View.whole cc0_scratch0) ((Memref.isWhole_whole cc0_scratch0).unread X) = X :=
  (Memref.isWhole_whole cc0_scratch0).read_unread X
theorem readBack1 (X : Vec F S128x64 .f32) : View.read (Elt F) (View.whole cc0_scratch1) ((Memref.isWhole_whole cc0_scratch1).unread X) = X :=
  (Memref.isWhole_whole cc0_scratch1).read_unread X
theorem readBack2 (X : Vec F S1x128 .f32) : View.read (Elt F) (View.whole cc0_scratch2) ((Memref.isWhole_whole cc0_scratch2).unread X) = X :=
  (Memref.isWhole_whole cc0_scratch2).read_unread X
theorem readBack3 (X : Vec F S1x128 .f32) : View.read (Elt F) (View.whole cc0_scratch3) ((Memref.isWhole_whole cc0_scratch3).unread X) = X :=
  (Memref.isWhole_whole cc0_scratch3).read_unread X
theorem readBack4 (X : Vec F S1x128 .f32) : View.read (Elt F) (View.whole cc0_scratch4) ((Memref.isWhole_whole cc0_scratch4).unread X) = X :=
  (Memref.isWhole_whole cc0_scratch4).read_unread X
theorem readBack5 (X : Vec F S1x1 .f32) : View.read (Elt F) (View.whole cc0_scratch5) ((Memref.isWhole_whole cc0_scratch5).unread X) = X :=
  (Memref.isWhole_whole cc0_scratch5).read_unread X
theorem readBack6 (X : Vec F S1x1 .f32) : View.read (Elt F) (View.whole cc0_scratch6) ((Memref.isWhole_whole cc0_scratch6).unread X) = X :=
  (Memref.isWhole_whole cc0_scratch6).read_unread X
theorem readBack7 (X : Vec F S1x1 .f32) : View.read (Elt F) (View.whole cc0_scratch7) ((Memref.isWhole_whole cc0_scratch7).unread X) = X :=
  (Memref.isWhole_whole cc0_scratch7).read_unread X
theorem readBack8 (X : Vec F S1x1 .f32) : View.read (Elt F) (View.whole cc0_scratch8) ((Memref.isWhole_whole cc0_scratch8).unread X) = X :=
  (Memref.isWhole_whole cc0_scratch8).read_unread X
theorem readBack9 (X : Vec F S1x1 .f32) : View.read (Elt F) (View.whole cc0_scratch9) ((Memref.isWhole_whole cc0_scratch9).unread X) = X :=
  (Memref.isWhole_whole cc0_scratch9).read_unread X

section Left

variable (c : Dev nD) (t : Fin cfg0.N) (x0 x1 : Vec F S2048x64 .bf16) (x2 x3 : Vec F S2048x128 .f32) (x4 x5 : Vec F S1x1x2048 .i32) (x6 x7 : Vec F S8x64 .bf16)
    (x8 : Vec F S1x1x2048 .i32) (x9 x10 x11 : Vec F S128x128 .f32)

/-- The run of the first point, -/
def runFirst (h : t.val = 0) :=
  kernelRun0_A c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6
    t) (ms0_7 t) (hs0_7 t) (ms0_8 t) (hs0_8 t) (ms0_9 t) (hs0_9 t) (ms0_10 t) (hs0_10 t) (ms0_11 t) (hs0_11 t) (ms0_12 t) (hs0_12 t) (ms0_13
    t) (hs0_13 t) (ms0_14 t) (hs0_14 t) scM0_0 (Memref.isWhole_whole _) scM0_1 (Memref.isWhole_whole _) scM0_2 (Memref.isWhole_whole _)
    scM0_3 (Memref.isWhole_whole _) scM0_4 (Memref.isWhole_whole _) scM0_5 (Memref.isWhole_whole _) scM0_6 (Memref.isWhole_whole _) scM0_7
    (Memref.isWhole_whole _) scM0_8 (Memref.isWhole_whole _) scM0_9 (Memref.isWhole_whole _)
    ((hcond0_0 t).mpr (by omega)) ((hcond0_1 t).mpr (by omega)) (fun k => by have := (hcond0_2 t).mp k; omega)
    x0 x1 x2 x3 x4 x5 x6 x7 x8 x9 x10 x11

/-- of the second, whose accumulators are as the first left them, -/
def runSecond (h : t.val = 1) (a : Acc F) :=
  kernelRun0_B c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6
    t) (ms0_7 t) (hs0_7 t) (ms0_8 t) (hs0_8 t) (ms0_9 t) (hs0_9 t) (ms0_10 t) (hs0_10 t) (ms0_11 t) (hs0_11 t) (ms0_12 t) (hs0_12 t) (ms0_13
    t) (hs0_13 t) (ms0_14 t) (hs0_14 t) scM0_0 (Memref.isWhole_whole _) scM0_1 (Memref.isWhole_whole _) scM0_2 (Memref.isWhole_whole _)
    scM0_3 (Memref.isWhole_whole _) scM0_4 (Memref.isWhole_whole _) scM0_5 (Memref.isWhole_whole _) scM0_6 (Memref.isWhole_whole _) scM0_7
    (Memref.isWhole_whole _) scM0_8 (Memref.isWhole_whole _) scM0_9 (Memref.isWhole_whole _)
    (fun k => by have := (hcond0_0 t).mp k; omega) ((hcond0_1 t).mpr (by omega)) (fun k => by have := (hcond0_2 t).mp k; omega)
    x0 x1 x2 x3 x4 x5 x6 x7 x8 x9 x10 x11
    a.g a.sh a.nc a.u a.dv a.sP a.sA a.dP a.dT a.nl

/-- and of the third. -/
def runLast (h : t.val = 2) (a : Acc F) :=
  kernelRun0_C c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6
    t) (ms0_7 t) (hs0_7 t) (ms0_8 t) (hs0_8 t) (ms0_9 t) (hs0_9 t) (ms0_10 t) (hs0_10 t) (ms0_11 t) (hs0_11 t) (ms0_12 t) (hs0_12 t) (ms0_13
    t) (hs0_13 t) (ms0_14 t) (hs0_14 t) scM0_0 (Memref.isWhole_whole _) scM0_1 (Memref.isWhole_whole _) scM0_2 (Memref.isWhole_whole _)
    scM0_3 (Memref.isWhole_whole _) scM0_4 (Memref.isWhole_whole _) scM0_5 (Memref.isWhole_whole _) scM0_6 (Memref.isWhole_whole _) scM0_7
    (Memref.isWhole_whole _) scM0_8 (Memref.isWhole_whole _) scM0_9 (Memref.isWhole_whole _)
    (fun k => by have := (hcond0_0 t).mp k; omega) (fun k => by have := (hcond0_1 t).mp k; omega) ((hcond0_2 t).mpr (by omega))
    x0 x1 x2 x3 x4 x5 x6 x7 x8 x9 x10 x11
    a.g a.sh a.nc a.u a.dv a.sP a.sA a.dP a.dT a.nl

end Left

end Cert.KernelIdeal.Step

end

end
-- ==== Proof.Cells.lean ====
module

public import proofs.«01_k».proof.Proof.Steps

/-! # Accumulators read back what was just written into them -/

@[expose] public section

set_option maxRecDepth 16384

namespace Cert.KernelIdeal.Step

open Idealize.ShloMosaic Idealize.ShloMosaic.TcCoe Idealize.ShloMosaic.Tactic
open Cert.KernelIdeal Cert.KernelIdeal.Gen

variable {F : FTy → Type} [FloatOps F] [Named F] (w : Vec F S1x1 .f32) (L : List (View.Piece (Elt F) S1x1 .f32))

/-- The covered load of each accumulator of more than one cell. -/
theorem cell0 (w : Vec F S128x128 .f32) (L : List (View.Piece (Elt F) S128x128 .f32)) :
    (View.whole cc0_scratch0).readCov (⟨Rect.unit ![0, 0] ![128, 128] inb_S128x128_S128x128_0_0, w⟩ :: L)
    (Rect.unit ![0, 0] ![128, 128] inb_S128x128_S128x128_0_0).toLoadRect = w :=
  View.readCov_full (View.whole cc0_scratch0) inb_S128x128_S128x128_0_0 inb_S128x128_S128x128_0_0 w L
theorem cell1 (w : Vec F S128x64 .f32) (L : List (View.Piece (Elt F) S128x64 .f32)) :
    (View.whole cc0_scratch1).readCov (⟨Rect.unit ![0, 0] ![128, 64] inb_S128x64_S128x64_0_0, w⟩ :: L)
    (Rect.unit ![0, 0] ![128, 64] inb_S128x64_S128x64_0_0).toLoadRect = w :=
  View.readCov_full (View.whole cc0_scratch1) inb_S128x64_S128x64_0_0 inb_S128x64_S128x64_0_0 w L
theorem cell2 (w : Vec F S1x128 .f32) (L : List (View.Piece (Elt F) S1x128 .f32)) :
    (View.whole cc0_scratch2).readCov (⟨Rect.unit ![0, 0] ![1, 128] inb_S1x128_S1x128_0_0, w⟩ :: L)
    (Rect.unit ![0, 0] ![1, 128] inb_S1x128_S1x128_0_0).toLoadRect = w :=
  View.readCov_full (View.whole cc0_scratch2) inb_S1x128_S1x128_0_0 inb_S1x128_S1x128_0_0 w L
theorem cell3 (w : Vec F S1x128 .f32) (L : List (View.Piece (Elt F) S1x128 .f32)) :
    (View.whole cc0_scratch3).readCov (⟨Rect.unit ![0, 0] ![1, 128] inb_S1x128_S1x128_0_0, w⟩ :: L)
    (Rect.unit ![0, 0] ![1, 128] inb_S1x128_S1x128_0_0).toLoadRect = w :=
  View.readCov_full (View.whole cc0_scratch3) inb_S1x128_S1x128_0_0 inb_S1x128_S1x128_0_0 w L
theorem cell4 (w : Vec F S1x128 .f32) (L : List (View.Piece (Elt F) S1x128 .f32)) :
    (View.whole cc0_scratch4).readCov (⟨Rect.unit ![0, 0] ![1, 128] inb_S1x128_S1x128_0_0, w⟩ :: L)
    (Rect.unit ![0, 0] ![1, 128] inb_S1x128_S1x128_0_0).toLoadRect = w :=
  View.readCov_full (View.whole cc0_scratch4) inb_S1x128_S1x128_0_0 inb_S1x128_S1x128_0_0 w L

/-- The covered load of each accumulator of one cell. -/
theorem cell5 : (View.whole cc0_scratch5).readCov (⟨Rect.unit ![0, 0] ![1, 1] inb_S1x1_S1x1_0_0, w⟩ :: L)
    (Rect.unit ![0, 0] ![1, 1] inb_S1x1_S1x1_0_0).toLoadRect = w :=
  View.readCov_full (View.whole cc0_scratch5) inb_S1x1_S1x1_0_0 inb_S1x1_S1x1_0_0 w L
theorem cell6 : (View.whole cc0_scratch6).readCov (⟨Rect.unit ![0, 0] ![1, 1] inb_S1x1_S1x1_0_0, w⟩ :: L)
    (Rect.unit ![0, 0] ![1, 1] inb_S1x1_S1x1_0_0).toLoadRect = w :=
  View.readCov_full (View.whole cc0_scratch6) inb_S1x1_S1x1_0_0 inb_S1x1_S1x1_0_0 w L
theorem cell7 : (View.whole cc0_scratch7).readCov (⟨Rect.unit ![0, 0] ![1, 1] inb_S1x1_S1x1_0_0, w⟩ :: L)
    (Rect.unit ![0, 0] ![1, 1] inb_S1x1_S1x1_0_0).toLoadRect = w :=
  View.readCov_full (View.whole cc0_scratch7) inb_S1x1_S1x1_0_0 inb_S1x1_S1x1_0_0 w L
theorem cell8 : (View.whole cc0_scratch8).readCov (⟨Rect.unit ![0, 0] ![1, 1] inb_S1x1_S1x1_0_0, w⟩ :: L)
    (Rect.unit ![0, 0] ![1, 1] inb_S1x1_S1x1_0_0).toLoadRect = w :=
  View.readCov_full (View.whole cc0_scratch8) inb_S1x1_S1x1_0_0 inb_S1x1_S1x1_0_0 w L
theorem cell9 : (View.whole cc0_scratch9).readCov (⟨Rect.unit ![0, 0] ![1, 1] inb_S1x1_S1x1_0_0, w⟩ :: L)
    (Rect.unit ![0, 0] ![1, 1] inb_S1x1_S1x1_0_0).toLoadRect = w :=
  View.readCov_full (View.whole cc0_scratch9) inb_S1x1_S1x1_0_0 inb_S1x1_S1x1_0_0 w L

end Cert.KernelIdeal.Step

end
-- ==== Proof.LeftFirst.lean ====
module

public import proofs.«01_k».proof.Proof.Cells

/-! # What the first grid point leaves -/

@[expose] public section

set_option maxRecDepth 16384

namespace Cert.KernelIdeal.Step

open Idealize.ShloMosaic Idealize.ShloMosaic.TcCoe Idealize.ShloMosaic.Tactic
open Cert.KernelIdeal Cert.KernelIdeal.Gen

variable {F : FTy → Type} [FloatOps F] [Named F]
variable (c : Dev nD) (t : Fin cfg0.N) (x0 x1 : Vec F S2048x64 .bf16) (x2 x3 : Vec F S2048x128 .f32) (x4 x5 : Vec F S1x1x2048 .i32) (x6 x7 : Vec F S8x64 .bf16)
    (x8 : Vec F S1x1x2048 .i32) (x9 x10 x11 : Vec F S128x128 .f32)

set_option maxHeartbeats 4000000 in
/-- The first point leaves its own half and pair over zeros. -/
theorem left_first (h : t.val = 0) :
    (∀ f, scM0_0.view.read (Elt F) (scM0_0.view.writes (Elt F) f (runFirst c t x0 x1 x2 x3 x4 x5 x6 x7 x8 x9 x10 x11 h).2.2.2.1) = (row x1 x2 x3 x5 (pair (grid0.coords t) x0 x1 x4 x5 zero)).g)
    ∧ (∀ f, scM0_1.view.read (Elt F) (scM0_1.view.writes (Elt F) f (runFirst c t x0 x1 x2 x3 x4 x5 x6 x7 x8 x9 x10 x11 h).2.2.2.2.1) = (row x1 x2 x3 x5 (pair (grid0.coords t) x0 x1 x4 x5 zero)).sh)
    ∧ (∀ f, scM0_2.view.read (Elt F) (scM0_2.view.writes (Elt F) f (runFirst c t x0 x1 x2 x3 x4 x5 x6 x7 x8 x9 x10 x11 h).2.2.2.2.2.1) = (row x1 x2 x3 x5 (pair (grid0.coords t) x0 x1 x4 x5 zero)).nc)
    ∧ (∀ f, scM0_3.view.read (Elt F) (scM0_3.view.writes (Elt F) f (runFirst c t x0 x1 x2 x3 x4 x5 x6 x7 x8 x9 x10 x11 h).2.2.2.2.2.2.1) = (row x1 x2 x3 x5 (pair (grid0.coords t) x0 x1 x4 x5 zero)).u)
    ∧ (∀ f, scM0_4.view.read (Elt F) (scM0_4.view.writes (Elt F) f (runFirst c t x0 x1 x2 x3 x4 x5 x6 x7 x8 x9 x10 x11 h).2.2.2.2.2.2.2.1) = (row x1 x2 x3 x5 (pair (grid0.coords t) x0 x1 x4 x5 zero)).dv)
    ∧ (∀ f, scM0_5.view.read (Elt F) (scM0_5.view.writes (Elt F) f (runFirst c t x0 x1 x2 x3 x4 x5 x6 x7 x8 x9 x10 x11 h).2.2.2.2.2.2.2.2.1) = (row x1 x2 x3 x5 (pair (grid0.coords t) x0 x1 x4 x5 zero)).sP)
    ∧ (∀ f, scM0_6.view.read (Elt F) (scM0_6.view.writes (Elt F) f (runFirst c t x0 x1 x2 x3 x4 x5 x6 x7 x8 x9 x10 x11 h).2.2.2.2.2.2.2.2.2.1) = (row x1 x2 x3 x5 (pair (grid0.coords t) x0 x1 x4 x5 zero)).sA)
    ∧ (∀ f, scM0_7.view.read (Elt F) (scM0_7.view.writes (Elt F) f (runFirst c t x0 x1 x2 x3 x4 x5 x6 x7 x8 x9 x10 x11 h).2.2.2.2.2.2.2.2.2.2.1) = (row x1 x2 x3 x5 (pair (grid0.coords t) x0 x1 x4 x5 zero)).dP)
    ∧ (∀ f, scM0_8.view.read (Elt F) (scM0_8.view.writes (Elt F) f (runFirst c t x0 x1 x2 x3 x4 x5 x6 x7 x8 x9 x10 x11 h).2.2.2.2.2.2.2.2.2.2.2.1) = (row x1 x2 x3 x5 (pair (grid0.coords t) x0 x1 x4 x5 zero)).dT)
    ∧ (∀ f, scM0_9.view.read (Elt F) (scM0_9.view.writes (Elt F) f (runFirst c t x0 x1 x2 x3 x4 x5 x6 x7 x8 x9 x10 x11 h).2.2.2.2.2.2.2.2.2.2.2.2.1) = (row x1 x2 x3 x5 (pair (grid0.coords t) x0 x1 x4 x5 zero)).nl) := by
  refine ⟨?_, ?_, ?_, ?_, ?_, ?_, ?_, ?_, ?_, ?_⟩ <;> intro f <;> unfold runFirst kernelRun0_A <;> dsimp only <;> sl_unfold_words <;>
    rw [View.read_writes_full] <;> (try rw [cell0]) <;> (try rw [cell1]) <;> (try rw [cell2]) <;> (try rw [cell3]) <;> (try rw [cell4]) <;> (try rw [cell5]) <;> (try rw [cell6]) <;> (try rw [cell7]) <;> (try rw [cell8]) <;> (try rw [cell9]) <;>
    simp only [View.readCov_full, View.readAt_eq_ld, Memref.IsWhole.read_unread, View.ld_unit_zero (S := S2048x64) zeros2,
      View.ld_unit_zero (S := S2048x128) zeros2, View.ld_unit_zero (S := S1x1x2048) zeros3, View.ld_unit_zero (S := S8x64) zeros2,
      View.ld_unit_zero (S := S128x128) zeros2, View.ld_unit_zero (S := S128x64) zeros2, View.ld_unit_zero (S := S1x128) zeros2,
      View.ld_unit_zero (S := S1x1) zeros2, readBack0, readBack1, readBack2, readBack3, readBack4, readBack5, readBack6, readBack7, readBack8, readBack9] <;> rfl

end Cert.KernelIdeal.Step

end
-- ==== Proof.LeftSecond.lean ====
module

public import proofs.«01_k».proof.Proof.Steps

/-! # What the second grid point leaves -/

@[expose] public section

set_option maxRecDepth 16384

namespace Cert.KernelIdeal.Step

open Idealize.ShloMosaic Idealize.ShloMosaic.TcCoe Idealize.ShloMosaic.Tactic
open Cert.KernelIdeal Cert.KernelIdeal.Gen

variable {F : FTy → Type} [FloatOps F] [Named F]
variable (c : Dev nD) (t : Fin cfg0.N) (x0 x1 : Vec F S2048x64 .bf16) (x2 x3 : Vec F S2048x128 .f32) (x4 x5 : Vec F S1x1x2048 .i32) (x6 x7 : Vec F S8x64 .bf16)
    (x8 : Vec F S1x1x2048 .i32) (x9 x10 x11 : Vec F S128x128 .f32)

set_option maxHeartbeats 4000000 in
/-- The second point adds its half and pair to what it found. -/
theorem left_second (h : t.val = 1) (a : Acc F) :
    (∀ f, scM0_0.view.read (Elt F) (scM0_0.view.writes (Elt F) f (runSecond c t x0 x1 x2 x3 x4 x5 x6 x7 x8 x9 x10 x11 h a).2.2.2.1) = (row x1 x2 x3 x5 (pair (grid0.coords t) x0 x1 x4 x5 a)).g)
    ∧ (∀ f, scM0_1.view.read (Elt F) (scM0_1.view.writes (Elt F) f (runSecond c t x0 x1 x2 x3 x4 x5 x6 x7 x8 x9 x10 x11 h a).2.2.2.2.1) = (row x1 x2 x3 x5 (pair (grid0.coords t) x0 x1 x4 x5 a)).sh)
    ∧ (∀ f, scM0_2.view.read (Elt F) (scM0_2.view.writes (Elt F) f (runSecond c t x0 x1 x2 x3 x4 x5 x6 x7 x8 x9 x10 x11 h a).2.2.2.2.2.1) = (row x1 x2 x3 x5 (pair (grid0.coords t) x0 x1 x4 x5 a)).nc)
    ∧ (∀ f, scM0_3.view.read (Elt F) (scM0_3.view.writes (Elt F) f (runSecond c t x0 x1 x2 x3 x4 x5 x6 x7 x8 x9 x10 x11 h a).2.2.2.2.2.2.1) = (row x1 x2 x3 x5 (pair (grid0.coords t) x0 x1 x4 x5 a)).u)
    ∧ (∀ f, scM0_4.view.read (Elt F) (scM0_4.view.writes (Elt F) f (runSecond c t x0 x1 x2 x3 x4 x5 x6 x7 x8 x9 x10 x11 h a).2.2.2.2.2.2.2.1) = (row x1 x2 x3 x5 (pair (grid0.coords t) x0 x1 x4 x5 a)).dv)
    ∧ (∀ f, scM0_5.view.read (Elt F) (scM0_5.view.writes (Elt F) f (runSecond c t x0 x1 x2 x3 x4 x5 x6 x7 x8 x9 x10 x11 h a).2.2.2.2.2.2.2.2.1) = (row x1 x2 x3 x5 (pair (grid0.coords t) x0 x1 x4 x5 a)).sP)
    ∧ (∀ f, scM0_6.view.read (Elt F) (scM0_6.view.writes (Elt F) f (runSecond c t x0 x1 x2 x3 x4 x5 x6 x7 x8 x9 x10 x11 h a).2.2.2.2.2.2.2.2.2.1) = (row x1 x2 x3 x5 (pair (grid0.coords t) x0 x1 x4 x5 a)).sA)
    ∧ (∀ f, scM0_7.view.read (Elt F) (scM0_7.view.writes (Elt F) f (runSecond c t x0 x1 x2 x3 x4 x5 x6 x7 x8 x9 x10 x11 h a).2.2.2.2.2.2.2.2.2.2.1) = (row x1 x2 x3 x5 (pair (grid0.coords t) x0 x1 x4 x5 a)).dP)
    ∧ (∀ f, scM0_8.view.read (Elt F) (scM0_8.view.writes (Elt F) f (runSecond c t x0 x1 x2 x3 x4 x5 x6 x7 x8 x9 x10 x11 h a).2.2.2.2.2.2.2.2.2.2.2.1) = (row x1 x2 x3 x5 (pair (grid0.coords t) x0 x1 x4 x5 a)).dT)
    ∧ (∀ f, scM0_9.view.read (Elt F) (scM0_9.view.writes (Elt F) f (runSecond c t x0 x1 x2 x3 x4 x5 x6 x7 x8 x9 x10 x11 h a).2.2.2.2.2.2.2.2.2.2.2.2.1) = (row x1 x2 x3 x5 (pair (grid0.coords t) x0 x1 x4 x5 a)).nl) := by
  refine ⟨?_, ?_, ?_, ?_, ?_, ?_, ?_, ?_, ?_, ?_⟩ <;> intro f <;> unfold runSecond kernelRun0_B <;> dsimp only <;> sl_unfold_words <;>
    rw [View.read_writes_full] <;>
    simp only [View.readCov_full, View.readAt_eq_ld, Memref.IsWhole.read_unread, View.ld_unit_zero (S := S2048x64) zeros2,
      View.ld_unit_zero (S := S2048x128) zeros2, View.ld_unit_zero (S := S1x1x2048) zeros3, View.ld_unit_zero (S := S8x64) zeros2,
      View.ld_unit_zero (S := S128x128) zeros2, View.ld_unit_zero (S := S128x64) zeros2, View.ld_unit_zero (S := S1x128) zeros2,
      View.ld_unit_zero (S := S1x1) zeros2, readBack0, readBack1, readBack2, readBack3, readBack4, readBack5, readBack6, readBack7, readBack8, readBack9] <;> rfl

end Cert.KernelIdeal.Step

end
-- ==== Proof.LeftLast.lean ====
module

public import proofs.«01_k».proof.Proof.Cells

/-! # What the last grid point leaves -/

@[expose] public section

set_option maxRecDepth 16384

namespace Cert.KernelIdeal.Step

open Idealize.ShloMosaic Idealize.ShloMosaic.TcCoe Idealize.ShloMosaic.Tactic
open Cert.KernelIdeal Cert.KernelIdeal.Gen

variable {F : FTy → Type} [FloatOps F] [Named F]
variable (c : Dev nD) (t : Fin cfg0.N) (x0 x1 : Vec F S2048x64 .bf16) (x2 x3 : Vec F S2048x128 .f32) (x4 x5 : Vec F S1x1x2048 .i32) (x6 x7 : Vec F S8x64 .bf16)
    (x8 : Vec F S1x1x2048 .i32) (x9 x10 x11 : Vec F S128x128 .f32)

set_option maxHeartbeats 4000000 in
/-- The last point adds its pair and writes the results. -/
theorem left_last (h : t.val = 2) (a : Acc F) :
    (∀ f, (ms0_12 t).view.read (Elt F) ((ms0_12 t).view.writes (Elt F) f (runLast c t x0 x1 x2 x3 x4 x5 x6 x7 x8 x9 x10 x11 h a).1) = simOut x10 (pair (grid0.coords t) x0 x1 x4 x5 a))
    ∧ (∀ f, (ms0_13 t).view.read (Elt F) ((ms0_13 t).view.writes (Elt F) f (runLast c t x0 x1 x2 x3 x4 x5 x6 x7 x8 x9 x10 x11 h a).2.1) = cntOut x11 (pair (grid0.coords t) x0 x1 x4 x5 a))
    ∧ (∀ f, (ms0_14 t).view.read (Elt F) ((ms0_14 t).view.writes (Elt F) f (runLast c t x0 x1 x2 x3 x4 x5 x6 x7 x8 x9 x10 x11 h a).2.2.1) = stats x6 x7 x8 x9 (pair (grid0.coords t) x0 x1 x4 x5 a))
    ∧ (∀ f, scM0_5.view.read (Elt F) (scM0_5.view.writes (Elt F) f (runLast c t x0 x1 x2 x3 x4 x5 x6 x7 x8 x9 x10 x11 h a).2.2.2.2.2.2.2.2.1) = (pair (grid0.coords t) x0 x1 x4 x5 a).sP)
    ∧ (∀ f, scM0_6.view.read (Elt F) (scM0_6.view.writes (Elt F) f (runLast c t x0 x1 x2 x3 x4 x5 x6 x7 x8 x9 x10 x11 h a).2.2.2.2.2.2.2.2.2.1) = (pair (grid0.coords t) x0 x1 x4 x5 a).sA) := by
  refine ⟨?_, ?_, ?_, ?_, ?_⟩ <;> intro f <;> unfold runLast kernelRun0_C <;> dsimp only <;> sl_unfold_words <;>
    rw [View.read_writes_full] <;> (try rw [cell5]) <;> (try rw [cell6]) <;>
    simp only [View.readCov_full, View.readAt_eq_ld, Memref.IsWhole.read_unread, View.ld_unit_zero (S := S2048x64) zeros2,
      View.ld_unit_zero (S := S2048x128) zeros2, View.ld_unit_zero (S := S1x1x2048) zeros3, View.ld_unit_zero (S := S8x64) zeros2,
      View.ld_unit_zero (S := S128x128) zeros2, View.ld_unit_zero (S := S128x64) zeros2, View.ld_unit_zero (S := S1x128) zeros2,
      View.ld_unit_zero (S := S1x1) zeros2, readBack0, readBack1, readBack2, readBack3, readBack4, readBack5, readBack6, readBack7, readBack8, readBack9] <;> rfl

end Cert.KernelIdeal.Step

end
-- ==== Proof.Body.lean ====
module

public import proofs.«01_k».proof.Proof.LeftFirst
public import proofs.«01_k».proof.Proof.LeftSecond
public import proofs.«01_k».proof.Proof.LeftLast

/-!
# The kernel's launch

The proof data of the one pipeline: the inputs' staging buffers hold their blocks, the accumulators hold `after n` once point
`n` has run, and the last point leaves the three results.  The body meets it at each of the three points, so the launch runs to
the end, and `main_run` says what every array holds then.
-/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Step

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- One pair, and one row half, with the blocks of point `t`. -/
abbrev pairAt (t : Fin cfg0.N) (a : Acc F) : Acc F :=
  pair (grid0.coords t) (iblk m c 0 t) (iblk m c 1 t) (iblk m c 4 t) (iblk m c 5 t) a
abbrev rowAt (t : Fin cfg0.N) (a : Acc F) : Acc F :=
  row (iblk m c 1 t) (iblk m c 2 t) (iblk m c 3 t) (iblk m c 5 t) a

/-- What each point leaves in the accumulators. -/
def acc0 : Acc F := rowAt m c t0_0 (pairAt m c t0_0 zero)
def acc1 : Acc F := rowAt m c t0_1 (pairAt m c t0_1 (acc0 m c))
def acc2 : Acc F := pairAt m c t0_2 (acc1 m c)

def after : ℕ → Acc F
  | 0 => acc0 m c
  | 1 => acc1 m c
  | _ => acc2 m c

/-- The three results. -/
def res12 : Vec F S128x128 .f32 := simOut (iblk m c 10 t0_2) (acc2 m c)
def res13 : Vec F S128x128 .f32 := cntOut (iblk m c 11 t0_2) (acc2 m c)
def res14 : Vec F S1x128 .f32 :=
  stats (iblk m c 6 t0_2) (iblk m c 7 t0_2) (iblk m c 8 t0_2) (iblk m c 9 t0_2) (acc2 m c)

/-- The accumulators hold `a`. -/
def holds (a : Acc F) : sProp 𝕄 :=
  iprop(owns (c : Thread nD τ) scM0_0 fullShare a.g
    ∗ owns (c : Thread nD τ) scM0_1 fullShare a.sh
    ∗ owns (c : Thread nD τ) scM0_2 fullShare a.nc
    ∗ owns (c : Thread nD τ) scM0_3 fullShare a.u
    ∗ owns (c : Thread nD τ) scM0_4 fullShare a.dv
    ∗ owns (c : Thread nD τ) scM0_5 fullShare a.sP
    ∗ owns (c : Thread nD τ) scM0_6 fullShare a.sA
    ∗ owns (c : Thread nD τ) scM0_7 fullShare a.dP
    ∗ owns (c : Thread nD τ) scM0_8 fullShare a.dT
    ∗ owns (c : Thread nD τ) scM0_9 fullShare a.nl)

/-- The invariant before point `n`. -/
def inv : ℕ → sProp 𝕄
  | 0 => Pipeline.ΦA spec0 c
  | n + 1 => iprop(holds c (after m c n) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => res12 m c
    | ⟨13, _⟩ => res13 m c
    | ⟨14, _⟩ => res14 m c
  Φ t := inv m c t.val
  q w := Pipeline.shareOf spec0 w
  owed _ := 0

theorem A_eq (c : Dev nD) (w : Fin cfg0.W) : (dats m 0 c).A w = V m c (Pipeline.arrRef spec0 w) := by
  dsimp only [dats]

theorem inv_eq (t : Fin (cfg0.N + 1)) : (dats m 0 c).Φ t = inv m c t.val := by dsimp only [dats]

/-- Every input's buffer holds its block before and after the body. -/
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = res12 m c := by dsimp only [dats]
theorem after_13 (t : Fin cfg0.N) : (dats m 0 c).after 13 t = res13 m c := by dsimp only [dats]
theorem after_14 (t : Fin cfg0.N) : (dats m 0 c).after 14 t = res14 m c := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d
theorem before_3 (t : Fin cfg0.N) (d) : (dats m 0 c).before 3 t d = iblk m c 3 t :=
  before0_3_of m (dats m 0 c) (A_eq m c 3) (after_3 m c) t d
theorem before_4 (t : Fin cfg0.N) (d) : (dats m 0 c).before 4 t d = iblk m c 4 t :=
  before0_4_of m (dats m 0 c) (A_eq m c 4) (after_4 m c) t d
theorem before_5 (t : Fin cfg0.N) (d) : (dats m 0 c).before 5 t d = iblk m c 5 t :=
  before0_5_of m (dats m 0 c) (A_eq m c 5) (after_5 m c) t d
theorem before_6 (t : Fin cfg0.N) (d) : (dats m 0 c).before 6 t d = iblk m c 6 t :=
  before0_6_of m (dats m 0 c) (A_eq m c 6) (after_6 m c) t d
theorem before_7 (t : Fin cfg0.N) (d) : (dats m 0 c).before 7 t d = iblk m c 7 t :=
  before0_7_of m (dats m 0 c) (A_eq m c 7) (after_7 m c) t d
theorem before_8 (t : Fin cfg0.N) (d) : (dats m 0 c).before 8 t d = iblk m c 8 t :=
  before0_8_of m (dats m 0 c) (A_eq m c 8) (after_8 m c) t d
theorem before_9 (t : Fin cfg0.N) (d) : (dats m 0 c).before 9 t d = iblk m c 9 t :=
  before0_9_of m (dats m 0 c) (A_eq m c 9) (after_9 m c) t d
theorem before_10 (t : Fin cfg0.N) (d) : (dats m 0 c).before 10 t d = iblk m c 10 t :=
  before0_10_of m (dats m 0 c) (A_eq m c 10) (after_10 m c) t d
theorem before_11 (t : Fin cfg0.N) (d) : (dats m 0 c).before 11 t d = iblk m c 11 t :=
  before0_11_of m (dats m 0 c) (A_eq m c 11) (after_11 m c) t d

/-- What the body is called with at point `t`, and what it returns. -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- What the body leaves in each window: the inputs unchanged, -/
theorem leaves_0 (t : Fin cfg0.N) : (dats m 0 c).leavesExact 0 t = owns (c : Thread nD τ) (ms0_0 t) fullShare (iblk m c 0 t) := by
  unfold Dat.leavesExact; rw [liveAt0_0 t, after_0]
theorem leaves_1 (t : Fin cfg0.N) : (dats m 0 c).leavesExact 1 t = owns (c : Thread nD τ) (ms0_1 t) fullShare (iblk m c 1 t) := by
  unfold Dat.leavesExact; rw [liveAt0_1 t, after_1]
theorem leaves_2 (t : Fin cfg0.N) : (dats m 0 c).leavesExact 2 t = owns (c : Thread nD τ) (ms0_2 t) fullShare (iblk m c 2 t) := by
  unfold Dat.leavesExact; rw [liveAt0_2 t, after_2]
theorem leaves_3 (t : Fin cfg0.N) : (dats m 0 c).leavesExact 3 t = owns (c : Thread nD τ) (ms0_3 t) fullShare (iblk m c 3 t) := by
  unfold Dat.leavesExact; rw [liveAt0_3 t, after_3]
theorem leaves_4 (t : Fin cfg0.N) : (dats m 0 c).leavesExact 4 t = owns (c : Thread nD τ) (ms0_4 t) fullShare (iblk m c 4 t) := by
  unfold Dat.leavesExact; rw [liveAt0_4 t, after_4]
theorem leaves_5 (t : Fin cfg0.N) : (dats m 0 c).leavesExact 5 t = owns (c : Thread nD τ) (ms0_5 t) fullShare (iblk m c 5 t) := by
  unfold Dat.leavesExact; rw [liveAt0_5 t, after_5]
theorem leaves_6 (t : Fin cfg0.N) : (dats m 0 c).leavesExact 6 t = owns (c : Thread nD τ) (ms0_6 t) fullShare (iblk m c 6 t) := by
  unfold Dat.leavesExact; rw [liveAt0_6 t, after_6]
theorem leaves_7 (t : Fin cfg0.N) : (dats m 0 c).leavesExact 7 t = owns (c : Thread nD τ) (ms0_7 t) fullShare (iblk m c 7 t) := by
  unfold Dat.leavesExact; rw [liveAt0_7 t, after_7]
theorem leaves_8 (t : Fin cfg0.N) : (dats m 0 c).leavesExact 8 t = owns (c : Thread nD τ) (ms0_8 t) fullShare (iblk m c 8 t) := by
  unfold Dat.leavesExact; rw [liveAt0_8 t, after_8]
theorem leaves_9 (t : Fin cfg0.N) : (dats m 0 c).leavesExact 9 t = owns (c : Thread nD τ) (ms0_9 t) fullShare (iblk m c 9 t) := by
  unfold Dat.leavesExact; rw [liveAt0_9 t, after_9]
theorem leaves_10 (t : Fin cfg0.N) : (dats m 0 c).leavesExact 10 t = owns (c : Thread nD τ) (ms0_10 t) fullShare (iblk m c 10 t) := by
  unfold Dat.leavesExact; rw [liveAt0_10 t, after_10]
theorem leaves_11 (t : Fin cfg0.N) : (dats m 0 c).leavesExact 11 t = owns (c : Thread nD τ) (ms0_11 t) fullShare (iblk m c 11 t) := by
  unfold Dat.leavesExact; rw [liveAt0_11 t, after_11]

/-- the results where the last point writes them, -/
theorem leaves_12_last : (dats m 0 c).leavesExact 12 t0_2 = owns (c : Thread nD τ) (ms0_12 t0_2) fullShare (res12 m c) := by
  unfold Dat.leavesExact
  rw [liveAt0_12_C t0_2 (fun h => absurd ((hcond0_0 _).mp h) (by decide)) (fun h => absurd ((hcond0_1 _).mp h) (by decide))
    ((hcond0_2 _).mpr (by decide)), after_12]
theorem leaves_13_last : (dats m 0 c).leavesExact 13 t0_2 = owns (c : Thread nD τ) (ms0_13 t0_2) fullShare (res13 m c) := by
  unfold Dat.leavesExact
  rw [liveAt0_13_C t0_2 (fun h => absurd ((hcond0_0 _).mp h) (by decide)) (fun h => absurd ((hcond0_1 _).mp h) (by decide))
    ((hcond0_2 _).mpr (by decide)), after_13]
theorem leaves_14_last : (dats m 0 c).leavesExact 14 t0_2 = owns (c : Thread nD τ) (ms0_14 t0_2) fullShare (res14 m c) := by
  unfold Dat.leavesExact
  rw [liveAt0_14_C t0_2 (fun h => absurd ((hcond0_0 _).mp h) (by decide)) (fun h => absurd ((hcond0_1 _).mp h) (by decide))
    ((hcond0_2 _).mpr (by decide)), after_14]

/-- and whatever was there at the two points before. -/
theorem leaves_12_first : (dats m 0 c).leavesExact 12 t0_0 = iprop(∃ d, owns (c : Thread nD τ) (ms0_12 t0_0) fullShare d) :=
  Dat.leavesExact_idle (dats m 0 c) 12 t0_0
    (idleAt0_12_A t0_0 ((hcond0_0 _).mpr (by decide)) ((hcond0_1 _).mpr (by decide)) (fun h => absurd ((hcond0_2 _).mp h) (by decide)))
    (noFlush0_12_A t0_0 ((hcond0_0 _).mpr (by decide)) ((hcond0_1 _).mpr (by decide)) (fun h => absurd ((hcond0_2 _).mp h) (by decide)))
theorem leaves_12_second : (dats m 0 c).leavesExact 12 t0_1 =
    iprop(∃ d, owns (c : Thread nD τ) (ms0_12 t0_1) fullShare ((dats m 0 c).before 12 t0_1 d)) :=
  Dat.leavesExact_idle (dats m 0 c) 12 t0_1
    (idleAt0_12_B t0_1 (fun h => absurd ((hcond0_0 _).mp h) (by decide)) ((hcond0_1 _).mpr (by decide)) (fun h => absurd ((hcond0_2 _).mp h) (by decide)))
    (noFlush0_12_B t0_1 (fun h => absurd ((hcond0_0 _).mp h) (by decide)) ((hcond0_1 _).mpr (by decide)) (fun h => absurd ((hcond0_2 _).mp h) (by decide)))
theorem leaves_13_first : (dats m 0 c).leavesExact 13 t0_0 = iprop(∃ d, owns (c : Thread nD τ) (ms0_13 t0_0) fullShare d) :=
  Dat.leavesExact_idle (dats m 0 c) 13 t0_0
    (idleAt0_13_A t0_0 ((hcond0_0 _).mpr (by decide)) ((hcond0_1 _).mpr (by decide)) (fun h => absurd ((hcond0_2 _).mp h) (by decide)))
    (noFlush0_13_A t0_0 ((hcond0_0 _).mpr (by decide)) ((hcond0_1 _).mpr (by decide)) (fun h => absurd ((hcond0_2 _).mp h) (by decide)))
theorem leaves_13_second : (dats m 0 c).leavesExact 13 t0_1 =
    iprop(∃ d, owns (c : Thread nD τ) (ms0_13 t0_1) fullShare ((dats m 0 c).before 13 t0_1 d)) :=
  Dat.leavesExact_idle (dats m 0 c) 13 t0_1
    (idleAt0_13_B t0_1 (fun h => absurd ((hcond0_0 _).mp h) (by decide)) ((hcond0_1 _).mpr (by decide)) (fun h => absurd ((hcond0_2 _).mp h) (by decide)))
    (noFlush0_13_B t0_1 (fun h => absurd ((hcond0_0 _).mp h) (by decide)) ((hcond0_1 _).mpr (by decide)) (fun h => absurd ((hcond0_2 _).mp h) (by decide)))
theorem leaves_14_first : (dats m 0 c).leavesExact 14 t0_0 = iprop(∃ d, owns (c : Thread nD τ) (ms0_14 t0_0) fullShare d) :=
  Dat.leavesExact_idle (dats m 0 c) 14 t0_0
    (idleAt0_14_A t0_0 ((hcond0_0 _).mpr (by decide)) ((hcond0_1 _).mpr (by decide)) (fun h => absurd ((hcond0_2 _).mp h) (by decide)))
    (noFlush0_14_A t0_0 ((hcond0_0 _).mpr (by decide)) ((hcond0_1 _).mpr (by decide)) (fun h => absurd ((hcond0_2 _).mp h) (by decide)))
theorem leaves_14_second : (dats m 0 c).leavesExact 14 t0_1 =
    iprop(∃ d, owns (c : Thread nD τ) (ms0_14 t0_1) fullShare ((dats m 0 c).before 14 t0_1 d)) :=
  Dat.leavesExact_idle (dats m 0 c) 14 t0_1
    (idleAt0_14_B t0_1 (fun h => absurd ((hcond0_0 _).mp h) (by decide)) ((hcond0_1 _).mpr (by decide)) (fun h => absurd ((hcond0_2 _).mp h) (by decide)))
    (noFlush0_14_B t0_1 (fun h => absurd ((hcond0_0 _).mp h) (by decide)) ((hcond0_1 _).mpr (by decide)) (fun h => absurd ((hcond0_2 _).mp h) (by decide)))

set_option maxHeartbeats 8000000 in
/-- The body at the first point. -/
theorem sound_first : bodyPre m c t0_0 ⊢ wp frame (wpE (defs₀ (F := F)) Variants.none c none) Set.univ (bodyAt0 t0_0) (fun _ => bodyPost m c t0_0) := by
  obtain ⟨e0, e1, e2, e3, e4, e5, e6, e7, e8, e9⟩ := left_first c t0_0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) rfl
  unfold bodyPre bodyPost bodyAt0
  rw [show (dats m 0 c).owesAt () t0_0.succ = (dats m 0 c).owesAt () t0_0.castSucc from rfl, inv_eq, inv_eq]
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11,
    leaves_12_first, leaves_13_first, leaves_14_first]
  rw [show inv m c t0_0.succ.val = iprop(holds c (acc0 m c) ∗ (∃ r, prngReg c r)) from rfl,
    show inv m c t0_0.castSucc.val = Pipeline.ΦA spec0 c from rfl]
  rw [PhiA0_eq]; unfold holds
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runFirst c t0_0 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) rfl).2.2.2.2.2.2.2.2.2.2.2.2.2 _ _ _ Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, ⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr; swap; · iexact HS0
        ipureintro; exact e0 _
      isplitl [HS1]
      · unfold owns; iexists _; isplitr; swap; · iexact HS1
        ipureintro; exact e1 _
      isplitl [HS2]
      · unfold owns; iexists _; isplitr; swap; · iexact HS2
        ipureintro; exact e2 _
      isplitl [HS3]
      · unfold owns; iexists _; isplitr; swap; · iexact HS3
        ipureintro; exact e3 _
      isplitl [HS4]
      · unfold owns; iexists _; isplitr; swap; · iexact HS4
        ipureintro; exact e4 _
      isplitl [HS5]
      · unfold owns; iexists _; isplitr; swap; · iexact HS5
        ipureintro; exact e5 _
      isplitl [HS6]
      · unfold owns; iexists _; isplitr; swap; · iexact HS6
        ipureintro; exact e6 _
      isplitl [HS7]
      · unfold owns; iexists _; isplitr; swap; · iexact HS7
        ipureintro; exact e7 _
      isplitl [HS8]
      · unfold owns; iexists _; isplitr; swap; · iexact HS8
        ipureintro; exact e8 _
      unfold owns; iexists _; isplitr; swap; · iexact HS9
      ipureintro; exact e9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

set_option maxHeartbeats 8000000 in
/-- The body at the second point. -/
theorem sound_second : bodyPre m c t0_1 ⊢ wp frame (wpE (defs₀ (F := F)) Variants.none c none) Set.univ (bodyAt0 t0_1) (fun _ => bodyPost m c t0_1) := by
  obtain ⟨e0, e1, e2, e3, e4, e5, e6, e7, e8, e9⟩ := left_second c t0_1 (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) rfl (acc0 m c)
  unfold bodyPre bodyPost bodyAt0
  rw [show (dats m 0 c).owesAt () t0_1.succ = (dats m 0 c).owesAt () t0_1.castSucc from rfl, inv_eq, inv_eq]
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11,
    leaves_12_second, leaves_13_second, leaves_14_second]
  rw [show inv m c t0_1.succ.val = iprop(holds c (acc1 m c) ∗ (∃ r, prngReg c r)) from rfl,
    show inv m c t0_1.castSucc.val = iprop(holds c (acc0 m c) ∗ (∃ r, prngReg c r)) from rfl]
  unfold holds
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runSecond c t0_1 (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) (iblk m c 9 t0_1) (iblk m c 10 t0_1) (iblk m c 11 t0_1) rfl (acc0 m c)).2.2.2.2.2.2.2.2.2.2.2.2.2 _ _ _ Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, ⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr; swap; · iexact HS0
        ipureintro; exact e0 _
      isplitl [HS1]
      · unfold owns; iexists _; isplitr; swap; · iexact HS1
        ipureintro; exact e1 _
      isplitl [HS2]
      · unfold owns; iexists _; isplitr; swap; · iexact HS2
        ipureintro; exact e2 _
      isplitl [HS3]
      · unfold owns; iexists _; isplitr; swap; · iexact HS3
        ipureintro; exact e3 _
      isplitl [HS4]
      · unfold owns; iexists _; isplitr; swap; · iexact HS4
        ipureintro; exact e4 _
      isplitl [HS5]
      · unfold owns; iexists _; isplitr; swap; · iexact HS5
        ipureintro; exact e5 _
      isplitl [HS6]
      · unfold owns; iexists _; isplitr; swap; · iexact HS6
        ipureintro; exact e6 _
      isplitl [HS7]
      · unfold owns; iexists _; isplitr; swap; · iexact HS7
        ipureintro; exact e7 _
      isplitl [HS8]
      · unfold owns; iexists _; isplitr; swap; · iexact HS8
        ipureintro; exact e8 _
      unfold owns; iexists _; isplitr; swap; · iexact HS9
      ipureintro; exact e9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

set_option maxHeartbeats 8000000 in
/-- The body at the last point. -/
theorem sound_last : bodyPre m c t0_2 ⊢ wp frame (wpE (defs₀ (F := F)) Variants.none c none) Set.univ (bodyAt0 t0_2) (fun _ => bodyPost m c t0_2) := by
  obtain ⟨o12, o13, o14, e5, e6⟩ := left_last c t0_2 (iblk m c 0 t0_2) (iblk m c 1 t0_2) (iblk m c 2 t0_2) (iblk m c 3 t0_2) (iblk m c 4 t0_2) (iblk m c 5 t0_2) (iblk m c 6 t0_2) (iblk m c 7 t0_2) (iblk m c 8 t0_2) (iblk m c 9 t0_2) (iblk m c 10 t0_2) (iblk m c 11 t0_2) rfl (acc1 m c)
  unfold bodyPre bodyPost bodyAt0
  rw [show (dats m 0 c).owesAt () t0_2.succ = (dats m 0 c).owesAt () t0_2.castSucc from rfl, inv_eq, inv_eq]
  simp only [before_0, before_1, before_2, before_3, before_4, before_5, before_6, before_7, before_8, before_9, before_10, before_11, leaves_0, leaves_1, leaves_2, leaves_3, leaves_4, leaves_5, leaves_6, leaves_7, leaves_8, leaves_9, leaves_10, leaves_11,
    leaves_12_last, leaves_13_last, leaves_14_last]
  rw [show inv m c t0_2.succ.val = iprop(holds c (acc2 m c) ∗ (∃ r, prngReg c r)) from rfl,
    show inv m c t0_2.castSucc.val = iprop(holds c (acc1 m c) ∗ (∃ r, prngReg c r)) from rfl]
  unfold holds
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (runLast c t0_2 (iblk m c 0 t0_2) (iblk m c 1 t0_2) (iblk m c 2 t0_2) (iblk m c 3 t0_2) (iblk m c 4 t0_2) (iblk m c 5 t0_2) (iblk m c 6 t0_2) (iblk m c 7 t0_2) (iblk m c 8 t0_2) (iblk m c 9 t0_2) (iblk m c 10 t0_2) (iblk m c 11 t0_2) rfl (acc1 m c)).2.2.2.2.2.2.2.2.2.2.2.2.2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, ⟨%f12, H12⟩, ⟨%f13, H13⟩, ⟨%f14, H14⟩, HS0, HS1, HS2, HS3, HS4, ⟨%f5, HS5⟩, ⟨%f6, HS6⟩, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]
      · iexact HS0
      isplitl [HS1]
      · iexact HS1
      isplitl [HS2]
      · iexact HS2
      isplitl [HS3]
      · iexact HS3
      isplitl [HS4]
      · iexact HS4
      isplitl [HS5]
      · unfold owns; iexists _; isplitr; swap; · iexact HS5
        ipureintro; exact e5 _
      isplitl [HS6]
      · unfold owns; iexists _; isplitr; swap; · iexact HS6
        ipureintro; exact e6 _
      isplitl [HS7]
      · iexact HS7
      isplitl [HS8]
      · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; exact o12 _
  isplitl [H13]
  · unfold owns; iexists _; isplitr; swap; · iexact H13
    ipureintro; exact o13 _
  unfold owns; iexists _; isplitr; swap; · iexact H14
  ipureintro; exact o14 _

/-- The body's row of the table at a point's slots is the body. -/
theorem row_eq (t : Fin cfg0.N) : defs₀ (F := F) .tc cfg0.body (cfg0.bodyArgs t (cfg0.slots t)) = bodyAt0 t := by
  unfold defs₀; rw [Defs.onTc_tc]

theorem sound (t : Fin cfg0.N) :
    bodyPre m c t ⊢ wp frame (wpE (defs₀ (F := F)) Variants.none c none) Set.univ (bodyAt0 t) (fun _ => bodyPost m c t) := by
  rcases fin_N0 t with rfl | rfl | rfl
  · exact sound_first m c
  · exact sound_second m c
  · exact sound_last m c

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-- The launch hands over the invariant before the first point, and takes back the one after the last. -/
theorem hin (c : Dev nD) : Pipeline.ΦA spec0 c ⊢ (dats m 0 c).Φ 0 := by
  rw [inv_eq]; exact Idealize.SL.BI.Entails.refl _

theorem hout (c : Dev nD) : (dats m 0 c).Φ (Fin.last cfg0.N) ⊢ Pipeline.ΦA spec0 c := by
  rw [inv_eq, show inv m c (Fin.last cfg0.N).val = iprop(holds c (acc2 m c) ∗ (∃ r, prngReg c r)) from by
    rw [Fin.val_last, show cfg0.N = 3 from N_0]; rfl, PhiA0_eq]
  unfold holds
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

set_option backward.isDefEq.respectTransparency.types false in
set_option maxHeartbeats 1600000 in
/-- The launch runs to the end, every semaphore counter back at zero. -/
theorem main_run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they began. -/
abbrev Unchanged (m : (ℓ : Loc nD τ sig) → Buf (Elt F) ℓ) (s : (ℓ : Loc nD τ sig) → Buf (Elt F) ℓ) : Prop := ∀ c : Dev nD,
      s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)

/-- The launch leaves the arguments alone and the machine at rest. -/
theorem rest : θ_run defs (onTc (τ := τ) (main (F := F))) ⟨m, fun _ => 0, ρ⟩
    (fun r => Unchanged m r.2.mem ∧ r.2.sem = fun _ => 0) :=
  θ_run_and (frame_of m ρ (dats m) (A_eq m) ((θ_run defs _ _).mono (fun _ h => h.1) (main_run m ρ)))
    ((θ_run defs _ _).mono (fun _ h => h.2) (main_run m ρ))

end Cert.KernelIdeal.Body

end

end
-- ==== Proof.SameBody.lean ====
module

public import proofs.«01_k».proof.Proof.Gen.KernelIdeal.Skeleton
public import proofs.«01_k».proof.Proof.Gen.Kernel.Skeleton

@[expose] public section

set_option maxRecDepth 100000

namespace Cert.Same

open Idealize.ShloMosaic

variable {F : FTy → Type} [FloatOps F]

/-- Every named constant read as the literal it stands for. -/
@[reducible] noncomputable def literal : Named F := ⟨fun _ _ _ b => FloatOps.ofBits _ b⟩

attribute [local instance] literal

set_option maxHeartbeats 8000000 in
/-- With every named constant read as its literal, the two kernels' bodies are one program. -/
theorem defs₀_eq : Cert.KernelIdeal.defs₀ (F := F) = Cert.Kernel.defs₀ (F := F) := by
  unfold Cert.KernelIdeal.defs₀ Cert.Kernel.defs₀
  refine congrArg Defs.onTc ?_
  funext ℓ x
  match ℓ, x with
  | ⟨0, _⟩, (t, s) => rfl

/-- So are the whole launches, the pipeline being the same one around the same body, -/
theorem defs_eq : Cert.KernelIdeal.defs (F := F) = Cert.Kernel.defs (F := F) :=
  congrArg (fun d : Defs _ _ _ _ Cert.Kernel.Λ₀ => Pipeline.defs (Cert.Kernel.pcfgs (F := F)) d) defs₀_eq

set_option maxHeartbeats 8000000 in
/-- and the host programs around them. -/
theorem main_eq : Cert.KernelIdeal.main (F := F) = Cert.Kernel.main (F := F) := rfl

end Cert.Same

end
-- ==== Proof.RefOps.lean ====
/- The reference program's @main as a list of its host operations, and its run read back: every weakly fair
   execution terminates with each result buffer at the operations' composed term of the arguments' launch contents,
   the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v47`, named. It packs its operands into a list of dependent pairs
    whose shapes a later argument's type mentions, so `simp` cannot rewrite an operand where it stands; applied by
    name, the operands are plain arguments, which the window lemmas below rewrite before the name unfolds. -/
def fn_main_v47 : (⟨S4096x4096x1, .i32⟩ : BufTy).Contents (Elt F) → (⟨S4096x4096x1, .i32⟩ : BufTy).Contents (Elt F) → (⟨S4096x4096x2, .i32⟩ : BufTy).Contents (Elt F) :=
  (fun a b => concatenate S4096x4096x2 2 [⟨S4096x4096x1, a⟩, ⟨S4096x4096x1, b⟩] concatenates_S4096x4096x1_S4096x4096x1_S4096x4096x2_d2)

/-- The function of the operation that writes `main_v62`, named. It packs its operands into a list of dependent pairs
    whose shapes a later argument's type mentions, so `simp` cannot rewrite an operand where it stands; applied by
    name, the operands are plain arguments, which the window lemmas below rewrite before the name unfolds. -/
def fn_main_v62 : (⟨S4096x4096x1, .i32⟩ : BufTy).Contents (Elt F) → (⟨S4096x4096x1, .i32⟩ : BufTy).Contents (Elt F) → (⟨S4096x4096x2, .i32⟩ : BufTy).Contents (Elt F) :=
  (fun a b => concatenate S4096x4096x2 2 [⟨S4096x4096x1, a⟩, ⟨S4096x4096x1, b⟩] concatenates_S4096x4096x1_S4096x4096x1_S4096x4096x2_d2)

/-- The function of the operation that writes `main_v107`, named. It packs its operands into a list of dependent pairs
    whose shapes a later argument's type mentions, so `simp` cannot rewrite an operand where it stands; applied by
    name, the operands are plain arguments, which the window lemmas below rewrite before the name unfolds. -/
def fn_main_v107 : (⟨S6x6x1, .i32⟩ : BufTy).Contents (Elt F) → (⟨S6x6x1, .i32⟩ : BufTy).Contents (Elt F) → (⟨S6x6x2, .i32⟩ : BufTy).Contents (Elt F) :=
  (fun a b => concatenate S6x6x2 2 [⟨S6x6x1, a⟩, ⟨S6x6x1, b⟩] concatenates_S6x6x1_S6x6x1_S6x6x2_d2)

/-- The function of the operation that writes `main_v111`, named. It packs its operands into a list of dependent pairs
    whose shapes a later argument's type mentions, so `simp` cannot rewrite an operand where it stands; applied by
    name, the operands are plain arguments, which the window lemmas below rewrite before the name unfolds. -/
def fn_main_v111 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 257 (window `main_part0`). -/
abbrev ops_part0_0 : List (HloOp τ sig (Elt F)) :=
  [ TRef.nullary (TRef.of (T := ⟨S_, .f32⟩) main_call0_cst) (constant S_ .f32 0xFF800000#32),
    TRef.binary (TRef.of (T := ⟨S4096x101, .f32⟩) main_arg2) (TRef.of (T := ⟨S_, .f32⟩) main_call0_cst) (TRef.of (T := ⟨S4096, .f32⟩) main_call0_v0) (fun x v => Host.reduce FloatOps.maximumf x v reducesTo_S4096x101_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x101, .f32⟩) main_call0_v4) (broadcastInDim S4096x101 ![0, 1] bcast_S4096x1_S4096x101_0_1),
    TRef.binary (TRef.of (T := ⟨S4096x101, .f32⟩) main_arg2) (TRef.of (T := ⟨S4096x101, .f32⟩) main_call0_v4) (TRef.of (T := ⟨S4096x101, .f32⟩) main_call0_v5) subf,
    TRef.unary (TRef.of (T := ⟨S4096x101, .f32⟩) main_call0_v5) (TRef.of (T := ⟨S4096x101, .f32⟩) main_call0_v6) Host.exp,
    TRef.nullary (TRef.of (T := ⟨S_, .f32⟩) main_call0_cst_1) (constant S_ .f32 0x00000000#32),
    TRef.binary (TRef.of (T := ⟨S4096x101, .f32⟩) main_call0_v6) (TRef.of (T := ⟨S_, .f32⟩) main_call0_cst_1) (TRef.of (T := ⟨S4096, .f32⟩) main_call0_v7) (fun x v => Host.reduceAdd x v reducesTo_S4096x101_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x101, .f32⟩) main_call0_v10) (broadcastInDim S4096x101 ![0, 1] bcast_S4096x1_S4096x101_0_1),
    TRef.binary (TRef.of (T := ⟨S4096x101, .f32⟩) main_call0_v5) (TRef.of (T := ⟨S4096x101, .f32⟩) main_call0_v10) (TRef.of (T := ⟨S4096x101, .f32⟩) main_v0) subf,
    unary main_arg3 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 101#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) (rfl : (.i32 : EltTy) = .i32) shapeCasts_S4096x1_S4096x1x1,
    TRef.nullary (TRef.of (T := ⟨S1, .i32⟩) main_call1_c_1) (constantI S1 32 100#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2) ]

/-- @main's operations 31 … 60 of 257 (window `main_part0`). -/
abbrev ops_part0_1 : List (HloOp τ sig (Elt F)) :=
  [ TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x101, .f32⟩) main_v0) (TRef.of (T := ⟨S4096x1x1, .i32⟩) main_call1_v5) (TRef.of (T := ⟨S4096x1, .f32⟩) main_call1_v13) (fun x i => Host.gather gather_S4096x101_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select,
    reshape main_v2 main_v3 (rfl : (.f32 : EltTy) = .f32) shapeCasts_S4096x1_S4096,
    unary main_v3 main_v4 (Host.negf : (⟨S4096, .f32⟩ : BufTy).Contents (Elt F) → (⟨S4096, .f32⟩ : BufTy).Contents (Elt F)),
    nullary main_cst (constant S_ .f32 0x00000000#32),
    binary main_v4 main_cst main_v5 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_0 (constant S_ .f32 0x45800000#32),
    binary main_v5 main_cst_0 main_v6 (Host.divf : (⟨S_, .f32⟩ : BufTy).Contents (Elt F) → (⟨S_, .f32⟩ : BufTy).Contents (Elt F) → (⟨S_, .f32⟩ : BufTy).Contents (Elt F)),
    TRef.binary (TRef.of (T := ⟨S4096x128, .f32⟩) main_arg0) (TRef.of (T := ⟨S4096x128, .f32⟩) main_arg0) (TRef.of (T := ⟨S4096x128, .f32⟩) main_call2_v0) mulf,
    TRef.nullary (TRef.of (T := ⟨S_, .f32⟩) main_call2_cst) (constant S_ .f32 0x00000000#32),
    TRef.binary (TRef.of (T := ⟨S4096x128, .f32⟩) main_call2_v0) (TRef.of (T := ⟨S_, .f32⟩) main_call2_cst) (TRef.of (T := ⟨S4096, .f32⟩) main_call2_v1) (fun x v => Host.reduceAdd x v reducesTo_S4096x128_S4096_d1 h_S_),
    TRef.unary (TRef.of (T := ⟨S4096, .f32⟩) main_call2_v1) (TRef.of (T := ⟨S4096x1, .f32⟩) main_call2_v2) (broadcastInDim S4096x1 ![0] bcast_S4096_S4096x1_0),
    TRef.unary (TRef.of (T := ⟨S4096x1, .f32⟩) main_call2_v2) (TRef.of (T := ⟨S4096x1, .f32⟩) main_v7) Host.sqrt,
    nullary main_cst_1 (constant S_ .f32 0x2B8CBCCC#32),
    unary main_cst_1 main_v8 (broadcastInDim S4096x1 ![] bcast_S_S4096x1 : (⟨S_, .f32⟩ : BufTy).Contents (Elt F) → (⟨S4096x1, .f32⟩ : BufTy).Contents (Elt F)),
    binary main_v7 main_v8 main_v9 (maximumf : (⟨S4096x1, .f32⟩ : BufTy).Contents (Elt F) → (⟨S4096x1, .f32⟩ : BufTy).Contents (Elt F) → (⟨S4096x1, .f32⟩ : BufTy).Contents (Elt F)),
    unary main_v9 main_v10 (broadcastInDim S4096x128 ![0, 1] bcast_S4096x1_S4096x128_0_1 : (⟨S4096x1, .f32⟩ : BufTy).Contents (Elt F) → (⟨S4096x128, .f32⟩ : BufTy).Contents (Elt F)),
    binary main_arg0 main_v10 main_v11 (Host.divf : (⟨S4096x128, .f32⟩ : BufTy).Contents (Elt F) → (⟨S4096x128, .f32⟩ : BufTy).Contents (Elt F) → (⟨S4096x128, .f32⟩ : BufTy).Contents (Elt F)),
    unary main_v11 main_v12 ((transpose S128x4096 [1, 0] · transposes_S4096x128_S128x4096_1_0) : (⟨S4096x128, .f32⟩ : BufTy).Contents (Elt F) → (⟨S128x4096, .f32⟩ : BufTy).Contents (Elt F)),
    binary main_v11 main_v12 main_v13 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    TRef.nullary (TRef.of (T := ⟨S4096x101, .i32⟩) main_call3_v0) (iotaInDim S4096x101 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S4096x101, .f32⟩) main_arg2) (TRef.of (T := ⟨S4096x101, .i32⟩) main_call3_v0) (TRef.of (T := ⟨S_, .f32⟩) main_call3_cst) (TRef.of (T := ⟨S_, .i32⟩) main_call3_c) (TRef.of (T := ⟨S4096, .f32⟩) main_call3_v1_0) (fun x y u v j => (Host.argReduce reducer_argmax_f32_i32 x y u v reducesTo_S4096x101_S4096_d1 h_S_ j).1) ]

/-- @main's operations 61 … 90 of 257 (window `main_part0`). -/
abbrev ops_part0_2 : List (HloOp τ sig (Elt F)) :=
  [ TRef.quaternary (TRef.of (T := ⟨S4096x101, .f32⟩) main_arg2) (TRef.of (T := ⟨S4096x101, .i32⟩) main_call3_v0) (TRef.of (T := ⟨S_, .f32⟩) main_call3_cst) (TRef.of (T := ⟨S_, .i32⟩) main_call3_c) (TRef.of (T := ⟨S4096, .i32⟩) main_v14) (fun x y u v j => (Host.argReduce reducer_argmax_f32_i32 x y u v reducesTo_S4096x101_S4096_d1 h_S_ j).2),
    binary main_v14 main_arg3 main_v15 (cmpi .eq : (⟨S4096, .i32⟩ : BufTy).Contents (Elt F) → (⟨S4096, .i32⟩ : BufTy).Contents (Elt F) → (⟨S4096, .i1⟩ : BufTy).Contents (Elt F)),
    nullary main_v16 (iotaInDim S4096 32 0),
    unary main_v15 main_v17 (broadcastInDim S4096x1 ![0] bcast_S4096_S4096x1_0 : (⟨S4096, .i1⟩ : BufTy).Contents (Elt F) → (⟨S4096x1, .i1⟩ : BufTy).Contents (Elt F)),
    unary main_v15 main_v18 (broadcastInDim S1x4096 ![1] bcast_S4096_S1x4096_1 : (⟨S4096, .i1⟩ : BufTy).Contents (Elt F) → (⟨S1x4096, .i1⟩ : BufTy).Contents (Elt F)),
    unary main_v17 main_v19 (broadcastInDim S4096x4096 ![0, 1] bcast_S4096x1_S4096x4096_0_1 : (⟨S4096x1, .i1⟩ : BufTy).Contents (Elt F) → (⟨S4096x4096, .i1⟩ : BufTy).Contents (Elt F)),
    unary main_v18 main_v20 (broadcastInDim S4096x4096 ![0, 1] bcast_S1x4096_S4096x4096_0_1 : (⟨S1x4096, .i1⟩ : BufTy).Contents (Elt F) → (⟨S4096x4096, .i1⟩ : BufTy).Contents (Elt F)),
    binary main_v19 main_v20 main_v21 (andi : (⟨S4096x4096, .i1⟩ : BufTy).Contents (Elt F) → (⟨S4096x4096, .i1⟩ : BufTy).Contents (Elt F) → (⟨S4096x4096, .i1⟩ : BufTy).Contents (Elt F)),
    unary main_v16 main_v22 (broadcastInDim S1x4096 ![1] bcast_S4096_S1x4096_1 : (⟨S4096, .i32⟩ : BufTy).Contents (Elt F) → (⟨S1x4096, .i32⟩ : BufTy).Contents (Elt F)),
    unary main_v16 main_v23 (broadcastInDim S4096x1 ![0] bcast_S4096_S4096x1_0 : (⟨S4096, .i32⟩ : BufTy).Contents (Elt F) → (⟨S4096x1, .i32⟩ : BufTy).Contents (Elt F)),
    unary main_v22 main_v24 (broadcastInDim S4096x4096 ![0, 1] bcast_S1x4096_S4096x4096_0_1 : (⟨S1x4096, .i32⟩ : BufTy).Contents (Elt F) → (⟨S4096x4096, .i32⟩ : BufTy).Contents (Elt F)),
    unary main_v23 main_v25 (broadcastInDim S4096x4096 ![0, 1] bcast_S4096x1_S4096x4096_0_1 : (⟨S4096x1, .i32⟩ : BufTy).Contents (Elt F) → (⟨S4096x4096, .i32⟩ : BufTy).Contents (Elt F)),
    binary main_v24 main_v25 main_v26 (cmpi .sgt : (⟨S4096x4096, .i32⟩ : BufTy).Contents (Elt F) → (⟨S4096x4096, .i32⟩ : BufTy).Contents (Elt F) → (⟨S4096x4096, .i1⟩ : BufTy).Contents (Elt F)),
    binary main_v21 main_v26 main_v27 (andi : (⟨S4096x4096, .i1⟩ : BufTy).Contents (Elt F) → (⟨S4096x4096, .i1⟩ : BufTy).Contents (Elt F) → (⟨S4096x4096, .i1⟩ : BufTy).Contents (Elt F)),
    unary main_v27 main_v28 (uitofp .f32 : (⟨S4096x4096, .i1⟩ : BufTy).Contents (Elt F) → (⟨S4096x4096, .f32⟩ : BufTy).Contents (Elt F)),
    binary main_v13 main_v28 main_v29 (mulf : (⟨S4096x4096, .f32⟩ : BufTy).Contents (Elt F) → (⟨S4096x4096, .f32⟩ : BufTy).Contents (Elt F) → (⟨S4096x4096, .f32⟩ : BufTy).Contents (Elt F)),
    unary main_arg3 main_v30 (broadcastInDim S4096x1 ![0] bcast_S4096_S4096x1_0 : (⟨S4096, .i32⟩ : BufTy).Contents (Elt F) → (⟨S4096x1, .i32⟩ : BufTy).Contents (Elt F)),
    unary main_v30 main_v31 (broadcastInDim S4096x4096 ![0, 1] bcast_S4096x1_S4096x4096_0_1 : (⟨S4096x1, .i32⟩ : BufTy).Contents (Elt F) → (⟨S4096x4096, .i32⟩ : BufTy).Contents (Elt F)),
    unary main_arg3 main_v32 (broadcastInDim S1x4096 ![1] bcast_S4096_S1x4096_1 : (⟨S4096, .i32⟩ : BufTy).Contents (Elt F) → (⟨S1x4096, .i32⟩ : BufTy).Contents (Elt F)),
    unary main_v32 main_v33 (broadcastInDim S4096x4096 ![0, 1] bcast_S1x4096_S4096x4096_0_1 : (⟨S1x4096, .i32⟩ : BufTy).Contents (Elt F) → (⟨S4096x4096, .i32⟩ : BufTy).Contents (Elt F)),
    nullary main_cst_2 (constant S_ .f32 0x00000000#32),
    unary main_cst_2 main_v34 (broadcastInDim S101x101 ![] bcast_S_S101x101 : (⟨S_, .f32⟩ : BufTy).Contents (Elt F) → (⟨S101x101, .f32⟩ : BufTy).Contents (Elt F)),
    nullary main_c (constantI S_ 32 0#32),
    unary main_c main_v35 (broadcastInDim S4096x4096 ![] bcast_S_S4096x4096 : (⟨S_, .i32⟩ : BufTy).Contents (Elt F) → (⟨S4096x4096, .i32⟩ : BufTy).Contents (Elt F)),
    binary main_v31 main_v35 main_v36 (cmpi .slt : (⟨S4096x4096, .i32⟩ : BufTy).Contents (Elt F) → (⟨S4096x4096, .i32⟩ : BufTy).Contents (Elt F) → (⟨S4096x4096, .i1⟩ : BufTy).Contents (Elt F)),
    nullary main_c_3 (constantI S_ 32 101#32),
    unary main_c_3 main_v37 (broadcastInDim S4096x4096 ![] bcast_S_S4096x4096 : (⟨S_, .i32⟩ : BufTy).Contents (Elt F) → (⟨S4096x4096, .i32⟩ : BufTy).Contents (Elt F)),
    binary main_v31 main_v37 main_v38 (addi : (⟨S4096x4096, .i32⟩ : BufTy).Contents (Elt F) → (⟨S4096x4096, .i32⟩ : BufTy).Contents (Elt F) → (⟨S4096x4096, .i32⟩ : BufTy).Contents (Elt F)),
    ternary main_v36 main_v38 main_v31 main_v39 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    nullary main_c_4 (constantI S_ 32 0#32) ]

/-- @main's operations 91 … 103 of 257 (window `main_part0`). -/
abbrev ops_part0_3 : List (HloOp τ sig (Elt F)) :=
  [ unary main_c_4 main_v40 (broadcastInDim S4096x4096 ![] bcast_S_S4096x4096 : (⟨S_, .i32⟩ : BufTy).Contents (Elt F) → (⟨S4096x4096, .i32⟩ : BufTy).Contents (Elt F)),
    binary main_v33 main_v40 main_v41 (cmpi .slt : (⟨S4096x4096, .i32⟩ : BufTy).Contents (Elt F) → (⟨S4096x4096, .i32⟩ : BufTy).Contents (Elt F) → (⟨S4096x4096, .i1⟩ : BufTy).Contents (Elt F)),
    nullary main_c_5 (constantI S_ 32 101#32),
    unary main_c_5 main_v42 (broadcastInDim S4096x4096 ![] bcast_S_S4096x4096 : (⟨S_, .i32⟩ : BufTy).Contents (Elt F) → (⟨S4096x4096, .i32⟩ : BufTy).Contents (Elt F)),
    binary main_v33 main_v42 main_v43 (addi : (⟨S4096x4096, .i32⟩ : BufTy).Contents (Elt F) → (⟨S4096x4096, .i32⟩ : BufTy).Contents (Elt F) → (⟨S4096x4096, .i32⟩ : BufTy).Contents (Elt F)),
    ternary main_v41 main_v43 main_v33 main_v44 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v39 main_v45 (broadcastInDim S4096x4096x1 ![0, 1] bcast_S4096x4096_S4096x4096x1_0_1 : (⟨S4096x4096, .i32⟩ : BufTy).Contents (Elt F) → (⟨S4096x4096x1, .i32⟩ : BufTy).Contents (Elt F)),
    unary main_v44 main_v46 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_v45 main_v46 main_v47 (fn_main_v47 (F := F)),
    ternary main_v34 main_v47 main_v29 main_v48 ((fun x i u => Host.scatterAdd scatter_S101x101_S4096x4096x2_S4096x4096_n_01_01_2 x i u) : (⟨S101x101, .f32⟩ : BufTy).Contents (Elt F) → (⟨S4096x4096x2, .i32⟩ : BufTy).Contents (Elt F) → (⟨S4096x4096, .f32⟩ : BufTy).Contents (Elt F) → (⟨S101x101, .f32⟩ : BufTy).Contents (Elt F)),
    nullary main_cst_6 (constant S_ .f32 0x00000000#32),
    unary main_cst_6 main_v49 (broadcastInDim S101x101 ![] bcast_S_S101x101 : (⟨S_, .f32⟩ : BufTy).Contents (Elt F) → (⟨S101x101, .f32⟩ : BufTy).Contents (Elt F)),
    nullary main_c_7 (constantI S_ 32 0#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 104 … 133 of 257 (window `main_part1`). -/
abbrev ops_part1_0 : List (HloOp τ sig (Elt F)) :=
  [ unary main_c_7 main_v50 (broadcastInDim S4096x4096 ![] bcast_S_S4096x4096 : (⟨S_, .i32⟩ : BufTy).Contents (Elt F) → (⟨S4096x4096, .i32⟩ : BufTy).Contents (Elt F)),
    binary main_v31 main_v50 main_v51 (cmpi .slt : (⟨S4096x4096, .i32⟩ : BufTy).Contents (Elt F) → (⟨S4096x4096, .i32⟩ : BufTy).Contents (Elt F) → (⟨S4096x4096, .i1⟩ : BufTy).Contents (Elt F)),
    nullary main_c_8 (constantI S_ 32 101#32),
    unary main_c_8 main_v52 (broadcastInDim S4096x4096 ![] bcast_S_S4096x4096 : (⟨S_, .i32⟩ : BufTy).Contents (Elt F) → (⟨S4096x4096, .i32⟩ : BufTy).Contents (Elt F)),
    binary main_v31 main_v52 main_v53 (addi : (⟨S4096x4096, .i32⟩ : BufTy).Contents (Elt F) → (⟨S4096x4096, .i32⟩ : BufTy).Contents (Elt F) → (⟨S4096x4096, .i32⟩ : BufTy).Contents (Elt F)),
    ternary main_v51 main_v53 main_v31 main_v54 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    nullary main_c_9 (constantI S_ 32 0#32),
    unary main_c_9 main_v55 (broadcastInDim S4096x4096 ![] bcast_S_S4096x4096 : (⟨S_, .i32⟩ : BufTy).Contents (Elt F) → (⟨S4096x4096, .i32⟩ : BufTy).Contents (Elt F)),
    binary main_v33 main_v55 main_v56 (cmpi .slt : (⟨S4096x4096, .i32⟩ : BufTy).Contents (Elt F) → (⟨S4096x4096, .i32⟩ : BufTy).Contents (Elt F) → (⟨S4096x4096, .i1⟩ : BufTy).Contents (Elt F)),
    nullary main_c_10 (constantI S_ 32 101#32),
    unary main_c_10 main_v57 (broadcastInDim S4096x4096 ![] bcast_S_S4096x4096 : (⟨S_, .i32⟩ : BufTy).Contents (Elt F) → (⟨S4096x4096, .i32⟩ : BufTy).Contents (Elt F)),
    binary main_v33 main_v57 main_v58 (addi : (⟨S4096x4096, .i32⟩ : BufTy).Contents (Elt F) → (⟨S4096x4096, .i32⟩ : BufTy).Contents (Elt F) → (⟨S4096x4096, .i32⟩ : BufTy).Contents (Elt F)),
    ternary main_v56 main_v58 main_v33 main_v59 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v54 main_v60 (broadcastInDim S4096x4096x1 ![0, 1] bcast_S4096x4096_S4096x4096x1_0_1 : (⟨S4096x4096, .i32⟩ : BufTy).Contents (Elt F) → (⟨S4096x4096x1, .i32⟩ : BufTy).Contents (Elt F)),
    unary main_v59 main_v61 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_v60 main_v61 main_v62 (fn_main_v62 (F := F)),
    ternary main_v49 main_v62 main_v28 main_v63 ((fun x i u => Host.scatterAdd scatter_S101x101_S4096x4096x2_S4096x4096_n_01_01_2 x i u) : (⟨S101x101, .f32⟩ : BufTy).Contents (Elt F) → (⟨S4096x4096x2, .i32⟩ : BufTy).Contents (Elt F) → (⟨S4096x4096, .f32⟩ : BufTy).Contents (Elt F) → (⟨S101x101, .f32⟩ : BufTy).Contents (Elt F)),
    nullary main_v64 (iotaInDim S101x101 32 0),
    nullary main_v65 (iotaInDim S101x101 32 1),
    nullary main_c_11 (constantI S_ 32 0#32),
    unary main_c_11 main_v66 (broadcastInDim S101x101 ![] bcast_S_S101x101 : (⟨S_, .i32⟩ : BufTy).Contents (Elt F) → (⟨S101x101, .i32⟩ : BufTy).Contents (Elt F)),
    binary main_v64 main_v66 main_v67 (addi : (⟨S101x101, .i32⟩ : BufTy).Contents (Elt F) → (⟨S101x101, .i32⟩ : BufTy).Contents (Elt F) → (⟨S101x101, .i32⟩ : BufTy).Contents (Elt F)),
    binary main_v67 main_v65 main_v68 (cmpi .eq : (⟨S101x101, .i32⟩ : BufTy).Contents (Elt F) → (⟨S101x101, .i32⟩ : BufTy).Contents (Elt F) → (⟨S101x101, .i1⟩ : BufTy).Contents (Elt F)),
    unary main_v48 main_v69 ((transpose S101x101 [1, 0] · transposes_S101x101_S101x101_1_0) : (⟨S101x101, .f32⟩ : BufTy).Contents (Elt F) → (⟨S101x101, .f32⟩ : BufTy).Contents (Elt F)),
    binary main_v48 main_v69 main_v70 (addf : (⟨S101x101, .f32⟩ : BufTy).Contents (Elt F) → (⟨S101x101, .f32⟩ : BufTy).Contents (Elt F) → (⟨S101x101, .f32⟩ : BufTy).Contents (Elt F)),
    nullary main_cst_12 (constant S_ .f32 0x00000000#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S101x101, .f32⟩) main_call4_v1) (broadcastInDim S101x101 ![] bcast_S_S101x101),
    TRef.ternary (TRef.of (T := ⟨S101x101, .i1⟩) main_v68) (TRef.of (T := ⟨S101x101, .f32⟩) main_v48) (TRef.of (T := ⟨S101x101, .f32⟩) main_call4_v1) (TRef.of (T := ⟨S101x101, .f32⟩) main_v71) select,
    binary main_v70 main_v71 main_v72 (subf : (⟨S101x101, .f32⟩ : BufTy).Contents (Elt F) → (⟨S101x101, .f32⟩ : BufTy).Contents (Elt F) → (⟨S101x101, .f32⟩ : BufTy).Contents (Elt F)) ]

/-- @main's operations 134 … 163 of 257 (window `main_part1`). -/
abbrev ops_part1_1 : List (HloOp τ sig (Elt F)) :=
  [ unary main_v63 main_v73 ((transpose S101x101 [1, 0] · transposes_S101x101_S101x101_1_0) : (⟨S101x101, .f32⟩ : BufTy).Contents (Elt F) → (⟨S101x101, .f32⟩ : BufTy).Contents (Elt F)),
    binary main_v63 main_v73 main_v74 (addf : (⟨S101x101, .f32⟩ : BufTy).Contents (Elt F) → (⟨S101x101, .f32⟩ : BufTy).Contents (Elt F) → (⟨S101x101, .f32⟩ : BufTy).Contents (Elt F)),
    nullary main_cst_13 (constant S_ .f32 0x00000000#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S101x101, .f32⟩) main_call5_v1) (broadcastInDim S101x101 ![] bcast_S_S101x101),
    TRef.ternary (TRef.of (T := ⟨S101x101, .i1⟩) main_v68) (TRef.of (T := ⟨S101x101, .f32⟩) main_v63) (TRef.of (T := ⟨S101x101, .f32⟩) main_call5_v1) (TRef.of (T := ⟨S101x101, .f32⟩) main_v75) select,
    binary main_v74 main_v75 main_v76 (subf : (⟨S101x101, .f32⟩ : BufTy).Contents (Elt F) → (⟨S101x101, .f32⟩ : BufTy).Contents (Elt F) → (⟨S101x101, .f32⟩ : BufTy).Contents (Elt F)),
    binary main_arg5 main_v72 main_v77 (addf : (⟨S101x101, .f32⟩ : BufTy).Contents (Elt F) → (⟨S101x101, .f32⟩ : BufTy).Contents (Elt F) → (⟨S101x101, .f32⟩ : BufTy).Contents (Elt F)),
    binary main_arg6 main_v76 main_v78 (addf : (⟨S101x101, .f32⟩ : BufTy).Contents (Elt F) → (⟨S101x101, .f32⟩ : BufTy).Contents (Elt F) → (⟨S101x101, .f32⟩ : BufTy).Contents (Elt F)),
    unary main_arg1 main_v79 ((transpose S64x4096 [1, 0] · transposes_S4096x64_S64x4096_1_0) : (⟨S4096x64, .f32⟩ : BufTy).Contents (Elt F) → (⟨S64x4096, .f32⟩ : BufTy).Contents (Elt F)),
    binary main_arg1 main_v79 main_v80 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    nullary main_cst_14 (constant S_ .f32 0x40000000#32),
    unary main_cst_14 main_v81 (broadcastInDim S4096x4096 ![] bcast_S_S4096x4096 : (⟨S_, .f32⟩ : BufTy).Contents (Elt F) → (⟨S4096x4096, .f32⟩ : BufTy).Contents (Elt F)),
    binary main_v80 main_v81 main_v82 (Host.divf : (⟨S4096x4096, .f32⟩ : BufTy).Contents (Elt F) → (⟨S4096x4096, .f32⟩ : BufTy).Contents (Elt F) → (⟨S4096x4096, .f32⟩ : BufTy).Contents (Elt F)),
    TRef.unary (TRef.of (T := ⟨S4096, .i32⟩) main_arg3) (TRef.of (T := ⟨S4096x1, .i32⟩) main_call6_v0) (broadcastInDim S4096x1 ![0] bcast_S4096_S4096x1_0),
    TRef.nullary (TRef.of (T := ⟨S1x101, .i32⟩) main_call6_v1) (iotaInDim S1x101 32 1),
    TRef.unary (TRef.of (T := ⟨S4096x1, .i32⟩) main_call6_v0) (TRef.of (T := ⟨S4096x101, .i32⟩) main_call6_v2) (broadcastInDim S4096x101 ![0, 1] bcast_S4096x1_S4096x101_0_1),
    TRef.unary (TRef.of (T := ⟨S1x101, .i32⟩) main_call6_v1) (TRef.of (T := ⟨S4096x101, .i32⟩) main_call6_v3) (broadcastInDim S4096x101 ![0, 1] bcast_S1x101_S4096x101_0_1),
    TRef.binary (TRef.of (T := ⟨S4096x101, .i32⟩) main_call6_v2) (TRef.of (T := ⟨S4096x101, .i32⟩) main_call6_v3) (TRef.of (T := ⟨S4096x101, .i1⟩) main_call6_v4) (cmpi .eq),
    TRef.unary (TRef.of (T := ⟨S4096x101, .i1⟩) main_call6_v4) (TRef.of (T := ⟨S4096x101, .f32⟩) main_v83) (uitofp .f32),
    unary main_v83 main_v84 ((transpose S101x4096 [1, 0] · transposes_S4096x101_S101x4096_1_0) : (⟨S4096x101, .f32⟩ : BufTy).Contents (Elt F) → (⟨S101x4096, .f32⟩ : BufTy).Contents (Elt F)),
    binary main_v83 main_v84 main_v85 ((fun l r => Host.dotGeneral dot_S4096x101_S101x4096_S4096x4096_1_0_0_1_n_n none l r) : (⟨S4096x101, .f32⟩ : BufTy).Contents (Elt F) → (⟨S101x4096, .f32⟩ : BufTy).Contents (Elt F) → (⟨S4096x4096, .f32⟩ : BufTy).Contents (Elt F)),
    nullary main_cst_15 (constant S_ .f32 0x00000000#32),
    unary main_cst_15 main_v86 (broadcastInDim S4096x4096 ![] bcast_S_S4096x4096 : (⟨S_, .f32⟩ : BufTy).Contents (Elt F) → (⟨S4096x4096, .f32⟩ : BufTy).Contents (Elt F)),
    binary main_v85 main_v86 main_v87 (cmpf .ogt : (⟨S4096x4096, .f32⟩ : BufTy).Contents (Elt F) → (⟨S4096x4096, .f32⟩ : BufTy).Contents (Elt F) → (⟨S4096x4096, .i1⟩ : BufTy).Contents (Elt F)),
    unary main_v87 main_v88 (uitofp .f32 : (⟨S4096x4096, .i1⟩ : BufTy).Contents (Elt F) → (⟨S4096x4096, .f32⟩ : BufTy).Contents (Elt F)),
    unary main_arg3 main_v89 ((extractStridedSlice S6 ![0] · slices_S4096_S6_0) : (⟨S4096, .i32⟩ : BufTy).Contents (Elt F) → (⟨S6, .i32⟩ : BufTy).Contents (Elt F)),
    unary main_v89 main_v90 (broadcastInDim S6x1 ![0] bcast_S6_S6x1_0 : (⟨S6, .i32⟩ : BufTy).Contents (Elt F) → (⟨S6x1, .i32⟩ : BufTy).Contents (Elt F)),
    unary main_arg3 main_v91 ((extractStridedSlice S6 ![0] · slices_S4096_S6_0) : (⟨S4096, .i32⟩ : BufTy).Contents (Elt F) → (⟨S6, .i32⟩ : BufTy).Contents (Elt F)),
    unary main_v91 main_v92 (broadcastInDim S1x6 ![1] bcast_S6_S1x6_1 : (⟨S6, .i32⟩ : BufTy).Contents (Elt F) → (⟨S1x6, .i32⟩ : BufTy).Contents (Elt F)) ]

/-- @main's operations 164 … 172 of 257 (window `main_part1`). -/
abbrev ops_part1_2 : List (HloOp τ sig (Elt F)) :=
  [ nullary main_c_16 (constantI S_ 32 0#32),
    unary main_c_16 main_v93 (broadcastInDim S6x1 ![] bcast_S_S6x1 : (⟨S_, .i32⟩ : BufTy).Contents (Elt F) → (⟨S6x1, .i32⟩ : BufTy).Contents (Elt F)),
    binary main_v90 main_v93 main_v94 (cmpi .slt : (⟨S6x1, .i32⟩ : BufTy).Contents (Elt F) → (⟨S6x1, .i32⟩ : BufTy).Contents (Elt F) → (⟨S6x1, .i1⟩ : BufTy).Contents (Elt F)),
    nullary main_c_17 (constantI S_ 32 101#32),
    unary main_c_17 main_v95 (broadcastInDim S6x1 ![] bcast_S_S6x1 : (⟨S_, .i32⟩ : BufTy).Contents (Elt F) → (⟨S6x1, .i32⟩ : BufTy).Contents (Elt F)),
    binary main_v90 main_v95 main_v96 (addi : (⟨S6x1, .i32⟩ : BufTy).Contents (Elt F) → (⟨S6x1, .i32⟩ : BufTy).Contents (Elt F) → (⟨S6x1, .i32⟩ : BufTy).Contents (Elt F)),
    ternary main_v94 main_v96 main_v90 main_v97 (select : (⟨S6x1, .i1⟩ : BufTy).Contents (Elt F) → (⟨S6x1, .i32⟩ : BufTy).Contents (Elt F) → (⟨S6x1, .i32⟩ : BufTy).Contents (Elt F) → (⟨S6x1, .i32⟩ : BufTy).Contents (Elt F)),
    nullary main_c_18 (constantI S_ 32 0#32),
    unary main_c_18 main_v98 (broadcastInDim S1x6 ![] bcast_S_S1x6 : (⟨S_, .i32⟩ : BufTy).Contents (Elt F) → (⟨S1x6, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 173 … 202 of 257 (window `main_part2`). -/
abbrev ops_part2_0 : List (HloOp τ sig (Elt F)) :=
  [ binary main_v92 main_v98 main_v99 (cmpi .slt : (⟨S1x6, .i32⟩ : BufTy).Contents (Elt F) → (⟨S1x6, .i32⟩ : BufTy).Contents (Elt F) → (⟨S1x6, .i1⟩ : BufTy).Contents (Elt F)),
    nullary main_c_19 (constantI S_ 32 101#32),
    unary main_c_19 main_v100 (broadcastInDim S1x6 ![] bcast_S_S1x6 : (⟨S_, .i32⟩ : BufTy).Contents (Elt F) → (⟨S1x6, .i32⟩ : BufTy).Contents (Elt F)),
    binary main_v92 main_v100 main_v101 (addi : (⟨S1x6, .i32⟩ : BufTy).Contents (Elt F) → (⟨S1x6, .i32⟩ : BufTy).Contents (Elt F) → (⟨S1x6, .i32⟩ : BufTy).Contents (Elt F)),
    ternary main_v99 main_v101 main_v92 main_v102 (select : (⟨S1x6, .i1⟩ : BufTy).Contents (Elt F) → (⟨S1x6, .i32⟩ : BufTy).Contents (Elt F) → (⟨S1x6, .i32⟩ : BufTy).Contents (Elt F) → (⟨S1x6, .i32⟩ : BufTy).Contents (Elt F)),
    unary main_v97 main_v103 (broadcastInDim S6x6 ![0, 1] bcast_S6x1_S6x6_0_1 : (⟨S6x1, .i32⟩ : BufTy).Contents (Elt F) → (⟨S6x6, .i32⟩ : BufTy).Contents (Elt F)),
    unary main_v102 main_v104 (broadcastInDim S6x6 ![0, 1] bcast_S1x6_S6x6_0_1 : (⟨S1x6, .i32⟩ : BufTy).Contents (Elt F) → (⟨S6x6, .i32⟩ : BufTy).Contents (Elt F)),
    unary main_v103 main_v105 (broadcastInDim S6x6x1 ![0, 1] bcast_S6x6_S6x6x1_0_1 : (⟨S6x6, .i32⟩ : BufTy).Contents (Elt F) → (⟨S6x6x1, .i32⟩ : BufTy).Contents (Elt F)),
    unary main_v104 main_v106 (broadcastInDim S6x6x1 ![0, 1] bcast_S6x6_S6x6x1_0_1 : (⟨S6x6, .i32⟩ : BufTy).Contents (Elt F) → (⟨S6x6x1, .i32⟩ : BufTy).Contents (Elt F)),
    binary main_v105 main_v106 main_v107 (fn_main_v107 (F := F)),
    binary main_arg4 main_v107 main_v108 ((fun x i => Host.gather gather_S101x101_S6x6x2_S6x6_n_01_n_n_01_2_11 x i) : (⟨S101x101, .f32⟩ : BufTy).Contents (Elt F) → (⟨S6x6x2, .i32⟩ : BufTy).Contents (Elt F) → (⟨S6x6, .f32⟩ : BufTy).Contents (Elt F)),
    nullary main_c_20 (constantI S_ 32 0#32),
    unary main_c_20 main_v109 (broadcastInDim S1 ![] bcast_S_S1 : (⟨S_, .i32⟩ : BufTy).Contents (Elt F) → (⟨S1, .i32⟩ : BufTy).Contents (Elt F)),
    nullary main_c_21 (constantI S_ 32 0#32),
    unary main_c_21 main_v110 (broadcastInDim S1 ![] bcast_S_S1 : (⟨S_, .i32⟩ : BufTy).Contents (Elt F) → (⟨S1, .i32⟩ : BufTy).Contents (Elt F)),
    binary main_v109 main_v110 main_v111 (fn_main_v111 (F := F)),
    ternary main_v88 main_v111 main_v108 main_v112 ((fun x i u => Host.scatter scatter_S4096x4096_S2_S6x6_01_n_01_0 (fun _ b => b) x i u) : (⟨S4096x4096, .f32⟩ : BufTy).Contents (Elt F) → (⟨S2, .i32⟩ : BufTy).Contents (Elt F) → (⟨S6x6, .f32⟩ : BufTy).Contents (Elt F) → (⟨S4096x4096, .f32⟩ : BufTy).Contents (Elt F)),
    nullary main_cst_22 (constant S_ .f32 0x00000000#32),
    unary main_cst_22 main_v113 (broadcastInDim S4096x4096 ![] bcast_S_S4096x4096 : (⟨S_, .f32⟩ : BufTy).Contents (Elt F) → (⟨S4096x4096, .f32⟩ : BufTy).Contents (Elt F)),
    binary main_v113 main_v82 main_v114 (maximumf : (⟨S4096x4096, .f32⟩ : BufTy).Contents (Elt F) → (⟨S4096x4096, .f32⟩ : BufTy).Contents (Elt F) → (⟨S4096x4096, .f32⟩ : BufTy).Contents (Elt F)),
    unary main_cst_22 main_v115 (broadcastInDim S4096x4096 ![] bcast_S_S4096x4096 : (⟨S_, .f32⟩ : BufTy).Contents (Elt F) → (⟨S4096x4096, .f32⟩ : BufTy).Contents (Elt F)),
    binary main_v115 main_v82 main_v116 (subf : (⟨S4096x4096, .f32⟩ : BufTy).Contents (Elt F) → (⟨S4096x4096, .f32⟩ : BufTy).Contents (Elt F) → (⟨S4096x4096, .f32⟩ : BufTy).Contents (Elt F)),
    binary main_v116 main_v116 main_v117 (cmpf .une : (⟨S4096x4096, .f32⟩ : BufTy).Contents (Elt F) → (⟨S4096x4096, .f32⟩ : BufTy).Contents (Elt F) → (⟨S4096x4096, .i1⟩ : BufTy).Contents (Elt F)),
    unary main_cst_22 main_v118 (broadcastInDim S4096x4096 ![] bcast_S_S4096x4096 : (⟨S_, .f32⟩ : BufTy).Contents (Elt F) → (⟨S4096x4096, .f32⟩ : BufTy).Contents (Elt F)),
    binary main_v118 main_v82 main_v119 (addf : (⟨S4096x4096, .f32⟩ : BufTy).Contents (Elt F) → (⟨S4096x4096, .f32⟩ : BufTy).Contents (Elt F) → (⟨S4096x4096, .f32⟩ : BufTy).Contents (Elt F)),
    unary main_v116 main_v120 (Host.absf : (⟨S4096x4096, .f32⟩ : BufTy).Contents (Elt F) → (⟨S4096x4096, .f32⟩ : BufTy).Contents (Elt F)),
    unary main_v120 main_v121 (Host.negf : (⟨S4096x4096, .f32⟩ : BufTy).Contents (Elt F) → (⟨S4096x4096, .f32⟩ : BufTy).Contents (Elt F)),
    unary main_v121 main_v122 (Host.exp : (⟨S4096x4096, .f32⟩ : BufTy).Contents (Elt F) → (⟨S4096x4096, .f32⟩ : BufTy).Contents (Elt F)),
    unary main_v122 main_v123 (Host.log1p : (⟨S4096x4096, .f32⟩ : BufTy).Contents (Elt F) → (⟨S4096x4096, .f32⟩ : BufTy).Contents (Elt F)),
    binary main_v114 main_v123 main_v124 (addf : (⟨S4096x4096, .f32⟩ : BufTy).Contents (Elt F) → (⟨S4096x4096, .f32⟩ : BufTy).Contents (Elt F) → (⟨S4096x4096, .f32⟩ : BufTy).Contents (Elt F)) ]

/-- @main's operations 203 … 232 of 257 (window `main_part2`). -/
abbrev ops_part2_1 : List (HloOp τ sig (Elt F)) :=
  [ ternary main_v117 main_v119 main_v124 main_v125 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    binary main_v112 main_v82 main_v126 (mulf : (⟨S4096x4096, .f32⟩ : BufTy).Contents (Elt F) → (⟨S4096x4096, .f32⟩ : BufTy).Contents (Elt F) → (⟨S4096x4096, .f32⟩ : BufTy).Contents (Elt F)),
    binary main_v125 main_v126 main_v127 (subf : (⟨S4096x4096, .f32⟩ : BufTy).Contents (Elt F) → (⟨S4096x4096, .f32⟩ : BufTy).Contents (Elt F) → (⟨S4096x4096, .f32⟩ : BufTy).Contents (Elt F)),
    nullary main_cst_23 (constant S_ .f32 0x3F800000#32),
    unary main_cst_23 main_v128 (broadcastInDim S4096x4096 ![] bcast_S_S4096x4096 : (⟨S_, .f32⟩ : BufTy).Contents (Elt F) → (⟨S4096x4096, .f32⟩ : BufTy).Contents (Elt F)),
    binary main_v112 main_v128 main_v129 (cmpf .oeq : (⟨S4096x4096, .f32⟩ : BufTy).Contents (Elt F) → (⟨S4096x4096, .f32⟩ : BufTy).Contents (Elt F) → (⟨S4096x4096, .i1⟩ : BufTy).Contents (Elt F)),
    unary main_v129 main_v130 (noti : (⟨S4096x4096, .i1⟩ : BufTy).Contents (Elt F) → (⟨S4096x4096, .i1⟩ : BufTy).Contents (Elt F)),
    unary main_v129 main_v131 (uitofp .f32 : (⟨S4096x4096, .i1⟩ : BufTy).Contents (Elt F) → (⟨S4096x4096, .f32⟩ : BufTy).Contents (Elt F)),
    nullary main_cst_24 (constant S_ .f32 0x00000000#32),
    binary main_v131 main_cst_24 main_v132 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_25 (constant S_ .f32 0x45800000#32),
    binary main_v132 main_cst_25 main_v133 (subf : (⟨S_, .f32⟩ : BufTy).Contents (Elt F) → (⟨S_, .f32⟩ : BufTy).Contents (Elt F) → (⟨S_, .f32⟩ : BufTy).Contents (Elt F)),
    unary main_v130 main_v134 (uitofp .f32 : (⟨S4096x4096, .i1⟩ : BufTy).Contents (Elt F) → (⟨S4096x4096, .f32⟩ : BufTy).Contents (Elt F)),
    nullary main_cst_26 (constant S_ .f32 0x00000000#32),
    binary main_v134 main_cst_26 main_v135 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_27 (constant S_ .f32 0x00000000#32),
    binary main_v135 main_cst_27 main_v136 (cmpf .oeq : (⟨S_, .f32⟩ : BufTy).Contents (Elt F) → (⟨S_, .f32⟩ : BufTy).Contents (Elt F) → (⟨S_, .i1⟩ : BufTy).Contents (Elt F)),
    nullary main_cst_28 (constant S_ .f32 0x3F800000#32),
    TRef.unary (TRef.of (T := ⟨S_, .f32⟩) main_cst_28) (TRef.of (T := ⟨S_, .f32⟩) main_call7_v0) id,
    TRef.ternary (TRef.of (T := ⟨S_, .i1⟩) main_v136) (TRef.of (T := ⟨S_, .f32⟩) main_call7_v0) (TRef.of (T := ⟨S_, .f32⟩) main_v135) (TRef.of (T := ⟨S_, .f32⟩) main_v137) select,
    nullary main_cst_29 (constant S_ .f32 0x00000000#32),
    binary main_v133 main_cst_29 main_v138 (cmpf .oeq : (⟨S_, .f32⟩ : BufTy).Contents (Elt F) → (⟨S_, .f32⟩ : BufTy).Contents (Elt F) → (⟨S_, .i1⟩ : BufTy).Contents (Elt F)),
    nullary main_cst_30 (constant S_ .f32 0x3F800000#32),
    TRef.unary (TRef.of (T := ⟨S_, .f32⟩) main_cst_30) (TRef.of (T := ⟨S_, .f32⟩) main_call8_v0) id,
    TRef.ternary (TRef.of (T := ⟨S_, .i1⟩) main_v138) (TRef.of (T := ⟨S_, .f32⟩) main_call8_v0) (TRef.of (T := ⟨S_, .f32⟩) main_v133) (TRef.of (T := ⟨S_, .f32⟩) main_v139) select,
    binary main_v137 main_v139 main_v140 (addf : (⟨S_, .f32⟩ : BufTy).Contents (Elt F) → (⟨S_, .f32⟩ : BufTy).Contents (Elt F) → (⟨S_, .f32⟩ : BufTy).Contents (Elt F)),
    binary main_v140 main_v139 main_v141 (Host.divf : (⟨S_, .f32⟩ : BufTy).Contents (Elt F) → (⟨S_, .f32⟩ : BufTy).Contents (Elt F) → (⟨S_, .f32⟩ : BufTy).Contents (Elt F)),
    unary main_v141 main_v142 (broadcastInDim S4096x4096 ![] bcast_S_S4096x4096 : (⟨S_, .f32⟩ : BufTy).Contents (Elt F) → (⟨S4096x4096, .f32⟩ : BufTy).Contents (Elt F)),
    binary main_v127 main_v142 main_v143 (mulf : (⟨S4096x4096, .f32⟩ : BufTy).Contents (Elt F) → (⟨S4096x4096, .f32⟩ : BufTy).Contents (Elt F) → (⟨S4096x4096, .f32⟩ : BufTy).Contents (Elt F)),
    binary main_v140 main_v137 main_v144 (Host.divf : (⟨S_, .f32⟩ : BufTy).Contents (Elt F) → (⟨S_, .f32⟩ : BufTy).Contents (Elt F) → (⟨S_, .f32⟩ : BufTy).Contents (Elt F)) ]

/-- @main's operations 233 … 234 of 257 (window `main_part2`). -/
abbrev ops_part2_2 : List (HloOp τ sig (Elt F)) :=
  [ unary main_v144 main_v145 (broadcastInDim S4096x4096 ![] bcast_S_S4096x4096 : (⟨S_, .f32⟩ : BufTy).Contents (Elt F) → (⟨S4096x4096, .f32⟩ : BufTy).Contents (Elt F)),
    binary main_v127 main_v145 main_v146 (mulf : (⟨S4096x4096, .f32⟩ : BufTy).Contents (Elt F) → (⟨S4096x4096, .f32⟩ : BufTy).Contents (Elt F) → (⟨S4096x4096, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 235 … 257 of 257 (window `main_part3`). -/
abbrev ops_part3 : List (HloOp τ sig (Elt F)) :=
  [ TRef.ternary (TRef.of (T := ⟨S4096x4096, .i1⟩) main_v129) (TRef.of (T := ⟨S4096x4096, .f32⟩) main_v143) (TRef.of (T := ⟨S4096x4096, .f32⟩) main_v146) (TRef.of (T := ⟨S4096x4096, .f32⟩) main_v147) select,
    nullary main_v148 (iotaInDim S4096x4096 32 0),
    nullary main_v149 (iotaInDim S4096x4096 32 1),
    nullary main_c_31 (constantI S_ 32 0#32),
    unary main_c_31 main_v150 (broadcastInDim S4096x4096 ![] bcast_S_S4096x4096 : (⟨S_, .i32⟩ : BufTy).Contents (Elt F) → (⟨S4096x4096, .i32⟩ : BufTy).Contents (Elt F)),
    binary main_v148 main_v150 main_v151 (addi : (⟨S4096x4096, .i32⟩ : BufTy).Contents (Elt F) → (⟨S4096x4096, .i32⟩ : BufTy).Contents (Elt F) → (⟨S4096x4096, .i32⟩ : BufTy).Contents (Elt F)),
    binary main_v151 main_v149 main_v152 (cmpi .eq : (⟨S4096x4096, .i32⟩ : BufTy).Contents (Elt F) → (⟨S4096x4096, .i32⟩ : BufTy).Contents (Elt F) → (⟨S4096x4096, .i1⟩ : BufTy).Contents (Elt F)),
    nullary main_cst_32 (constant S_ .f32 0x00000000#32),
    TRef.unary (TRef.of (T := ⟨S_, .f32⟩) main_cst_32) (TRef.of (T := ⟨S_, .f32⟩) main_call10_v0) id,
    TRef.unary (TRef.of (T := ⟨S_, .f32⟩) main_call10_v0) (TRef.of (T := ⟨S4096x4096, .f32⟩) main_call10_v1) (broadcastInDim S4096x4096 ![] bcast_S_S4096x4096),
    TRef.ternary (TRef.of (T := ⟨S4096x4096, .i1⟩) main_v152) (TRef.of (T := ⟨S4096x4096, .f32⟩) main_v147) (TRef.of (T := ⟨S4096x4096, .f32⟩) main_call10_v1) (TRef.of (T := ⟨S4096x4096, .f32⟩) main_v153) select,
    binary main_v147 main_v153 main_v154 (subf : (⟨S4096x4096, .f32⟩ : BufTy).Contents (Elt F) → (⟨S4096x4096, .f32⟩ : BufTy).Contents (Elt F) → (⟨S4096x4096, .f32⟩ : BufTy).Contents (Elt F)),
    nullary main_cst_33 (constant S_ .f32 0x00000000#32),
    binary main_v154 main_cst_33 main_v155 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_cst_34 (constant S_ .f32 0x40000000#32),
    binary main_v155 main_cst_34 main_v156 (Host.divf : (⟨S_, .f32⟩ : BufTy).Contents (Elt F) → (⟨S_, .f32⟩ : BufTy).Contents (Elt F) → (⟨S_, .f32⟩ : BufTy).Contents (Elt F)),
    nullary main_cst_35 (constant S_ .f32 0x4AFFF000#32),
    binary main_v156 main_cst_35 main_v157 (Host.divf : (⟨S_, .f32⟩ : BufTy).Contents (Elt F) → (⟨S_, .f32⟩ : BufTy).Contents (Elt F) → (⟨S_, .f32⟩ : BufTy).Contents (Elt F)),
    nullary main_cst_36 (constant S_ .f32 0x3F800000#32),
    binary main_cst_36 main_v6 main_v158 (mulf : (⟨S_, .f32⟩ : BufTy).Contents (Elt F) → (⟨S_, .f32⟩ : BufTy).Contents (Elt F) → (⟨S_, .f32⟩ : BufTy).Contents (Elt F)),
    nullary main_cst_37 (constant S_ .f32 0x3C23D70A#32),
    binary main_cst_37 main_v157 main_v159 (mulf : (⟨S_, .f32⟩ : BufTy).Contents (Elt F) → (⟨S_, .f32⟩ : BufTy).Contents (Elt F) → (⟨S_, .f32⟩ : BufTy).Contents (Elt F)),
    binary main_v158 main_v159 main_v160 (addf : (⟨S_, .f32⟩ : BufTy).Contents (Elt F) → (⟨S_, .f32⟩ : BufTy).Contents (Elt F) → (⟨S_, .f32⟩ : BufTy).Contents (Elt F)) ]

/-- @main's 257 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., nullary_bufs_sub .., quaternary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨quaternary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., binary_bufs_sub .., unary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., nullary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., nullary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., binary_bufs_sub .., nullary_bufs_sub .., unary_bufs_sub .., unary_bufs_sub .., ternary_bufs_sub .., binary_bufs_sub .., binary_bufs_sub .., binary_bufs_sub .., unary_bufs_sub .., binary_bufs_sub .., nullary_bufs_sub .., unary_bufs_sub .., binary_bufs_sub .., unary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., unary_bufs_sub .., binary_bufs_sub .., binary_bufs_sub .., nullary_bufs_sub .., unary_bufs_sub .., nullary_bufs_sub .., unary_bufs_sub .., binary_bufs_sub .., ternary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨ternary_bufs_sub .., binary_bufs_sub .., binary_bufs_sub .., nullary_bufs_sub .., unary_bufs_sub .., binary_bufs_sub .., unary_bufs_sub .., unary_bufs_sub .., nullary_bufs_sub .., binary_bufs_sub .., nullary_bufs_sub .., binary_bufs_sub .., unary_bufs_sub .., nullary_bufs_sub .., binary_bufs_sub .., nullary_bufs_sub .., binary_bufs_sub .., nullary_bufs_sub .., unary_bufs_sub .., ternary_bufs_sub .., nullary_bufs_sub .., binary_bufs_sub .., nullary_bufs_sub .., unary_bufs_sub .., ternary_bufs_sub .., binary_bufs_sub .., binary_bufs_sub .., unary_bufs_sub .., binary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., binary_bufs_sub ..⟩
set_option maxRecDepth 8192 in
theorem ops_part2_2_fresh : (ops_part2_2 : List (HloOp τ sig (Elt F))).Forall fun op => op.fresh = ∅ :=
  ⟨rfl, rfl⟩
set_option maxRecDepth 8192 in
theorem ops_part3_sub : (ops_part3 : List (HloOp τ sig (Elt F))).Forall fun op => op.bufs ⊆ tcRefs τ sig :=
  ⟨ternary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

set_option maxRecDepth 8192 in
/-- `main_call0_v5`'s composed term of the arguments (named: it is used 2 times). -/
def res_main_call0_v5 (V0 : Valuation τ sig (Elt F)) : (Proc.devRef .tc main_call0_v5 : DevRef τ sig).ty.Contents (Elt F) :=
  subf (V0 (Proc.devRef .tc main_arg2)) (broadcastInDim S4096x101 ![0, 1] bcast_S4096x1_S4096x101_0_1 (broadcastInDim S4096x1 ![0] bcast_S4096_S4096x1_0 (maximumf (broadcastInDim S4096 ![] bcast_S_S4096 (constant S_ .f32 0xFF800000#32)) (Host.reduce FloatOps.maximumf (V0 (Proc.devRef .tc main_arg2)) (constant S_ .f32 0xFF800000#32) reducesTo_S4096x101_S4096_d1 h_S_))))

set_option maxRecDepth 8192 in
/-- `main_v1`'s composed term of the arguments (named: it is used 3 times). -/
def res_main_v1 (V0 : Valuation τ sig (Elt F)) : (Proc.devRef .tc main_v1 : DevRef τ sig).ty.Contents (Elt F) :=
  broadcastInDim S4096x1 ![0] bcast_S4096_S4096x1_0 (V0 (Proc.devRef .tc main_arg3))

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v1 V0) (broadcastInDim S4096x1 ![] bcast_S_S4096x1 (constantI S_ 32 0#32))) (addi (res_main_v1 V0) (broadcastInDim S4096x1 ![] bcast_S_S4096x1 (constantI S_ 32 101#32))) (res_main_v1 V0)) shapeCasts_S4096x1_S4096x1x1

set_option maxRecDepth 8192 in
/-- `main_v11`'s composed term of the arguments (named: it is used 2 times). -/
def res_main_v11 (V0 : Valuation τ sig (Elt F)) : (Proc.devRef .tc main_v11 : DevRef τ sig).ty.Contents (Elt F) :=
  Host.divf (V0 (Proc.devRef .tc main_arg0)) (broadcastInDim S4096x128 ![0, 1] bcast_S4096x1_S4096x128_0_1 (maximumf (Host.sqrt (broadcastInDim S4096x1 ![0] bcast_S4096_S4096x1_0 (Host.reduceAdd (mulf (V0 (Proc.devRef .tc main_arg0)) (V0 (Proc.devRef .tc main_arg0))) (constant S_ .f32 0x00000000#32) reducesTo_S4096x128_S4096_d1 h_S_))) (broadcastInDim S4096x1 ![] bcast_S_S4096x1 (constant S_ .f32 0x2B8CBCCC#32))))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S4096x101 32 1

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v15`'s composed term of the arguments (named: it is used 2 times). -/
def res_main_v15 (V0 : Valuation τ sig (Elt F)) : (Proc.devRef .tc main_v15 : DevRef τ sig).ty.Contents (Elt F) :=
  cmpi .eq ((fun j => (Host.argReduce reducer_argmax_f32_i32 (V0 (Proc.devRef .tc main_arg2)) (res_main_call3_v0 V0) (res_main_call3_cst V0) (res_main_call3_c V0) reducesTo_S4096x101_S4096_d1 h_S_ j).2)) (V0 (Proc.devRef .tc main_arg3))

set_option maxRecDepth 8192 in
/-- `main_v16`'s composed term of the arguments (named: it is used 2 times). -/
def res_main_v16 (V0 : Valuation τ sig (Elt F)) : (Proc.devRef .tc main_v16 : DevRef τ sig).ty.Contents (Elt F) :=
  iotaInDim S4096 32 0

set_option maxRecDepth 8192 in
/-- `main_v28`'s composed term of the arguments (named: it is used 2 times). -/
def res_main_v28 (V0 : Valuation τ sig (Elt F)) : (Proc.devRef .tc main_v28 : DevRef τ sig).ty.Contents (Elt F) :=
  uitofp .f32 (andi (andi (broadcastInDim S4096x4096 ![0, 1] bcast_S4096x1_S4096x4096_0_1 (broadcastInDim S4096x1 ![0] bcast_S4096_S4096x1_0 (res_main_v15 V0))) (broadcastInDim S4096x4096 ![0, 1] bcast_S1x4096_S4096x4096_0_1 (broadcastInDim S1x4096 ![1] bcast_S4096_S1x4096_1 (res_main_v15 V0)))) (cmpi .sgt (broadcastInDim S4096x4096 ![0, 1] bcast_S1x4096_S4096x4096_0_1 (broadcastInDim S1x4096 ![1] bcast_S4096_S1x4096_1 (res_main_v16 V0))) (broadcastInDim S4096x4096 ![0, 1] bcast_S4096x1_S4096x4096_0_1 (broadcastInDim S4096x1 ![0] bcast_S4096_S4096x1_0 (res_main_v16 V0)))))

set_option maxRecDepth 8192 in
/-- `main_v31`'s composed term of the arguments (named: it is used 6 times). -/
def res_main_v31 (V0 : Valuation τ sig (Elt F)) : (Proc.devRef .tc main_v31 : DevRef τ sig).ty.Contents (Elt F) :=
  broadcastInDim S4096x4096 ![0, 1] bcast_S4096x1_S4096x4096_0_1 (broadcastInDim S4096x1 ![0] bcast_S4096_S4096x1_0 (V0 (Proc.devRef .tc main_arg3)))

set_option maxRecDepth 8192 in
/-- `main_v33`'s composed term of the arguments (named: it is used 6 times). -/
def res_main_v33 (V0 : Valuation τ sig (Elt F)) : (Proc.devRef .tc main_v33 : DevRef τ sig).ty.Contents (Elt F) :=
  broadcastInDim S4096x4096 ![0, 1] bcast_S1x4096_S4096x4096_0_1 (broadcastInDim S1x4096 ![1] bcast_S4096_S1x4096_1 (V0 (Proc.devRef .tc main_arg3)))

set_option maxRecDepth 8192 in
/-- `main_v48`'s composed term of the arguments (named: it is used 3 times). -/
def res_main_v48 (V0 : Valuation τ sig (Elt F)) : (Proc.devRef .tc main_v48 : DevRef τ sig).ty.Contents (Elt F) :=
  Host.scatterAdd scatter_S101x101_S4096x4096x2_S4096x4096_n_01_01_2 (broadcastInDim S101x101 ![] bcast_S_S101x101 (constant S_ .f32 0x00000000#32)) (concatenate S4096x4096x2 2 [⟨S4096x4096x1, (broadcastInDim S4096x4096x1 ![0, 1] bcast_S4096x4096_S4096x4096x1_0_1 (select (cmpi .slt (res_main_v31 V0) (broadcastInDim S4096x4096 ![] bcast_S_S4096x4096 (constantI S_ 32 0#32))) (addi (res_main_v31 V0) (broadcastInDim S4096x4096 ![] bcast_S_S4096x4096 (constantI S_ 32 101#32))) (res_main_v31 V0)))⟩, ⟨S4096x4096x1, (broadcastInDim S4096x4096x1 ![0, 1] bcast_S4096x4096_S4096x4096x1_0_1 (select (cmpi .slt (res_main_v33 V0) (broadcastInDim S4096x4096 ![] bcast_S_S4096x4096 (constantI S_ 32 0#32))) (addi (res_main_v33 V0) (broadcastInDim S4096x4096 ![] bcast_S_S4096x4096 (constantI S_ 32 101#32))) (res_main_v33 V0)))⟩] concatenates_S4096x4096x1_S4096x4096x1_S4096x4096x2_d2) (mulf (Host.dotGeneral dot_S4096x128_S128x4096_S4096x4096_1_0_0_1_n_n none (res_main_v11 V0) (transpose S128x4096 [1, 0] (res_main_v11 V0) transposes_S4096x128_S128x4096_1_0)) (res_main_v28 V0))

set_option maxRecDepth 8192 in
/-- `main_v63`'s composed term of the arguments (named: it is used 3 times). -/
def res_main_v63 (V0 : Valuation τ sig (Elt F)) : (Proc.devRef .tc main_v63 : DevRef τ sig).ty.Contents (Elt F) :=
  Host.scatterAdd scatter_S101x101_S4096x4096x2_S4096x4096_n_01_01_2 (broadcastInDim S101x101 ![] bcast_S_S101x101 (constant S_ .f32 0x00000000#32)) (concatenate S4096x4096x2 2 [⟨S4096x4096x1, (broadcastInDim S4096x4096x1 ![0, 1] bcast_S4096x4096_S4096x4096x1_0_1 (select (cmpi .slt (res_main_v31 V0) (broadcastInDim S4096x4096 ![] bcast_S_S4096x4096 (constantI S_ 32 0#32))) (addi (res_main_v31 V0) (broadcastInDim S4096x4096 ![] bcast_S_S4096x4096 (constantI S_ 32 101#32))) (res_main_v31 V0)))⟩, ⟨S4096x4096x1, (broadcastInDim S4096x4096x1 ![0, 1] bcast_S4096x4096_S4096x4096x1_0_1 (select (cmpi .slt (res_main_v33 V0) (broadcastInDim S4096x4096 ![] bcast_S_S4096x4096 (constantI S_ 32 0#32))) (addi (res_main_v33 V0) (broadcastInDim S4096x4096 ![] bcast_S_S4096x4096 (constantI S_ 32 101#32))) (res_main_v33 V0)))⟩] concatenates_S4096x4096x1_S4096x4096x1_S4096x4096x2_d2) (res_main_v28 V0)

set_option maxRecDepth 8192 in
/-- `main_v68`'s composed term of the arguments (named: it is used 2 times). -/
def res_main_v68 (V0 : Valuation τ sig (Elt F)) : (Proc.devRef .tc main_v68 : DevRef τ sig).ty.Contents (Elt F) :=
  cmpi .eq (addi (iotaInDim S101x101 32 0) (broadcastInDim S101x101 ![] bcast_S_S101x101 (constantI S_ 32 0#32))) (iotaInDim S101x101 32 1)

set_option maxRecDepth 8192 in
/-- `main_v82`'s composed term of the arguments (named: it is used 4 times). -/
def res_main_v82 (V0 : Valuation τ sig (Elt F)) : (Proc.devRef .tc main_v82 : DevRef τ sig).ty.Contents (Elt F) :=
  Host.divf (Host.dotGeneral dot_S4096x64_S64x4096_S4096x4096_1_0_0_1_n_n none (V0 (Proc.devRef .tc main_arg1)) (transpose S64x4096 [1, 0] (V0 (Proc.devRef .tc main_arg1)) transposes_S4096x64_S64x4096_1_0)) (broadcastInDim S4096x4096 ![] bcast_S_S4096x4096 (constant S_ .f32 0x40000000#32))

set_option maxRecDepth 8192 in
/-- `main_v83`'s composed term of the arguments (named: it is used 2 times). -/
def res_main_v83 (V0 : Valuation τ sig (Elt F)) : (Proc.devRef .tc main_v83 : DevRef τ sig).ty.Contents (Elt F) :=
  uitofp .f32 (cmpi .eq (broadcastInDim S4096x101 ![0, 1] bcast_S4096x1_S4096x101_0_1 (broadcastInDim S4096x1 ![0] bcast_S4096_S4096x1_0 (V0 (Proc.devRef .tc main_arg3)))) (broadcastInDim S4096x101 ![0, 1] bcast_S1x101_S4096x101_0_1 (iotaInDim S1x101 32 1)))

set_option maxRecDepth 8192 in
/-- `main_v90`'s composed term of the arguments (named: it is used 3 times). -/
def res_main_v90 (V0 : Valuation τ sig (Elt F)) : (Proc.devRef .tc main_v90 : DevRef τ sig).ty.Contents (Elt F) :=
  broadcastInDim S6x1 ![0] bcast_S6_S6x1_0 (extractStridedSlice S6 ![0] (V0 (Proc.devRef .tc main_arg3)) slices_S4096_S6_0)

set_option maxRecDepth 8192 in
/-- `main_v92`'s composed term of the arguments (named: it is used 3 times). -/
def res_main_v92 (V0 : Valuation τ sig (Elt F)) : (Proc.devRef .tc main_v92 : DevRef τ sig).ty.Contents (Elt F) :=
  broadcastInDim S1x6 ![1] bcast_S6_S1x6_1 (extractStridedSlice S6 ![0] (V0 (Proc.devRef .tc main_arg3)) slices_S4096_S6_0)

set_option maxRecDepth 8192 in
/-- `main_v112`'s composed term of the arguments (named: it is used 2 times). -/
def res_main_v112 (V0 : Valuation τ sig (Elt F)) : (Proc.devRef .tc main_v112 : DevRef τ sig).ty.Contents (Elt F) :=
  Host.scatter scatter_S4096x4096_S2_S6x6_01_n_01_0 (fun _ b => b) (uitofp .f32 (cmpf .ogt (Host.dotGeneral dot_S4096x101_S101x4096_S4096x4096_1_0_0_1_n_n none (res_main_v83 V0) (transpose S101x4096 [1, 0] (res_main_v83 V0) transposes_S4096x101_S101x4096_1_0)) (broadcastInDim S4096x4096 ![] bcast_S_S4096x4096 (constant S_ .f32 0x00000000#32)))) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (Host.gather gather_S101x101_S6x6x2_S6x6_n_01_n_n_01_2_11 (V0 (Proc.devRef .tc main_arg4)) (concatenate S6x6x2 2 [⟨S6x6x1, (broadcastInDim S6x6x1 ![0, 1] bcast_S6x6_S6x6x1_0_1 (broadcastInDim S6x6 ![0, 1] bcast_S6x1_S6x6_0_1 (select (cmpi .slt (res_main_v90 V0) (broadcastInDim S6x1 ![] bcast_S_S6x1 (constantI S_ 32 0#32))) (addi (res_main_v90 V0) (broadcastInDim S6x1 ![] bcast_S_S6x1 (constantI S_ 32 101#32))) (res_main_v90 V0))))⟩, ⟨S6x6x1, (broadcastInDim S6x6x1 ![0, 1] bcast_S6x6_S6x6x1_0_1 (broadcastInDim S6x6 ![0, 1] bcast_S1x6_S6x6_0_1 (select (cmpi .slt (res_main_v92 V0) (broadcastInDim S1x6 ![] bcast_S_S1x6 (constantI S_ 32 0#32))) (addi (res_main_v92 V0) (broadcastInDim S1x6 ![] bcast_S_S1x6 (constantI S_ 32 101#32))) (res_main_v92 V0))))⟩] concatenates_S6x6x1_S6x6x1_S6x6x2_d2))

set_option maxRecDepth 8192 in
/-- `main_cst_22`'s composed term of the arguments (named: it is used 3 times). -/
def res_main_cst_22 (V0 : Valuation τ sig (Elt F)) : (Proc.devRef .tc main_cst_22 : DevRef τ sig).ty.Contents (Elt F) :=
  constant S_ .f32 0x00000000#32

set_option maxRecDepth 8192 in
/-- `main_v116`'s composed term of the arguments (named: it is used 3 times). -/
def res_main_v116 (V0 : Valuation τ sig (Elt F)) : (Proc.devRef .tc main_v116 : DevRef τ sig).ty.Contents (Elt F) :=
  subf (broadcastInDim S4096x4096 ![] bcast_S_S4096x4096 (res_main_cst_22 V0)) (res_main_v82 V0)

set_option maxRecDepth 8192 in
/-- `main_v127`'s composed term of the arguments (named: it is used 2 times). -/
def res_main_v127 (V0 : Valuation τ sig (Elt F)) : (Proc.devRef .tc main_v127 : DevRef τ sig).ty.Contents (Elt F) :=
  subf (select (cmpf .une (res_main_v116 V0) (res_main_v116 V0)) (addf (broadcastInDim S4096x4096 ![] bcast_S_S4096x4096 (res_main_cst_22 V0)) (res_main_v82 V0)) (addf (maximumf (broadcastInDim S4096x4096 ![] bcast_S_S4096x4096 (res_main_cst_22 V0)) (res_main_v82 V0)) (Host.log1p (Host.exp (Host.negf (Host.absf (res_main_v116 V0))))))) (mulf (res_main_v112 V0) (res_main_v82 V0))

set_option maxRecDepth 8192 in
/-- `main_v129`'s composed term of the arguments (named: it is used 3 times). -/
def res_main_v129 (V0 : Valuation τ sig (Elt F)) : (Proc.devRef .tc main_v129 : DevRef τ sig).ty.Contents (Elt F) :=
  cmpf .oeq (res_main_v112 V0) (broadcastInDim S4096x4096 ![] bcast_S_S4096x4096 (constant S_ .f32 0x3F800000#32))

set_option maxRecDepth 8192 in
/-- `main_v133`'s composed term of the arguments (named: it is used 2 times). -/
def res_main_v133 (V0 : Valuation τ sig (Elt F)) : (Proc.devRef .tc main_v133 : DevRef τ sig).ty.Contents (Elt F) :=
  subf (Host.reduceAdd (uitofp .f32 (res_main_v129 V0)) (constant S_ .f32 0x00000000#32) reducesTo_S4096x4096_S_d0_1 h_S_) (constant S_ .f32 0x45800000#32)

set_option maxRecDepth 8192 in
/-- `main_v135`'s composed term of the arguments (named: it is used 2 times). -/
def res_main_v135 (V0 : Valuation τ sig (Elt F)) : (Proc.devRef .tc main_v135 : DevRef τ sig).ty.Contents (Elt F) :=
  Host.reduceAdd (uitofp .f32 (noti (res_main_v129 V0))) (constant S_ .f32 0x00000000#32) reducesTo_S4096x4096_S_d0_1 h_S_

set_option maxRecDepth 8192 in
/-- `main_v137`'s composed term of the arguments (named: it is used 2 times). -/
def res_main_v137 (V0 : Valuation τ sig (Elt F)) : (Proc.devRef .tc main_v137 : DevRef τ sig).ty.Contents (Elt F) :=
  select (cmpf .oeq (res_main_v135 V0) (constant S_ .f32 0x00000000#32)) (id (constant S_ .f32 0x3F800000#32)) (res_main_v135 V0)

set_option maxRecDepth 8192 in
/-- `main_v139`'s composed term of the arguments (named: it is used 2 times). -/
def res_main_v139 (V0 : Valuation τ sig (Elt F)) : (Proc.devRef .tc main_v139 : DevRef τ sig).ty.Contents (Elt F) :=
  select (cmpf .oeq (res_main_v133 V0) (constant S_ .f32 0x00000000#32)) (id (constant S_ .f32 0x3F800000#32)) (res_main_v133 V0)

set_option maxRecDepth 8192 in
/-- `main_v140`'s composed term of the arguments (named: it is used 2 times). -/
def res_main_v140 (V0 : Valuation τ sig (Elt F)) : (Proc.devRef .tc main_v140 : DevRef τ sig).ty.Contents (Elt F) :=
  addf (res_main_v137 V0) (res_main_v139 V0)

set_option maxRecDepth 8192 in
/-- `main_v147`'s composed term of the arguments (named: it is used 2 times). -/
def res_main_v147 (V0 : Valuation τ sig (Elt F)) : (Proc.devRef .tc main_v147 : DevRef τ sig).ty.Contents (Elt F) :=
  select (res_main_v129 V0) (mulf (res_main_v127 V0) (broadcastInDim S4096x4096 ![] bcast_S_S4096x4096 (Host.divf (res_main_v140 V0) (res_main_v139 V0)))) (mulf (res_main_v127 V0) (broadcastInDim S4096x4096 ![] bcast_S_S4096x4096 (Host.divf (res_main_v140 V0) (res_main_v137 V0))))

end Cert.ReferenceIdeal.Value
-- ==== Proof.RefRun.lean ====
/- The reference program's @main as a list of its host operations, and its run read back: every weakly fair
   execution terminates with each result buffer at the operations' composed term of the arguments' launch contents,
   the arguments unchanged. -/
module

public import proofs.«01_k».proof.Proof.RefOps
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0, main_v1, main_call1_c, main_call1_v0, main_call1_v1, main_call1_c_0, main_call1_v2, main_call1_v3, main_call1_v4, main_call1_v5, main_call1_c_1, main_call1_c_2, main_call1_v6, main_call1_v7, main_call1_v8, main_call1_v9]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
set_option maxRecDepth 8192 in
set_option maxHeartbeats 2000000 in
theorem val0_1_main_v0 (V0 : Valuation τ sig (Elt F)) : val0_1 V0 (no_index (Proc.devRef .tc main_v0)) = subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_)))) := by
  unfold val0_1
  simp only [ops_part0_0, TRef.binary, TRef.nullary, TRef.reshape, TRef.ternary, TRef.unary, TRef.toBuf, TRef.ofBuf, cast_eq]
  after_results_simp
  simp only [val0_main_arg2] <;> rfl
set_option maxRecDepth 8192 in
set_option maxHeartbeats 2000000 in
theorem val0_1_main_call1_v5 (V0 : Valuation τ sig (Elt F)) : val0_1 V0 (no_index (Proc.devRef .tc main_call1_v5)) = res_main_call1_v5 V0 := by
  unfold val0_1
  simp only [ops_part0_0, TRef.binary, TRef.nullary, TRef.reshape, TRef.ternary, TRef.unary, TRef.toBuf, TRef.ofBuf, cast_eq]
  after_results_simp
  simp only [val0_main_arg3] <;> rfl
set_option maxRecDepth 8192 in
set_option maxHeartbeats 2000000 in
theorem val0_1_main_call1_v7 (V0 : Valuation τ sig (Elt F)) : val0_1 V0 (no_index (Proc.devRef .tc main_call1_v7)) = cmpi .sge (res_main_call1_v5 V0) (broadcastInDim S4096x1x1 ![] bcast_S_S4096x1x1 (constantI S_ 32 0#32)) := by
  unfold val0_1
  simp only [ops_part0_0, TRef.binary, TRef.nullary, TRef.reshape, TRef.ternary, TRef.unary, TRef.toBuf, TRef.ofBuf, cast_eq]
  after_results_simp
  simp only [val0_main_arg3] <;> rfl
set_option maxRecDepth 8192 in
set_option maxHeartbeats 2000000 in
theorem val0_1_main_call1_v9 (V0 : Valuation τ sig (Elt F)) : val0_1 V0 (no_index (Proc.devRef .tc main_call1_v9)) = broadcastInDim S4096x1x1 ![0, 1, 2] bcast_S1x1x1_S4096x1x1_0_1_2 (broadcastInDim S1x1x1 ![2] bcast_S1_S1x1x1_2 (constantI S1 32 100#32)) := by
  unfold val0_1
  simp only [ops_part0_0, TRef.binary, TRef.nullary, TRef.reshape, TRef.ternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_v10, main_call1_v11, main_call1_c_3, main_call1_v12, main_call1_v13, main_call1_cst, main_call1_v14, main_v2, main_v3, main_v4, main_cst, main_v5, main_cst_0, main_v6, main_call2_v0, main_call2_cst, main_call2_v1, main_call2_v2, main_v7, main_cst_1, main_v8, main_v9, main_v10, main_v11, main_v12, main_v13, main_call3_v0, main_call3_cst, main_call3_c, main_call3_v1_0]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
set_option maxRecDepth 8192 in
set_option maxHeartbeats 2000000 in
theorem val0_2_main_v6 (V0 : Valuation τ sig (Elt F)) : val0_2 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) := by
  unfold val0_2
  simp only [ops_part0_1, TRef.binary, TRef.nullary, TRef.quaternary, TRef.ternary, TRef.unary, TRef.toBuf, TRef.ofBuf, cast_eq]
  after_results_simp
  simp only [val0_1_main_call1_v5, val0_1_main_v0, val0_1_main_call1_v9, val0_1_main_call1_v7] <;> rfl
set_option maxRecDepth 8192 in
set_option maxHeartbeats 2000000 in
theorem val0_2_main_v13 (V0 : Valuation τ sig (Elt F)) : val0_2 V0 (no_index (Proc.devRef .tc main_v13)) = Host.dotGeneral dot_S4096x128_S128x4096_S4096x4096_1_0_0_1_n_n none (res_main_v11 V0) (transpose S128x4096 [1, 0] (res_main_v11 V0) transposes_S4096x128_S128x4096_1_0) := by
  unfold val0_2
  simp only [ops_part0_1, TRef.binary, TRef.nullary, TRef.quaternary, TRef.ternary, TRef.unary, TRef.toBuf, TRef.ofBuf, cast_eq]
  after_results_simp
  simp only [val0_1_main_arg0] <;> rfl
set_option maxRecDepth 8192 in
set_option maxHeartbeats 2000000 in
theorem val0_2_main_call3_v0 (V0 : Valuation τ sig (Elt F)) : val0_2 V0 (no_index (Proc.devRef .tc main_call3_v0)) = res_main_call3_v0 V0 := by
  unfold val0_2
  simp only [ops_part0_1, TRef.binary, TRef.nullary, TRef.quaternary, TRef.ternary, TRef.unary, TRef.toBuf, TRef.ofBuf, cast_eq]
  after_results_simp
  all_goals rfl
set_option maxRecDepth 8192 in
set_option maxHeartbeats 2000000 in
theorem val0_2_main_call3_cst (V0 : Valuation τ sig (Elt F)) : val0_2 V0 (no_index (Proc.devRef .tc main_call3_cst)) = res_main_call3_cst V0 := by
  unfold val0_2
  simp only [ops_part0_1, TRef.binary, TRef.nullary, TRef.quaternary, TRef.ternary, TRef.unary, TRef.toBuf, TRef.ofBuf, cast_eq]
  after_results_simp
  all_goals rfl
set_option maxRecDepth 8192 in
set_option maxHeartbeats 2000000 in
theorem val0_2_main_call3_c (V0 : Valuation τ sig (Elt F)) : val0_2 V0 (no_index (Proc.devRef .tc main_call3_c)) = res_main_call3_c V0 := by
  unfold val0_2
  simp only [ops_part0_1, TRef.binary, TRef.nullary, TRef.quaternary, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v14, main_v15, main_v16, main_v17, main_v18, main_v19, main_v20, main_v21, main_v22, main_v23, main_v24, main_v25, main_v26, main_v27, main_v28, main_v29, main_v30, main_v31, main_v32, main_v33, main_cst_2, main_v34, main_c, main_v35, main_v36, main_c_3, main_v37, main_v38, main_v39, main_c_4]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
theorem val0_3_main_arg6 (V0 : Valuation τ sig (Elt F)) : val0_3 V0 (no_index (Proc.devRef .tc main_arg6)) = V0 (Proc.devRef .tc main_arg6) :=
  (val0_3_keep V0 main_arg6 (by decide)).trans (val0_2_main_arg6 V0)
theorem val0_3_main_arg7 (V0 : Valuation τ sig (Elt F)) : val0_3 V0 (no_index (Proc.devRef .tc main_arg7)) = V0 (Proc.devRef .tc main_arg7) :=
  (val0_3_keep V0 main_arg7 (by decide)).trans (val0_2_main_arg7 V0)
theorem val0_3_main_v6 (V0 : Valuation τ sig (Elt F)) : val0_3 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val0_3_keep V0 main_v6 (by decide)).trans (val0_2_main_v6 V0)
set_option maxRecDepth 8192 in
set_option maxHeartbeats 2000000 in
theorem val0_3_main_v28 (V0 : Valuation τ sig (Elt F)) : val0_3 V0 (no_index (Proc.devRef .tc main_v28)) = res_main_v28 V0 := by
  unfold val0_3
  simp only [ops_part0_2, TRef.quaternary, TRef.toBuf, TRef.ofBuf, cast_eq]
  after_results_simp
  simp only [val0_2_main_arg3, val0_2_main_call3_c, val0_2_main_call3_cst, val0_2_main_call3_v0, val0_2_main_arg2] <;> rfl
set_option maxRecDepth 8192 in
set_option maxHeartbeats 2000000 in
theorem val0_3_main_v29 (V0 : Valuation τ sig (Elt F)) : val0_3 V0 (no_index (Proc.devRef .tc main_v29)) = mulf (Host.dotGeneral dot_S4096x128_S128x4096_S4096x4096_1_0_0_1_n_n none (res_main_v11 V0) (transpose S128x4096 [1, 0] (res_main_v11 V0) transposes_S4096x128_S128x4096_1_0)) (res_main_v28 V0) := by
  unfold val0_3
  simp only [ops_part0_2, TRef.quaternary, TRef.toBuf, TRef.ofBuf, cast_eq]
  after_results_simp
  simp only [val0_2_main_arg3, val0_2_main_call3_c, val0_2_main_call3_cst, val0_2_main_call3_v0, val0_2_main_arg2, val0_2_main_v13] <;> rfl
set_option maxRecDepth 8192 in
set_option maxHeartbeats 2000000 in
theorem val0_3_main_v31 (V0 : Valuation τ sig (Elt F)) : val0_3 V0 (no_index (Proc.devRef .tc main_v31)) = res_main_v31 V0 := by
  unfold val0_3
  simp only [ops_part0_2, TRef.quaternary, TRef.toBuf, TRef.ofBuf, cast_eq]
  after_results_simp
  simp only [val0_2_main_arg3] <;> rfl
set_option maxRecDepth 8192 in
set_option maxHeartbeats 2000000 in
theorem val0_3_main_v33 (V0 : Valuation τ sig (Elt F)) : val0_3 V0 (no_index (Proc.devRef .tc main_v33)) = res_main_v33 V0 := by
  unfold val0_3
  simp only [ops_part0_2, TRef.quaternary, TRef.toBuf, TRef.ofBuf, cast_eq]
  after_results_simp
  simp only [val0_2_main_arg3] <;> rfl
set_option maxRecDepth 8192 in
set_option maxHeartbeats 2000000 in
theorem val0_3_main_v34 (V0 : Valuation τ sig (Elt F)) : val0_3 V0 (no_index (Proc.devRef .tc main_v34)) = broadcastInDim S101x101 ![] bcast_S_S101x101 (constant S_ .f32 0x00000000#32) := by
  unfold val0_3
  simp only [ops_part0_2, TRef.quaternary, TRef.toBuf, TRef.ofBuf, cast_eq]
  after_results_simp
  all_goals rfl
set_option maxRecDepth 8192 in
set_option maxHeartbeats 2000000 in
theorem val0_3_main_v39 (V0 : Valuation τ sig (Elt F)) : val0_3 V0 (no_index (Proc.devRef .tc main_v39)) = select (cmpi .slt (res_main_v31 V0) (broadcastInDim S4096x4096 ![] bcast_S_S4096x4096 (constantI S_ 32 0#32))) (addi (res_main_v31 V0) (broadcastInDim S4096x4096 ![] bcast_S_S4096x4096 (constantI S_ 32 101#32))) (res_main_v31 V0) := by
  unfold val0_3
  simp only [ops_part0_2, TRef.quaternary, TRef.toBuf, TRef.ofBuf, cast_eq]
  after_results_simp
  simp only [val0_2_main_arg3] <;> rfl
set_option maxRecDepth 8192 in
set_option maxHeartbeats 2000000 in
theorem val0_3_main_c_4 (V0 : Valuation τ sig (Elt F)) : val0_3 V0 (no_index (Proc.devRef .tc main_c_4)) = constantI S_ 32 0#32 := by
  unfold val0_3
  simp only [ops_part0_2, TRef.quaternary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v40, main_v41, main_c_5, main_v42, main_v43, main_v44, main_v45, main_v46, main_v47, main_v48, main_cst_6, main_v49, main_c_7]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
theorem val1_main_arg6 (V0 : Valuation τ sig (Elt F)) : val1 V0 (no_index (Proc.devRef .tc main_arg6)) = V0 (Proc.devRef .tc main_arg6) :=
  (val1_keep V0 main_arg6 (by decide)).trans (val0_3_main_arg6 V0)
theorem val1_main_arg7 (V0 : Valuation τ sig (Elt F)) : val1 V0 (no_index (Proc.devRef .tc main_arg7)) = V0 (Proc.devRef .tc main_arg7) :=
  (val1_keep V0 main_arg7 (by decide)).trans (val0_3_main_arg7 V0)
theorem val1_main_v6 (V0 : Valuation τ sig (Elt F)) : val1 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val1_keep V0 main_v6 (by decide)).trans (val0_3_main_v6 V0)
theorem val1_main_v28 (V0 : Valuation τ sig (Elt F)) : val1 V0 (no_index (Proc.devRef .tc main_v28)) = res_main_v28 V0 :=
  (val1_keep V0 main_v28 (by decide)).trans (val0_3_main_v28 V0)
theorem val1_main_v31 (V0 : Valuation τ sig (Elt F)) : val1 V0 (no_index (Proc.devRef .tc main_v31)) = res_main_v31 V0 :=
  (val1_keep V0 main_v31 (by decide)).trans (val0_3_main_v31 V0)
theorem val1_main_v33 (V0 : Valuation τ sig (Elt F)) : val1 V0 (no_index (Proc.devRef .tc main_v33)) = res_main_v33 V0 :=
  (val1_keep V0 main_v33 (by decide)).trans (val0_3_main_v33 V0)
set_option maxRecDepth 8192 in
set_option maxHeartbeats 1300000 in
theorem val1_main_v48 (V0 : Valuation τ sig (Elt F)) : val1 V0 (no_index (Proc.devRef .tc main_v48)) = res_main_v48 V0 := by
  unfold val1
  simp only [ops_part0_3]
  after_results_simp
  simp only [val0_3_main_v29, val0_3_main_v33, val0_3_main_c_4, val0_3_main_v39, val0_3_main_v34] <;> rfl
set_option maxRecDepth 8192 in
set_option maxHeartbeats 1300000 in
theorem val1_main_v49 (V0 : Valuation τ sig (Elt F)) : val1 V0 (no_index (Proc.devRef .tc main_v49)) = broadcastInDim S101x101 ![] bcast_S_S101x101 (constant S_ .f32 0x00000000#32) := by
  unfold val1
  simp only [ops_part0_3]
  after_results_simp
  all_goals rfl
set_option maxRecDepth 8192 in
set_option maxHeartbeats 1300000 in
theorem val1_main_c_7 (V0 : Valuation τ sig (Elt F)) : val1 V0 (no_index (Proc.devRef .tc main_c_7)) = constantI S_ 32 0#32 := by
  unfold val1
  simp only [ops_part0_3]
  after_results_simp
  all_goals rfl

/-- The device's buffer contents after @main's first 133 operations. -/
def val1_1 (V0 : Valuation τ sig (Elt F)) : Valuation τ sig (Elt F) := after ops_part1_0 (val1 V0)
/-- The buffers that window `ops_part1_0`'s operations write. -/
abbrev ops_part1_0_W : List (Ref sig .tc) := [main_v50, main_v51, main_c_8, main_v52, main_v53, main_v54, main_c_9, main_v55, main_v56, main_c_10, main_v57, main_v58, main_v59, main_v60, main_v61, main_v62, main_v63, main_v64, main_v65, main_c_11, main_v66, main_v67, main_v68, main_v69, main_v70, main_cst_12, main_call4_v0, main_call4_v1, main_v71, main_v72]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_v6 (V0 : Valuation τ sig (Elt F)) : val1_1 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val1_1_keep V0 main_v6 (by decide)).trans (val1_main_v6 V0)
set_option maxRecDepth 8192 in
set_option maxHeartbeats 2000000 in
theorem val1_1_main_v63 (V0 : Valuation τ sig (Elt F)) : val1_1 V0 (no_index (Proc.devRef .tc main_v63)) = res_main_v63 V0 := by
  unfold val1_1
  simp only [ops_part1_0, TRef.ternary, TRef.unary, TRef.toBuf, TRef.ofBuf, cast_eq]
  after_results_simp
  simp only [val1_main_v28, val1_main_v33, val1_main_v31, val1_main_c_7, val1_main_v49] <;> rfl
set_option maxRecDepth 8192 in
set_option maxHeartbeats 2000000 in
theorem val1_1_main_v68 (V0 : Valuation τ sig (Elt F)) : val1_1 V0 (no_index (Proc.devRef .tc main_v68)) = res_main_v68 V0 := by
  unfold val1_1
  simp only [ops_part1_0, TRef.ternary, TRef.unary, TRef.toBuf, TRef.ofBuf, cast_eq]
  after_results_simp
  all_goals rfl
set_option maxRecDepth 8192 in
set_option maxHeartbeats 2000000 in
theorem val1_1_main_v72 (V0 : Valuation τ sig (Elt F)) : val1_1 V0 (no_index (Proc.devRef .tc main_v72)) = subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32)))) := by
  unfold val1_1
  simp only [ops_part1_0, TRef.ternary, TRef.unary, TRef.toBuf, TRef.ofBuf, cast_eq]
  after_results_simp
  simp only [val1_main_v48] <;> rfl

/-- The device's buffer contents after @main's first 163 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v73, main_v74, main_cst_13, main_call5_v0, main_call5_v1, main_v75, main_v76, main_v77, main_v78, main_v79, main_v80, main_cst_14, main_v81, main_v82, main_call6_v0, main_call6_v1, main_call6_v2, main_call6_v3, main_call6_v4, main_v83, main_v84, main_v85, main_cst_15, main_v86, main_v87, main_v88, main_v89, main_v90, main_v91, main_v92]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_v6 (V0 : Valuation τ sig (Elt F)) : val1_2 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val1_2_keep V0 main_v6 (by decide)).trans (val1_1_main_v6 V0)
set_option maxRecDepth 8192 in
set_option maxHeartbeats 2000000 in
theorem val1_2_main_v77 (V0 : Valuation τ sig (Elt F)) : val1_2 V0 (no_index (Proc.devRef .tc main_v77)) = addf (V0 (Proc.devRef .tc main_arg5)) (subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32))))) := by
  unfold val1_2
  simp only [ops_part1_1, TRef.binary, TRef.nullary, TRef.ternary, TRef.unary, TRef.toBuf, TRef.ofBuf, cast_eq]
  after_results_simp
  simp only [val1_1_main_v72, val1_1_main_arg5] <;> rfl
set_option maxRecDepth 8192 in
set_option maxHeartbeats 2000000 in
theorem val1_2_main_v78 (V0 : Valuation τ sig (Elt F)) : val1_2 V0 (no_index (Proc.devRef .tc main_v78)) = addf (V0 (Proc.devRef .tc main_arg6)) (subf (addf (res_main_v63 V0) (transpose S101x101 [1, 0] (res_main_v63 V0) transposes_S101x101_S101x101_1_0)) (select (res_main_v68 V0) (res_main_v63 V0) (broadcastInDim S101x101 ![] bcast_S_S101x101 (id (constant S_ .f32 0x00000000#32))))) := by
  unfold val1_2
  simp only [ops_part1_1, TRef.binary, TRef.nullary, TRef.ternary, TRef.unary, TRef.toBuf, TRef.ofBuf, cast_eq]
  after_results_simp
  simp only [val1_1_main_v63, val1_1_main_v68, val1_1_main_arg6] <;> rfl
set_option maxRecDepth 8192 in
set_option maxHeartbeats 2000000 in
theorem val1_2_main_v82 (V0 : Valuation τ sig (Elt F)) : val1_2 V0 (no_index (Proc.devRef .tc main_v82)) = res_main_v82 V0 := by
  unfold val1_2
  simp only [ops_part1_1, TRef.binary, TRef.nullary, TRef.ternary, TRef.unary, TRef.toBuf, TRef.ofBuf, cast_eq]
  after_results_simp
  simp only [val1_1_main_arg1] <;> rfl
set_option maxRecDepth 8192 in
set_option maxHeartbeats 2000000 in
theorem val1_2_main_v88 (V0 : Valuation τ sig (Elt F)) : val1_2 V0 (no_index (Proc.devRef .tc main_v88)) = uitofp .f32 (cmpf .ogt (Host.dotGeneral dot_S4096x101_S101x4096_S4096x4096_1_0_0_1_n_n none (res_main_v83 V0) (transpose S101x4096 [1, 0] (res_main_v83 V0) transposes_S4096x101_S101x4096_1_0)) (broadcastInDim S4096x4096 ![] bcast_S_S4096x4096 (constant S_ .f32 0x00000000#32))) := by
  unfold val1_2
  simp only [ops_part1_1, TRef.binary, TRef.nullary, TRef.ternary, TRef.unary, TRef.toBuf, TRef.ofBuf, cast_eq]
  after_results_simp
  simp only [val1_1_main_arg3] <;> rfl
set_option maxRecDepth 8192 in
set_option maxHeartbeats 2000000 in
theorem val1_2_main_v90 (V0 : Valuation τ sig (Elt F)) : val1_2 V0 (no_index (Proc.devRef .tc main_v90)) = res_main_v90 V0 := by
  unfold val1_2
  simp only [ops_part1_1, TRef.binary, TRef.nullary, TRef.ternary, TRef.unary, TRef.toBuf, TRef.ofBuf, cast_eq]
  after_results_simp
  simp only [val1_1_main_arg3] <;> rfl
set_option maxRecDepth 8192 in
set_option maxHeartbeats 2000000 in
theorem val1_2_main_v92 (V0 : Valuation τ sig (Elt F)) : val1_2 V0 (no_index (Proc.devRef .tc main_v92)) = res_main_v92 V0 := by
  unfold val1_2
  simp only [ops_part1_1, TRef.binary, TRef.nullary, TRef.ternary, TRef.unary, TRef.toBuf, TRef.ofBuf, cast_eq]
  after_results_simp
  simp only [val1_1_main_arg3] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_c_16, main_v93, main_v94, main_c_17, main_v95, main_v96, main_v97, main_c_18, main_v98]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_v6 (V0 : Valuation τ sig (Elt F)) : val2 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val2_keep V0 main_v6 (by decide)).trans (val1_2_main_v6 V0)
theorem val2_main_v77 (V0 : Valuation τ sig (Elt F)) : val2 V0 (no_index (Proc.devRef .tc main_v77)) = addf (V0 (Proc.devRef .tc main_arg5)) (subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32))))) :=
  (val2_keep V0 main_v77 (by decide)).trans (val1_2_main_v77 V0)
theorem val2_main_v78 (V0 : Valuation τ sig (Elt F)) : val2 V0 (no_index (Proc.devRef .tc main_v78)) = addf (V0 (Proc.devRef .tc main_arg6)) (subf (addf (res_main_v63 V0) (transpose S101x101 [1, 0] (res_main_v63 V0) transposes_S101x101_S101x101_1_0)) (select (res_main_v68 V0) (res_main_v63 V0) (broadcastInDim S101x101 ![] bcast_S_S101x101 (id (constant S_ .f32 0x00000000#32))))) :=
  (val2_keep V0 main_v78 (by decide)).trans (val1_2_main_v78 V0)
theorem val2_main_v82 (V0 : Valuation τ sig (Elt F)) : val2 V0 (no_index (Proc.devRef .tc main_v82)) = res_main_v82 V0 :=
  (val2_keep V0 main_v82 (by decide)).trans (val1_2_main_v82 V0)
theorem val2_main_v88 (V0 : Valuation τ sig (Elt F)) : val2 V0 (no_index (Proc.devRef .tc main_v88)) = uitofp .f32 (cmpf .ogt (Host.dotGeneral dot_S4096x101_S101x4096_S4096x4096_1_0_0_1_n_n none (res_main_v83 V0) (transpose S101x4096 [1, 0] (res_main_v83 V0) transposes_S4096x101_S101x4096_1_0)) (broadcastInDim S4096x4096 ![] bcast_S_S4096x4096 (constant S_ .f32 0x00000000#32))) :=
  (val2_keep V0 main_v88 (by decide)).trans (val1_2_main_v88 V0)
theorem val2_main_v92 (V0 : Valuation τ sig (Elt F)) : val2 V0 (no_index (Proc.devRef .tc main_v92)) = res_main_v92 V0 :=
  (val2_keep V0 main_v92 (by decide)).trans (val1_2_main_v92 V0)
set_option maxRecDepth 8192 in
set_option maxHeartbeats 900000 in
theorem val2_main_v97 (V0 : Valuation τ sig (Elt F)) : val2 V0 (no_index (Proc.devRef .tc main_v97)) = select (cmpi .slt (res_main_v90 V0) (broadcastInDim S6x1 ![] bcast_S_S6x1 (constantI S_ 32 0#32))) (addi (res_main_v90 V0) (broadcastInDim S6x1 ![] bcast_S_S6x1 (constantI S_ 32 101#32))) (res_main_v90 V0) := by
  unfold val2
  simp only [ops_part1_2]
  after_results_simp
  simp only [val1_2_main_v90] <;> rfl
set_option maxRecDepth 8192 in
set_option maxHeartbeats 900000 in
theorem val2_main_v98 (V0 : Valuation τ sig (Elt F)) : val2 V0 (no_index (Proc.devRef .tc main_v98)) = broadcastInDim S1x6 ![] bcast_S_S1x6 (constantI S_ 32 0#32) := by
  unfold val2
  simp only [ops_part1_2]
  after_results_simp
  all_goals rfl

/-- The device's buffer contents after @main's first 202 operations. -/
def val2_1 (V0 : Valuation τ sig (Elt F)) : Valuation τ sig (Elt F) := after ops_part2_0 (val2 V0)
/-- The buffers that window `ops_part2_0`'s operations write. -/
abbrev ops_part2_0_W : List (Ref sig .tc) := [main_v99, main_c_19, main_v100, main_v101, main_v102, main_v103, main_v104, main_v105, main_v106, main_v107, main_v108, main_c_20, main_v109, main_c_21, main_v110, main_v111, main_v112, main_cst_22, main_v113, main_v114, main_v115, main_v116, main_v117, main_v118, main_v119, main_v120, main_v121, main_v122, main_v123, main_v124]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_v6 (V0 : Valuation τ sig (Elt F)) : val2_1 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val2_1_keep V0 main_v6 (by decide)).trans (val2_main_v6 V0)
theorem val2_1_main_v77 (V0 : Valuation τ sig (Elt F)) : val2_1 V0 (no_index (Proc.devRef .tc main_v77)) = addf (V0 (Proc.devRef .tc main_arg5)) (subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32))))) :=
  (val2_1_keep V0 main_v77 (by decide)).trans (val2_main_v77 V0)
theorem val2_1_main_v78 (V0 : Valuation τ sig (Elt F)) : val2_1 V0 (no_index (Proc.devRef .tc main_v78)) = addf (V0 (Proc.devRef .tc main_arg6)) (subf (addf (res_main_v63 V0) (transpose S101x101 [1, 0] (res_main_v63 V0) transposes_S101x101_S101x101_1_0)) (select (res_main_v68 V0) (res_main_v63 V0) (broadcastInDim S101x101 ![] bcast_S_S101x101 (id (constant S_ .f32 0x00000000#32))))) :=
  (val2_1_keep V0 main_v78 (by decide)).trans (val2_main_v78 V0)
theorem val2_1_main_v82 (V0 : Valuation τ sig (Elt F)) : val2_1 V0 (no_index (Proc.devRef .tc main_v82)) = res_main_v82 V0 :=
  (val2_1_keep V0 main_v82 (by decide)).trans (val2_main_v82 V0)
set_option maxRecDepth 8192 in
set_option maxHeartbeats 2000000 in
theorem val2_1_main_v112 (V0 : Valuation τ sig (Elt F)) : val2_1 V0 (no_index (Proc.devRef .tc main_v112)) = res_main_v112 V0 := by
  unfold val2_1
  simp only [ops_part2_0]
  after_results_simp
  simp only [val2_main_v92, val2_main_v98, val2_main_v97, val2_main_arg4, val2_main_v88] <;> rfl
set_option maxRecDepth 8192 in
set_option maxHeartbeats 2000000 in
theorem val2_1_main_v117 (V0 : Valuation τ sig (Elt F)) : val2_1 V0 (no_index (Proc.devRef .tc main_v117)) = cmpf .une (res_main_v116 V0) (res_main_v116 V0) := by
  unfold val2_1
  simp only [ops_part2_0]
  after_results_simp
  simp only [val2_main_v82] <;> rfl
set_option maxRecDepth 8192 in
set_option maxHeartbeats 2000000 in
theorem val2_1_main_v119 (V0 : Valuation τ sig (Elt F)) : val2_1 V0 (no_index (Proc.devRef .tc main_v119)) = addf (broadcastInDim S4096x4096 ![] bcast_S_S4096x4096 (res_main_cst_22 V0)) (res_main_v82 V0) := by
  unfold val2_1
  simp only [ops_part2_0]
  after_results_simp
  simp only [val2_main_v82] <;> rfl
set_option maxRecDepth 8192 in
set_option maxHeartbeats 2000000 in
theorem val2_1_main_v124 (V0 : Valuation τ sig (Elt F)) : val2_1 V0 (no_index (Proc.devRef .tc main_v124)) = addf (maximumf (broadcastInDim S4096x4096 ![] bcast_S_S4096x4096 (res_main_cst_22 V0)) (res_main_v82 V0)) (Host.log1p (Host.exp (Host.negf (Host.absf (res_main_v116 V0))))) := by
  unfold val2_1
  simp only [ops_part2_0]
  after_results_simp
  simp only [val2_main_v82] <;> rfl

/-- The device's buffer contents after @main's first 232 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v125, main_v126, main_v127, main_cst_23, main_v128, main_v129, main_v130, main_v131, main_cst_24, main_v132, main_cst_25, main_v133, main_v134, main_cst_26, main_v135, main_cst_27, main_v136, main_cst_28, main_call7_v0, main_v137, main_cst_29, main_v138, main_cst_30, main_call8_v0, main_v139, main_v140, main_v141, main_v142, main_v143, main_v144]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_v6 (V0 : Valuation τ sig (Elt F)) : val2_2 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val2_2_keep V0 main_v6 (by decide)).trans (val2_1_main_v6 V0)
theorem val2_2_main_v77 (V0 : Valuation τ sig (Elt F)) : val2_2 V0 (no_index (Proc.devRef .tc main_v77)) = addf (V0 (Proc.devRef .tc main_arg5)) (subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32))))) :=
  (val2_2_keep V0 main_v77 (by decide)).trans (val2_1_main_v77 V0)
theorem val2_2_main_v78 (V0 : Valuation τ sig (Elt F)) : val2_2 V0 (no_index (Proc.devRef .tc main_v78)) = addf (V0 (Proc.devRef .tc main_arg6)) (subf (addf (res_main_v63 V0) (transpose S101x101 [1, 0] (res_main_v63 V0) transposes_S101x101_S101x101_1_0)) (select (res_main_v68 V0) (res_main_v63 V0) (broadcastInDim S101x101 ![] bcast_S_S101x101 (id (constant S_ .f32 0x00000000#32))))) :=
  (val2_2_keep V0 main_v78 (by decide)).trans (val2_1_main_v78 V0)
set_option maxRecDepth 8192 in
set_option maxHeartbeats 2000000 in
theorem val2_2_main_v127 (V0 : Valuation τ sig (Elt F)) : val2_2 V0 (no_index (Proc.devRef .tc main_v127)) = res_main_v127 V0 := by
  unfold val2_2
  simp only [ops_part2_1, TRef.ternary, TRef.unary, TRef.toBuf, TRef.ofBuf, cast_eq]
  after_results_simp
  simp only [val2_1_main_v82, val2_1_main_v112, val2_1_main_v124, val2_1_main_v119, val2_1_main_v117] <;> rfl
set_option maxRecDepth 8192 in
set_option maxHeartbeats 2000000 in
theorem val2_2_main_v129 (V0 : Valuation τ sig (Elt F)) : val2_2 V0 (no_index (Proc.devRef .tc main_v129)) = res_main_v129 V0 := by
  unfold val2_2
  simp only [ops_part2_1, TRef.ternary, TRef.unary, TRef.toBuf, TRef.ofBuf, cast_eq]
  after_results_simp
  simp only [val2_1_main_v112] <;> rfl
set_option maxRecDepth 8192 in
set_option maxHeartbeats 2000000 in
theorem val2_2_main_v143 (V0 : Valuation τ sig (Elt F)) : val2_2 V0 (no_index (Proc.devRef .tc main_v143)) = mulf (res_main_v127 V0) (broadcastInDim S4096x4096 ![] bcast_S_S4096x4096 (Host.divf (res_main_v140 V0) (res_main_v139 V0))) := by
  unfold val2_2
  simp only [ops_part2_1, TRef.ternary, TRef.unary, TRef.toBuf, TRef.ofBuf, cast_eq]
  after_results_simp
  simp only [val2_1_main_v112, val2_1_main_v82, val2_1_main_v124, val2_1_main_v119, val2_1_main_v117] <;> rfl
set_option maxRecDepth 8192 in
set_option maxHeartbeats 2000000 in
theorem val2_2_main_v144 (V0 : Valuation τ sig (Elt F)) : val2_2 V0 (no_index (Proc.devRef .tc main_v144)) = Host.divf (res_main_v140 V0) (res_main_v137 V0) := by
  unfold val2_2
  simp only [ops_part2_1, TRef.ternary, TRef.unary, TRef.toBuf, TRef.ofBuf, cast_eq]
  after_results_simp
  simp only [val2_1_main_v112] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v145, main_v146]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_v6 (V0 : Valuation τ sig (Elt F)) : val3 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val3_keep V0 main_v6 (by decide)).trans (val2_2_main_v6 V0)
theorem val3_main_v77 (V0 : Valuation τ sig (Elt F)) : val3 V0 (no_index (Proc.devRef .tc main_v77)) = addf (V0 (Proc.devRef .tc main_arg5)) (subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32))))) :=
  (val3_keep V0 main_v77 (by decide)).trans (val2_2_main_v77 V0)
theorem val3_main_v78 (V0 : Valuation τ sig (Elt F)) : val3 V0 (no_index (Proc.devRef .tc main_v78)) = addf (V0 (Proc.devRef .tc main_arg6)) (subf (addf (res_main_v63 V0) (transpose S101x101 [1, 0] (res_main_v63 V0) transposes_S101x101_S101x101_1_0)) (select (res_main_v68 V0) (res_main_v63 V0) (broadcastInDim S101x101 ![] bcast_S_S101x101 (id (constant S_ .f32 0x00000000#32))))) :=
  (val3_keep V0 main_v78 (by decide)).trans (val2_2_main_v78 V0)
theorem val3_main_v129 (V0 : Valuation τ sig (Elt F)) : val3 V0 (no_index (Proc.devRef .tc main_v129)) = res_main_v129 V0 :=
  (val3_keep V0 main_v129 (by decide)).trans (val2_2_main_v129 V0)
theorem val3_main_v143 (V0 : Valuation τ sig (Elt F)) : val3 V0 (no_index (Proc.devRef .tc main_v143)) = mulf (res_main_v127 V0) (broadcastInDim S4096x4096 ![] bcast_S_S4096x4096 (Host.divf (res_main_v140 V0) (res_main_v139 V0))) :=
  (val3_keep V0 main_v143 (by decide)).trans (val2_2_main_v143 V0)
set_option maxRecDepth 8192 in
theorem val3_main_v146 (V0 : Valuation τ sig (Elt F)) : val3 V0 (no_index (Proc.devRef .tc main_v146)) = mulf (res_main_v127 V0) (broadcastInDim S4096x4096 ![] bcast_S_S4096x4096 (Host.divf (res_main_v140 V0) (res_main_v137 V0))) := by
  unfold val3
  simp only [ops_part2_2]
  after_results_simp
  simp only [val2_2_main_v144, val2_2_main_v127] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v147, main_v148, main_v149, main_c_31, main_v150, main_v151, main_v152, main_cst_32, main_call10_v0, main_call10_v1, main_v153, main_v154, main_cst_33, main_v155, main_cst_34, main_v156, main_cst_35, main_v157, main_cst_36, main_v158, main_cst_37, main_v159, main_v160]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_v6 (V0 : Valuation τ sig (Elt F)) : val4 V0 (no_index (Proc.devRef .tc main_v6)) = Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32) :=
  (val4_keep V0 main_v6 (by decide)).trans (val3_main_v6 V0)
theorem val4_main_v77 (V0 : Valuation τ sig (Elt F)) : val4 V0 (no_index (Proc.devRef .tc main_v77)) = addf (V0 (Proc.devRef .tc main_arg5)) (subf (addf (res_main_v48 V0) (transpose S101x101 [1, 0] (res_main_v48 V0) transposes_S101x101_S101x101_1_0)) (select (res_main_v68 V0) (res_main_v48 V0) (broadcastInDim S101x101 ![] bcast_S_S101x101 (id (constant S_ .f32 0x00000000#32))))) :=
  (val4_keep V0 main_v77 (by decide)).trans (val3_main_v77 V0)
theorem val4_main_v78 (V0 : Valuation τ sig (Elt F)) : val4 V0 (no_index (Proc.devRef .tc main_v78)) = addf (V0 (Proc.devRef .tc main_arg6)) (subf (addf (res_main_v63 V0) (transpose S101x101 [1, 0] (res_main_v63 V0) transposes_S101x101_S101x101_1_0)) (select (res_main_v68 V0) (res_main_v63 V0) (broadcastInDim S101x101 ![] bcast_S_S101x101 (id (constant S_ .f32 0x00000000#32))))) :=
  (val4_keep V0 main_v78 (by decide)).trans (val3_main_v78 V0)
set_option maxRecDepth 8192 in
set_option maxHeartbeats 2000000 in
theorem val4_main_v157 (V0 : Valuation τ sig (Elt F)) : val4 V0 (no_index (Proc.devRef .tc main_v157)) = Host.divf (Host.divf (Host.reduceAdd (subf (res_main_v147 V0) (select (cmpi .eq (addi (iotaInDim S4096x4096 32 0) (broadcastInDim S4096x4096 ![] bcast_S_S4096x4096 (constantI S_ 32 0#32))) (iotaInDim S4096x4096 32 1)) (res_main_v147 V0) (broadcastInDim S4096x4096 ![] bcast_S_S4096x4096 (id (constant S_ .f32 0x00000000#32))))) (constant S_ .f32 0x00000000#32) reducesTo_S4096x4096_S_d0_1 h_S_) (constant S_ .f32 0x40000000#32)) (constant S_ .f32 0x4AFFF000#32) := by
  unfold val4
  simp only [ops_part3, TRef.ternary, TRef.unary, TRef.toBuf, TRef.ofBuf, cast_eq]
  after_results_simp
  simp only [val3_main_v146, val3_main_v143, val3_main_v129] <;> rfl
set_option maxRecDepth 8192 in
set_option maxHeartbeats 2000000 in
theorem val4_main_v160 (V0 : Valuation τ sig (Elt F)) : val4 V0 (no_index (Proc.devRef .tc main_v160)) = addf (mulf (constant S_ .f32 0x3F800000#32) (Host.divf (Host.reduceAdd (Host.negf (shapeCast _ (select (Host.reduce IntOp.andi (andi (cmpi .sge (res_main_call1_v5 V0) (broadcastInDim S4096x1x1 ![] bcast_S_S4096x1x1 (constantI S_ 32 0#32))) (cmpi .sle (res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 V0) (broadcastInDim S4096x101 ![0, 1] bcast_S4096x1_S4096x101_0_1 (Host.log (broadcastInDim S4096x1 ![0] bcast_S4096_S4096x1_0 (Host.reduceAdd (Host.exp (res_main_call0_v5 V0)) (constant S_ .f32 0x00000000#32) reducesTo_S4096x101_S4096_d1 h_S_))))) (res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32))) (mulf (constant S_ .f32 0x3C23D70A#32) (Host.divf (Host.divf (Host.reduceAdd (subf (res_main_v147 V0) (select (cmpi .eq (addi (iotaInDim S4096x4096 32 0) (broadcastInDim S4096x4096 ![] bcast_S_S4096x4096 (constantI S_ 32 0#32))) (iotaInDim S4096x4096 32 1)) (res_main_v147 V0) (broadcastInDim S4096x4096 ![] bcast_S_S4096x4096 (id (constant S_ .f32 0x00000000#32))))) (constant S_ .f32 0x00000000#32) reducesTo_S4096x4096_S_d0_1 h_S_) (constant S_ .f32 0x40000000#32)) (constant S_ .f32 0x4AFFF000#32))) := by
  unfold val4
  simp only [ops_part3, TRef.ternary, TRef.unary, TRef.toBuf, TRef.ofBuf, cast_eq]
  after_results_simp
  simp only [val3_main_v146, val3_main_v143, val3_main_v129, val3_main_v6] <;> rfl

theorem after_ops (V0 : Valuation τ sig (Elt F)) : after ops V0 = val4 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = addf ((launchContents m c) (Proc.devRef .tc main_arg5)) (subf (addf (res_main_v48 (launchContents m c)) (transpose S101x101 [1, 0] (res_main_v48 (launchContents m c)) transposes_S101x101_S101x101_1_0)) (select (res_main_v68 (launchContents m c)) (res_main_v48 (launchContents m c)) (broadcastInDim S101x101 ![] bcast_S_S101x101 (id (constant S_ .f32 0x00000000#32)))))
      ∧ r.2.mem ((c.tc : Thread nD τ).loc main_v78) = addf ((launchContents m c) (Proc.devRef .tc main_arg6)) (subf (addf (res_main_v63 (launchContents m c)) (transpose S101x101 [1, 0] (res_main_v63 (launchContents m c)) transposes_S101x101_S101x101_1_0)) (select (res_main_v68 (launchContents m c)) (res_main_v63 (launchContents m c)) (broadcastInDim S101x101 ![] bcast_S_S101x101 (id (constant S_ .f32 0x00000000#32)))))
      ∧ r.2.mem ((c.tc : Thread nD τ).loc main_v157) = Host.divf (Host.divf (Host.reduceAdd (subf (res_main_v147 (launchContents m c)) (select (cmpi .eq (addi (iotaInDim S4096x4096 32 0) (broadcastInDim S4096x4096 ![] bcast_S_S4096x4096 (constantI S_ 32 0#32))) (iotaInDim S4096x4096 32 1)) (res_main_v147 (launchContents m c)) (broadcastInDim S4096x4096 ![] bcast_S_S4096x4096 (id (constant S_ .f32 0x00000000#32))))) (constant S_ .f32 0x00000000#32) reducesTo_S4096x4096_S_d0_1 h_S_) (constant S_ .f32 0x40000000#32)) (constant S_ .f32 0x4AFFF000#32)
      ∧ r.2.mem ((c.tc : Thread nD τ).loc main_v6) = Host.divf (Host.reduceAdd (Host.negf (shapeCast _ (select (Host.reduce IntOp.andi (andi (cmpi .sge (res_main_call1_v5 (launchContents m c)) (broadcastInDim S4096x1x1 ![] bcast_S_S4096x1x1 (constantI S_ 32 0#32))) (cmpi .sle (res_main_call1_v5 (launchContents m c)) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 (launchContents m c)) (broadcastInDim S4096x101 ![0, 1] bcast_S4096x1_S4096x101_0_1 (Host.log (broadcastInDim S4096x1 ![0] bcast_S4096_S4096x1_0 (Host.reduceAdd (Host.exp (res_main_call0_v5 (launchContents m c))) (constant S_ .f32 0x00000000#32) reducesTo_S4096x101_S4096_d1 h_S_))))) (res_main_call1_v5 (launchContents m c))) (broadcastInDim S4096x1 ![] bcast_S_S4096x1 (constant S_ .f32 0x7FC00000#32))) shapeCasts_S4096x1_S4096)) (constant S_ .f32 0x00000000#32) reducesTo_S4096_S_d0 h_S_) (constant S_ .f32 0x45800000#32)
      ∧ r.2.mem ((c.tc : Thread nD τ).loc main_v160) = addf (mulf (constant S_ .f32 0x3F800000#32) (Host.divf (Host.reduceAdd (Host.negf (shapeCast _ (select (Host.reduce IntOp.andi (andi (cmpi .sge (res_main_call1_v5 (launchContents m c)) (broadcastInDim S4096x1x1 ![] bcast_S_S4096x1x1 (constantI S_ 32 0#32))) (cmpi .sle (res_main_call1_v5 (launchContents m c)) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (res_main_call0_v5 (launchContents m c)) (broadcastInDim S4096x101 ![0, 1] bcast_S4096x1_S4096x101_0_1 (Host.log (broadcastInDim S4096x1 ![0] bcast_S4096_S4096x1_0 (Host.reduceAdd (Host.exp (res_main_call0_v5 (launchContents m c))) (constant S_ .f32 0x00000000#32) reducesTo_S4096x101_S4096_d1 h_S_))))) (res_main_call1_v5 (launchContents m c))) (broadcastInDim S4096x1 ![] bcast_S_S4096x1 (constant S_ .f32 0x7FC00000#32))) shapeCasts_S4096x1_S4096)) (constant S_ .f32 0x00000000#32) reducesTo_S4096_S_d0 h_S_) (constant S_ .f32 0x45800000#32))) (mulf (constant S_ .f32 0x3C23D70A#32) (Host.divf (Host.divf (Host.reduceAdd (subf (res_main_v147 (launchContents m c)) (select (cmpi .eq (addi (iotaInDim S4096x4096 32 0) (broadcastInDim S4096x4096 ![] bcast_S_S4096x4096 (constantI S_ 32 0#32))) (iotaInDim S4096x4096 32 1)) (res_main_v147 (launchContents m c)) (broadcastInDim S4096x4096 ![] bcast_S_S4096x4096 (id (constant S_ .f32 0x00000000#32))))) (constant S_ .f32 0x00000000#32) reducesTo_S4096x4096_S_d0_1 h_S_) (constant S_ .f32 0x40000000#32)) (constant S_ .f32 0x4AFFF000#32)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v77).trans ((congrFun (after_ops (launchContents m c)) (Proc.devRef .tc main_v77)).trans (val4_main_v77 (launchContents m c))),
      (h c main_v78).trans ((congrFun (after_ops (launchContents m c)) (Proc.devRef .tc main_v78)).trans (val4_main_v78 (launchContents m c))),
      (h c main_v157).trans ((congrFun (after_ops (launchContents m c)) (Proc.devRef .tc main_v157)).trans (val4_main_v157 (launchContents m c))),
      (h c main_v6).trans ((congrFun (after_ops (launchContents m c)) (Proc.devRef .tc main_v6)).trans (val4_main_v6 (launchContents m c))),
      (h c main_v160).trans ((congrFun (after_ops (launchContents m c)) (Proc.devRef .tc main_v160)).trans (val4_main_v160 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c)))⟩)
    (run_seq scopedRefs_eq scopedSems_eq defs main (fun _ => ops) main_eq (fun _ => ops_sub) m ρ fun _ => ops_fresh)

end Cert.ReferenceIdeal.Value

end
-- ==== Proof.Frames.lean ====
module

public import proofs.«01_k».proof.Proof.Body
public import proofs.«01_k».proof.Proof.SameBody
public import proofs.«01_k».proof.Proof.RefRun
public import Idealize.ShloMosaic.Lib.Quiescent
public import Idealize.ShloMosaic.PureOps.BitExact
public import Idealize.ShloMosaic.PureOps.Ideal

/-!
# The frames

The two readings of the kernel and the reference run to the end, leave their arguments alone and leave every semaphore counter at zero.
-/

@[expose] public section

set_option maxRecDepth 100000

noncomputable section

namespace Cert.Frames

open Idealize.ShloMosaic Idealize.SL.Sem

/-- The kernel at its idealized values. -/
theorem kernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => Cert.KernelIdeal.Body.Unchanged m r.2.mem ∧ r.2.sem = fun _ => 0) :=
  Cert.KernelIdeal.Body.rest m g

attribute [local instance] Cert.Same.literal in
/-- The kernel at its own values: the same launch, every named constant read as its literal. -/
theorem kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => Cert.KernelIdeal.Body.Unchanged (F := Bits) m r.2.mem ∧ r.2.sem = fun _ => 0) := by
  rw [← Cert.Same.main_eq, ← Cert.Same.defs_eq]
  exact Cert.KernelIdeal.Body.rest (F := Bits) m g

/-- The reference, which has no semaphores. -/
theorem reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run _ _ _).mono (fun r h => ⟨fun c => (h c).2.2.2.2.2, sem_eq_zero_of_no_sems (by decide) r.2⟩) (Cert.ReferenceIdeal.Value.run m g)

end Cert.Frames

end

end
-- ==== Proof.Blocks.lean ====
module

public import proofs.«01_k».proof.Proof.Gen.KernelIdeal.Frame.Runs
public import Idealize.ShloMosaic.Lib.Pipeline.ValueKit
public import Idealize.ShloMosaic.Lib.Pointwise

/-!
# The kernel's blocks, element by element

What the staging buffers hold at each grid point, read from the arguments: row `r` of row half `j` is row `2048 j + r` of the
argument, the logits' lanes from 101 on are the padding, and so are the rows and lanes from 101 on of the two matrices.
-/

@[expose] public section

set_option maxRecDepth 16384

noncomputable section

namespace Cert.KernelIdeal.Blocks

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ) (c : Dev nD)

/-- Row `r` of row half `j`. -/
abbrev rowOf (j : Fin 2) (r : Fin 2048) : Fin 4096 := ⟨2048 * j.val + r.val, by omega⟩

/-- The grid's first two points, by the row half they add. -/
abbrev pt : Fin 2 → Fin cfg0.N
  | 0 => t0_0
  | 1 => t0_1

theorem index2 (j : Fin 2) : win0_2.index (pt j) 0 = j.val ∧ win0_2.index (pt j) 1 = 0 := by
  fin_cases j <;> decide +kernel
theorem index3 (j : Fin 2) : win0_3.index (pt j) 0 = j.val ∧ win0_3.index (pt j) 1 = 0 := by
  fin_cases j <;> decide +kernel
theorem index5 (j : Fin 2) : win0_5.index (pt j) 0 = j.val ∧ win0_5.index (pt j) 1 = 0 ∧ win0_5.index (pt j) 2 = 0 := by
  fin_cases j <;> decide +kernel
theorem index10 : win0_10.index t0_2 0 = 0 ∧ win0_10.index t0_2 1 = 0 := by decide +kernel
theorem index11 : win0_11.index t0_2 0 = 0 ∧ win0_11.index t0_2 1 = 0 := by decide +kernel

/-- The features. -/
theorem features (j : Fin 2) (r : Fin 2048) (k : Fin 128) :
    (iblk m c 2 (pt j) : Vec F S2048x128 .f32) (ix2 r k) = m ((c : Thread nD τ).loc main_arg0) (ix2 (rowOf j r) k) := by
  blk_ext [iblk, V, index2 j]

/-- The four operands the host prepares, when the launch starts: the padded logits and matrices, the targets in two halves. -/
theorem entries :
    V m c main_v4 = pad S4096x128 ![0, 0] ![0, 27] ![0, 0] (m ((c : Thread nD τ).loc main_arg2) : Vec F S4096x101 .f32)
        (sitofp .f32 (constantI S_ 32 0#32)) pads_S4096x101_S4096x128_000_0270 h_S_
    ∧ V m c main_v6 = pad S128x128 ![0, 0] ![27, 27] ![0, 0] (m ((c : Thread nD τ).loc main_arg5) : Vec F S101x101 .f32)
        (sitofp .f32 (constantI S_ 32 0#32)) pads_S101x101_S128x128_0270_0270 h_S_
    ∧ V m c main_v7 = pad S128x128 ![0, 0] ![27, 27] ![0, 0] (m ((c : Thread nD τ).loc main_arg6) : Vec F S101x101 .f32)
        (sitofp .f32 (constantI S_ 32 0#32)) pads_S101x101_S128x128_0270_0270 h_S_
    ∧ V m c main_v8 = shapeCast S2x1x2048 (m ((c : Thread nD τ).loc main_arg3)) shapeCasts_S4096_S2x1x2048 := by
  simp only [V, V0, hostOps0, hostOps0_1, hostOps0_2, hostOps0_3, hostOps0_4, hostOps0_5, hostOps0_6, hostOps0_7, hostOps0_8,
    List.flatten_cons, List.flatten_nil, List.append_nil, List.cons_append, List.nil_append, StableHlo.after_cons, StableHlo.after_nil]
  after_results_simp
  exact ⟨rfl, rfl, rfl, rfl⟩

/-- The targets. -/
theorem targets (j : Fin 2) (r : Fin 2048) :
    (iblk m c 5 (pt j) : Vec F S1x1x2048 .i32) (ix3 0 0 r) = m ((c : Thread nD τ).loc main_arg3) (ix1 (rowOf j r)) := by
  blk_simp [iblk, index5 j]
  rw [(entries m c).2.2.2]
  pointwise
  blk_ext [iblk, V, index5 j]

/-- A vector padded at its end, read inside. -/
theorem pad_rows (x : Vec F S4096x101 .f32) (z : Vec F S_ .f32) (i : Fin 4096) (k : Fin 101) :
    pad S4096x128 ![0, 0] ![0, 27] ![0, 0] x z pads_S4096x101_S4096x128_000_0270 h_S_ (ix2 i ⟨k.val, by omega⟩) = x (ix2 i k) := by
  pointwise
theorem pad_square (x : Vec F S101x101 .f32) (z : Vec F S_ .f32) (a b : Fin 101) :
    pad S128x128 ![0, 0] ![27, 27] ![0, 0] x z pads_S101x101_S128x128_0270_0270 h_S_ (ix2 ⟨a.val, by omega⟩ ⟨b.val, by omega⟩)
      = x (ix2 a b) := by
  pointwise

/-- The logits: below lane 101 the argument's. -/
theorem logits (j : Fin 2) (r : Fin 2048) (k : Fin 101) :
    (iblk m c 3 (pt j) : Vec F S2048x128 .f32) (ix2 r ⟨k.val, by omega⟩) = m ((c : Thread nD τ).loc main_arg2) (ix2 (rowOf j r) k) := by
  refine Eq.trans ?_ ((congrFun (entries m c).1 (ix2 (rowOf j r) ⟨k.val, by omega⟩)).trans (pad_rows _ _ _ _))
  blk_simp [iblk, index3 j]
  blk_ext [index3 j]

/-- The two matrices. -/
theorem sims (a b : Fin 101) :
    (iblk m c 10 t0_2 : Vec F S128x128 .f32) (ix2 ⟨a.val, by omega⟩ ⟨b.val, by omega⟩) = m ((c : Thread nD τ).loc main_arg5) (ix2 a b) := by
  refine Eq.trans ?_ ((congrFun (entries m c).2.1 (ix2 ⟨a.val, by omega⟩ ⟨b.val, by omega⟩)).trans (pad_square _ _ _ _))
  blk_simp [iblk, index10]
  blk_ext [index10]

theorem counts (a b : Fin 101) :
    (iblk m c 11 t0_2 : Vec F S128x128 .f32) (ix2 ⟨a.val, by omega⟩ ⟨b.val, by omega⟩) = m ((c : Thread nD τ).loc main_arg6) (ix2 a b) := by
  refine Eq.trans ?_ ((congrFun (entries m c).2.2.1 (ix2 ⟨a.val, by omega⟩ ⟨b.val, by omega⟩)).trans (pad_square _ _ _ _))
  blk_simp [iblk, index11]
  blk_ext [index11]

end Cert.KernelIdeal.Blocks

end

end
-- ==== Proof.FirstMax.lean ====
module

public import Idealize.ShloMosaic.PureOps.Ideal
public import Idealize.ShloMosaic.PureOps.Reduce

/-!
# The first greatest entry of a row

`IsFirstMax x k` says that `x k` is the greatest entry of the row `x` and that every earlier entry is smaller.  There is exactly one
such `k`, and the least index at which a fold of `max` is attained is that one.
-/

@[expose] public section

noncomputable section

namespace Cert.FirstMax

open Idealize.ShloMosaic

/-- `x k` is the greatest entry, and no earlier entry is as great. -/
def IsFirstMax {n : ℕ} (x : Fin n → EReal) (k : Fin n) : Prop := (∀ l, x l ≤ x k) ∧ ∀ l, l < k → x l < x k

/-- A row that is not empty has one. -/
theorem exists_firstMax {n : ℕ} (hn : 0 < n) (x : Fin n → EReal) : ∃ k, IsFirstMax x k := by
  haveI : Nonempty (Fin n) := ⟨⟨0, hn⟩⟩
  obtain ⟨k₀, -, hk₀⟩ := Finset.exists_max_image Finset.univ x Finset.univ_nonempty
  have hne : (Finset.univ.filter fun k => ∀ l, x l ≤ x k).Nonempty := ⟨k₀, by simpa using fun l => hk₀ l (Finset.mem_univ l)⟩
  refine ⟨_, (Finset.mem_filter.1 (Finset.min'_mem _ hne)).2, fun l hl => lt_of_not_ge fun h => ?_⟩
  refine absurd (Finset.min'_le _ l (Finset.mem_filter.2 ⟨Finset.mem_univ l, fun i => ?_⟩)) (not_le.2 hl)
  exact ((Finset.mem_filter.1 (Finset.min'_mem _ hne)).2 i).trans h

/-- The fold of `max` over a row is its greatest entry, if that is no less than the start. -/
theorem fold_max_eq {ι : Type} [Fintype ι] (b : EReal) (x : ι → EReal) (k : ι) (hb : b ≤ x k) (h : ∀ l, x l ≤ x k) :
    Finset.fold max b x Finset.univ = x k := by
  apply le_antisymm
  · rw [Finset.fold_max_le]; exact ⟨hb, fun l _ => h l⟩
  · rw [Finset.le_fold_max]; exact .inr ⟨k, Finset.mem_univ k, le_rfl⟩

/-- The signed minimum of two words, as integers. -/
theorem toInt_minsi (x y : BitVec 32) : (IntOp.minsi x y).toInt = min x.toInt y.toInt := by
  unfold IntOp.minsi
  by_cases h : x.slt y
  · rw [if_pos h, min_eq_left (by rw [BitVec.slt_iff_toInt_lt] at h; omega)]
  · rw [if_neg h, min_eq_right (by rw [BitVec.slt_iff_toInt_lt] at h; omega)]

/-- The fold of the signed minimum is a word that is among those folded and no greater than any of them. -/
theorem fold_minsi_eq {ι : Type} [Fintype ι] (b : BitVec 32) (f : ι → BitVec 32) (k : ι) (hb : (f k).toInt ≤ b.toInt)
    (h : ∀ l, (f k).toInt ≤ (f l).toInt) : Finset.fold IntOp.minsi b f Finset.univ = f k := by
  apply BitVec.eq_of_toInt_eq
  rw [← Finset.fold_hom (op' := min) (m := BitVec.toInt) (fun x y => toInt_minsi x y)]
  apply le_antisymm
  · rw [Finset.fold_min_le]; exact .inr ⟨k, Finset.mem_univ k, le_rfl⟩
  · rw [Finset.le_fold_min]; exact ⟨hb, fun l _ => h l⟩

/-- A small number's word, as an integer. -/
theorem toInt_ofNat (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

end Cert.FirstMax

end

end
-- ==== Proof.Rows.lean ====
module

public import proofs.«01_k».proof.Proof.Gen.KernelIdeal.Skeleton
public import proofs.«01_k».proof.Proof.FirstMax
public import Idealize.ShloMosaic.Lib.Pointwise

/-!
# One row half, element by element

What one row half adds to the accumulators of the features, of the number of correct rows, of their squared lengths and of the
negative log likelihood, over the extended reals.
-/

@[expose] public section

set_option maxRecDepth 16384

noncomputable section

namespace Cert.KernelIdeal.Rows

open Idealize.ShloMosaic Idealize.SL.Sem
open Cert.KernelIdeal Cert.KernelIdeal.Gen Cert.FirstMax

/-- One where the word `t` is class `a`, zero elsewhere. -/
def hit (t : BitVec 32) (a : ℕ) : EReal := if t = BitVec.ofNat 32 a then 1 else 0

/-- A class's lane. -/
def lane (k : Fin 101) : Fin 128 := ⟨k.val, by omega⟩

/-- A row divided by its length, the length no less than a small constant. -/
def unit (x : Fin 128 → EReal) (b : Fin 128) : EReal :=
  Ideal.div (x b) (max (Ideal.sqrt (∑ k, x k * x k)) (Ideal.ofBits .f32 730643660#32))

/-- A one-bit comparison, widened and converted, is one or zero. -/
theorem ofBool_word (p : Prop) [Decidable p] (x y : BitVec 32) (h : x = y ↔ p) :
    (FloatOps.sitofp (F := Ideal) .f32 (BitVec.setWidth 32 (IntOp.cmpi .eq x y)) : EReal) = if p then 1 else 0 := by
  by_cases e : p
  · rw [if_pos e, show IntOp.cmpi .eq x y = 1#1 by simp [IntOp.cmpi, h.2 e]]
    show ((((BitVec.setWidth 32 1#1).toInt : ℝ)) : EReal) = 1
    norm_num [show (BitVec.setWidth 32 1#1).toInt = 1 from by decide]
  · rw [if_neg e, show IntOp.cmpi .eq x y = 0#1 by rw [show IntOp.cmpi .eq x y = BitVec.ofBool (x == y) from rfl, beq_false_of_ne fun q => e (h.1 q)]; rfl]
    show ((((BitVec.setWidth 32 0#1).toInt : ℝ)) : EReal) = 0
    norm_num [show (BitVec.setWidth 32 0#1).toInt = 0 from by decide]

section Any
variable (oh : Vec Ideal S2048x128 .f32) (gd : Vec Ideal S2048 .f32) (x : Vec Ideal S2048x128 .f32)

theorem word (x5 : Vec Ideal S1x1x2048 .i32) (r : Fin 2048) : k0_pay66 x5 (ix1 r) = x5 (ix3 0 0 r) := by
  pointwise [k0_pay66]

theorem onehot (x5 : Vec Ideal S1x1x2048 .i32) (r : Fin 2048) (a : Fin 128) :
    k0_pay14 (k0_pay68 x5) (ix2 r a) = hit (x5 (ix3 0 0 r)) a.val := by
  pointwise [k0_pay14, k0_pay68, k0_pay67]
  exact ofBool_word _ _ _ (by rw [word])

theorem onehot16 (x5 : Vec Ideal S1x1x2048 .i32) (r : Fin 2048) (a : Fin 128) :
    (k0_pay68 x5 (ix2 r a) : EReal) = hit (x5 (ix3 0 0 r)) a.val := onehot x5 r a

theorem squares (r : Fin 2048) : (k0_pay19 x (ix2 r 0) : EReal) = ∑ k, x (ix2 r k) * x (ix2 r k) := by
  pointwise [k0_pay19]

theorem units (r : Fin 2048) (b : Fin 128) : (k0_pay20 x (k0_pay19 x) (ix2 r b) : EReal) = unit (fun k => x (ix2 r k)) b := by
  pointwise [k0_pay20]
  rw [squares]
  rfl

theorem weights (r : Fin 2048) (a : Fin 128) : (k0_pay21 (F := Ideal) oh gd (ix2 r a) : EReal) = oh (ix2 r a) * gd (ix1 r) := by
  pointwise [k0_pay21]

/-- The features' accumulator. -/
theorem features (v : Vec Ideal S128x128 .f32) (a b : Fin 128) :
    (k0_pay22 oh gd x (k0_pay19 x) v (ix2 a b) : EReal)
      = v (ix2 a b) + ∑ r : Fin 2048, oh (ix2 r a) * gd (ix1 r) * unit (fun k => x (ix2 r k)) b := by
  pointwise [k0_pay22]
  simp only [weights, units]

/-- The accumulator of the number of correct rows. -/
theorem correct (v : Vec Ideal S1x128 .f32) (a : Fin 128) :
    (k0_pay26 (k0_pay25 oh gd v) (ix2 0 a) : EReal) = v (ix2 0 a) + ∑ r : Fin 2048, oh (ix2 r a) * gd (ix1 r) := by
  pointwise [k0_pay26, k0_pay25]
  simp only [weights]

/-- The accumulator of the squared lengths. -/
theorem lengths (v : Vec Ideal S1x128 .f32) (a : Fin 128) :
    (k0_pay27 (k0_pay20 x (k0_pay19 x)) (k0_pay21 oh gd) v (ix2 0 a) : EReal)
      = v (ix2 0 a) + ∑ r : Fin 2048, oh (ix2 r a) * gd (ix1 r) * ∑ k, unit (fun k => x (ix2 r k)) k * unit (fun k => x (ix2 r k)) k := by
  pointwise [k0_pay27]
  simp only [weights, units]

end Any

/-! ## The greatest logit -/

theorem neg_inf : Ideal.ofBits .f32 4286578688#32 = (⊥ : EReal) := by
  simp [Ideal.ofBits, Ideal.ieee]

section Top
variable (x : Vec Ideal S2048x128 .f32) (r : Fin 2048) (y : Fin 101 → EReal) (hy : ∀ k : Fin 101, x (ix2 r (lane k)) = y k)
include hy

/-- Below lane 101 the masked logits are the logits, -/
theorem masked_lo (l : Fin 128) (h : l.val < 101) : (k0_pay15 x (ix2 r l) : EReal) = y ⟨l.val, h⟩ := by
  pointwise [k0_pay15]
  rw [← hy ⟨l.val, h⟩]
  have e : IntOp.cmpi .slt (BitVec.ofNat 32 l.val) 101#32 = 1#1 := by
    show BitVec.ofBool ((BitVec.ofNat 32 l.val).slt 101#32) = 1#1
    rw [show (BitVec.ofNat 32 l.val).slt 101#32 = true from by
      rw [BitVec.slt_iff_toInt_lt, toInt_ofNat _ (by omega)]
      show (l.val : ℤ) < 101; omega]
    rfl
  rw [e]; rfl

omit hy in
/-- from it on they are the mask. -/
theorem masked_hi (l : Fin 128) (h : 101 ≤ l.val) : (k0_pay15 x (ix2 r l) : EReal) = ⊥ := by
  pointwise [k0_pay15]
  have e : IntOp.cmpi .slt (BitVec.ofNat 32 l.val) 101#32 = 0#1 := by
    show BitVec.ofBool ((BitVec.ofNat 32 l.val).slt 101#32) = 0#1
    rw [show (BitVec.ofNat 32 l.val).slt 101#32 = false from by
      rw [← Bool.not_eq_true, BitVec.slt_iff_toInt_lt, toInt_ofNat _ (by omega)]
      show ¬ ((l.val : ℤ) < 101); omega]
    rfl
  rw [e]; rfl

variable (k : Fin 101) (hk : IsFirstMax y k)
include hk

theorem masked_le (l : Fin 128) : (k0_pay15 x (ix2 r l) : EReal) ≤ k0_pay15 x (ix2 r ⟨k.val, by omega⟩) := by
  rw [masked_lo x r y hy ⟨k.val, by omega⟩ k.isLt]
  by_cases h : l.val < 101
  · rw [masked_lo x r y hy l h]; exact hk.1 _
  · rw [masked_hi x r l (by omega)]; exact bot_le

/-- The greatest masked logit is the first greatest logit. -/
theorem top : (k0_pay16 x (ix2 r 0) : EReal) = y k := by
  pointwise [k0_pay16]
  have e := fold_max_eq (Ideal.ofBits .f32 4286578688#32) (fun l : Fin 128 => (k0_pay15 x (ix2 r l) : EReal)) ⟨k.val, by omega⟩
    (by rw [neg_inf]; exact bot_le) (masked_le x r y hy k hk)
  exact e.trans (masked_lo x r y hy ⟨k.val, by omega⟩ k.isLt)

/-- A row is correct when its target is the first greatest logit's class. -/
theorem good (w : IVec S2048 32) :
    (k0_pay17 w x (ix1 r) : EReal) = if w (ix1 r) = BitVec.ofNat 32 k.val then 1 else 0 := by
  pointwise [k0_pay17]
  refine ofBool_word _ _ _ ?_
  have e := fold_minsi_eq 2147483647#32 (fun l : Fin 128 => if k0_pay15 x (ix2 r l) = k0_pay16 x (ix2 r 0) then BitVec.ofNat 32 l.val else 128#32)
    ⟨k.val, by omega⟩
  have ek : (k0_pay15 x (ix2 r ⟨k.val, by omega⟩) : EReal) = k0_pay16 x (ix2 r 0) := by
    rw [top x r y hy k hk]; exact masked_lo x r y hy ⟨k.val, by omega⟩ k.isLt
  simp only [if_pos ek] at e
  rw [e (by rw [toInt_ofNat _ (by omega)]; show (k.val : ℤ) ≤ 2147483647; omega)]
  · exact eq_comm
  intro l
  rw [toInt_ofNat _ (by omega)]
  split
  · next h =>
    rw [toInt_ofNat _ (by omega)]
    rw [top x r y hy k hk] at h
    by_contra hlt
    have hl : l.val < k.val := by omega
    rw [masked_lo x r y hy l (by omega)] at h
    exact absurd h (hk.2 ⟨l.val, by omega⟩ hl).ne
  · show (k.val : ℤ) ≤ 128; omega

end Top

end Cert.KernelIdeal.Rows

end

end
-- ==== Proof.Losses.lean ====
module

public import proofs.«01_k».proof.Proof.Gen.KernelIdeal.Skeleton
public import proofs.«01_k».proof.Proof.Rows
public import Idealize.ShloMosaic.Lib.Pointwise

/-!
# The negative log likelihood of one row half

What one row half adds to the accumulator of the negative log likelihood, row by row.
-/

@[expose] public section

set_option maxRecDepth 16384

noncomputable section

namespace Cert.KernelIdeal.Rows

open Idealize.ShloMosaic Idealize.SL.Sem
open Cert.KernelIdeal Cert.KernelIdeal.Gen Cert.FirstMax

/-- The negative log likelihood of each row. -/
def losses (o : Vec Ideal S2048x128 .bf16) (x : Vec Ideal S2048x128 .f32) : FVec Ideal S2048 .f32 :=
  subf (addf (shapeCast S2048 (k0_pay16 x) shapeCasts_S2048x1_S2048) (log (multiReduction .add [1] S2048 (exp (subf (k0_pay15 x) (broadcastTo S2048x128 (k0_pay16 x) broadcasts_S2048x1_S2048x128))) 0x00000000#32 reduces_S2048x128_S2048 (.inl rfl) rfl)))
    (multiReduction .add [1] S2048 (mulf (k0_pay15 x) (k0_pay14 o)) 0x00000000#32 reduces_S2048x128_S2048 (.inl rfl) rfl)
/-- Their sum. -/
def total (w : FVec Ideal S2048 .f32) : Ideal .f32 :=
  extractAt ![0, 0] (shapeCast S1x1 (multiReduction .add [1] S1 (shapeCast S1x2048 w shapeCasts_S2048_S1x2048) 0x00000000#32 reduces_S1x2048_S1 (.inl rfl) rfl) shapeCasts_S1_S1x1) inpos_S1x1_p0_0

/-- The step adds the half's total. -/
theorem pay18_eq (o : Vec Ideal S2048x128 .bf16) (x : Vec Ideal S2048x128 .f32) (v : Vec Ideal S1x1 .f32) :
    k0_pay18 o x v = shapeCast S1x1 (addf v (broadcast S1x1 (total (losses o x)))) shapeCasts_S1x1_S1x1 := by
  unfold k0_pay18 total losses
  with_reducible rfl

/-- The total is the sum over the rows. -/
theorem total_apply (w : FVec Ideal S2048 .f32) : (total w : EReal) = ∑ r : Fin 2048, (w (ix1 r) : EReal) := by
  unfold total
  rw [show ∀ (X : FVec Ideal S1x1 .f32), extractAt ![0, 0] X inpos_S1x1_p0_0 = X (ix2 0 0) from fun X => by unfold extractAt; exact congrArg X (by funext a; fin_cases a <;> rfl)]
  pointwise

/-- A row's loss: the greatest logit, the logarithm of the exponentials' sum, less the target's logit. -/
theorem losses_apply (o : Vec Ideal S2048x128 .bf16) (x : Vec Ideal S2048x128 .f32) (r : Fin 2048) :
    (losses o x (ix1 r) : EReal) = (k0_pay16 x (ix2 r 0) : EReal)
          + Ideal.log (∑ l, Ideal.exp (k0_pay15 x (ix2 r l) - k0_pay16 x (ix2 r 0)))
          - ∑ l : Fin 128, (k0_pay15 x (ix2 r l) : EReal) * o (ix2 r l) := by
  pointwise [losses, k0_pay14]

theorem add_one (v : Vec Ideal S1x1 .f32) (w : Ideal .f32) :
    (addf v (broadcast S1x1 w) (ix2 0 0) : EReal) = v (ix2 0 0) + w := rfl

theorem add_total (v : Vec Ideal S1x1 .f32) (w : FVec Ideal S2048 .f32) :
    (shapeCast S1x1 (addf v (broadcast S1x1 (total w))) shapeCasts_S1x1_S1x1 (ix2 0 0) : EReal)
      = v (ix2 0 0) + ∑ r : Fin 2048, (w (ix1 r) : EReal) := by
  rw [shapeCast_self, add_one, total_apply]

/-- The negative log likelihood's accumulator. -/
theorem likelihood (o : Vec Ideal S2048x128 .bf16) (x : Vec Ideal S2048x128 .f32) (v : Vec Ideal S1x1 .f32) :
    (k0_pay18 o x v (ix2 0 0) : EReal) = v (ix2 0 0) + ∑ r : Fin 2048, (losses o x (ix1 r) : EReal) :=
  (congrFun (pay18_eq o x v) (ix2 0 0)).trans (add_total v (losses o x))

end Cert.KernelIdeal.Rows

end

end
-- ==== Proof.Outs.lean ====
module

public import proofs.«01_k».proof.Proof.Steps
public import proofs.«01_k».proof.Proof.Rows

/-!
# The last point, element by element

What the last point writes to the results, from the accumulators.
-/

@[expose] public section

set_option maxRecDepth 16384

noncomputable section

namespace Cert.KernelIdeal.Outs

open Idealize.ShloMosaic Idealize.SL.Sem
open Cert.KernelIdeal Cert.KernelIdeal.Gen Cert.KernelIdeal.Step

/-- Comparing two lanes selects the first value exactly when the lanes are equal. -/
theorem lane_select (a b : Fin 128) (x y : EReal) :
    (Scalar.select (IntOp.cmpi .eq (BitVec.ofNat 32 a.val) (BitVec.ofNat 32 b.val)) x y : EReal) = if a = b then x else y := by
  by_cases h : a = b
  · subst h
    rw [if_pos rfl, show IntOp.cmpi .eq (BitVec.ofNat 32 a.val) (BitVec.ofNat 32 a.val) = 1#1 by simp [IntOp.cmpi]]
    rfl
  · have e : IntOp.cmpi .eq (BitVec.ofNat 32 a.val) (BitVec.ofNat 32 b.val) = 0#1 := by
      have : BitVec.ofNat 32 a.val ≠ BitVec.ofNat 32 b.val := fun q => h (by
        have q' := congrArg BitVec.toNat q
        simp only [BitVec.toNat_ofNat] at q'
        apply Fin.ext; omega)
      show BitVec.ofBool (BitVec.ofNat 32 a.val == BitVec.ofNat 32 b.val) = 0#1
      rw [beq_false_of_ne this]; rfl
    rw [if_neg h, e]
    rfl

/-- The update of a matrix `n` by a matrix `f`: all of it off the diagonal, half of it on the diagonal. -/
def updated (n f : EReal) (a b : Fin 128) : EReal := n + f - (if a = b then f else 0) * Ideal.ofBits .f32 1056964608#32

/-- The similarities' update. -/
def simAdd (g : Fin 128 → Fin 128 → EReal) (dv : Fin 128 → EReal) (a b : Fin 128) : EReal :=
  (∑ k, g a k * g b k) - if a = b then dv b else 0

/-- The counts' update. -/
def cntAdd (u : Fin 128 → EReal) (a b : Fin 128) : EReal := u a * u b - if a = b then u b else 0

theorem cntOut_apply (x11 : Vec Ideal S128x128 .f32) (v : Acc Ideal) (a b : Fin 128) :
    (cntOut x11 v (ix2 a b) : EReal) = updated (x11 (ix2 a b)) (cntAdd (fun a => v.u (ix2 0 a)) a b) a b := by
  unfold cntOut updated cntAdd
  pointwise [k0_pay60, k0_pay57]
  simp only [lane_select]
  congr 1
  split <;> simp

theorem simOut_apply (x10 : Vec Ideal S128x128 .f32) (v : Acc Ideal) (a b : Fin 128) :
    (simOut x10 v (ix2 a b) : EReal) = updated (x10 (ix2 a b)) (simAdd (fun a k => v.g (ix2 a k)) (fun a => v.dv (ix2 0 a)) a b) a b := by
  unfold simOut updated simAdd
  pointwise [k0_pay59, k0_pay58, k0_pay57]
  simp only [lane_select]
  congr 1
  split <;> simp

theorem mean_apply (w : Vec Ideal S1x1 .f32) : (k0_pay55 w : EReal) = Ideal.div (w (ix2 0 0)) (Ideal.ofBits .f32 0x45800000#32) := by
  pointwise [k0_pay55]
  simp

section Lanes
variable (x6 : Vec Ideal S8x64 .bf16) (x7 : Vec Ideal S8x64 .bf16) (x8 : Vec Ideal S1x1x2048 .i32) (x9 : Vec Ideal S128x128 .f32) (v : Acc Ideal)

/-- Whether a lane is a given lane, as a number. -/
theorem lane_is (a b : BitVec 32) :
    (FloatOps.sitofp (F := Ideal) .f32 (BitVec.setWidth 32 (IntOp.cmpi CmpIPredicate.eq a b)) : EReal) = if a = b then 1 else 0 :=
  Rows.ofBool_word _ _ _ Iff.rfl

/-- The first three lanes of the third result are the hash loss, the mean negative log likelihood and the whole loss. -/
theorem lane_0 : (stats x6 x7 x8 x9 v (ix2 0 0) : EReal) = hashLoss x6 x7 x8 x9 v := by
  unfold stats
  generalize loss x6 x7 x8 x9 v = l
  generalize hashLoss x6 x7 x8 x9 v = h
  generalize k0_pay55 v.nl = w
  pointwise [k0_pay5, k0_pay61, k0_pay62]
  rw [lane_is, lane_is, show (FloatOps.sitofp (F := Ideal) .f32 (BitVec.setWidth 32 1#1) : EReal) = 1 from Rows.ofBool_word True 0#32 0#32 (by decide) |>.trans (if_pos trivial)]
  simp
theorem lane_1 : (stats x6 x7 x8 x9 v (ix2 0 1) : EReal) = k0_pay55 v.nl := by
  unfold stats
  generalize loss x6 x7 x8 x9 v = l
  generalize hashLoss x6 x7 x8 x9 v = h
  generalize k0_pay55 v.nl = w
  pointwise [k0_pay5, k0_pay61, k0_pay62]
  rw [lane_is, lane_is, show (FloatOps.sitofp (F := Ideal) .f32 (BitVec.setWidth 32 1#1) : EReal) = 1 from Rows.ofBool_word True 0#32 0#32 (by decide) |>.trans (if_pos trivial)]
  simp
theorem lane_2 : (stats x6 x7 x8 x9 v (ix2 0 2) : EReal) = loss x6 x7 x8 x9 v := by
  unfold stats
  generalize loss x6 x7 x8 x9 v = l
  generalize hashLoss x6 x7 x8 x9 v = h
  generalize k0_pay55 v.nl = w
  pointwise [k0_pay5, k0_pay61, k0_pay62]
  rw [lane_is, lane_is, show (FloatOps.sitofp (F := Ideal) .f32 (BitVec.setWidth 32 1#1) : EReal) = 1 from Rows.ofBool_word True 0#32 0#32 (by decide) |>.trans (if_pos trivial)]
  simp

end Lanes

end Cert.KernelIdeal.Outs

end

end
-- ==== Proof.Sums.lean ====
module

public import proofs.«01_k».proof.Proof.Body
public import proofs.«01_k».proof.Proof.Blocks
public import proofs.«01_k».proof.Proof.Losses
public import proofs.«01_k».proof.Proof.Outs

/-!
# The accumulators at the end

Each accumulator holds a sum over all 4096 rows of the batch.
-/

@[expose] public section

set_option maxRecDepth 16384

noncomputable section

namespace Cert.KernelIdeal.Sums

open Idealize.ShloMosaic Idealize.ShloMosaic.TcCoe Idealize.SL.Sem
open Cert.KernelIdeal Cert.KernelIdeal.Gen Cert.KernelIdeal.Step Cert.KernelIdeal.Body Cert.KernelIdeal.Blocks Cert.FirstMax Cert.KernelIdeal.Rows

/-- The first greatest logit's class. -/
def first (y : Fin 101 → EReal) : Fin 101 := Classical.choose (exists_firstMax (by decide) y)

theorem first_spec (y : Fin 101 → EReal) : IsFirstMax y (first y) := Classical.choose_spec (exists_firstMax (by decide) y)

/-- One where the target is the first greatest logit's class, zero elsewhere. -/
def right (t : BitVec 32) (y : Fin 101 → EReal) : EReal := if t = BitVec.ofNat 32 (first y).val then 1 else 0

variable (m : (ℓ : Loc nD τ sig) → Buf (Elt Ideal) ℓ) (c : Dev nD)

/-- The target, the logits and the features of row `i`. -/
def target (i : Fin 4096) : BitVec 32 := m ((c : Thread nD τ).loc main_arg3) (ix1 i)
def logit (i : Fin 4096) (k : Fin 101) : EReal := m ((c : Thread nD τ).loc main_arg2) (ix2 i k)
def feature (i : Fin 4096) (k : Fin 128) : EReal := m ((c : Thread nD τ).loc main_arg0) (ix2 i k)

/-- Row `i`'s share in class `a`. -/
def weight (i : Fin 4096) (a : ℕ) : EReal := hit (target m c i) a * right (target m c i) (logit m c i)

theorem right_at (j : Fin 2) (r : Fin 2048) :
    (k0_pay17 (k0_pay66 (iblk m c 5 (pt j))) (iblk m c 3 (pt j)) (ix1 r) : EReal)
      = right (target m c (rowOf j r)) (logit m c (rowOf j r)) := by
  rw [good (iblk m c 3 (pt j)) r (logit m c (rowOf j r)) (fun k => logits m c j r k) _ (first_spec _), word, targets]
  rfl

theorem hit_at (j : Fin 2) (r : Fin 2048) (a : Fin 128) :
    k0_pay14 (k0_pay68 (iblk m c 5 (pt j))) (ix2 r a) = hit (target m c (rowOf j r)) a.val := by
  rw [onehot, targets]
  rfl

theorem feature_at (j : Fin 2) (r : Fin 2048) :
    (fun k => (iblk m c 2 (pt j) : Vec Ideal S2048x128 .f32) (ix2 r k)) = feature m c (rowOf j r) :=
  funext fun k => Blocks.features m c j r k

theorem row_u (j : Fin 2) (v : Acc Ideal) (a : Fin 128) :
    ((rowAt m c (pt j) v).u (ix2 0 a) : EReal) = v.u (ix2 0 a) + ∑ r : Fin 2048, weight m c (rowOf j r) a := by
  refine (correct _ _ _ _).trans ?_
  simp only [right_at, hit_at]
  rfl

theorem row_g (j : Fin 2) (v : Acc Ideal) (a b : Fin 128) :
    ((rowAt m c (pt j) v).g (ix2 a b) : EReal)
      = v.g (ix2 a b) + ∑ r : Fin 2048, weight m c (rowOf j r) a * unit (feature m c (rowOf j r)) b := by
  refine (Rows.features _ _ _ _ _ _).trans ?_
  simp only [right_at, hit_at, feature_at]
  rfl

theorem row_dv (j : Fin 2) (v : Acc Ideal) (a : Fin 128) :
    ((rowAt m c (pt j) v).dv (ix2 0 a) : EReal)
      = v.dv (ix2 0 a) + ∑ r : Fin 2048, weight m c (rowOf j r) a
          * ∑ k, unit (feature m c (rowOf j r)) k * unit (feature m c (rowOf j r)) k := by
  refine (lengths _ _ _ _ _).trans ?_
  simp only [right_at, hit_at, feature_at]
  rfl

/-- The two halves of a sum over the batch. -/
theorem halves (f : Fin 4096 → EReal) (z : EReal) (hz : z = 0) :
    z + ∑ r : Fin 2048, f (rowOf 0 r) + ∑ r : Fin 2048, f (rowOf 1 r) = ∑ i, f i := by
  rw [hz, zero_add, Fin.sum_univ_two_halves 2048 2048 rfl f]
  congr 1
  all_goals exact Finset.sum_congr rfl fun r _ => congrArg f (Fin.ext (by simp [rowOf] <;> omega))

theorem acc1_eq : acc1 m c = rowAt m c (pt 1) (pairAt m c t0_1 (acc0 m c)) := rfl
theorem acc0_eq : acc0 m c = rowAt m c (pt 0) (pairAt m c t0_0 zero) := rfl

/-- A pair of halves leaves these accumulators alone. -/
theorem pair_keeps (t : Fin cfg0.N) (v : Acc Ideal) :
    (pairAt m c t v).u = v.u ∧ (pairAt m c t v).g = v.g ∧ (pairAt m c t v).dv = v.dv ∧ (pairAt m c t v).nl = v.nl :=
  ⟨rfl, rfl, rfl, rfl⟩

/-- The number of correct rows of each class. -/
theorem acc_u (a : Fin 128) : ((acc2 m c).u (ix2 0 a) : EReal) = ∑ i, weight m c i a := by
  rw [acc2, (pair_keeps m c _ _).1, acc1_eq, row_u, (pair_keeps m c _ _).1, acc0_eq, row_u, (pair_keeps m c _ _).1]
  exact halves (fun i => weight m c i a) _ (by show (k0_pay9 (F := Ideal) (ix2 0 a) : EReal) = 0; pointwise [k0_pay9])

/-- The sum of the correct rows' unit features, by class. -/
theorem acc_g (a b : Fin 128) : ((acc2 m c).g (ix2 a b) : EReal) = ∑ i, weight m c i a * unit (feature m c i) b := by
  rw [acc2, (pair_keeps m c _ _).2.1, acc1_eq, row_g, (pair_keeps m c _ _).2.1, acc0_eq, row_g, (pair_keeps m c _ _).2.1]
  exact halves (fun i => weight m c i a * unit (feature m c i) b) _ (by show (k0_pay6 (F := Ideal) (ix2 a b) : EReal) = 0; pointwise [k0_pay6])

/-- The sum of their squared lengths, by class. -/
theorem acc_dv (a : Fin 128) : ((acc2 m c).dv (ix2 0 a) : EReal)
    = ∑ i, weight m c i a * ∑ k, unit (feature m c i) k * unit (feature m c i) k := by
  rw [acc2, (pair_keeps m c _ _).2.2.1, acc1_eq, row_dv, (pair_keeps m c _ _).2.2.1, acc0_eq, row_dv, (pair_keeps m c _ _).2.2.1]
  exact halves (fun i => weight m c i a * ∑ k, unit (feature m c i) k * unit (feature m c i) k) _
    (by show (k0_pay10 (F := Ideal) (ix2 0 a) : EReal) = 0; pointwise [k0_pay10])

end Cert.KernelIdeal.Sums

end

end
-- ==== Proof.Tame.lean ====
module

public import proofs.«01_k».proof.Defs
public import proofs.«01_k».proof.Proof.Sums
public import Idealize.ShloMosaic.Lib.ReduceAll

/-!
# What the precondition says

Every target is a class number and every logit a real number.
-/

@[expose] public section

set_option maxRecDepth 16384

noncomputable section

namespace Cert.Tame

open Idealize.ShloMosaic Idealize.SL.Sem
open Cert.KernelIdeal Cert.KernelIdeal.Sums

/-- The precondition's shapes agree. -/
theorem facts : Cert.Pre_tame.Facts where
  bcast_S_S4096 := by decide +kernel
  reducesTo_S4096_S_d0 := by decide +kernel
  h_S_ := by decide +kernel
  bcast_S_S4096x101 := by decide +kernel
  reducesTo_S4096x101_S_d0_1 := by decide +kernel

instance : Subsingleton Cert.Pre_tame.S_.Idx := ⟨fun _ _ => funext fun a => a.elim0⟩

/-- Of two bits whose conjunction is one, each is one. -/
theorem both (a b : BitVec 1) (h : IntOp.andi a b = 1#1) : a = 1#1 ∧ b = 1#1 := by
  revert a b; decide

theorem bit_true (p : Prop) [Decidable p] (h : BitVec.ofBool (decide p) = 1#1) : p := by
  by_contra q
  rw [decide_eq_false q] at h
  exact absurd h (by decide)

theorem infinity : Ideal.ofBits .f32 0x7F800000#32 = (⊤ : EReal) := by
  simp [Ideal.ofBits, Ideal.ieee]

variable [hT : Cert.Pre_tame.Facts] (m : (ℓ : Loc nD τ sig) → Buf (Elt Ideal) ℓ) (h : Cert.Pre_KernelIdeal_tame m) (c : Dev nD)
include h

theorem target_lt (i : Fin 4096) : (target m c i).toNat < 101 := by
  have e := (both _ _ (congrFun (h c) ix0)).1
  have f := both _ _ (Host.reduce_andi_all _ _ _ _ _ e (ix1 i))
  have f1 : BitVec.ofBool (decide ((0#32).toInt ≤ (target m c i).toInt)) = 1#1 := f.1
  have f2 : BitVec.ofBool (decide ((target m c i).toInt < (101#32).toInt)) = 1#1 := f.2
  have g1 := bit_true _ f1
  have g2 := bit_true _ f2
  rw [show (0#32).toInt = 0 by decide] at g1
  rw [show (101#32).toInt = 101 by decide] at g2
  have := BitVec.toInt_eq_toNat_cond (target m c i)
  split at this <;> omega

theorem logit_real (i : Fin 4096) (k : Fin 101) : ∃ r : ℝ, logit m c i k = r := by
  have e := (both _ _ (congrFun (h c) ix0)).2
  have f := Host.reduce_andi_all _ _ _ _ _ e (ix2 i k)
  have f1 : BitVec.ofBool (decide (max (logit m c i k) (-(logit m c i k)) < Ideal.ofBits .f32 0x7F800000#32)) = 1#1 := f
  have g := bit_true _ f1
  rw [infinity] at g
  generalize logit m c i k = x at g
  induction x with
  | bot => simp at g
  | top => simp at g
  | coe r => exact ⟨r, rfl⟩

end Cert.Tame

end

end
-- ==== Proof.Pairs.lean ====
module

public import Idealize.ShloMosaic.PureOps.Ideal

/-!
# Sums over pairs of rows

A sum over all pairs of rows, less the pairs of a row with itself, is twice over the pairs in order, once each way round.
-/

@[expose] public section

noncomputable section

namespace Cert.Pairs

open Finset

variable {n : ℕ}

/-- The pairs `i < j` with the first weighted by `u` and the second by `v`. -/
def ordered (u v : Fin n → ℝ) (S : Fin n → Fin n → ℝ) : ℝ := ∑ i, ∑ j, if i < j then u i * v j * S i j else 0

theorem ordered_swap (u v : Fin n → ℝ) (S : Fin n → Fin n → ℝ) (hS : ∀ i j, S i j = S j i) :
    ordered v u S = ∑ i, ∑ j, if j < i then u i * v j * S i j else 0 := by
  unfold ordered
  rw [sum_comm]
  refine sum_congr rfl fun i _ => sum_congr rfl fun j _ => ?_
  rw [hS j i, mul_comm (v j)]

/-- All pairs: those in order, those the other way round, and a row with itself. -/
theorem all_pairs (u v : Fin n → ℝ) (S : Fin n → Fin n → ℝ) (hS : ∀ i j, S i j = S j i) :
    ∑ i, ∑ j, u i * v j * S i j = ordered u v S + ordered v u S + ∑ i, u i * v i * S i i := by
  rw [ordered_swap u v S hS]
  unfold ordered
  rw [← sum_add_distrib, ← sum_add_distrib]
  refine sum_congr rfl fun i _ => ?_
  rw [← sum_add_distrib]
  have e : u i * v i * S i i = ∑ j, if i = j then u i * v j * S i j else 0 := by simp
  rw [e, ← sum_add_distrib]
  refine sum_congr rfl fun j _ => ?_
  rcases lt_trichotomy i j with h | h | h
  · simp [h, h.ne, not_lt.2 h.le]
  · simp [h]
  · simp [h, h.ne', not_lt.2 h.le]

/-- A product of two weighted sums of vectors is a sum over pairs of the vectors' products. -/
theorem gram {k : ℕ} (u v : Fin n → ℝ) (x : Fin n → Fin k → ℝ) :
    ∑ l, (∑ i, u i * x i l) * (∑ j, v j * x j l) = ∑ i, ∑ j, u i * v j * ∑ l, x i l * x j l := by
  simp_rw [sum_mul_sum, mul_sum]
  rw [sum_comm]
  refine sum_congr rfl fun i _ => ?_
  rw [sum_comm]
  refine sum_congr rfl fun j _ => sum_congr rfl fun l _ => by ring

/-- The update of entry `(a, b)`, from the weights of the two classes: twice the pairs in order, but once on the diagonal. -/
def update (w : Fin n → ℕ → ℝ) (S : Fin n → Fin n → ℝ) (a b : ℕ) : ℝ :=
  if a = b then ordered (fun i => w i a) (fun i => w i a) S
  else ordered (fun i => w i a) (fun i => w i b) S + ordered (fun i => w i b) (fun i => w i a) S

/-- From all pairs to the update, for weights that are those of one class each. -/
theorem update_eq (w : Fin n → ℕ → ℝ) (S : Fin n → Fin n → ℝ) (hS : ∀ i j, S i j = S j i) (a b : ℕ)
    (hw : ∀ i, w i a * w i b = if a = b then w i b else 0) :
    (∑ i, ∑ j, w i a * w j b * S i j) - (if a = b then ∑ i, w i b * S i i else 0)
      - (if a = b then (∑ i, ∑ j, w i a * w j b * S i j) - (if a = b then ∑ i, w i b * S i i else 0) else 0) * (1 / 2)
      = update w S a b := by
  rw [all_pairs _ _ S hS]
  simp only [hw]
  unfold update
  by_cases h : a = b
  · subst h; simp; ring
  · simp [h]

end Cert.Pairs

end

end
-- ==== Proof.Reals.lean ====
module

public import proofs.«01_k».proof.Proof.Sums
public import proofs.«01_k».proof.Proof.Pairs

/-!
# Real values

A row's unit features and its share in a class are real numbers, whatever the arguments; so are the two updates.
-/

@[expose] public section

set_option maxRecDepth 16384

noncomputable section

namespace Cert.Reals

open Idealize.ShloMosaic Idealize.SL.Sem
open Cert.KernelIdeal.Rows Cert.KernelIdeal.Sums Cert.KernelIdeal.Outs Cert.FirstMax Cert.Pairs

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem square_nonneg (x : EReal) : 0 ≤ x * x := by
  induction x with
  | bot => simp
  | top => simp
  | coe r => rw [← EReal.coe_mul]; exact_mod_cast mul_self_nonneg r

/-- The least length a row is divided by. -/
theorem least : ∃ e : ℝ, 0 < e ∧ Ideal.ofBits .f32 730643660#32 = (e : EReal) := by
  refine ⟨_, ?_, by simp [Ideal.ofBits, Ideal.ieee, -EReal.coe_mul]; rfl⟩
  positivity

theorem half : Ideal.ofBits .f32 1056964608#32 = ((1 / 2 : ℝ) : EReal) := by
  simp [Ideal.ofBits, Ideal.ieee, -EReal.coe_mul]
  norm_num

/-- A unit feature is a real number: a row with an infinite feature has length infinity, and is divided to zero. -/
theorem unit_real (x : Fin 128 → EReal) (b : Fin 128) : unit x b = ((unit x b).toReal : EReal) := by
  obtain ⟨e, he, hE⟩ := least
  have hle : x b * x b ≤ ∑ k, x k * x k :=
    Finset.single_le_sum (f := fun k => x k * x k) (fun k _ => square_nonneg (x k)) (Finset.mem_univ b)
  have h0 : (0 : EReal) ≤ ∑ k, x k * x k := Finset.sum_nonneg fun k _ => square_nonneg (x k)
  unfold unit
  generalize ∑ k, x k * x k = s at hle h0
  rw [hE]
  generalize x b = q at hle
  induction s with
  | bot => simp at h0
  | top =>
    rw [Ideal.sqrt_top, max_eq_left le_top]
    have : Ideal.div q ⊤ = 0 := by
      unfold Ideal.div
      rw [if_neg (by simp), EReal.inv_top, mul_zero]
    rw [this]; simp
  | coe r =>
    have hr : ¬ r < 0 := not_lt.2 (by exact_mod_cast h0)
    rw [Ideal.sqrt_coe, if_neg hr]
    have hm : max ((Real.sqrt r : ℝ) : EReal) (e : EReal) = ((max (Real.sqrt r) e : ℝ) : EReal) := (EReal.coe_strictMono.monotone.map_max).symm
    rw [hm, Ideal.div_coe (lt_of_lt_of_le he (le_max_right _ _)).ne']
    induction q with
    | bot => simp at hle
    | top => simp at hle
    | coe p => rw [← EReal.coe_mul, EReal.toReal_coe]

/-- One where a row is of class `a` and rightly classified, else zero. -/
def share (t : BitVec 32) (y : Fin 101 → EReal) (a : ℕ) : ℝ :=
  if t = BitVec.ofNat 32 a ∧ t = BitVec.ofNat 32 (first y).val then 1 else 0

theorem weight_real (t : BitVec 32) (y : Fin 101 → EReal) (a : ℕ) : hit t a * right t y = ((share t y a : ℝ) : EReal) := by
  unfold hit right share
  by_cases h : t = BitVec.ofNat 32 a <;> by_cases g : t = BitVec.ofNat 32 (first y).val <;> simp [h, g]
  all_goals simp_all

/-- A row is of one class only. -/
theorem share_mul (t : BitVec 32) (y : Fin 101 → EReal) (a b : ℕ) (ha : a < 128) (hb : b < 128) :
    share t y a * share t y b = if a = b then share t y b else 0 := by
  by_cases e : a = b
  · subst e; unfold share; split <;> simp
  · rw [if_neg e]
    unfold share
    by_cases h : t = BitVec.ofNat 32 a
    · have : t ≠ BitVec.ofNat 32 b := fun g => e (by
        have q := congrArg BitVec.toNat (h.symm.trans g)
        simp only [BitVec.toNat_ofNat] at q
        omega)
      rw [if_neg (fun g : t = BitVec.ofNat 32 b ∧ _ => this g.1), mul_zero]
    · rw [if_neg (fun g : t = BitVec.ofNat 32 a ∧ _ => h g.1), zero_mul]

/-- A real update of an extended real entry. -/
theorem updated_real (n : EReal) (f : ℝ) (a b : Fin 128) :
    updated n (f : EReal) a b = n + ((f - (if a.val = b.val then f else 0) * (1 / 2) : ℝ) : EReal) := by
  unfold updated
  rw [half, EReal.coe_sub, sub_eq_add_neg, sub_eq_add_neg, add_assoc, EReal.coe_mul]
  congr 3
  by_cases h : a = b
  · subst h; simp
  · rw [if_neg h, if_neg (fun q => h (Fin.ext q))]; simp

/-- The product of two rows' unit features, -/
def product (x y : Fin 128 → EReal) : ℝ := ∑ k, (unit x k).toReal * (unit y k).toReal

theorem product_comm (x y : Fin 128 → EReal) : product x y = product y x := Finset.sum_congr rfl fun _ _ => mul_comm _ _

/-- as an extended real. -/
theorem product_real (x y : Fin 128 → EReal) : ∑ k, unit x k * unit y k = ((product x y : ℝ) : EReal) := by
  unfold product
  rw [← sum_coe]
  refine Finset.sum_congr rfl fun k _ => ?_
  rw [EReal.coe_mul, ← unit_real, ← unit_real]

end Cert.Reals

end

end
-- ==== Proof.Tail.lean ====
module

public import proofs.«01_k».proof.Proof.Body
public import proofs.«01_k».proof.Proof.Rows
public import Idealize.ShloMosaic.Lib.Pipeline.ValueKit
public import Idealize.ShloMosaic.Lib.Claim

/-!
# What the host returns

The five results are cut out of what the last grid point wrote.
-/

@[expose] public section

set_option maxRecDepth 16384

noncomputable section

namespace Cert.KernelIdeal.Tail

open Idealize.ShloMosaic Idealize.ShloMosaic.TcCoe Idealize.SL.Sem
open Cert.KernelIdeal Cert.KernelIdeal.Gen Cert.KernelIdeal.Body Cert.KernelIdeal.Rows

variable {F : FTy → Type} [FloatOps F] [Named F]
variable (m : (ℓ : Loc nD τ sig) → Buf (Elt F) ℓ) (ρ : Dev nD → PrngReg) (c : Dev nD)

/-- The three arrays after the launch are what the last point wrote. -/
theorem array_12 : (dats m 0 c).arrAt 12 cfg0.N = res12 m c := by
  refine (dats m 0 c).arrAt_eq_of_after_last 12 t0_2 (by decide +kernel) _ fun j => ?_
  blk_simp
  rw [after_12]
theorem array_13 : (dats m 0 c).arrAt 13 cfg0.N = res13 m c := by
  refine (dats m 0 c).arrAt_eq_of_after_last 13 t0_2 (by decide +kernel) _ fun j => ?_
  blk_simp
  rw [after_13]
theorem array_14 : (dats m 0 c).arrAt 14 cfg0.N = res14 m c := by
  refine (dats m 0 c).arrAt_eq_of_after_last 14 t0_2 (by decide +kernel) _ fun j => ?_
  blk_simp
  rw [after_14]

/-- The buffers when the launch has ended. -/
def after : Valuation τ sig (Elt F) :=
  Pipeline.withArrays cfg0.spec c (V0 m c) fun w => (dats m 0 c).arrAt w cfg0.N

theorem after_arr (w : Fin cfg0.W) : after m c (Proc.devRef .tc (Pipeline.arrRef cfg0.spec w)) = (dats m 0 c).arrAt w cfg0.N :=
  (dats m 0 c).withArrays_arrAt sharedIn0 (V0 m c) (A_eq m c) w

/-- The host's last steps cut the results out. -/
theorem tails (W : Valuation τ sig (Elt F)) :
    StableHlo.after hostOps1 W (Proc.devRef .tc main_v10)
        = extractStridedSlice S101x101 ![0, 0] (W (Proc.devRef .tc main_v9_0)) slices_S128x128_S101x101_0_0
    ∧ StableHlo.after hostOps1 W (Proc.devRef .tc main_v11)
        = extractStridedSlice S101x101 ![0, 0] (W (Proc.devRef .tc main_v9_1)) slices_S128x128_S101x101_0_0
    ∧ StableHlo.after hostOps1 W (Proc.devRef .tc main_v13)
        = shapeCast S_ (extractStridedSlice S1x1 ![0, 0] (W (Proc.devRef .tc main_v9_2)) slices_S1x128_S1x1_0_0) shapeCasts_S1x1_S_
    ∧ StableHlo.after hostOps1 W (Proc.devRef .tc main_v15)
        = shapeCast S_ (extractStridedSlice S1x1 ![0, 1] (W (Proc.devRef .tc main_v9_2)) slices_S1x128_S1x1_0_1) shapeCasts_S1x1_S_
    ∧ StableHlo.after hostOps1 W (Proc.devRef .tc main_v17)
        = shapeCast S_ (extractStridedSlice S1x1 ![0, 2] (W (Proc.devRef .tc main_v9_2)) slices_S1x128_S1x1_0_2) shapeCasts_S1x1_S_ := by
  simp only [hostOps1, StableHlo.after_cons, StableHlo.after_nil]
  after_results_simp
  exact ⟨trivial, trivial, rfl, rfl, rfl⟩

/-- A matrix cut to its first 101 rows and lanes, -/
theorem cut (x : Vec F S128x128 .f32) (a b : Fin 101) :
    extractStridedSlice S101x101 ![0, 0] x slices_S128x128_S101x101_0_0 (ix2 a b) = x (ix2 (lane a) (lane b)) := by
  pointwise
  rfl

/-- and a row cut to one of its first three lanes. -/
theorem cut_0 (x : Vec F S1x128 .f32) (i : S_.Idx) :
    shapeCast S_ (extractStridedSlice S1x1 ![0, 0] (x) slices_S1x128_S1x1_0_0) shapeCasts_S1x1_S_ i = x (ix2 0 0) := by
  pointwise
theorem cut_1 (x : Vec F S1x128 .f32) (i : S_.Idx) :
    shapeCast S_ (extractStridedSlice S1x1 ![0, 1] (x) slices_S1x128_S1x1_0_1) shapeCasts_S1x1_S_ i = x (ix2 0 1) := by
  pointwise
theorem cut_2 (x : Vec F S1x128 .f32) (i : S_.Idx) :
    shapeCast S_ (extractStridedSlice S1x1 ![0, 2] (x) slices_S1x128_S1x1_0_2) shapeCasts_S1x1_S_ i = x (ix2 0 2) := by
  pointwise

/-- The run's five results. -/
theorem results : θ_run defs (onTc (τ := τ) (main (F := F))) ⟨m, fun _ => 0, ρ⟩ (fun r => ∀ c : Dev nD,
      r.2.mem ((c.tc : Thread nD τ).loc main_v10) = extractStridedSlice S101x101 ![0, 0] (res12 m c) slices_S128x128_S101x101_0_0
      ∧ r.2.mem ((c.tc : Thread nD τ).loc main_v11) = extractStridedSlice S101x101 ![0, 0] (res13 m c) slices_S128x128_S101x101_0_0
      ∧ r.2.mem ((c.tc : Thread nD τ).loc main_v13)
        = shapeCast S_ (extractStridedSlice S1x1 ![0, 0] (res14 m c) slices_S1x128_S1x1_0_0) shapeCasts_S1x1_S_
      ∧ r.2.mem ((c.tc : Thread nD τ).loc main_v15)
        = shapeCast S_ (extractStridedSlice S1x1 ![0, 1] (res14 m c) slices_S1x128_S1x1_0_1) shapeCasts_S1x1_S_
      ∧ r.2.mem ((c.tc : Thread nD τ).loc main_v17)
        = shapeCast S_ (extractStridedSlice S1x1 ![0, 2] (res14 m c) slices_S1x128_S1x1_0_2) shapeCasts_S1x1_S_) := by
  refine (θ_run defs _ _).mono (fun r h c => ?_) (main_run m ρ)
  have t := tails (after m c)
  rw [show after m c (Proc.devRef .tc main_v9_0) = res12 m c from (after_arr m c 12).trans (array_12 m c),
    show after m c (Proc.devRef .tc main_v9_1) = res13 m c from (after_arr m c 13).trans (array_13 m c),
    show after m c (Proc.devRef .tc main_v9_2) = res14 m c from (after_arr m c 14).trans (array_14 m c)] at t
  have e : ∀ b, Pipeline.afterTail₀ cfgs (dats m) 0 (V0 m) [hostOps1] c b = StableHlo.after hostOps1 (after m c) (Proc.devRef .tc b) := by
    intro b
    unfold Pipeline.afterTail₀
    simp only [List.flatten_cons, List.flatten_nil, List.append_nil]
    rfl
  refine ⟨?_, ?_, ?_, ?_, ?_⟩
  · exact (((h.1 c).2 _ (Pipeline.mem_restRefs_of main_v10 (by decide) (by decide))).trans (e _)).trans t.1
  · exact (((h.1 c).2 _ (Pipeline.mem_restRefs_of main_v11 (by decide) (by decide))).trans (e _)).trans t.2.1
  · exact (((h.1 c).2 _ (Pipeline.mem_restRefs_of main_v13 (by decide) (by decide))).trans (e _)).trans t.2.2.1
  · exact (((h.1 c).2 _ (Pipeline.mem_restRefs_of main_v15 (by decide) (by decide))).trans (e _)).trans t.2.2.2.1
  · exact (((h.1 c).2 _ (Pipeline.mem_restRefs_of main_v17 (by decide) (by decide))).trans (e _)).trans t.2.2.2.2

end Cert.KernelIdeal.Tail

end

end
-- ==== Proof.KernelMatrix.lean ====
module

public import proofs.«01_k».proof.Proof.Reals
public import proofs.«01_k».proof.Proof.Tail

/-!
# The kernel's two matrices

An entry of each is the argument's with a real update, the sum over the pairs of rows of its two classes.
-/

@[expose] public section

set_option maxRecDepth 16384

noncomputable section

namespace Cert.KernelIdeal.Matrix

open Idealize.ShloMosaic Idealize.ShloMosaic.TcCoe Idealize.SL.Sem
open Cert.KernelIdeal Cert.KernelIdeal.Gen Cert.KernelIdeal.Step Cert.KernelIdeal.Body Cert.KernelIdeal.Rows Cert.KernelIdeal.Sums Cert.KernelIdeal.Outs Cert.KernelIdeal.Blocks Cert.Pairs Cert.Reals

variable (m : (ℓ : Loc nD τ sig) → Buf (Elt Ideal) ℓ) (c : Dev nD)

/-- Row `i`'s share in class `a`, a real number. -/
def part (i : Fin 4096) (a : ℕ) : ℝ := share (target m c i) (logit m c i) a

theorem weight_part (i : Fin 4096) (a : ℕ) : weight m c i a = ((part m c i a : ℝ) : EReal) := weight_real _ _ _

theorem u_real (a : Fin 128) : ((acc2 m c).u (ix2 0 a) : EReal) = ((∑ i, part m c i a : ℝ) : EReal) := by
  rw [acc_u, ← sum_coe]
  exact Finset.sum_congr rfl fun i _ => weight_part m c i a

theorem g_real (a b : Fin 128) :
    ((acc2 m c).g (ix2 a b) : EReal) = ((∑ i, part m c i a * (unit (feature m c i) b).toReal : ℝ) : EReal) := by
  rw [acc_g, ← sum_coe]
  refine Finset.sum_congr rfl fun i _ => ?_
  rw [weight_part, EReal.coe_mul, ← unit_real]

theorem dv_real (a : Fin 128) : ((acc2 m c).dv (ix2 0 a) : EReal)
    = ((∑ i, part m c i a * product (feature m c i) (feature m c i) : ℝ) : EReal) := by
  rw [acc_dv, ← sum_coe]
  refine Finset.sum_congr rfl fun i _ => ?_
  rw [weight_part, EReal.coe_mul, product_real]

/-- What is added to an entry of the similarity matrix before the diagonal is halved. -/
theorem sim_real (a b : Fin 128) :
    simAdd (fun a k => ((acc2 m c).g (ix2 a k) : EReal)) (fun a => ((acc2 m c).dv (ix2 0 a) : EReal)) a b
      = (((∑ i, ∑ j, part m c i a * part m c j b * product (feature m c i) (feature m c j))
          - (if a.val = b.val then ∑ i, part m c i b * product (feature m c i) (feature m c i) else 0) : ℝ) : EReal) := by
  unfold simAdd
  simp only [g_real, dv_real]
  simp only [← EReal.coe_mul, sum_coe]
  rw [gram (fun i => part m c i a) (fun i => part m c i b) (fun i k => (unit (feature m c i) k).toReal), EReal.coe_sub]
  congr 1
  by_cases h : a = b
  · subst h; simp
  · rw [if_neg h, if_neg (fun q => h (Fin.ext q))]; simp

theorem cnt_real (a b : Fin 128) :
    cntAdd (fun a => ((acc2 m c).u (ix2 0 a) : EReal)) a b
      = (((∑ i, ∑ j, part m c i a * part m c j b * 1) - (if a.val = b.val then ∑ i, part m c i b * 1 else 0) : ℝ) : EReal) := by
  unfold cntAdd
  simp only [u_real]
  rw [← EReal.coe_mul, EReal.coe_sub, Finset.sum_mul_sum]
  simp only [mul_one]
  congr 1
  by_cases h : a = b
  · subst h; simp
  · rw [if_neg h, if_neg (fun q => h (Fin.ext q))]; simp

theorem part_mul (a b : Fin 128) (i : Fin 4096) :
    part m c i a * part m c i b = if a.val = b.val then part m c i b else 0 :=
  share_mul _ _ _ _ a.isLt b.isLt

/-- The two matrices given. -/
def sim0 (a b : Fin 101) : EReal := m ((c : Thread nD τ).loc main_arg5) (ix2 a b)
def cnt0 (a b : Fin 101) : EReal := m ((c : Thread nD τ).loc main_arg6) (ix2 a b)

/-- The similarity matrix. -/
theorem sim_entry (a b : Fin 101) :
    (res12 m c (ix2 (lane a) (lane b)) : EReal) = sim0 m c a b
      + ((update (part m c) (fun i j => product (feature m c i) (feature m c j)) a.val b.val : ℝ) : EReal) := by
  rw [res12, simOut_apply, sim_real, updated_real]
  rw [update_eq (part m c) (fun i j => product (feature m c i) (feature m c j)) (fun i j => product_comm _ _) (lane a).val (lane b).val
    (part_mul m c (lane a) (lane b))]
  exact congrArg (· + _) (sims m c a b)

/-- The count matrix. -/
theorem cnt_entry (a b : Fin 101) :
    (res13 m c (ix2 (lane a) (lane b)) : EReal) = cnt0 m c a b
      + ((update (part m c) (fun _ _ => 1) a.val b.val : ℝ) : EReal) := by
  rw [res13, cntOut_apply, cnt_real, updated_real]
  rw [update_eq (part m c) (fun _ _ => 1) (fun i j => rfl) (lane a).val (lane b).val (part_mul m c (lane a) (lane b))]
  exact congrArg (· + _) (counts m c a b)

end Cert.KernelIdeal.Matrix

end

end
-- ==== Proof.RefRead.lean ====
/- The reference program, one operation at a time: `val_<buffer>` is the value an operation writes, as a function of
   the arguments it depends on; `val_<buffer>_eq` says that a result of the run is its `val_`. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- @log_softmax's %cst = stablehlo.constant dense<0xFF800000> : tensor<f32>, in %0 = func.call @log_softmax(…)
def val_main_call0_cst : (⟨S_, .f32⟩ : BufTy).Contents (Elt F) :=
  constant S_ .f32 0xFF800000#32

-- @log_softmax's %0 = stablehlo.reduce(%arg0 init: %cst) applies stablehlo.maximum across dimensions = [1] : (tensor<4096x101xf32>, tensor<f32>) -> tensor<4096xf32> {, in %0 = func.call @log_softmax(…)
def val_main_call0_v0 (x2 : (⟨S4096x101, .f32⟩ : BufTy).Contents (Elt F)) : (⟨S4096, .f32⟩ : BufTy).Contents (Elt F) :=
  Host.reduce FloatOps.maximumf (x2) (val_main_call0_cst (F := F)) reducesTo_S4096x101_S4096_d1 h_S_

-- @log_softmax's %cst_0 = stablehlo.constant dense<0xFF800000> : tensor<f32>, in %0 = func.call @log_softmax(…)
def val_main_call0_cst_0 : (⟨S_, .f32⟩ : BufTy).Contents (Elt F) :=
  constant S_ .f32 0xFF800000#32

-- @log_softmax's %1 = stablehlo.broadcast_in_dim %cst_0, dims = [] : (tensor<f32>) -> tensor<4096xf32>, in %0 = func.call @log_softmax(…)
def val_main_call0_v1 : (⟨S4096, .f32⟩ : BufTy).Contents (Elt F) :=
  broadcastInDim S4096 ![] bcast_S_S4096 (val_main_call0_cst_0 (F := F))

-- @log_softmax's %2 = stablehlo.maximum %1, %0 : tensor<4096xf32>, in %0 = func.call @log_softmax(…)
def val_main_call0_v2 (x2 : (⟨S4096x101, .f32⟩ : BufTy).Contents (Elt F)) : (⟨S4096, .f32⟩ : BufTy).Contents (Elt F) :=
  maximumf (val_main_call0_v1 (F := F)) (val_main_call0_v0 (F := F) x2)

-- @log_softmax's %3 = stablehlo.broadcast_in_dim %2, dims = [0] : (tensor<4096xf32>) -> tensor<4096x1xf32>, in %0 = func.call @log_softmax(…)
def val_main_call0_v3 (x2 : (⟨S4096x101, .f32⟩ : BufTy).Contents (Elt F)) : (⟨S4096x1, .f32⟩ : BufTy).Contents (Elt F) :=
  broadcastInDim S4096x1 ![0] bcast_S4096_S4096x1_0 (val_main_call0_v2 (F := F) x2)

-- @log_softmax's %4 = stablehlo.broadcast_in_dim %3, dims = [0, 1] : (tensor<4096x1xf32>) -> tensor<4096x101xf32>, in %0 = func.call @log_softmax(…)
def val_main_call0_v4 (x2 : (⟨S4096x101, .f32⟩ : BufTy).Contents (Elt F)) : (⟨S4096x101, .f32⟩ : BufTy).Contents (Elt F) :=
  broadcastInDim S4096x101 ![0, 1] bcast_S4096x1_S4096x101_0_1 (val_main_call0_v3 (F := F) x2)

-- @log_softmax's %5 = stablehlo.subtract %arg0, %4 : tensor<4096x101xf32>, in %0 = func.call @log_softmax(…)
def val_main_call0_v5 (x2 : (⟨S4096x101, .f32⟩ : BufTy).Contents (Elt F)) : (⟨S4096x101, .f32⟩ : BufTy).Contents (Elt F) :=
  subf (x2) (val_main_call0_v4 (F := F) x2)

-- @log_softmax's %6 = stablehlo.exponential %5 : tensor<4096x101xf32>, in %0 = func.call @log_softmax(…)
def val_main_call0_v6 (x2 : (⟨S4096x101, .f32⟩ : BufTy).Contents (Elt F)) : (⟨S4096x101, .f32⟩ : BufTy).Contents (Elt F) :=
  Host.exp (val_main_call0_v5 (F := F) x2)

-- @log_softmax's %cst_1 = stablehlo.constant dense<0.000000e+00> : tensor<f32>, in %0 = func.call @log_softmax(…)
def val_main_call0_cst_1 : (⟨S_, .f32⟩ : BufTy).Contents (Elt F) :=
  constant S_ .f32 0x00000000#32

-- @log_softmax's %7 = stablehlo.reduce(%6 init: %cst_1) applies stablehlo.add across dimensions = [1] : (tensor<4096x101xf32>, tensor<f32>) -> tensor<4096xf32> {, in %0 = func.call @log_softmax(…)
def val_main_call0_v7 (x2 : (⟨S4096x101, .f32⟩ : BufTy).Contents (Elt F)) : (⟨S4096, .f32⟩ : BufTy).Contents (Elt F) :=
  Host.reduceAdd (val_main_call0_v6 (F := F) x2) (val_main_call0_cst_1 (F := F)) reducesTo_S4096x101_S4096_d1 h_S_

-- @log_softmax's %8 = stablehlo.broadcast_in_dim %7, dims = [0] : (tensor<4096xf32>) -> tensor<4096x1xf32>, in %0 = func.call @log_softmax(…)
def val_main_call0_v8 (x2 : (⟨S4096x101, .f32⟩ : BufTy).Contents (Elt F)) : (⟨S4096x1, .f32⟩ : BufTy).Contents (Elt F) :=
  broadcastInDim S4096x1 ![0] bcast_S4096_S4096x1_0 (val_main_call0_v7 (F := F) x2)

-- @log_softmax's %9 = stablehlo.log %8 : tensor<4096x1xf32>, in %0 = func.call @log_softmax(…)
def val_main_call0_v9 (x2 : (⟨S4096x101, .f32⟩ : BufTy).Contents (Elt F)) : (⟨S4096x1, .f32⟩ : BufTy).Contents (Elt F) :=
  Host.log (val_main_call0_v8 (F := F) x2)

-- @log_softmax's %10 = stablehlo.broadcast_in_dim %9, dims = [0, 1] : (tensor<4096x1xf32>) -> tensor<4096x101xf32>, in %0 = func.call @log_softmax(…)
def val_main_call0_v10 (x2 : (⟨S4096x101, .f32⟩ : BufTy).Contents (Elt F)) : (⟨S4096x101, .f32⟩ : BufTy).Contents (Elt F) :=
  broadcastInDim S4096x101 ![0, 1] bcast_S4096x1_S4096x101_0_1 (val_main_call0_v9 (F := F) x2)

-- %0 = func.call @log_softmax(…) result 0: @log_softmax's %11 = stablehlo.subtract %5, %10 : tensor<4096x101xf32>
def val_main_v0 (x2 : (⟨S4096x101, .f32⟩ : BufTy).Contents (Elt F)) : (⟨S4096x101, .f32⟩ : BufTy).Contents (Elt F) :=
  subf (val_main_call0_v5 (F := F) x2) (val_main_call0_v10 (F := F) x2)

-- %1 = stablehlo.broadcast_in_dim %arg3, dims = [0] : (tensor<4096xi32>) -> tensor<4096x1xi32>
def val_main_v1 (x3 : (⟨S4096, .i32⟩ : BufTy).Contents (Elt F)) : (⟨S4096x1, .i32⟩ : BufTy).Contents (Elt F) :=
  broadcastInDim S4096x1 ![0] bcast_S4096_S4096x1_0 (x3)

-- @take_along_axis's %c = stablehlo.constant dense<0> : tensor<i32>, in %2 = func.call @take_along_axis(…)
def val_main_call1_c : (⟨S_, .i32⟩ : BufTy).Contents (Elt F) :=
  constantI S_ 32 0#32

-- @take_along_axis's %0 = stablehlo.broadcast_in_dim %c, dims = [] : (tensor<i32>) -> tensor<4096x1xi32>, in %2 = func.call @take_along_axis(…)
def val_main_call1_v0 : (⟨S4096x1, .i32⟩ : BufTy).Contents (Elt F) :=
  broadcastInDim S4096x1 ![] bcast_S_S4096x1 (val_main_call1_c (F := F))

-- @take_along_axis's %1 = stablehlo.compare LT, %arg1, %0, SIGNED : (tensor<4096x1xi32>, tensor<4096x1xi32>) -> tensor<4096x1xi1>, in %2 = func.call @take_along_axis(…)
def val_main_call1_v1 (x3 : (⟨S4096, .i32⟩ : BufTy).Contents (Elt F)) : (⟨S4096x1, .i1⟩ : BufTy).Contents (Elt F) :=
  cmpi .slt (val_main_v1 (F := F) x3) (val_main_call1_v0 (F := F))

-- @take_along_axis's %c_0 = stablehlo.constant dense<101> : tensor<i32>, in %2 = func.call @take_along_axis(…)
def val_main_call1_c_0 : (⟨S_, .i32⟩ : BufTy).Contents (Elt F) :=
  constantI S_ 32 101#32

-- @take_along_axis's %2 = stablehlo.broadcast_in_dim %c_0, dims = [] : (tensor<i32>) -> tensor<4096x1xi32>, in %2 = func.call @take_along_axis(…)
def val_main_call1_v2 : (⟨S4096x1, .i32⟩ : BufTy).Contents (Elt F) :=
  broadcastInDim S4096x1 ![] bcast_S_S4096x1 (val_main_call1_c_0 (F := F))

-- @take_along_axis's %3 = stablehlo.add %arg1, %2 : tensor<4096x1xi32>, in %2 = func.call @take_along_axis(…)
def val_main_call1_v3 (x3 : (⟨S4096, .i32⟩ : BufTy).Contents (Elt F)) : (⟨S4096x1, .i32⟩ : BufTy).Contents (Elt F) :=
  addi (val_main_v1 (F := F) x3) (val_main_call1_v2 (F := F))

-- @take_along_axis's %4 = stablehlo.select %1, %3, %arg1 : tensor<4096x1xi1>, tensor<4096x1xi32>, in %2 = func.call @take_along_axis(…)
def val_main_call1_v4 (x3 : (⟨S4096, .i32⟩ : BufTy).Contents (Elt F)) : (⟨S4096x1, .i32⟩ : BufTy).Contents (Elt F) :=
  select (val_main_call1_v1 (F := F) x3) (val_main_call1_v3 (F := F) x3) (val_main_v1 (F := F) x3)

-- @take_along_axis's %5 = stablehlo.reshape %4 : (tensor<4096x1xi32>) -> tensor<4096x1x1xi32>, in %2 = func.call @take_along_axis(…)
def val_main_call1_v5 (x3 : (⟨S4096, .i32⟩ : BufTy).Contents (Elt F)) : (⟨S4096x1x1, .i32⟩ : BufTy).Contents (Elt F) :=
  shapeCast _ (val_main_call1_v4 (F := F) x3) shapeCasts_S4096x1_S4096x1x1

-- @take_along_axis's %c_1 = stablehlo.constant dense<100> : tensor<1xi32>, in %2 = func.call @take_along_axis(…)
def val_main_call1_c_1 : (⟨S1, .i32⟩ : BufTy).Contents (Elt F) :=
  constantI S1 32 100#32

-- @take_along_axis's %c_2 = stablehlo.constant dense<0> : tensor<i32>, in %2 = func.call @take_along_axis(…)
def val_main_call1_c_2 : (⟨S_, .i32⟩ : BufTy).Contents (Elt F) :=
  constantI S_ 32 0#32

-- @take_along_axis's %6 = stablehlo.broadcast_in_dim %c_2, dims = [] : (tensor<i32>) -> tensor<4096x1x1xi32>, in %2 = func.call @take_along_axis(…)
def val_main_call1_v6 : (⟨S4096x1x1, .i32⟩ : BufTy).Contents (Elt F) :=
  broadcastInDim S4096x1x1 ![] bcast_S_S4096x1x1 (val_main_call1_c_2 (F := F))

-- @take_along_axis's %7 = stablehlo.compare GE, %5, %6, SIGNED : (tensor<4096x1x1xi32>, tensor<4096x1x1xi32>) -> tensor<4096x1x1xi1>, in %2 = func.call @take_along_axis(…)
def val_main_call1_v7 (x3 : (⟨S4096, .i32⟩ : BufTy).Contents (Elt F)) : (⟨S4096x1x1, .i1⟩ : BufTy).Contents (Elt F) :=
  cmpi .sge (val_main_call1_v5 (F := F) x3) (val_main_call1_v6 (F := F))

-- @take_along_axis's %8 = stablehlo.broadcast_in_dim %c_1, dims = [2] : (tensor<1xi32>) -> tensor<1x1x1xi32>, in %2 = func.call @take_along_axis(…)
def val_main_call1_v8 : (⟨S1x1x1, .i32⟩ : BufTy).Contents (Elt F) :=
  broadcastInDim S1x1x1 ![2] bcast_S1_S1x1x1_2 (val_main_call1_c_1 (F := F))

-- @take_along_axis's %9 = stablehlo.broadcast_in_dim %8, dims = [0, 1, 2] : (tensor<1x1x1xi32>) -> tensor<4096x1x1xi32>, in %2 = func.call @take_along_axis(…)
def val_main_call1_v9 : (⟨S4096x1x1, .i32⟩ : BufTy).Contents (Elt F) :=
  broadcastInDim S4096x1x1 ![0, 1, 2] bcast_S1x1x1_S4096x1x1_0_1_2 (val_main_call1_v8 (F := F))

-- @take_along_axis's %10 = stablehlo.compare LE, %5, %9, SIGNED : (tensor<4096x1x1xi32>, tensor<4096x1x1xi32>) -> tensor<4096x1x1xi1>, in %2 = func.call @take_along_axis(…)
def val_main_call1_v10 (x3 : (⟨S4096, .i32⟩ : BufTy).Contents (Elt F)) : (⟨S4096x1x1, .i1⟩ : BufTy).Contents (Elt F) :=
  cmpi .sle (val_main_call1_v5 (F := F) x3) (val_main_call1_v9 (F := F))

-- @take_along_axis's %11 = stablehlo.and %7, %10 : tensor<4096x1x1xi1>, in %2 = func.call @take_along_axis(…)
def val_main_call1_v11 (x3 : (⟨S4096, .i32⟩ : BufTy).Contents (Elt F)) : (⟨S4096x1x1, .i1⟩ : BufTy).Contents (Elt F) :=
  andi (val_main_call1_v7 (F := F) x3) (val_main_call1_v10 (F := F) x3)

-- @take_along_axis's %c_3 = stablehlo.constant dense<true> : tensor<i1>, in %2 = func.call @take_along_axis(…)
def val_main_call1_c_3 : (⟨S_, .i1⟩ : BufTy).Contents (Elt F) :=
  constantI S_ 1 1#1

-- @take_along_axis's %12 = stablehlo.reduce(%11 init: %c_3) applies stablehlo.and across dimensions = [2] : (tensor<4096x1x1xi1>, tensor<i1>) -> tensor<4096x1xi1> {, in %2 = func.call @take_along_axis(…)
def val_main_call1_v12 (x3 : (⟨S4096, .i32⟩ : BufTy).Contents (Elt F)) : (⟨S4096x1, .i1⟩ : BufTy).Contents (Elt F) :=
  Host.reduce IntOp.andi (val_main_call1_v11 (F := F) x3) (val_main_call1_c_3 (F := F)) reducesTo_S4096x1x1_S4096x1_d2 h_S_

-- @take_along_axis's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<4096x101xf32>, tensor<4096x1x1xi32>) -> tensor<4096x1xf32>, in %2 = func.call @take_along_axis(…)
def val_main_call1_v13 (x2 : (⟨S4096x101, .f32⟩ : BufTy).Contents (Elt F)) (x3 : (⟨S4096, .i32⟩ : BufTy).Contents (Elt F)) : (⟨S4096x1, .f32⟩ : BufTy).Contents (Elt F) :=
  Host.gather gather_S4096x101_S4096x1x1_S4096x1_n_1_0_0_1_2_11 (val_main_v0 (F := F) x2) (val_main_call1_v5 (F := F) x3)

-- @take_along_axis's %cst = stablehlo.constant dense<0x7FC00000> : tensor<f32>, in %2 = func.call @take_along_axis(…)
def val_main_call1_cst : (⟨S_, .f32⟩ : BufTy).Contents (Elt F) :=
  constant S_ .f32 0x7FC00000#32

-- @take_along_axis's %14 = stablehlo.broadcast_in_dim %cst, dims = [] : (tensor<f32>) -> tensor<4096x1xf32>, in %2 = func.call @take_along_axis(…)
def val_main_call1_v14 : (⟨S4096x1, .f32⟩ : BufTy).Contents (Elt F) :=
  broadcastInDim S4096x1 ![] bcast_S_S4096x1 (val_main_call1_cst (F := F))

-- %2 = func.call @take_along_axis(…) result 0: @take_along_axis's %15 = stablehlo.select %12, %13, %14 : tensor<4096x1xi1>, tensor<4096x1xf32>
def val_main_v2 (x2 : (⟨S4096x101, .f32⟩ : BufTy).Contents (Elt F)) (x3 : (⟨S4096, .i32⟩ : BufTy).Contents (Elt F)) : (⟨S4096x1, .f32⟩ : BufTy).Contents (Elt F) :=
  select (val_main_call1_v12 (F := F) x3) (val_main_call1_v13 (F := F) x2 x3) (val_main_call1_v14 (F := F))

-- %3 = stablehlo.reshape %2 : (tensor<4096x1xf32>) -> tensor<4096xf32>
def val_main_v3 (x2 : (⟨S4096x101, .f32⟩ : BufTy).Contents (Elt F)) (x3 : (⟨S4096, .i32⟩ : BufTy).Contents (Elt F)) : (⟨S4096, .f32⟩ : BufTy).Contents (Elt F) :=
  shapeCast _ (val_main_v2 (F := F) x2 x3) shapeCasts_S4096x1_S4096

-- %4 = stablehlo.negate %3 : tensor<4096xf32>
def val_main_v4 (x2 : (⟨S4096x101, .f32⟩ : BufTy).Contents (Elt F)) (x3 : (⟨S4096, .i32⟩ : BufTy).Contents (Elt F)) : (⟨S4096, .f32⟩ : BufTy).Contents (Elt F) :=
  Host.negf (val_main_v3 (F := F) x2 x3)

-- %cst = stablehlo.constant dense<0.000000e+00> : tensor<f32>
def val_main_cst : (⟨S_, .f32⟩ : BufTy).Contents (Elt F) :=
  constant S_ .f32 0x00000000#32

-- %5 = stablehlo.reduce(%4 init: %cst) applies stablehlo.add across dimensions = [0] : (tensor<4096xf32>, tensor<f32>) -> tensor<f32> {
def val_main_v5 (x2 : (⟨S4096x101, .f32⟩ : BufTy).Contents (Elt F)) (x3 : (⟨S4096, .i32⟩ : BufTy).Contents (Elt F)) : (⟨S_, .f32⟩ : BufTy).Contents (Elt F) :=
  Host.reduceAdd (val_main_v4 (F := F) x2 x3) (val_main_cst (F := F)) reducesTo_S4096_S_d0 h_S_

-- %cst_0 = stablehlo.constant dense<4.096000e+03> : tensor<f32>
def val_main_cst_0 : (⟨S_, .f32⟩ : BufTy).Contents (Elt F) :=
  constant S_ .f32 0x45800000#32

-- %6 = stablehlo.divide %5, %cst_0 : tensor<f32>
def val_main_v6 (x2 : (⟨S4096x101, .f32⟩ : BufTy).Contents (Elt F)) (x3 : (⟨S4096, .i32⟩ : BufTy).Contents (Elt F)) : (⟨S_, .f32⟩ : BufTy).Contents (Elt F) :=
  Host.divf (val_main_v5 (F := F) x2 x3) (val_main_cst_0 (F := F))

-- @norm's %0 = stablehlo.multiply %arg0, %arg0 : tensor<4096x128xf32>, in %7 = func.call @norm(…)
def val_main_call2_v0 (x0 : (⟨S4096x128, .f32⟩ : BufTy).Contents (Elt F)) : (⟨S4096x128, .f32⟩ : BufTy).Contents (Elt F) :=
  mulf (x0) (x0)

-- @norm's %cst = stablehlo.constant dense<0.000000e+00> : tensor<f32>, in %7 = func.call @norm(…)
def val_main_call2_cst : (⟨S_, .f32⟩ : BufTy).Contents (Elt F) :=
  constant S_ .f32 0x00000000#32

-- @norm's %1 = stablehlo.reduce(%0 init: %cst) applies stablehlo.add across dimensions = [1] : (tensor<4096x128xf32>, tensor<f32>) -> tensor<4096xf32> {, in %7 = func.call @norm(…)
def val_main_call2_v1 (x0 : (⟨S4096x128, .f32⟩ : BufTy).Contents (Elt F)) : (⟨S4096, .f32⟩ : BufTy).Contents (Elt F) :=
  Host.reduceAdd (val_main_call2_v0 (F := F) x0) (val_main_call2_cst (F := F)) reducesTo_S4096x128_S4096_d1 h_S_

-- @norm's %2 = stablehlo.broadcast_in_dim %1, dims = [0] : (tensor<4096xf32>) -> tensor<4096x1xf32>, in %7 = func.call @norm(…)
def val_main_call2_v2 (x0 : (⟨S4096x128, .f32⟩ : BufTy).Contents (Elt F)) : (⟨S4096x1, .f32⟩ : BufTy).Contents (Elt F) :=
  broadcastInDim S4096x1 ![0] bcast_S4096_S4096x1_0 (val_main_call2_v1 (F := F) x0)

-- %7 = func.call @norm(…) result 0: @norm's %3 = stablehlo.sqrt %2 : tensor<4096x1xf32>
def val_main_v7 (x0 : (⟨S4096x128, .f32⟩ : BufTy).Contents (Elt F)) : (⟨S4096x1, .f32⟩ : BufTy).Contents (Elt F) :=
  Host.sqrt (val_main_call2_v2 (F := F) x0)

-- %cst_1 = stablehlo.constant dense<9.99999996E-13> : tensor<f32>
def val_main_cst_1 : (⟨S_, .f32⟩ : BufTy).Contents (Elt F) :=
  constant S_ .f32 0x2B8CBCCC#32

-- %8 = stablehlo.broadcast_in_dim %cst_1, dims = [] : (tensor<f32>) -> tensor<4096x1xf32>
def val_main_v8 : (⟨S4096x1, .f32⟩ : BufTy).Contents (Elt F) :=
  broadcastInDim S4096x1 ![] bcast_S_S4096x1 (val_main_cst_1 (F := F))

-- %9 = stablehlo.maximum %7, %8 : tensor<4096x1xf32>
def val_main_v9 (x0 : (⟨S4096x128, .f32⟩ : BufTy).Contents (Elt F)) : (⟨S4096x1, .f32⟩ : BufTy).Contents (Elt F) :=
  maximumf (val_main_v7 (F := F) x0) (val_main_v8 (F := F))

-- %10 = stablehlo.broadcast_in_dim %9, dims = [0, 1] : (tensor<4096x1xf32>) -> tensor<4096x128xf32>
def val_main_v10 (x0 : (⟨S4096x128, .f32⟩ : BufTy).Contents (Elt F)) : (⟨S4096x128, .f32⟩ : BufTy).Contents (Elt F) :=
  broadcastInDim S4096x128 ![0, 1] bcast_S4096x1_S4096x128_0_1 (val_main_v9 (F := F) x0)

-- %11 = stablehlo.divide %arg0, %10 : tensor<4096x128xf32>
def val_main_v11 (x0 : (⟨S4096x128, .f32⟩ : BufTy).Contents (Elt F)) : (⟨S4096x128, .f32⟩ : BufTy).Contents (Elt F) :=
  Host.divf (x0) (val_main_v10 (F := F) x0)

-- %12 = stablehlo.transpose %11, dims = [1, 0] : (tensor<4096x128xf32>) -> tensor<128x4096xf32>
def val_main_v12 (x0 : (⟨S4096x128, .f32⟩ : BufTy).Contents (Elt F)) : (⟨S128x4096, .f32⟩ : BufTy).Contents (Elt F) :=
  transpose S128x4096 [1, 0] (val_main_v11 (F := F) x0) transposes_S4096x128_S128x4096_1_0

-- %13 = stablehlo.dot_general %11, %12, contracting_dims = [1] x [0], precision = [DEFAULT, DEFAULT] : (tensor<4096x128xf32>, tensor<128x4096xf32>) -> tensor<4096x4096xf32>
def val_main_v13 (x0 : (⟨S4096x128, .f32⟩ : BufTy).Contents (Elt F)) : (⟨S4096x4096, .f32⟩ : BufTy).Contents (Elt F) :=
  Host.dotGeneral dot_S4096x128_S128x4096_S4096x4096_1_0_0_1_n_n none (val_main_v11 (F := F) x0) (val_main_v12 (F := F) x0)

-- @argmax's %0 = stablehlo.iota dim = 1 : tensor<4096x101xi32>, in %14 = func.call @argmax(…)
def val_main_call3_v0 : (⟨S4096x101, .i32⟩ : BufTy).Contents (Elt F) :=
  iotaInDim S4096x101 32 1

-- @argmax's %cst = stablehlo.constant dense<0xFF800000> : tensor<f32>, in %14 = func.call @argmax(…)
def val_main_call3_cst : (⟨S_, .f32⟩ : BufTy).Contents (Elt F) :=
  constant S_ .f32 0xFF800000#32

-- @argmax's %c = stablehlo.constant dense<0> : tensor<i32>, in %14 = func.call @argmax(…)
def val_main_call3_c : (⟨S_, .i32⟩ : BufTy).Contents (Elt F) :=
  constantI S_ 32 0#32

-- @argmax's %1:2 = stablehlo.reduce(%arg0 init: %cst), (%0 init: %c) across dimensions = [1] : (tensor<4096x101xf32>, tensor<4096x101xi32>, tensor<f32>, tensor<i32>) -> (tensor<4096xf32>, tensor<4096xi32>) reducer(%arg1: tensor<f32>, %arg3: tensor<f32>) (%arg2: tensor<i32>, %arg4: tensor<i32>) {, in %14 = func.call @argmax(…)
def val_main_call3_v1_0 (x2 : (⟨S4096x101, .f32⟩ : BufTy).Contents (Elt F)) : (⟨S4096, .f32⟩ : BufTy).Contents (Elt F) :=
  (fun j => (Host.argReduce reducer_argmax_f32_i32 (x2) (val_main_call3_v0 (F := F)) (val_main_call3_cst (F := F)) (val_main_call3_c (F := F)) reducesTo_S4096x101_S4096_d1 h_S_ j).1)

-- %14 = func.call @argmax(…) result 0: @argmax's %1:2 = stablehlo.reduce(%arg0 init: %cst), (%0 init: %c) across dimensions = [1] : (tensor<4096x101xf32>, tensor<4096x101xi32>, tensor<f32>, tensor<i32>) -> (tensor<4096xf32>, tensor<4096xi32>) reducer(%arg1: tensor<f32>, %arg3: tensor<f32>) (%arg2: tensor<i32>, %arg4: tensor<i32>) {
def val_main_v14 (x2 : (⟨S4096x101, .f32⟩ : BufTy).Contents (Elt F)) : (⟨S4096, .i32⟩ : BufTy).Contents (Elt F) :=
  (fun j => (Host.argReduce reducer_argmax_f32_i32 (x2) (val_main_call3_v0 (F := F)) (val_main_call3_cst (F := F)) (val_main_call3_c (F := F)) reducesTo_S4096x101_S4096_d1 h_S_ j).2)

-- %15 = stablehlo.compare EQ, %14, %arg3, SIGNED : (tensor<4096xi32>, tensor<4096xi32>) -> tensor<4096xi1>
def val_main_v15 (x2 : (⟨S4096x101, .f32⟩ : BufTy).Contents (Elt F)) (x3 : (⟨S4096, .i32⟩ : BufTy).Contents (Elt F)) : (⟨S4096, .i1⟩ : BufTy).Contents (Elt F) :=
  cmpi .eq (val_main_v14 (F := F) x2) (x3)

-- %16 = stablehlo.iota dim = 0 : tensor<4096xi32>
def val_main_v16 : (⟨S4096, .i32⟩ : BufTy).Contents (Elt F) :=
  iotaInDim S4096 32 0

-- %17 = stablehlo.broadcast_in_dim %15, dims = [0] : (tensor<4096xi1>) -> tensor<4096x1xi1>
def val_main_v17 (x2 : (⟨S4096x101, .f32⟩ : BufTy).Contents (Elt F)) (x3 : (⟨S4096, .i32⟩ : BufTy).Contents (Elt F)) : (⟨S4096x1, .i1⟩ : BufTy).Contents (Elt F) :=
  broadcastInDim S4096x1 ![0] bcast_S4096_S4096x1_0 (val_main_v15 (F := F) x2 x3)

-- %18 = stablehlo.broadcast_in_dim %15, dims = [1] : (tensor<4096xi1>) -> tensor<1x4096xi1>
def val_main_v18 (x2 : (⟨S4096x101, .f32⟩ : BufTy).Contents (Elt F)) (x3 : (⟨S4096, .i32⟩ : BufTy).Contents (Elt F)) : (⟨S1x4096, .i1⟩ : BufTy).Contents (Elt F) :=
  broadcastInDim S1x4096 ![1] bcast_S4096_S1x4096_1 (val_main_v15 (F := F) x2 x3)

-- %19 = stablehlo.broadcast_in_dim %17, dims = [0, 1] : (tensor<4096x1xi1>) -> tensor<4096x4096xi1>
def val_main_v19 (x2 : (⟨S4096x101, .f32⟩ : BufTy).Contents (Elt F)) (x3 : (⟨S4096, .i32⟩ : BufTy).Contents (Elt F)) : (⟨S4096x4096, .i1⟩ : BufTy).Contents (Elt F) :=
  broadcastInDim S4096x4096 ![0, 1] bcast_S4096x1_S4096x4096_0_1 (val_main_v17 (F := F) x2 x3)

-- %20 = stablehlo.broadcast_in_dim %18, dims = [0, 1] : (tensor<1x4096xi1>) -> tensor<4096x4096xi1>
def val_main_v20 (x2 : (⟨S4096x101, .f32⟩ : BufTy).Contents (Elt F)) (x3 : (⟨S4096, .i32⟩ : BufTy).Contents (Elt F)) : (⟨S4096x4096, .i1⟩ : BufTy).Contents (Elt F) :=
  broadcastInDim S4096x4096 ![0, 1] bcast_S1x4096_S4096x4096_0_1 (val_main_v18 (F := F) x2 x3)

-- %21 = stablehlo.and %19, %20 : tensor<4096x4096xi1>
def val_main_v21 (x2 : (⟨S4096x101, .f32⟩ : BufTy).Contents (Elt F)) (x3 : (⟨S4096, .i32⟩ : BufTy).Contents (Elt F)) : (⟨S4096x4096, .i1⟩ : BufTy).Contents (Elt F) :=
  andi (val_main_v19 (F := F) x2 x3) (val_main_v20 (F := F) x2 x3)

-- %22 = stablehlo.broadcast_in_dim %16, dims = [1] : (tensor<4096xi32>) -> tensor<1x4096xi32>
def val_main_v22 : (⟨S1x4096, .i32⟩ : BufTy).Contents (Elt F) :=
  broadcastInDim S1x4096 ![1] bcast_S4096_S1x4096_1 (val_main_v16 (F := F))

-- %23 = stablehlo.broadcast_in_dim %16, dims = [0] : (tensor<4096xi32>) -> tensor<4096x1xi32>
def val_main_v23 : (⟨S4096x1, .i32⟩ : BufTy).Contents (Elt F) :=
  broadcastInDim S4096x1 ![0] bcast_S4096_S4096x1_0 (val_main_v16 (F := F))

-- %24 = stablehlo.broadcast_in_dim %22, dims = [0, 1] : (tensor<1x4096xi32>) -> tensor<4096x4096xi32>
def val_main_v24 : (⟨S4096x4096, .i32⟩ : BufTy).Contents (Elt F) :=
  broadcastInDim S4096x4096 ![0, 1] bcast_S1x4096_S4096x4096_0_1 (val_main_v22 (F := F))

-- %25 = stablehlo.broadcast_in_dim %23, dims = [0, 1] : (tensor<4096x1xi32>) -> tensor<4096x4096xi32>
def val_main_v25 : (⟨S4096x4096, .i32⟩ : BufTy).Contents (Elt F) :=
  broadcastInDim S4096x4096 ![0, 1] bcast_S4096x1_S4096x4096_0_1 (val_main_v23 (F := F))

-- %26 = stablehlo.compare GT, %24, %25, SIGNED : (tensor<4096x4096xi32>, tensor<4096x4096xi32>) -> tensor<4096x4096xi1>
def val_main_v26 : (⟨S4096x4096, .i1⟩ : BufTy).Contents (Elt F) :=
  cmpi .sgt (val_main_v24 (F := F)) (val_main_v25 (F := F))

-- %27 = stablehlo.and %21, %26 : tensor<4096x4096xi1>
def val_main_v27 (x2 : (⟨S4096x101, .f32⟩ : BufTy).Contents (Elt F)) (x3 : (⟨S4096, .i32⟩ : BufTy).Contents (Elt F)) : (⟨S4096x4096, .i1⟩ : BufTy).Contents (Elt F) :=
  andi (val_main_v21 (F := F) x2 x3) (val_main_v26 (F := F))

-- %28 = stablehlo.convert %27 : (tensor<4096x4096xi1>) -> tensor<4096x4096xf32>
def val_main_v28 (x2 : (⟨S4096x101, .f32⟩ : BufTy).Contents (Elt F)) (x3 : (⟨S4096, .i32⟩ : BufTy).Contents (Elt F)) : (⟨S4096x4096, .f32⟩ : BufTy).Contents (Elt F) :=
  uitofp .f32 (val_main_v27 (F := F) x2 x3)

-- %29 = stablehlo.multiply %13, %28 : tensor<4096x4096xf32>
def val_main_v29 (x0 : (⟨S4096x128, .f32⟩ : BufTy).Contents (Elt F)) (x2 : (⟨S4096x101, .f32⟩ : BufTy).Contents (Elt F)) (x3 : (⟨S4096, .i32⟩ : BufTy).Contents (Elt F)) : (⟨S4096x4096, .f32⟩ : BufTy).Contents (Elt F) :=
  mulf (val_main_v13 (F := F) x0) (val_main_v28 (F := F) x2 x3)

-- %30 = stablehlo.broadcast_in_dim %arg3, dims = [0] : (tensor<4096xi32>) -> tensor<4096x1xi32>
def val_main_v30 (x3 : (⟨S4096, .i32⟩ : BufTy).Contents (Elt F)) : (⟨S4096x1, .i32⟩ : BufTy).Contents (Elt F) :=
  broadcastInDim S4096x1 ![0] bcast_S4096_S4096x1_0 (x3)

-- %31 = stablehlo.broadcast_in_dim %30, dims = [0, 1] : (tensor<4096x1xi32>) -> tensor<4096x4096xi32>
def val_main_v31 (x3 : (⟨S4096, .i32⟩ : BufTy).Contents (Elt F)) : (⟨S4096x4096, .i32⟩ : BufTy).Contents (Elt F) :=
  broadcastInDim S4096x4096 ![0, 1] bcast_S4096x1_S4096x4096_0_1 (val_main_v30 (F := F) x3)

-- %32 = stablehlo.broadcast_in_dim %arg3, dims = [1] : (tensor<4096xi32>) -> tensor<1x4096xi32>
def val_main_v32 (x3 : (⟨S4096, .i32⟩ : BufTy).Contents (Elt F)) : (⟨S1x4096, .i32⟩ : BufTy).Contents (Elt F) :=
  broadcastInDim S1x4096 ![1] bcast_S4096_S1x4096_1 (x3)

-- %33 = stablehlo.broadcast_in_dim %32, dims = [0, 1] : (tensor<1x4096xi32>) -> tensor<4096x4096xi32>
def val_main_v33 (x3 : (⟨S4096, .i32⟩ : BufTy).Contents (Elt F)) : (⟨S4096x4096, .i32⟩ : BufTy).Contents (Elt F) :=
  broadcastInDim S4096x4096 ![0, 1] bcast_S1x4096_S4096x4096_0_1 (val_main_v32 (F := F) x3)

-- %cst_2 = stablehlo.constant dense<0.000000e+00> : tensor<f32>
def val_main_cst_2 : (⟨S_, .f32⟩ : BufTy).Contents (Elt F) :=
  constant S_ .f32 0x00000000#32

-- %34 = stablehlo.broadcast_in_dim %cst_2, dims = [] : (tensor<f32>) -> tensor<101x101xf32>
def val_main_v34 : (⟨S101x101, .f32⟩ : BufTy).Contents (Elt F) :=
  broadcastInDim S101x101 ![] bcast_S_S101x101 (val_main_cst_2 (F := F))

-- %c = stablehlo.constant dense<0> : tensor<i32>
def val_main_c : (⟨S_, .i32⟩ : BufTy).Contents (Elt F) :=
  constantI S_ 32 0#32

-- %35 = stablehlo.broadcast_in_dim %c, dims = [] : (tensor<i32>) -> tensor<4096x4096xi32>
def val_main_v35 : (⟨S4096x4096, .i32⟩ : BufTy).Contents (Elt F) :=
  broadcastInDim S4096x4096 ![] bcast_S_S4096x4096 (val_main_c (F := F))

-- %36 = stablehlo.compare LT, %31, %35, SIGNED : (tensor<4096x4096xi32>, tensor<4096x4096xi32>) -> tensor<4096x4096xi1>
def val_main_v36 (x3 : (⟨S4096, .i32⟩ : BufTy).Contents (Elt F)) : (⟨S4096x4096, .i1⟩ : BufTy).Contents (Elt F) :=
  cmpi .slt (val_main_v31 (F := F) x3) (val_main_v35 (F := F))

-- %c_3 = stablehlo.constant dense<101> : tensor<i32>
def val_main_c_3 : (⟨S_, .i32⟩ : BufTy).Contents (Elt F) :=
  constantI S_ 32 101#32

-- %37 = stablehlo.broadcast_in_dim %c_3, dims = [] : (tensor<i32>) -> tensor<4096x4096xi32>
def val_main_v37 : (⟨S4096x4096, .i32⟩ : BufTy).Contents (Elt F) :=
  broadcastInDim S4096x4096 ![] bcast_S_S4096x4096 (val_main_c_3 (F := F))

-- %38 = stablehlo.add %31, %37 : tensor<4096x4096xi32>
def val_main_v38 (x3 : (⟨S4096, .i32⟩ : BufTy).Contents (Elt F)) : (⟨S4096x4096, .i32⟩ : BufTy).Contents (Elt F) :=
  addi (val_main_v31 (F := F) x3) (val_main_v37 (F := F))

-- %39 = stablehlo.select %36, %38, %31 : tensor<4096x4096xi1>, tensor<4096x4096xi32>
def val_main_v39 (x3 : (⟨S4096, .i32⟩ : BufTy).Contents (Elt F)) : (⟨S4096x4096, .i32⟩ : BufTy).Contents (Elt F) :=
  select (val_main_v36 (F := F) x3) (val_main_v38 (F := F) x3) (val_main_v31 (F := F) x3)

-- %c_4 = stablehlo.constant dense<0> : tensor<i32>
def val_main_c_4 : (⟨S_, .i32⟩ : BufTy).Contents (Elt F) :=
  constantI S_ 32 0#32

-- %40 = stablehlo.broadcast_in_dim %c_4, dims = [] : (tensor<i32>) -> tensor<4096x4096xi32>
def val_main_v40 : (⟨S4096x4096, .i32⟩ : BufTy).Contents (Elt F) :=
  broadcastInDim S4096x4096 ![] bcast_S_S4096x4096 (val_main_c_4 (F := F))

-- %41 = stablehlo.compare LT, %33, %40, SIGNED : (tensor<4096x4096xi32>, tensor<4096x4096xi32>) -> tensor<4096x4096xi1>
def val_main_v41 (x3 : (⟨S4096, .i32⟩ : BufTy).Contents (Elt F)) : (⟨S4096x4096, .i1⟩ : BufTy).Contents (Elt F) :=
  cmpi .slt (val_main_v33 (F := F) x3) (val_main_v40 (F := F))

-- %c_5 = stablehlo.constant dense<101> : tensor<i32>
def val_main_c_5 : (⟨S_, .i32⟩ : BufTy).Contents (Elt F) :=
  constantI S_ 32 101#32

-- %42 = stablehlo.broadcast_in_dim %c_5, dims = [] : (tensor<i32>) -> tensor<4096x4096xi32>
def val_main_v42 : (⟨S4096x4096, .i32⟩ : BufTy).Contents (Elt F) :=
  broadcastInDim S4096x4096 ![] bcast_S_S4096x4096 (val_main_c_5 (F := F))

-- %43 = stablehlo.add %33, %42 : tensor<4096x4096xi32>
def val_main_v43 (x3 : (⟨S4096, .i32⟩ : BufTy).Contents (Elt F)) : (⟨S4096x4096, .i32⟩ : BufTy).Contents (Elt F) :=
  addi (val_main_v33 (F := F) x3) (val_main_v42 (F := F))

-- %44 = stablehlo.select %41, %43, %33 : tensor<4096x4096xi1>, tensor<4096x4096xi32>
def val_main_v44 (x3 : (⟨S4096, .i32⟩ : BufTy).Contents (Elt F)) : (⟨S4096x4096, .i32⟩ : BufTy).Contents (Elt F) :=
  select (val_main_v41 (F := F) x3) (val_main_v43 (F := F) x3) (val_main_v33 (F := F) x3)

-- %45 = stablehlo.broadcast_in_dim %39, dims = [0, 1] : (tensor<4096x4096xi32>) -> tensor<4096x4096x1xi32>
def val_main_v45 (x3 : (⟨S4096, .i32⟩ : BufTy).Contents (Elt F)) : (⟨S4096x4096x1, .i32⟩ : BufTy).Contents (Elt F) :=
  broadcastInDim S4096x4096x1 ![0, 1] bcast_S4096x4096_S4096x4096x1_0_1 (val_main_v39 (F := F) x3)

-- %46 = stablehlo.broadcast_in_dim %44, dims = [0, 1] : (tensor<4096x4096xi32>) -> tensor<4096x4096x1xi32>
def val_main_v46 (x3 : (⟨S4096, .i32⟩ : BufTy).Contents (Elt F)) : (⟨S4096x4096x1, .i32⟩ : BufTy).Contents (Elt F) :=
  broadcastInDim S4096x4096x1 ![0, 1] bcast_S4096x4096_S4096x4096x1_0_1 (val_main_v44 (F := F) x3)

-- %47 = stablehlo.concatenate %45, %46, dim = 2 : (tensor<4096x4096x1xi32>, tensor<4096x4096x1xi32>) -> tensor<4096x4096x2xi32>
def val_main_v47 (x3 : (⟨S4096, .i32⟩ : BufTy).Contents (Elt F)) : (⟨S4096x4096x2, .i32⟩ : BufTy).Contents (Elt F) :=
  concatenate S4096x4096x2 2 [⟨S4096x4096x1, (val_main_v45 (F := F) x3)⟩, ⟨S4096x4096x1, (val_main_v46 (F := F) x3)⟩] concatenates_S4096x4096x1_S4096x4096x1_S4096x4096x2_d2

-- %48 = "stablehlo.scatter"(%34, %47, %29) <{indices_are_sorted = false, scatter_dimension_numbers = #stablehlo.scatter<inserted_window_dims = [0, 1], scatter_dims_to_operand_dims = [0, 1], index_vector_dim = 2>, unique_indices = false}> ( {
def val_main_v48 (x0 : (⟨S4096x128, .f32⟩ : BufTy).Contents (Elt F)) (x2 : (⟨S4096x101, .f32⟩ : BufTy).Contents (Elt F)) (x3 : (⟨S4096, .i32⟩ : BufTy).Contents (Elt F)) : (⟨S101x101, .f32⟩ : BufTy).Contents (Elt F) :=
  Host.scatterAdd scatter_S101x101_S4096x4096x2_S4096x4096_n_01_01_2 (val_main_v34 (F := F)) (val_main_v47 (F := F) x3) (val_main_v29 (F := F) x0 x2 x3)

-- %cst_6 = stablehlo.constant dense<0.000000e+00> : tensor<f32>
def val_main_cst_6 : (⟨S_, .f32⟩ : BufTy).Contents (Elt F) :=
  constant S_ .f32 0x00000000#32

-- %49 = stablehlo.broadcast_in_dim %cst_6, dims = [] : (tensor<f32>) -> tensor<101x101xf32>
def val_main_v49 : (⟨S101x101, .f32⟩ : BufTy).Contents (Elt F) :=
  broadcastInDim S101x101 ![] bcast_S_S101x101 (val_main_cst_6 (F := F))

-- %c_7 = stablehlo.constant dense<0> : tensor<i32>
def val_main_c_7 : (⟨S_, .i32⟩ : BufTy).Contents (Elt F) :=
  constantI S_ 32 0#32

-- %50 = stablehlo.broadcast_in_dim %c_7, dims = [] : (tensor<i32>) -> tensor<4096x4096xi32>
def val_main_v50 : (⟨S4096x4096, .i32⟩ : BufTy).Contents (Elt F) :=
  broadcastInDim S4096x4096 ![] bcast_S_S4096x4096 (val_main_c_7 (F := F))

-- %51 = stablehlo.compare LT, %31, %50, SIGNED : (tensor<4096x4096xi32>, tensor<4096x4096xi32>) -> tensor<4096x4096xi1>
def val_main_v51 (x3 : (⟨S4096, .i32⟩ : BufTy).Contents (Elt F)) : (⟨S4096x4096, .i1⟩ : BufTy).Contents (Elt F) :=
  cmpi .slt (val_main_v31 (F := F) x3) (val_main_v50 (F := F))

-- %c_8 = stablehlo.constant dense<101> : tensor<i32>
def val_main_c_8 : (⟨S_, .i32⟩ : BufTy).Contents (Elt F) :=
  constantI S_ 32 101#32

-- %52 = stablehlo.broadcast_in_dim %c_8, dims = [] : (tensor<i32>) -> tensor<4096x4096xi32>
def val_main_v52 : (⟨S4096x4096, .i32⟩ : BufTy).Contents (Elt F) :=
  broadcastInDim S4096x4096 ![] bcast_S_S4096x4096 (val_main_c_8 (F := F))

-- %53 = stablehlo.add %31, %52 : tensor<4096x4096xi32>
def val_main_v53 (x3 : (⟨S4096, .i32⟩ : BufTy).Contents (Elt F)) : (⟨S4096x4096, .i32⟩ : BufTy).Contents (Elt F) :=
  addi (val_main_v31 (F := F) x3) (val_main_v52 (F := F))

-- %54 = stablehlo.select %51, %53, %31 : tensor<4096x4096xi1>, tensor<4096x4096xi32>
def val_main_v54 (x3 : (⟨S4096, .i32⟩ : BufTy).Contents (Elt F)) : (⟨S4096x4096, .i32⟩ : BufTy).Contents (Elt F) :=
  select (val_main_v51 (F := F) x3) (val_main_v53 (F := F) x3) (val_main_v31 (F := F) x3)

-- %c_9 = stablehlo.constant dense<0> : tensor<i32>
def val_main_c_9 : (⟨S_, .i32⟩ : BufTy).Contents (Elt F) :=
  constantI S_ 32 0#32

-- %55 = stablehlo.broadcast_in_dim %c_9, dims = [] : (tensor<i32>) -> tensor<4096x4096xi32>
def val_main_v55 : (⟨S4096x4096, .i32⟩ : BufTy).Contents (Elt F) :=
  broadcastInDim S4096x4096 ![] bcast_S_S4096x4096 (val_main_c_9 (F := F))

-- %56 = stablehlo.compare LT, %33, %55, SIGNED : (tensor<4096x4096xi32>, tensor<4096x4096xi32>) -> tensor<4096x4096xi1>
def val_main_v56 (x3 : (⟨S4096, .i32⟩ : BufTy).Contents (Elt F)) : (⟨S4096x4096, .i1⟩ : BufTy).Contents (Elt F) :=
  cmpi .slt (val_main_v33 (F := F) x3) (val_main_v55 (F := F))

-- %c_10 = stablehlo.constant dense<101> : tensor<i32>
def val_main_c_10 : (⟨S_, .i32⟩ : BufTy).Contents (Elt F) :=
  constantI S_ 32 101#32

-- %57 = stablehlo.broadcast_in_dim %c_10, dims = [] : (tensor<i32>) -> tensor<4096x4096xi32>
def val_main_v57 : (⟨S4096x4096, .i32⟩ : BufTy).Contents (Elt F) :=
  broadcastInDim S4096x4096 ![] bcast_S_S4096x4096 (val_main_c_10 (F := F))

-- %58 = stablehlo.add %33, %57 : tensor<4096x4096xi32>
def val_main_v58 (x3 : (⟨S4096, .i32⟩ : BufTy).Contents (Elt F)) : (⟨S4096x4096, .i32⟩ : BufTy).Contents (Elt F) :=
  addi (val_main_v33 (F := F) x3) (val_main_v57 (F := F))

-- %59 = stablehlo.select %56, %58, %33 : tensor<4096x4096xi1>, tensor<4096x4096xi32>
def val_main_v59 (x3 : (⟨S4096, .i32⟩ : BufTy).Contents (Elt F)) : (⟨S4096x4096, .i32⟩ : BufTy).Contents (Elt F) :=
  select (val_main_v56 (F := F) x3) (val_main_v58 (F := F) x3) (val_main_v33 (F := F) x3)

-- %60 = stablehlo.broadcast_in_dim %54, dims = [0, 1] : (tensor<4096x4096xi32>) -> tensor<4096x4096x1xi32>
def val_main_v60 (x3 : (⟨S4096, .i32⟩ : BufTy).Contents (Elt F)) : (⟨S4096x4096x1, .i32⟩ : BufTy).Contents (Elt F) :=
  broadcastInDim S4096x4096x1 ![0, 1] bcast_S4096x4096_S4096x4096x1_0_1 (val_main_v54 (F := F) x3)

-- %61 = stablehlo.broadcast_in_dim %59, dims = [0, 1] : (tensor<4096x4096xi32>) -> tensor<4096x4096x1xi32>
def val_main_v61 (x3 : (⟨S4096, .i32⟩ : BufTy).Contents (Elt F)) : (⟨S4096x4096x1, .i32⟩ : BufTy).Contents (Elt F) :=
  broadcastInDim S4096x4096x1 ![0, 1] bcast_S4096x4096_S4096x4096x1_0_1 (val_main_v59 (F := F) x3)

-- %62 = stablehlo.concatenate %60, %61, dim = 2 : (tensor<4096x4096x1xi32>, tensor<4096x4096x1xi32>) -> tensor<4096x4096x2xi32>
def val_main_v62 (x3 : (⟨S4096, .i32⟩ : BufTy).Contents (Elt F)) : (⟨S4096x4096x2, .i32⟩ : BufTy).Contents (Elt F) :=
  concatenate S4096x4096x2 2 [⟨S4096x4096x1, (val_main_v60 (F := F) x3)⟩, ⟨S4096x4096x1, (val_main_v61 (F := F) x3)⟩] concatenates_S4096x4096x1_S4096x4096x1_S4096x4096x2_d2

-- %63 = "stablehlo.scatter"(%49, %62, %28) <{indices_are_sorted = false, scatter_dimension_numbers = #stablehlo.scatter<inserted_window_dims = [0, 1], scatter_dims_to_operand_dims = [0, 1], index_vector_dim = 2>, unique_indices = false}> ( {
def val_main_v63 (x2 : (⟨S4096x101, .f32⟩ : BufTy).Contents (Elt F)) (x3 : (⟨S4096, .i32⟩ : BufTy).Contents (Elt F)) : (⟨S101x101, .f32⟩ : BufTy).Contents (Elt F) :=
  Host.scatterAdd scatter_S101x101_S4096x4096x2_S4096x4096_n_01_01_2 (val_main_v49 (F := F)) (val_main_v62 (F := F) x3) (val_main_v28 (F := F) x2 x3)

-- %64 = stablehlo.iota dim = 0 : tensor<101x101xi32>
def val_main_v64 : (⟨S101x101, .i32⟩ : BufTy).Contents (Elt F) :=
  iotaInDim S101x101 32 0

-- %65 = stablehlo.iota dim = 1 : tensor<101x101xi32>
def val_main_v65 : (⟨S101x101, .i32⟩ : BufTy).Contents (Elt F) :=
  iotaInDim S101x101 32 1

-- %c_11 = stablehlo.constant dense<0> : tensor<i32>
def val_main_c_11 : (⟨S_, .i32⟩ : BufTy).Contents (Elt F) :=
  constantI S_ 32 0#32

-- %66 = stablehlo.broadcast_in_dim %c_11, dims = [] : (tensor<i32>) -> tensor<101x101xi32>
def val_main_v66 : (⟨S101x101, .i32⟩ : BufTy).Contents (Elt F) :=
  broadcastInDim S101x101 ![] bcast_S_S101x101 (val_main_c_11 (F := F))

-- %67 = stablehlo.add %64, %66 : tensor<101x101xi32>
def val_main_v67 : (⟨S101x101, .i32⟩ : BufTy).Contents (Elt F) :=
  addi (val_main_v64 (F := F)) (val_main_v66 (F := F))

-- %68 = stablehlo.compare EQ, %67, %65, SIGNED : (tensor<101x101xi32>, tensor<101x101xi32>) -> tensor<101x101xi1>
def val_main_v68 : (⟨S101x101, .i1⟩ : BufTy).Contents (Elt F) :=
  cmpi .eq (val_main_v67 (F := F)) (val_main_v65 (F := F))

-- %69 = stablehlo.transpose %48, dims = [1, 0] : (tensor<101x101xf32>) -> tensor<101x101xf32>
def val_main_v69 (x0 : (⟨S4096x128, .f32⟩ : BufTy).Contents (Elt F)) (x2 : (⟨S4096x101, .f32⟩ : BufTy).Contents (Elt F)) (x3 : (⟨S4096, .i32⟩ : BufTy).Contents (Elt F)) : (⟨S101x101, .f32⟩ : BufTy).Contents (Elt F) :=
  transpose S101x101 [1, 0] (val_main_v48 (F := F) x0 x2 x3) transposes_S101x101_S101x101_1_0

-- %70 = stablehlo.add %48, %69 : tensor<101x101xf32>
def val_main_v70 (x0 : (⟨S4096x128, .f32⟩ : BufTy).Contents (Elt F)) (x2 : (⟨S4096x101, .f32⟩ : BufTy).Contents (Elt F)) (x3 : (⟨S4096, .i32⟩ : BufTy).Contents (Elt F)) : (⟨S101x101, .f32⟩ : BufTy).Contents (Elt F) :=
  addf (val_main_v48 (F := F) x0 x2 x3) (val_main_v69 (F := F) x0 x2 x3)

-- %cst_12 = stablehlo.constant dense<0.000000e+00> : tensor<f32>
def val_main_cst_12 : (⟨S_, .f32⟩ : BufTy).Contents (Elt F) :=
  constant S_ .f32 0x00000000#32

-- @_where's %0 = stablehlo.convert %arg2 : tensor<f32>, in %71 = func.call @_where(…)
def val_main_call4_v0 : (⟨S_, .f32⟩ : BufTy).Contents (Elt F) :=
  id (val_main_cst_12 (F := F))

-- @_where's %1 = stablehlo.broadcast_in_dim %0, dims = [] : (tensor<f32>) -> tensor<101x101xf32>, in %71 = func.call @_where(…)
def val_main_call4_v1 : (⟨S101x101, .f32⟩ : BufTy).Contents (Elt F) :=
  broadcastInDim S101x101 ![] bcast_S_S101x101 (val_main_call4_v0 (F := F))

-- %71 = func.call @_where(…) result 0: @_where's %2 = stablehlo.select %arg0, %arg1, %1 : tensor<101x101xi1>, tensor<101x101xf32>
def val_main_v71 (x0 : (⟨S4096x128, .f32⟩ : BufTy).Contents (Elt F)) (x2 : (⟨S4096x101, .f32⟩ : BufTy).Contents (Elt F)) (x3 : (⟨S4096, .i32⟩ : BufTy).Contents (Elt F)) : (⟨S101x101, .f32⟩ : BufTy).Contents (Elt F) :=
  select (val_main_v68 (F := F)) (val_main_v48 (F := F) x0 x2 x3) (val_main_call4_v1 (F := F))

-- %72 = stablehlo.subtract %70, %71 : tensor<101x101xf32>
def val_main_v72 (x0 : (⟨S4096x128, .f32⟩ : BufTy).Contents (Elt F)) (x2 : (⟨S4096x101, .f32⟩ : BufTy).Contents (Elt F)) (x3 : (⟨S4096, .i32⟩ : BufTy).Contents (Elt F)) : (⟨S101x101, .f32⟩ : BufTy).Contents (Elt F) :=
  subf (val_main_v70 (F := F) x0 x2 x3) (val_main_v71 (F := F) x0 x2 x3)

-- %73 = stablehlo.transpose %63, dims = [1, 0] : (tensor<101x101xf32>) -> tensor<101x101xf32>
def val_main_v73 (x2 : (⟨S4096x101, .f32⟩ : BufTy).Contents (Elt F)) (x3 : (⟨S4096, .i32⟩ : BufTy).Contents (Elt F)) : (⟨S101x101, .f32⟩ : BufTy).Contents (Elt F) :=
  transpose S101x101 [1, 0] (val_main_v63 (F := F) x2 x3) transposes_S101x101_S101x101_1_0

-- %74 = stablehlo.add %63, %73 : tensor<101x101xf32>
def val_main_v74 (x2 : (⟨S4096x101, .f32⟩ : BufTy).Contents (Elt F)) (x3 : (⟨S4096, .i32⟩ : BufTy).Contents (Elt F)) : (⟨S101x101, .f32⟩ : BufTy).Contents (Elt F) :=
  addf (val_main_v63 (F := F) x2 x3) (val_main_v73 (F := F) x2 x3)

-- %cst_13 = stablehlo.constant dense<0.000000e+00> : tensor<f32>
def val_main_cst_13 : (⟨S_, .f32⟩ : BufTy).Contents (Elt F) :=
  constant S_ .f32 0x00000000#32

-- @_where's %0 = stablehlo.convert %arg2 : tensor<f32>, in %75 = func.call @_where(…)
def val_main_call5_v0 : (⟨S_, .f32⟩ : BufTy).Contents (Elt F) :=
  id (val_main_cst_13 (F := F))

-- @_where's %1 = stablehlo.broadcast_in_dim %0, dims = [] : (tensor<f32>) -> tensor<101x101xf32>, in %75 = func.call @_where(…)
def val_main_call5_v1 : (⟨S101x101, .f32⟩ : BufTy).Contents (Elt F) :=
  broadcastInDim S101x101 ![] bcast_S_S101x101 (val_main_call5_v0 (F := F))

-- %75 = func.call @_where(…) result 0: @_where's %2 = stablehlo.select %arg0, %arg1, %1 : tensor<101x101xi1>, tensor<101x101xf32>
def val_main_v75 (x2 : (⟨S4096x101, .f32⟩ : BufTy).Contents (Elt F)) (x3 : (⟨S4096, .i32⟩ : BufTy).Contents (Elt F)) : (⟨S101x101, .f32⟩ : BufTy).Contents (Elt F) :=
  select (val_main_v68 (F := F)) (val_main_v63 (F := F) x2 x3) (val_main_call5_v1 (F := F))

-- %76 = stablehlo.subtract %74, %75 : tensor<101x101xf32>
def val_main_v76 (x2 : (⟨S4096x101, .f32⟩ : BufTy).Contents (Elt F)) (x3 : (⟨S4096, .i32⟩ : BufTy).Contents (Elt F)) : (⟨S101x101, .f32⟩ : BufTy).Contents (Elt F) :=
  subf (val_main_v74 (F := F) x2 x3) (val_main_v75 (F := F) x2 x3)

-- %77 = stablehlo.add %arg5, %72 : tensor<101x101xf32>
def val_main_v77 (x0 : (⟨S4096x128, .f32⟩ : BufTy).Contents (Elt F)) (x2 : (⟨S4096x101, .f32⟩ : BufTy).Contents (Elt F)) (x3 : (⟨S4096, .i32⟩ : BufTy).Contents (Elt F)) (x5 : (⟨S101x101, .f32⟩ : BufTy).Contents (Elt F)) : (⟨S101x101, .f32⟩ : BufTy).Contents (Elt F) :=
  addf (x5) (val_main_v72 (F := F) x0 x2 x3)

-- %78 = stablehlo.add %arg6, %76 : tensor<101x101xf32>
def val_main_v78 (x2 : (⟨S4096x101, .f32⟩ : BufTy).Contents (Elt F)) (x3 : (⟨S4096, .i32⟩ : BufTy).Contents (Elt F)) (x6 : (⟨S101x101, .f32⟩ : BufTy).Contents (Elt F)) : (⟨S101x101, .f32⟩ : BufTy).Contents (Elt F) :=
  addf (x6) (val_main_v76 (F := F) x2 x3)

/-- The term the Run module states for `main_v77` over any contents `V0` is the stage. -/
theorem val_main_v77_eq (V0 : Valuation τ sig (Elt F)) :
    addf (V0 (Proc.devRef .tc main_arg5)) (subf (addf (Cert.ReferenceIdeal.Value.res_main_v48 V0) (transpose S101x101 [1, 0] (Cert.ReferenceIdeal.Value.res_main_v48 V0) transposes_S101x101_S101x101_1_0)) (select (Cert.ReferenceIdeal.Value.res_main_v68 V0) (Cert.ReferenceIdeal.Value.res_main_v48 V0) (broadcastInDim S101x101 ![] bcast_S_S101x101 (id (constant S_ .f32 0x00000000#32)))))
      = val_main_v77 (F := F) (V0 (Proc.devRef .tc main_arg0)) (V0 (Proc.devRef .tc main_arg2)) (V0 (Proc.devRef .tc main_arg3)) (V0 (Proc.devRef .tc main_arg5)) := rfl

/-- The term the Run module states for `main_v78` over any contents `V0` is the stage. -/
theorem val_main_v78_eq (V0 : Valuation τ sig (Elt F)) :
    addf (V0 (Proc.devRef .tc main_arg6)) (subf (addf (Cert.ReferenceIdeal.Value.res_main_v63 V0) (transpose S101x101 [1, 0] (Cert.ReferenceIdeal.Value.res_main_v63 V0) transposes_S101x101_S101x101_1_0)) (select (Cert.ReferenceIdeal.Value.res_main_v68 V0) (Cert.ReferenceIdeal.Value.res_main_v63 V0) (broadcastInDim S101x101 ![] bcast_S_S101x101 (id (constant S_ .f32 0x00000000#32)))))
      = val_main_v78 (F := F) (V0 (Proc.devRef .tc main_arg2)) (V0 (Proc.devRef .tc main_arg3)) (V0 (Proc.devRef .tc main_arg6)) := rfl

/-- The term the Run module states for `main_v6` over any contents `V0` is the stage. -/
theorem val_main_v6_eq (V0 : Valuation τ sig (Elt F)) :
    Host.divf (Host.reduceAdd (Host.negf (shapeCast _ (select (Host.reduce IntOp.andi (andi (cmpi .sge (Cert.ReferenceIdeal.Value.res_main_call1_v5 V0) (broadcastInDim S4096x1x1 ![] bcast_S_S4096x1x1 (constantI S_ 32 0#32))) (cmpi .sle (Cert.ReferenceIdeal.Value.res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (Cert.ReferenceIdeal.Value.res_main_call0_v5 V0) (broadcastInDim S4096x101 ![0, 1] bcast_S4096x1_S4096x101_0_1 (Host.log (broadcastInDim S4096x1 ![0] bcast_S4096_S4096x1_0 (Host.reduceAdd (Host.exp (Cert.ReferenceIdeal.Value.res_main_call0_v5 V0)) (constant S_ .f32 0x00000000#32) reducesTo_S4096x101_S4096_d1 h_S_))))) (Cert.ReferenceIdeal.Value.res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32)
      = val_main_v6 (F := F) (V0 (Proc.devRef .tc main_arg2)) (V0 (Proc.devRef .tc main_arg3)) := rfl

end Cert.ReferenceIdeal.Read

end
-- ==== Proof.Argmax.lean ====
module

public import proofs.«01_k».proof.Proof.RefRead
public import proofs.«01_k».proof.Proof.FirstMax
public import Idealize.ShloMosaic.Lib.WordCmp
public import Idealize.ShloMosaic.Lib.Pointwise

/-!
# The reference's greatest logit

The reference folds a row's logits with their positions; what it keeps is the position of the first greatest logit.
-/

@[expose] public section

set_option maxRecDepth 16384

noncomputable section

namespace Cert.ReferenceIdeal.Argmax

open Idealize.ShloMosaic Idealize.SL.Sem
open Cert.ReferenceIdeal Cert.ReferenceIdeal.Gen Cert.ReferenceIdeal.Read Cert.FirstMax

/-- One step of the fold: the greater value is kept, of equal ones the one with the lesser position. -/
def step (a b : EReal × BitVec 32) : EReal × BitVec 32 :=
  (if b.1 < a.1 then a.1 else b.1, if b.1 < a.1 ∨ (a.1 = b.1 ∧ a.2.toInt < b.2.toInt) then a.2 else b.2)

theorem reducer_eq : reducer_argmax_f32_i32 (F := Ideal) = step := by
  funext a b
  have h1 : (FloatOps.cmpf (F := Ideal) (φ := .f32) .ogt a.1 b.1) = BitVec.ofBool (decide ((b.1 : EReal) < a.1)) := rfl
  have h2 : (FloatOps.cmpf (F := Ideal) (φ := .f32) .une a.1 a.1) = BitVec.ofBool (decide ((a.1 : EReal) ≠ a.1)) := rfl
  have h3 : (FloatOps.cmpf (F := Ideal) (φ := .f32) .oeq a.1 b.1) = BitVec.ofBool (decide ((a.1 : EReal) = b.1)) := rfl
  have h4 : IntOp.cmpi .slt a.2 b.2 = BitVec.ofBool (decide (a.2.toInt < b.2.toInt)) := by
    show BitVec.ofBool (a.2.slt b.2) = _
    congr 1
  unfold reducer_argmax_f32_i32 step
  simp only [h1, h2, h3, h4, WordCmp.ori_ofBool, WordCmp.andi_ofBool]
  simp only [ne_eq, not_true_eq_false, decide_false, Bool.or_false, ← Bool.decide_and, ← Bool.decide_or, WordCmp.select_decide]

variable (y : Fin 101 → EReal) (k : Fin 101) (hk : IsFirstMax y k)
include hk

/-- Position `l` with its value. -/
abbrev entry (l : Fin 101) : EReal × BitVec 32 := (y l, BitVec.ofNat 32 l.val)

omit hk in
theorem entry_pos (l : Fin 101) : (BitVec.ofNat 32 l.val).toInt = l.val := toInt_ofNat _ (by omega)

/-- Once the first greatest value is kept, it stays. -/
theorem stays (L : List (Fin 101)) : (L.map (entry y)).foldl step (entry y k) = entry y k := by
  induction L with
  | nil => rfl
  | cons l L ih =>
    rw [List.map_cons, List.foldl_cons]
    have : step (entry y k) (entry y l) = entry y k := by
      unfold step entry
      by_cases h : y l < y k
      · simp [h]
      · have e : y k = y l := le_antisymm (not_lt.1 h) (hk.1 l)
        have hl : k ≤ l := le_of_not_gt fun q => h (hk.2 l q)
        simp only [entry_pos, e, lt_irrefl, if_false, false_or, true_and]
        rcases eq_or_lt_of_le hl with q | q
        · subst q; simp
        · have : (k.val : ℤ) < l.val := by exact_mod_cast q
          simp [this]
    rw [this, ih]

/-- Until then what is kept is less, or is no earlier; then it is the first greatest value. -/
theorem reaches (L : List (Fin 101)) (hL : k ∈ L) (s : EReal × BitVec 32) (h1 : s.1 ≤ y k) (h2 : s.1 = y k → (k.val : ℤ) ≤ s.2.toInt) :
    (L.map (entry y)).foldl step s = entry y k := by
  induction L generalizing s with
  | nil => simp at hL
  | cons l L ih =>
    rw [List.map_cons, List.foldl_cons]
    by_cases e : l = k
    · subst e
      have : step s (entry y l) = entry y l := by
        unfold step entry
        have n : ¬ (s.1 = y l ∧ s.2.toInt < (BitVec.ofNat 32 l.val).toInt) := by
          rintro ⟨a, b⟩; rw [entry_pos] at b; have := h2 a; omega
        simp only [not_lt.2 h1, n, or_self, if_false]
      rw [this]
      exact stays y l hk L
    · refine ih ((List.mem_cons.1 hL).resolve_left fun q => e q.symm) _ ?_ ?_
      · unfold step entry
        dsimp only
        split
        · exact h1
        · exact hk.1 l
      · unfold step entry
        dsimp only
        by_cases h : y l < s.1
        · simp only [h, if_true, true_or]; exact h2
        · simp only [h, if_false, false_or]
          intro q
          have hl : k ≤ l := le_of_not_gt fun r => absurd q (hk.2 l r).ne
          split
          · next r => exact h2 (r.1.trans q)
          · rw [entry_pos]; exact_mod_cast hl

omit hk in
/-- An index's position in its row. -/
def col (j : S4096x101.Idx) : Fin 101 := j 1

omit hk in
/-- The pairs folded for row `i` are the row's, each position once. -/
theorem fiber (x : S4096x101.Idx → EReal) (i : Fin 4096) :
    ∃ L : List (Fin 101), (∀ l, l ∈ L) ∧
      Host.argReduceFiber x (val_main_call3_v0 (F := Ideal)) reducesTo_S4096x101_S4096_d1 (ix1 i) = L.map (entry fun l => x (ix2 i l)) := by
  have hd : ∀ j : S4096x101.Idx, reducesTo_S4096x101_S4096_d1.drop j = ix1 i → j = ix2 i (col j) := by
    intro j h
    have h0 := congrArg (fun q : S4096.Idx => (q 0).val) h
    have h1 : (reducesTo_S4096x101_S4096_d1.drop j 0).val = (j 0).val :=
      Shape.ReducesTo.drop_apply_val_of_eq reducesTo_S4096x101_S4096_d1 j 0 0
    funext a
    match a with
    | ⟨0, _⟩ => exact Fin.ext (h1.symm.trans h0)
    | ⟨1, _⟩ => rfl
  refine ⟨((List.finRange S4096x101.numel).filter fun n => reducesTo_S4096x101_S4096_d1.drop (S4096x101.rowMajor.symm n) = ix1 i).map
    fun n => col (S4096x101.rowMajor.symm n), fun l => ?_, ?_⟩
  · refine List.mem_map.2 ⟨S4096x101.rowMajor (ix2 i l), List.mem_filter.2 ⟨List.mem_finRange _, ?_⟩, by rw [Equiv.symm_apply_apply]; rfl⟩
    rw [Equiv.symm_apply_apply]
    refine decide_eq_true ?_
    funext a
    match a with
    | ⟨0, _⟩ => exact Fin.ext (Shape.ReducesTo.drop_apply_val_of_eq reducesTo_S4096x101_S4096_d1 (ix2 i l) 0 0)
  · unfold Host.argReduceFiber
    rw [List.map_map]
    refine List.map_congr_left fun n hn => ?_
    have e := hd _ (of_decide_eq_true (List.mem_filter.1 hn).2)
    simp only [Function.comp_apply, entry]
    rw [← e]
    rfl

omit hk in
/-- The reference's class of row `i` is the first greatest logit's. -/
theorem argmax (x2 : S4096x101.Idx → EReal) (i : Fin 4096) (l : Fin 101) (hl : IsFirstMax (fun l => x2 (ix2 i l)) l) :
    val_main_v14 (F := Ideal) x2 (ix1 i) = BitVec.ofNat 32 l.val := by
  obtain ⟨L, hL, e⟩ := fiber x2 i
  unfold val_main_v14
  rw [Ideal.argReduce_eq_reduce2, Host.reduce2_eq_foldl_fiber, e, reducer_eq,
    reaches _ l hl L (hL l) _ (by show (Ideal.ofBits .f32 0xFF800000#32 : EReal) ≤ _; rw [show (Ideal.ofBits .f32 0xFF800000#32 : EReal) = ⊥ by simp [Ideal.ofBits, Ideal.ieee]]; exact bot_le)]
  show (Ideal.ofBits .f32 0xFF800000#32 : EReal) = x2 (ix2 i l) → (l.val : ℤ) ≤ (0#32).toInt
  rw [show (Ideal.ofBits .f32 0xFF800000#32 : EReal) = ⊥ by simp [Ideal.ofBits, Ideal.ieee]]
  intro q
  by_contra h
  have h0 : (⟨0, by decide⟩ : Fin 101) < l := by
    rcases Nat.eq_zero_or_pos l.val with z | z
    · exact absurd (by rw [z]; decide) h
    · exact z
  have t := hl.2 _ h0
  dsimp only at t
  rw [← q] at t
  exact absurd t not_lt_bot

end Cert.ReferenceIdeal.Argmax

end

end
-- ==== Proof.RefPairs.lean ====
module

public import proofs.«01_k».proof.Proof.Argmax
public import proofs.«01_k».proof.Proof.Reals

/-!
# The reference's pairs of rows

Which pairs of rows the reference adds, and the product it adds for each.
-/

@[expose] public section

set_option maxRecDepth 16384

noncomputable section

namespace Cert.ReferenceIdeal.Pair

open Idealize.ShloMosaic Idealize.SL.Sem
open Cert.ReferenceIdeal Cert.ReferenceIdeal.Gen Cert.ReferenceIdeal.Read Cert.ReferenceIdeal.Argmax Cert.FirstMax Cert.Reals
open Cert.KernelIdeal.Rows (unit)
open Cert.KernelIdeal.Sums (first first_spec)

variable (x0 : S4096x128.Idx → EReal) (x2 : S4096x101.Idx → EReal) (x3 : IVec S4096 32)

/-- Row `i`'s features and logits. -/
def xs (i : Fin 4096) (k : Fin 128) : EReal := x0 (ix2 i k)
def ys (i : Fin 4096) (k : Fin 101) : EReal := x2 (ix2 i k)

/-- A row is rightly classified if its target is the first greatest logit's class. -/
theorem good (i : Fin 4096) :
    val_main_v15 (F := Ideal) x2 x3 (ix1 i) = BitVec.ofBool (decide (x3 (ix1 i) = BitVec.ofNat 32 (first (ys x2 i)).val)) := by
  have h : val_main_v15 (F := Ideal) x2 x3 (ix1 i) = BitVec.ofBool (decide (val_main_v14 (F := Ideal) x2 (ix1 i) = x3 (ix1 i))) := by
    rfl
  rw [h, argmax x2 i (first (ys x2 i)) (first_spec (ys x2 i))]
  exact congrArg BitVec.ofBool (decide_eq_decide.2 eq_comm)

/-- The second row of a pair comes later than the first. -/
theorem later (i j : Fin 4096) : val_main_v26 (F := Ideal) (ix2 i j) = BitVec.ofBool (decide (i < j)) := by
  have h : val_main_v26 (F := Ideal) (ix2 i j) = BitVec.ofBool ((BitVec.ofNat 32 i.val).slt (BitVec.ofNat 32 j.val)) := by
    pointwise [val_main_v26, val_main_v24, val_main_v25, val_main_v22, val_main_v23, val_main_v16]
    rfl
  rw [h]
  congr 1
  show decide ((BitVec.ofNat 32 i.val).toInt < (BitVec.ofNat 32 j.val).toInt) = _
  rw [toInt_ofNat _ (by omega), toInt_ofNat _ (by omega)]
  congr 1
  exact propext ⟨fun q => Fin.lt_def.2 (by omega), fun q => by have := Fin.lt_def.1 q; omega⟩

theorem bit (p : Prop) [Decidable p] : (FloatOps.uitofp (F := Ideal) .f32 (BitVec.ofBool (decide p)) : EReal) = if p then 1 else 0 := by
  by_cases h : p
  · simp [h, FloatOps.uitofp]
  · simp [h, FloatOps.uitofp]

/-- One for a pair in order of rightly classified rows. -/
theorem pair_bit (i j : Fin 4096) : (val_main_v28 (F := Ideal) x2 x3 (ix2 i j) : EReal)
    = if (x3 (ix1 i) = BitVec.ofNat 32 (first (ys x2 i)).val ∧ x3 (ix1 j) = BitVec.ofNat 32 (first (ys x2 j)).val) ∧ i < j then 1 else 0 := by
  have h : (val_main_v28 (F := Ideal) x2 x3 (ix2 i j) : EReal) = FloatOps.uitofp (F := Ideal) .f32
      (IntOp.andi (IntOp.andi (val_main_v15 (F := Ideal) x2 x3 (ix1 i)) (val_main_v15 (F := Ideal) x2 x3 (ix1 j))) (val_main_v26 (F := Ideal) (ix2 i j))) := by
    pointwise [val_main_v28, val_main_v27, val_main_v21, val_main_v19, val_main_v20, val_main_v17, val_main_v18]
  rw [h, good, good, later, WordCmp.andi_ofBool, WordCmp.andi_ofBool, ← Bool.decide_and, ← Bool.decide_and, bit]

/-- The unit features. -/
theorem unit_entry (i : Fin 4096) (k : Fin 128) : (val_main_v11 (F := Ideal) x0 (ix2 i k) : EReal) = unit (xs x0 i) k := by
  pointwise [val_main_v11, val_main_v10, val_main_v9, val_main_v8, val_main_v7, val_main_call2_v2, val_main_call2_v1, val_main_call2_v0, val_main_call2_cst, val_main_cst_1]
  rfl

/-- A pair's product. -/
theorem product_entry (i j : Fin 4096) :
    (val_main_v13 (F := Ideal) x0 (ix2 i j) : EReal) = ((product (xs x0 i) (xs x0 j) : ℝ) : EReal) := by
  rw [← product_real]
  pointwise [val_main_v13, val_main_v12]
  simp only [unit_entry]

end Cert.ReferenceIdeal.Pair

end

end
-- ==== Proof.Scatter.lean ====
module

public import proofs.«01_k».proof.Proof.RefRead
public import Idealize.ShloMosaic.Lib.Routing.OpsPair
public import Idealize.ShloMosaic.Lib.Pointwise

/-!
# The reference's sums by class

The reference adds each pair of rows into the entry of the two rows' targets.
-/

@[expose] public section

set_option maxRecDepth 16384

noncomputable section

namespace Cert.ReferenceIdeal.Scatter

open Idealize.ShloMosaic Idealize.SL.Sem
open Cert.ReferenceIdeal Cert.ReferenceIdeal.Gen Cert.ReferenceIdeal.Read

/-- Entry `(a, b)` is what it was, with the pairs of rows whose targets are `a` and `b` added. -/
theorem scatter (z : S101x101.Idx → EReal) (idx : IVec S4096x4096x2 32) (upd : S4096x4096.Idx → EReal) (T : Fin 4096 → BitVec 32)
    (h0 : ∀ i j, idx (ix3 i j 0) = T i) (h1 : ∀ i j, idx (ix3 i j 1) = T j) (a b : Fin 101) :
    (Host.scatterAdd (F := Ideal) (φ := .f32) scatter_S101x101_S4096x4096x2_S4096x4096_n_01_01_2 z idx upd (ix2 a b) : EReal)
      = z (ix2 a b) + ∑ i, ∑ j, if (T i).toInt = a.val ∧ (T j).toInt = b.val then upd (ix2 i j) else 0 := by
  show z (ix2 a b) + ∑ j ∈ Finset.univ.filter (fun j => scatter_S101x101_S4096x4096x2_S4096x4096_n_01_01_2.resultIdx? j idx = some (ix2 a b)), upd j = _
  rw [Finset.sum_filter, sum_idx2]
  congr 1
  refine Finset.sum_congr rfl fun i _ => Finset.sum_congr rfl fun j _ => ?_
  refine if_congr ?_ rfl rfl
  rw [← h0 i j, ← h1 i j]
  exact Routing.scatter_lands2 scatter_S101x101_S4096x4096x2_S4096x4096_n_01_01_2 rfl rfl rfl idx i j a b

variable (x3 : IVec S4096 32) (hx : ∀ i : Fin 4096, (x3 (ix1 i)).toNat < 101)
include hx

/-- The reference's indices: the first row's target, then the second's. -/
theorem index_fst (i j : Fin 4096) : val_main_v47 (F := Ideal) x3 (ix3 i j 0) = x3 (ix1 i) := by
  pointwise [val_main_v47, val_main_v45, val_main_v46, val_main_v39, val_main_v36, val_main_v38, val_main_v31, val_main_v35, val_main_v37, val_main_c, val_main_c_3, val_main_v30]
  exact Routing.wrap_of_lt _ _ (by have := hx i; omega)
theorem index_snd (i j : Fin 4096) : val_main_v47 (F := Ideal) x3 (ix3 i j 1) = x3 (ix1 j) := by
  pointwise [val_main_v47, val_main_v45, val_main_v46, val_main_v44, val_main_v41, val_main_v43, val_main_v33, val_main_v40, val_main_v42, val_main_c_4, val_main_c_5, val_main_v32]
  exact Routing.wrap_of_lt _ _ (by have := hx j; omega)

/-- The same indices, for the counts. -/
theorem count_fst (i j : Fin 4096) : val_main_v62 (F := Ideal) x3 (ix3 i j 0) = x3 (ix1 i) := by
  pointwise [val_main_v62, val_main_v60, val_main_v61, val_main_v54, val_main_v51, val_main_v53, val_main_v31, val_main_v50, val_main_v52, val_main_c_7, val_main_c_8, val_main_v30]
  exact Routing.wrap_of_lt _ _ (by have := hx i; omega)
theorem count_snd (i j : Fin 4096) : val_main_v62 (F := Ideal) x3 (ix3 i j 1) = x3 (ix1 j) := by
  pointwise [val_main_v62, val_main_v60, val_main_v61, val_main_v59, val_main_v56, val_main_v58, val_main_v33, val_main_v55, val_main_v57, val_main_c_9, val_main_c_10, val_main_v32]
  exact Routing.wrap_of_lt _ _ (by have := hx j; omega)

end Cert.ReferenceIdeal.Scatter

end

end
-- ==== Proof.RefMatrix.lean ====
module

public import proofs.«01_k».proof.Proof.RefPairs
public import proofs.«01_k».proof.Proof.Scatter

/-!
# The reference's two matrices

An entry of each is the argument's with the sum over the pairs of rows of its two classes.
-/

@[expose] public section

set_option maxRecDepth 16384

noncomputable section

namespace Cert.ReferenceIdeal.Matrix

open Idealize.ShloMosaic Idealize.SL.Sem
open Cert.ReferenceIdeal Cert.ReferenceIdeal.Gen Cert.ReferenceIdeal.Read Cert.ReferenceIdeal.Scatter Cert.ReferenceIdeal.Pair Cert.FirstMax Cert.Reals Cert.Pairs
open Cert.KernelIdeal.Sums (first)

variable (x0 : S4096x128.Idx → EReal) (x2 : S4096x101.Idx → EReal) (x3 : IVec S4096 32)

/-- Row `i`'s share in class `a`. -/
def part (i : Fin 4096) (a : ℕ) : ℝ := share (x3 (ix1 i)) (ys x2 i) a

theorem bits (S : ℝ) (p q r s u : Prop) [Decidable p] [Decidable q] [Decidable r] [Decidable s] [Decidable u] :
    (if p ∧ q then (S : EReal) * (if (r ∧ s) ∧ u then 1 else 0) else 0)
      = ((if u then (if p ∧ r then 1 else 0) * (if q ∧ s then 1 else 0) * S else 0 : ℝ) : EReal) := by
  by_cases hp : p <;> by_cases hq : q <;> by_cases hr : r <;> by_cases hs : s <;> by_cases hu : u <;> simp [hp, hq, hr, hs, hu]

/-- A pair adds its product to the entry of its two classes. -/
theorem pair_real (S : ℝ) (i j : Fin 4096) (a b : Fin 101) :
    (if (x3 (ix1 i)).toInt = a.val ∧ (x3 (ix1 j)).toInt = b.val then (S : EReal) * val_main_v28 (F := Ideal) x2 x3 (ix2 i j) else 0)
      = ((if i < j then part x2 x3 i a.val * part x2 x3 j b.val * S else 0 : ℝ) : EReal) := by
  have w : ∀ (t : BitVec 32) (k : Fin 101), t.toInt = k.val ↔ t = BitVec.ofNat 32 k.val := fun t k => by
    rw [← toInt_ofNat k.val (by omega)]
    exact BitVec.toInt_inj
  rw [pair_bit]
  simp only [w]
  exact bits S _ _ _ _ _

/-- The pairs of an entry, summed. -/
theorem pairs_real (S : Fin 4096 → Fin 4096 → ℝ) (upd : S4096x4096.Idx → EReal)
    (hU : ∀ i j, upd (ix2 i j) = (S i j : EReal) * val_main_v28 (F := Ideal) x2 x3 (ix2 i j)) (a b : Fin 101) :
    (∑ i, ∑ j, if (x3 (ix1 i)).toInt = a.val ∧ (x3 (ix1 j)).toInt = b.val then upd (ix2 i j) else 0)
      = ((ordered (fun i => part x2 x3 i a.val) (fun i => part x2 x3 i b.val) S : ℝ) : EReal) := by
  unfold ordered
  rw [← sum_coe]
  refine Finset.sum_congr rfl fun i _ => ?_
  rw [← sum_coe]
  refine Finset.sum_congr rfl fun j _ => ?_
  rw [hU]
  exact pair_real x2 x3 (S i j) i j a b

/-- From a matrix of pairs in order to the update. -/
theorem update_real (S : Fin 4096 → Fin 4096 → ℝ) (n : EReal) (a b : Fin 101) :
    n + (((ordered (fun i => part x2 x3 i a.val) (fun i => part x2 x3 i b.val) S : ℝ) : EReal)
        + ((ordered (fun i => part x2 x3 i b.val) (fun i => part x2 x3 i a.val) S : ℝ) : EReal)
        - (if a = b then ((ordered (fun i => part x2 x3 i a.val) (fun i => part x2 x3 i b.val) S : ℝ) : EReal) else 0))
      = n + ((update (part x2 x3) S a.val b.val : ℝ) : EReal) := by
  congr 1
  unfold update
  by_cases h : a = b
  · subst h
    rw [if_pos rfl, if_pos rfl, ← EReal.coe_add, ← EReal.coe_sub, add_sub_cancel_right]
  · rw [if_neg h, if_neg (fun q => h (Fin.ext q)), sub_zero, ← EReal.coe_add]

/-- The diagonal. -/
theorem eye (a b : Fin 101) : val_main_v68 (F := Ideal) (ix2 a b) = BitVec.ofBool (decide (a = b)) := by
  have h : val_main_v68 (F := Ideal) (ix2 a b) = BitVec.ofBool (decide (BitVec.ofNat 32 a.val + 0#32 = BitVec.ofNat 32 b.val)) := by
    pointwise [val_main_v68, val_main_v67, val_main_v64, val_main_v65, val_main_v66, val_main_c_11]
    rfl
  rw [h, BitVec.add_zero]
  congr 2
  refine propext ⟨fun q => Fin.ext ?_, fun q => by rw [q]⟩
  have := congrArg BitVec.toNat q
  simp only [BitVec.toNat_ofNat] at this
  omega

variable (hx : ∀ i : Fin 4096, (x3 (ix1 i)).toNat < 101)
include hx

theorem sim_pairs (a b : Fin 101) : (val_main_v48 (F := Ideal) x0 x2 x3 (ix2 a b) : EReal)
    = ((ordered (fun i => part x2 x3 i a.val) (fun i => part x2 x3 i b.val) (fun i j => product (xs x0 i) (xs x0 j)) : ℝ) : EReal) := by
  unfold val_main_v48
  rw [scatter _ _ _ (fun i => x3 (ix1 i)) (index_fst x3 hx) (index_snd x3 hx),
    pairs_real x2 x3 (fun i j => product (xs x0 i) (xs x0 j)) _ (fun i j => ?_)]
  · rw [show (val_main_v34 (F := Ideal) (ix2 a b) : EReal) = 0 by pointwise [val_main_v34, val_main_cst_2], zero_add]
  · rw [← product_entry]; rfl

theorem cnt_pairs (a b : Fin 101) : (val_main_v63 (F := Ideal) x2 x3 (ix2 a b) : EReal)
    = ((ordered (fun i => part x2 x3 i a.val) (fun i => part x2 x3 i b.val) (fun _ _ => 1) : ℝ) : EReal) := by
  unfold val_main_v63
  rw [scatter _ _ _ (fun i => x3 (ix1 i)) (count_fst x3 hx) (count_snd x3 hx),
    pairs_real x2 x3 (fun _ _ => 1) _ (fun i j => ?_)]
  · rw [show (val_main_v49 (F := Ideal) (ix2 a b) : EReal) = 0 by pointwise [val_main_v49, val_main_cst_6], zero_add]
  · rw [EReal.coe_one, one_mul]

/-- The similarity matrix. -/
theorem sim_entry (x5 : S101x101.Idx → EReal) (a b : Fin 101) : (val_main_v77 (F := Ideal) x0 x2 x3 x5 (ix2 a b) : EReal)
    = x5 (ix2 a b) + ((update (part x2 x3) (fun i j => product (xs x0 i) (xs x0 j)) a.val b.val : ℝ) : EReal) := by
  have h : (val_main_v77 (F := Ideal) x0 x2 x3 x5 (ix2 a b) : EReal) = x5 (ix2 a b) + ((val_main_v48 (F := Ideal) x0 x2 x3 (ix2 a b) : EReal)
      + val_main_v48 (F := Ideal) x0 x2 x3 (ix2 b a)
      - Scalar.select (val_main_v68 (F := Ideal) (ix2 a b)) (val_main_v48 (F := Ideal) x0 x2 x3 (ix2 a b) : EReal) 0) := by
    pointwise [val_main_v77, val_main_v72, val_main_v70, val_main_v71, val_main_v69, val_main_call4_v1, val_main_call4_v0, val_main_cst_12]
    rw [id, show (constant (F := Ideal) S_ .f32 0#32 ix0 : EReal) = 0 by pointwise]
  rw [h, eye, WordCmp.select_decide, sim_pairs x0 x2 x3 hx, sim_pairs x0 x2 x3 hx, update_real]

/-- The count matrix. -/
theorem cnt_entry (x6 : S101x101.Idx → EReal) (a b : Fin 101) : (val_main_v78 (F := Ideal) x2 x3 x6 (ix2 a b) : EReal)
    = x6 (ix2 a b) + ((update (part x2 x3) (fun _ _ => 1) a.val b.val : ℝ) : EReal) := by
  have h : (val_main_v78 (F := Ideal) x2 x3 x6 (ix2 a b) : EReal) = x6 (ix2 a b) + ((val_main_v63 (F := Ideal) x2 x3 (ix2 a b) : EReal)
      + val_main_v63 (F := Ideal) x2 x3 (ix2 b a)
      - Scalar.select (val_main_v68 (F := Ideal) (ix2 a b)) (val_main_v63 (F := Ideal) x2 x3 (ix2 a b) : EReal) 0) := by
    pointwise [val_main_v78, val_main_v76, val_main_v74, val_main_v75, val_main_v73, val_main_call5_v1, val_main_call5_v0, val_main_cst_13]
    rw [id, show (constant (F := Ideal) S_ .f32 0#32 ix0 : EReal) = 0 by pointwise]
  rw [h, eye, WordCmp.select_decide, cnt_pairs x2 x3 hx, cnt_pairs x2 x3 hx, update_real]

end Cert.ReferenceIdeal.Matrix

end

end
-- ==== Proof.KernelLoss.lean ====
module

public import proofs.«01_k».proof.Proof.Sums

/-!
# The kernel's loss

The mean over the batch of each row's negative log likelihood.
-/

@[expose] public section

set_option maxRecDepth 16384

noncomputable section

namespace Cert.KernelIdeal.Loss

open Idealize.ShloMosaic Idealize.ShloMosaic.TcCoe Idealize.SL.Sem
open Cert.KernelIdeal Cert.KernelIdeal.Gen Cert.KernelIdeal.Step Cert.KernelIdeal.Body Cert.KernelIdeal.Rows Cert.KernelIdeal.Sums Cert.KernelIdeal.Blocks Cert.KernelIdeal.Outs Cert.FirstMax

/-- A row's loss, from its logits and its target's class. -/
def lossOf (y : Fin 101 → EReal) (t : Fin 101) : EReal :=
  y (first y) + Ideal.log (∑ l, Ideal.exp (y l - y (first y))) - y t

/-- A sum over the lanes of a term that is zero on the padding. -/
theorem sum_lanes (f : Fin 128 → EReal) (h : ∀ l : Fin 128, 101 ≤ l.val → f l = 0) : ∑ l, f l = ∑ k : Fin 101, f (lane k) := by
  have e : ∑ l, f l = ∑ k : Fin 101, f (Fin.castAdd 27 k) + ∑ k : Fin 27, f (Fin.natAdd 101 k) := Fin.sum_univ_add (a := 101) (b := 27) f
  rw [e, Finset.sum_eq_zero (s := (Finset.univ : Finset (Fin 27))) fun k _ => h _ (by simp), add_zero]
  rfl

/-- The target's bit. -/
theorem hit_class (t k : Fin 101) : hit (BitVec.ofNat 32 t.val) k.val = if t = k then 1 else 0 := by
  unfold hit
  refine if_congr ⟨fun q => Fin.ext ?_, fun q => by rw [q]⟩ rfl rfl
  have := congrArg BitVec.toNat q
  simp only [BitVec.toNat_ofNat] at this
  omega

theorem hit_pad (t : Fin 101) (l : Fin 128) (hl : 101 ≤ l.val) : hit (BitVec.ofNat 32 t.val) l.val = 0 := by
  unfold hit
  rw [if_neg]
  intro q
  have := congrArg BitVec.toNat q
  simp only [BitVec.toNat_ofNat] at this
  omega

/-- A row's loss as the kernel computes it. -/
theorem loss_row (x5 : Vec Ideal S1x1x2048 .i32) (x3 : Vec Ideal S2048x128 .f32) (r : Fin 2048) (y : Fin 101 → EReal) (t : Fin 101)
    (hy : ∀ k : Fin 101, x3 (ix2 r (lane k)) = y k) (ht : x5 (ix3 0 0 r) = BitVec.ofNat 32 t.val) :
    (losses (k0_pay68 x5) x3 (ix1 r) : EReal) = lossOf y t := by
  rw [losses_apply, top x3 r y hy _ (first_spec y)]
  have hi : ∀ l : Fin 128, 101 ≤ l.val → (k0_pay15 x3 (ix2 r l) : EReal) = ⊥ := fun l hl => masked_hi x3 r l hl
  have lo : ∀ k : Fin 101, (k0_pay15 x3 (ix2 r (lane k)) : EReal) = y k := fun k => masked_lo x3 r y hy (lane k) k.isLt
  have s1 := sum_lanes (fun l => Ideal.exp ((k0_pay15 x3 (ix2 r l) : EReal) - y (first y)))
    (fun l hl => by rw [hi l hl, EReal.bot_sub, Ideal.exp_bot])
  have s2 := sum_lanes (fun l => (k0_pay15 x3 (ix2 r l) : EReal) * (k0_pay68 x5 (ix2 r l) : EReal))
    (fun l hl => by rw [onehot16, ht, hit_pad t l hl, mul_zero])
  have s3 : (∑ k : Fin 101, (k0_pay15 x3 (ix2 r (lane k)) : EReal) * (k0_pay68 x5 (ix2 r (lane k)) : EReal)) = y t := by
    rw [Finset.sum_eq_single t]
    · rw [lo, onehot16, ht]
      exact (congrArg (y t * ·) ((hit_class t t).trans (if_pos rfl))).trans (mul_one _)
    · intro k _ hk
      rw [onehot16, ht]
      exact (congrArg (_ * ·) ((hit_class t k).trans (if_neg (Ne.symm hk)))).trans (mul_zero _)
    · exact fun q => absurd (Finset.mem_univ t) q
  rw [s1, s2, s3]
  simp only [lo]
  rfl

variable (m : (ℓ : Loc nD τ sig) → Buf (Elt Ideal) ℓ) (c : Dev nD) (T : Fin 4096 → Fin 101)
  (hT : ∀ i, target m c i = BitVec.ofNat 32 (T i).val)
include hT

theorem row_nl (j : Fin 2) (v : Acc Ideal) :
    ((rowAt m c (pt j) v).nl (ix2 0 0) : EReal) = v.nl (ix2 0 0) + ∑ r : Fin 2048, lossOf (logit m c (rowOf j r)) (T (rowOf j r)) := by
  refine (likelihood _ _ _).trans (congrArg (_ + ·) (Finset.sum_congr rfl fun r _ => ?_))
  exact loss_row _ _ r (logit m c (rowOf j r)) (T (rowOf j r)) (fun k => logits m c j r k) ((targets m c j r).trans (hT _))

theorem acc_nl : ((acc2 m c).nl (ix2 0 0) : EReal) = ∑ i, lossOf (logit m c i) (T i) := by
  rw [acc2, (pair_keeps m c _ _).2.2.2, acc1_eq, row_nl m c T hT, (pair_keeps m c _ _).2.2.2, acc0_eq, row_nl m c T hT,
    (pair_keeps m c _ _).2.2.2]
  exact halves (fun i => lossOf (logit m c i) (T i)) _ (by show (k0_pay65 (F := Ideal) (ix2 0 0) : EReal) = 0; pointwise [k0_pay65])

/-- The loss. -/
theorem loss_entry : (res14 m c (ix2 0 1) : EReal)
    = Ideal.div (∑ i, lossOf (logit m c i) (T i)) (Ideal.ofBits .f32 0x45800000#32) := by
  rw [res14, lane_1, mean_apply, acc_nl m c T hT]

end Cert.KernelIdeal.Loss

end

end
-- ==== Proof.RefLoss.lean ====
module

public import proofs.«01_k».proof.Proof.RefPairs
public import proofs.«01_k».proof.Proof.KernelLoss
public import proofs.«01_k».proof.Proof.Scatter
public import Idealize.ShloMosaic.Lib.ReduceAll

/-!
# The reference's loss

The mean over the batch of each row's negative log likelihood.
-/

@[expose] public section

set_option maxRecDepth 16384

noncomputable section

namespace Cert.ReferenceIdeal.Loss

open Idealize.ShloMosaic Idealize.SL.Sem
open Cert.ReferenceIdeal Cert.ReferenceIdeal.Gen Cert.ReferenceIdeal.Read Cert.ReferenceIdeal.Pair Cert.FirstMax
open Cert.KernelIdeal.Sums (first first_spec)
open Cert.KernelIdeal.Loss (lossOf)

/-- The entry a row's index names. -/
theorem gather_entry (x : S4096x101.Idx → EReal) (idx : IVec S4096x1x1 32) (i : Fin 4096) (t : Fin 101)
    (h : idx (ix3 i 0 0) = BitVec.ofNat 32 t.val) :
    Host.gather gather_S4096x101_S4096x1x1_S4096x1_n_1_0_0_1_2_11 x idx (ix2 i 0) = x (ix2 i t) := by
  refine congrArg x (funext fun a => Fin.ext ?_)
  show GatherDims.start _ _ _ a + GatherDims.batchCoord _ _ a + GatherDims.offCoord _ _ a = _
  rw [GatherDims.offCoord_eq_zero _ _ _ (fun q => by revert q; fin_cases a <;> decide +kernel), Nat.add_zero]
  match a with
  | ⟨0, _⟩ =>
    rw [GatherDims.start_batching _ _ _ _ (List.mem_singleton.2 rfl), Nat.zero_add]
    rfl
  | ⟨1, _⟩ =>
    rw [GatherDims.batchCoord_eq_zero _ _ _ (fun q => Nat.one_ne_zero (congrArg Fin.val (List.mem_singleton.1 q))), Nat.add_zero]
    have e : GatherDims.start gather_S4096x101_S4096x1x1_S4096x1_n_1_0_0_1_2_11 (ix2 i 0) idx 1 = min (idx (ix3 i 0 0)).toInt.toNat 100 := by
      unfold GatherDims.start
      rw [dif_pos (by decide +kernel)]
      congr 4
      funext b
      match b with
      | ⟨0, _⟩ => rfl
      | ⟨1, _⟩ => rfl
      | ⟨2, _⟩ => rfl
    refine e.trans ?_
    rw [h, toInt_ofNat _ (by omega)]
    show min t.val 100 = t.val
    omega

variable (x2 : S4096x101.Idx → EReal) (x3 : IVec S4096 32)

/-- A row's greatest logit. -/
theorem greatest (i : Fin 4096) : (val_main_call0_v2 (F := Ideal) x2 (ix1 i) : EReal) = ys x2 i (first (ys x2 i)) := by
  have f : (val_main_call0_v0 (F := Ideal) x2 (ix1 i) : EReal) = ys x2 i (first (ys x2 i)) := by
    have e := Host.reduce_eq_fold_single (max : EReal → EReal → EReal) x2 (val_main_call0_cst (F := Ideal)) reducesTo_S4096x101_S4096_d1
      (by decide) h_S_ (ix1 i)
    refine (show _ = _ from e).trans ?_
    have g := fold_max_eq (Ideal.ofBits .f32 4286578688#32) (ys x2 i) (first (ys x2 i)) (by rw [Cert.KernelIdeal.Rows.neg_inf]; exact bot_le) (first_spec (ys x2 i)).1
    refine Eq.trans (congrArg (fun f => Finset.fold max (Ideal.ofBits .f32 4286578688#32) f Finset.univ) (funext fun k => ?_)) g
    refine congrArg x2 (funext fun a => ?_)
    match a with
    | ⟨0, _⟩ => rfl
    | ⟨1, _⟩ => rfl
  have h : (val_main_call0_v2 (F := Ideal) x2 (ix1 i) : EReal) = max (Ideal.ofBits .f32 4286578688#32) (val_main_call0_v0 (F := Ideal) x2 (ix1 i) : EReal) := by
    pointwise [val_main_call0_v2, val_main_call0_v1, val_main_call0_cst_0]
  rw [h, f, Cert.KernelIdeal.Rows.neg_inf]
  exact max_eq_right bot_le

/-- The logarithm of a row's softmax. -/
theorem log_softmax (i : Fin 4096) (t : Fin 101) : (val_main_v0 (F := Ideal) x2 (ix2 i t) : EReal)
    = (ys x2 i t - ys x2 i (first (ys x2 i))) - Ideal.log (∑ l, Ideal.exp (ys x2 i l - ys x2 i (first (ys x2 i)))) := by
  rw [← greatest]
  pointwise [val_main_v0, val_main_call0_v5, val_main_call0_v4, val_main_call0_v3, val_main_call0_v10, val_main_call0_v9, val_main_call0_v8, val_main_call0_v7, val_main_call0_v6, val_main_call0_cst_1]
  rfl

variable (T : Fin 4096 → Fin 101) (hT : ∀ i, x3 (ix1 i) = BitVec.ofNat 32 (T i).val)
include hT

/-- The index read for a row is its target. -/
theorem target_index (i : Fin 4096) : val_main_call1_v5 (F := Ideal) x3 (ix3 i 0 0) = BitVec.ofNat 32 (T i).val := by
  rw [← hT i]
  pointwise [val_main_call1_v5, val_main_call1_v4, val_main_call1_v1, val_main_call1_v3, val_main_call1_v2, val_main_call1_v0, val_main_call1_c, val_main_call1_c_0, val_main_v1]
  refine Routing.wrap_of_lt _ _ ?_
  rw [hT i, BitVec.toNat_ofNat]
  omega

/-- The index is in range. -/
theorem in_range (i : Fin 4096) : val_main_call1_v12 (F := Ideal) x3 (ix2 i 0) = 1#1 := by
  refine Host.reduce_andi_one _ _ _ _ _ rfl fun q => ?_
  obtain ⟨j, rfl⟩ : ∃ j : Fin 4096, q = ix3 j 0 0 := ⟨q 0, funext fun a => match a with
    | ⟨0, _⟩ => rfl
    | ⟨1, _⟩ => Subsingleton.elim (α := Fin 1) _ _
    | ⟨2, _⟩ => Subsingleton.elim (α := Fin 1) _ _⟩
  have h : val_main_call1_v11 (F := Ideal) x3 (ix3 j 0 0)
      = IntOp.andi (BitVec.ofBool (decide ((0#32).toInt ≤ (val_main_call1_v5 (F := Ideal) x3 (ix3 j 0 0)).toInt)))
        (BitVec.ofBool (decide ((val_main_call1_v5 (F := Ideal) x3 (ix3 j 0 0)).toInt ≤ (100#32).toInt))) := by
    pointwise [val_main_call1_v11, val_main_call1_v7, val_main_call1_v10, val_main_call1_v6, val_main_call1_v9, val_main_call1_v8, val_main_call1_c_1, val_main_call1_c_2]
    rfl
  rw [h, target_index x3 T hT, toInt_ofNat (T j).val (by omega), show (0#32).toInt = 0 by decide, show (100#32).toInt = 100 by decide,
    decide_eq_true (by omega), decide_eq_true (by have := (T j).isLt; omega)]
  rfl

/-- A row's loss. -/
theorem row (i : Fin 4096) : (val_main_v4 (F := Ideal) x2 x3 (ix1 i) : EReal) = -(val_main_v0 (F := Ideal) x2 (ix2 i (T i)) : EReal) := by
  have h : (val_main_v4 (F := Ideal) x2 x3 (ix1 i) : EReal)
      = -(Scalar.select (val_main_call1_v12 (F := Ideal) x3 (ix2 i 0)) (val_main_call1_v13 (F := Ideal) x2 x3 (ix2 i 0) : EReal)
          (val_main_call1_v14 (F := Ideal) (ix2 i 0))) := by
    pointwise [val_main_v4, val_main_v3, val_main_v2]
    try rfl
  have one : ∀ a b : EReal, Scalar.select 1#1 a b = a := fun _ _ => rfl
  rw [h, in_range x3 T hT, one]
  refine congrArg Neg.neg ?_
  exact gather_entry _ _ i (T i) (target_index x3 T hT i)

omit hT in
/-- The two ways to write a row's loss agree on real logits. -/
theorem loss_eq (y : Fin 101 → EReal) (hy : ∀ k, ∃ r : ℝ, y k = r) (t : Fin 101) :
    -((y t - y (first y)) - Ideal.log (∑ l, Ideal.exp (y l - y (first y)))) = lossOf y t := by
  unfold lossOf
  generalize Ideal.log (∑ l, Ideal.exp (y l - y (first y))) = L
  obtain ⟨a, ha⟩ := hy (first y)
  obtain ⟨b, hb⟩ := hy t
  rw [ha, hb]
  induction L with
  | bot => rw [← EReal.coe_sub, EReal.coe_sub_bot]; simp
  | top => rw [← EReal.coe_sub]; simp
  | coe r =>
    rw [← EReal.coe_sub, ← EReal.coe_sub, ← EReal.coe_neg, ← EReal.coe_add, ← EReal.coe_sub]
    congr 1
    ring

/-- The loss. -/
theorem loss_entry (hy : ∀ i k, ∃ r : ℝ, ys x2 i k = r) (q : S_.Idx) : (val_main_v6 (F := Ideal) x2 x3 q : EReal)
    = Ideal.div (∑ i, lossOf (ys x2 i) (T i)) (Ideal.ofBits .f32 0x45800000#32) := by
  have h : (val_main_v6 (F := Ideal) x2 x3 q : EReal)
      = Ideal.div (val_main_v5 (F := Ideal) x2 x3 q) (Ideal.ofBits .f32 0x45800000#32) := rfl
  have s : (val_main_v5 (F := Ideal) x2 x3 q : EReal) = ∑ i, (val_main_v4 (F := Ideal) x2 x3 (ix1 i) : EReal) := by
    pointwise [val_main_v5, val_main_cst]
  rw [h, s]
  congr 1
  refine Finset.sum_congr rfl fun i _ => ?_
  rw [row x2 x3 T hT, log_softmax, loss_eq _ (hy i)]

end Cert.ReferenceIdeal.Loss

end

end
-- ==== Proof.RefHash.lean ====
/- The reference program's remaining operations, those of the hash loss and the whole loss, as in RefRead. -/
module

public import proofs.«01_k».proof.Proof.RefRead
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %79 = stablehlo.transpose %arg1, dims = [1, 0] : (tensor<4096x64xf32>) -> tensor<64x4096xf32>
def val_main_v79 (x1 : (⟨S4096x64, .f32⟩ : BufTy).Contents (Elt F)) : (⟨S64x4096, .f32⟩ : BufTy).Contents (Elt F) :=
  transpose S64x4096 [1, 0] (x1) transposes_S4096x64_S64x4096_1_0

-- %80 = stablehlo.dot_general %arg1, %79, contracting_dims = [1] x [0], precision = [DEFAULT, DEFAULT] : (tensor<4096x64xf32>, tensor<64x4096xf32>) -> tensor<4096x4096xf32>
def val_main_v80 (x1 : (⟨S4096x64, .f32⟩ : BufTy).Contents (Elt F)) : (⟨S4096x4096, .f32⟩ : BufTy).Contents (Elt F) :=
  Host.dotGeneral dot_S4096x64_S64x4096_S4096x4096_1_0_0_1_n_n none (x1) (val_main_v79 (F := F) x1)

-- %cst_14 = stablehlo.constant dense<2.000000e+00> : tensor<f32>
def val_main_cst_14 : (⟨S_, .f32⟩ : BufTy).Contents (Elt F) :=
  constant S_ .f32 0x40000000#32

-- %81 = stablehlo.broadcast_in_dim %cst_14, dims = [] : (tensor<f32>) -> tensor<4096x4096xf32>
def val_main_v81 : (⟨S4096x4096, .f32⟩ : BufTy).Contents (Elt F) :=
  broadcastInDim S4096x4096 ![] bcast_S_S4096x4096 (val_main_cst_14 (F := F))

-- %82 = stablehlo.divide %80, %81 : tensor<4096x4096xf32>
def val_main_v82 (x1 : (⟨S4096x64, .f32⟩ : BufTy).Contents (Elt F)) : (⟨S4096x4096, .f32⟩ : BufTy).Contents (Elt F) :=
  Host.divf (val_main_v80 (F := F) x1) (val_main_v81 (F := F))

-- @_one_hot's %0 = stablehlo.broadcast_in_dim %arg0, dims = [0] : (tensor<4096xi32>) -> tensor<4096x1xi32>, in %83 = func.call @_one_hot(…)
def val_main_call6_v0 (x3 : (⟨S4096, .i32⟩ : BufTy).Contents (Elt F)) : (⟨S4096x1, .i32⟩ : BufTy).Contents (Elt F) :=
  broadcastInDim S4096x1 ![0] bcast_S4096_S4096x1_0 (x3)

-- @_one_hot's %1 = stablehlo.iota dim = 1 : tensor<1x101xi32>, in %83 = func.call @_one_hot(…)
def val_main_call6_v1 : (⟨S1x101, .i32⟩ : BufTy).Contents (Elt F) :=
  iotaInDim S1x101 32 1

-- @_one_hot's %2 = stablehlo.broadcast_in_dim %0, dims = [0, 1] : (tensor<4096x1xi32>) -> tensor<4096x101xi32>, in %83 = func.call @_one_hot(…)
def val_main_call6_v2 (x3 : (⟨S4096, .i32⟩ : BufTy).Contents (Elt F)) : (⟨S4096x101, .i32⟩ : BufTy).Contents (Elt F) :=
  broadcastInDim S4096x101 ![0, 1] bcast_S4096x1_S4096x101_0_1 (val_main_call6_v0 (F := F) x3)

-- @_one_hot's %3 = stablehlo.broadcast_in_dim %1, dims = [0, 1] : (tensor<1x101xi32>) -> tensor<4096x101xi32>, in %83 = func.call @_one_hot(…)
def val_main_call6_v3 : (⟨S4096x101, .i32⟩ : BufTy).Contents (Elt F) :=
  broadcastInDim S4096x101 ![0, 1] bcast_S1x101_S4096x101_0_1 (val_main_call6_v1 (F := F))

-- @_one_hot's %4 = stablehlo.compare EQ, %2, %3, SIGNED : (tensor<4096x101xi32>, tensor<4096x101xi32>) -> tensor<4096x101xi1>, in %83 = func.call @_one_hot(…)
def val_main_call6_v4 (x3 : (⟨S4096, .i32⟩ : BufTy).Contents (Elt F)) : (⟨S4096x101, .i1⟩ : BufTy).Contents (Elt F) :=
  cmpi .eq (val_main_call6_v2 (F := F) x3) (val_main_call6_v3 (F := F))

-- %83 = func.call @_one_hot(…) result 0: @_one_hot's %5 = stablehlo.convert %4 : (tensor<4096x101xi1>) -> tensor<4096x101xf32>
def val_main_v83 (x3 : (⟨S4096, .i32⟩ : BufTy).Contents (Elt F)) : (⟨S4096x101, .f32⟩ : BufTy).Contents (Elt F) :=
  uitofp .f32 (val_main_call6_v4 (F := F) x3)

-- %84 = stablehlo.transpose %83, dims = [1, 0] : (tensor<4096x101xf32>) -> tensor<101x4096xf32>
def val_main_v84 (x3 : (⟨S4096, .i32⟩ : BufTy).Contents (Elt F)) : (⟨S101x4096, .f32⟩ : BufTy).Contents (Elt F) :=
  transpose S101x4096 [1, 0] (val_main_v83 (F := F) x3) transposes_S4096x101_S101x4096_1_0

-- %85 = stablehlo.dot_general %83, %84, contracting_dims = [1] x [0], precision = [DEFAULT, DEFAULT] : (tensor<4096x101xf32>, tensor<101x4096xf32>) -> tensor<4096x4096xf32>
def val_main_v85 (x3 : (⟨S4096, .i32⟩ : BufTy).Contents (Elt F)) : (⟨S4096x4096, .f32⟩ : BufTy).Contents (Elt F) :=
  Host.dotGeneral dot_S4096x101_S101x4096_S4096x4096_1_0_0_1_n_n none (val_main_v83 (F := F) x3) (val_main_v84 (F := F) x3)

-- %cst_15 = stablehlo.constant dense<0.000000e+00> : tensor<f32>
def val_main_cst_15 : (⟨S_, .f32⟩ : BufTy).Contents (Elt F) :=
  constant S_ .f32 0x00000000#32

-- %86 = stablehlo.broadcast_in_dim %cst_15, dims = [] : (tensor<f32>) -> tensor<4096x4096xf32>
def val_main_v86 : (⟨S4096x4096, .f32⟩ : BufTy).Contents (Elt F) :=
  broadcastInDim S4096x4096 ![] bcast_S_S4096x4096 (val_main_cst_15 (F := F))

-- %87 = stablehlo.compare GT, %85, %86, FLOAT : (tensor<4096x4096xf32>, tensor<4096x4096xf32>) -> tensor<4096x4096xi1>
def val_main_v87 (x3 : (⟨S4096, .i32⟩ : BufTy).Contents (Elt F)) : (⟨S4096x4096, .i1⟩ : BufTy).Contents (Elt F) :=
  cmpf .ogt (val_main_v85 (F := F) x3) (val_main_v86 (F := F))

-- %88 = stablehlo.convert %87 : (tensor<4096x4096xi1>) -> tensor<4096x4096xf32>
def val_main_v88 (x3 : (⟨S4096, .i32⟩ : BufTy).Contents (Elt F)) : (⟨S4096x4096, .f32⟩ : BufTy).Contents (Elt F) :=
  uitofp .f32 (val_main_v87 (F := F) x3)

-- %89 = stablehlo.slice %arg3 [0:6] : (tensor<4096xi32>) -> tensor<6xi32>
def val_main_v89 (x3 : (⟨S4096, .i32⟩ : BufTy).Contents (Elt F)) : (⟨S6, .i32⟩ : BufTy).Contents (Elt F) :=
  extractStridedSlice S6 ![0] (x3) slices_S4096_S6_0

-- %90 = stablehlo.broadcast_in_dim %89, dims = [0] : (tensor<6xi32>) -> tensor<6x1xi32>
def val_main_v90 (x3 : (⟨S4096, .i32⟩ : BufTy).Contents (Elt F)) : (⟨S6x1, .i32⟩ : BufTy).Contents (Elt F) :=
  broadcastInDim S6x1 ![0] bcast_S6_S6x1_0 (val_main_v89 (F := F) x3)

-- %91 = stablehlo.slice %arg3 [0:6] : (tensor<4096xi32>) -> tensor<6xi32>
def val_main_v91 (x3 : (⟨S4096, .i32⟩ : BufTy).Contents (Elt F)) : (⟨S6, .i32⟩ : BufTy).Contents (Elt F) :=
  extractStridedSlice S6 ![0] (x3) slices_S4096_S6_0

-- %92 = stablehlo.broadcast_in_dim %91, dims = [1] : (tensor<6xi32>) -> tensor<1x6xi32>
def val_main_v92 (x3 : (⟨S4096, .i32⟩ : BufTy).Contents (Elt F)) : (⟨S1x6, .i32⟩ : BufTy).Contents (Elt F) :=
  broadcastInDim S1x6 ![1] bcast_S6_S1x6_1 (val_main_v91 (F := F) x3)

-- %c_16 = stablehlo.constant dense<0> : tensor<i32>
def val_main_c_16 : (⟨S_, .i32⟩ : BufTy).Contents (Elt F) :=
  constantI S_ 32 0#32

-- %93 = stablehlo.broadcast_in_dim %c_16, dims = [] : (tensor<i32>) -> tensor<6x1xi32>
def val_main_v93 : (⟨S6x1, .i32⟩ : BufTy).Contents (Elt F) :=
  broadcastInDim S6x1 ![] bcast_S_S6x1 (val_main_c_16 (F := F))

-- %94 = stablehlo.compare LT, %90, %93, SIGNED : (tensor<6x1xi32>, tensor<6x1xi32>) -> tensor<6x1xi1>
def val_main_v94 (x3 : (⟨S4096, .i32⟩ : BufTy).Contents (Elt F)) : (⟨S6x1, .i1⟩ : BufTy).Contents (Elt F) :=
  cmpi .slt (val_main_v90 (F := F) x3) (val_main_v93 (F := F))

-- %c_17 = stablehlo.constant dense<101> : tensor<i32>
def val_main_c_17 : (⟨S_, .i32⟩ : BufTy).Contents (Elt F) :=
  constantI S_ 32 101#32

-- %95 = stablehlo.broadcast_in_dim %c_17, dims = [] : (tensor<i32>) -> tensor<6x1xi32>
def val_main_v95 : (⟨S6x1, .i32⟩ : BufTy).Contents (Elt F) :=
  broadcastInDim S6x1 ![] bcast_S_S6x1 (val_main_c_17 (F := F))

-- %96 = stablehlo.add %90, %95 : tensor<6x1xi32>
def val_main_v96 (x3 : (⟨S4096, .i32⟩ : BufTy).Contents (Elt F)) : (⟨S6x1, .i32⟩ : BufTy).Contents (Elt F) :=
  addi (val_main_v90 (F := F) x3) (val_main_v95 (F := F))

-- %97 = stablehlo.select %94, %96, %90 : tensor<6x1xi1>, tensor<6x1xi32>
def val_main_v97 (x3 : (⟨S4096, .i32⟩ : BufTy).Contents (Elt F)) : (⟨S6x1, .i32⟩ : BufTy).Contents (Elt F) :=
  select (val_main_v94 (F := F) x3) (val_main_v96 (F := F) x3) (val_main_v90 (F := F) x3)

-- %c_18 = stablehlo.constant dense<0> : tensor<i32>
def val_main_c_18 : (⟨S_, .i32⟩ : BufTy).Contents (Elt F) :=
  constantI S_ 32 0#32

-- %98 = stablehlo.broadcast_in_dim %c_18, dims = [] : (tensor<i32>) -> tensor<1x6xi32>
def val_main_v98 : (⟨S1x6, .i32⟩ : BufTy).Contents (Elt F) :=
  broadcastInDim S1x6 ![] bcast_S_S1x6 (val_main_c_18 (F := F))

-- %99 = stablehlo.compare LT, %92, %98, SIGNED : (tensor<1x6xi32>, tensor<1x6xi32>) -> tensor<1x6xi1>
def val_main_v99 (x3 : (⟨S4096, .i32⟩ : BufTy).Contents (Elt F)) : (⟨S1x6, .i1⟩ : BufTy).Contents (Elt F) :=
  cmpi .slt (val_main_v92 (F := F) x3) (val_main_v98 (F := F))

-- %c_19 = stablehlo.constant dense<101> : tensor<i32>
def val_main_c_19 : (⟨S_, .i32⟩ : BufTy).Contents (Elt F) :=
  constantI S_ 32 101#32

-- %100 = stablehlo.broadcast_in_dim %c_19, dims = [] : (tensor<i32>) -> tensor<1x6xi32>
def val_main_v100 : (⟨S1x6, .i32⟩ : BufTy).Contents (Elt F) :=
  broadcastInDim S1x6 ![] bcast_S_S1x6 (val_main_c_19 (F := F))

-- %101 = stablehlo.add %92, %100 : tensor<1x6xi32>
def val_main_v101 (x3 : (⟨S4096, .i32⟩ : BufTy).Contents (Elt F)) : (⟨S1x6, .i32⟩ : BufTy).Contents (Elt F) :=
  addi (val_main_v92 (F := F) x3) (val_main_v100 (F := F))

-- %102 = stablehlo.select %99, %101, %92 : tensor<1x6xi1>, tensor<1x6xi32>
def val_main_v102 (x3 : (⟨S4096, .i32⟩ : BufTy).Contents (Elt F)) : (⟨S1x6, .i32⟩ : BufTy).Contents (Elt F) :=
  select (val_main_v99 (F := F) x3) (val_main_v101 (F := F) x3) (val_main_v92 (F := F) x3)

-- %103 = stablehlo.broadcast_in_dim %97, dims = [0, 1] : (tensor<6x1xi32>) -> tensor<6x6xi32>
def val_main_v103 (x3 : (⟨S4096, .i32⟩ : BufTy).Contents (Elt F)) : (⟨S6x6, .i32⟩ : BufTy).Contents (Elt F) :=
  broadcastInDim S6x6 ![0, 1] bcast_S6x1_S6x6_0_1 (val_main_v97 (F := F) x3)

-- %104 = stablehlo.broadcast_in_dim %102, dims = [0, 1] : (tensor<1x6xi32>) -> tensor<6x6xi32>
def val_main_v104 (x3 : (⟨S4096, .i32⟩ : BufTy).Contents (Elt F)) : (⟨S6x6, .i32⟩ : BufTy).Contents (Elt F) :=
  broadcastInDim S6x6 ![0, 1] bcast_S1x6_S6x6_0_1 (val_main_v102 (F := F) x3)

-- %105 = stablehlo.broadcast_in_dim %103, dims = [0, 1] : (tensor<6x6xi32>) -> tensor<6x6x1xi32>
def val_main_v105 (x3 : (⟨S4096, .i32⟩ : BufTy).Contents (Elt F)) : (⟨S6x6x1, .i32⟩ : BufTy).Contents (Elt F) :=
  broadcastInDim S6x6x1 ![0, 1] bcast_S6x6_S6x6x1_0_1 (val_main_v103 (F := F) x3)

-- %106 = stablehlo.broadcast_in_dim %104, dims = [0, 1] : (tensor<6x6xi32>) -> tensor<6x6x1xi32>
def val_main_v106 (x3 : (⟨S4096, .i32⟩ : BufTy).Contents (Elt F)) : (⟨S6x6x1, .i32⟩ : BufTy).Contents (Elt F) :=
  broadcastInDim S6x6x1 ![0, 1] bcast_S6x6_S6x6x1_0_1 (val_main_v104 (F := F) x3)

-- %107 = stablehlo.concatenate %105, %106, dim = 2 : (tensor<6x6x1xi32>, tensor<6x6x1xi32>) -> tensor<6x6x2xi32>
def val_main_v107 (x3 : (⟨S4096, .i32⟩ : BufTy).Contents (Elt F)) : (⟨S6x6x2, .i32⟩ : BufTy).Contents (Elt F) :=
  concatenate S6x6x2 2 [⟨S6x6x1, (val_main_v105 (F := F) x3)⟩, ⟨S6x6x1, (val_main_v106 (F := F) x3)⟩] concatenates_S6x6x1_S6x6x1_S6x6x2_d2

-- %108 = "stablehlo.gather"(%arg4, %107) <{dimension_numbers = #stablehlo.gather<collapsed_slice_dims = [0, 1], start_index_map = [0, 1], index_vector_dim = 2>, indices_are_sorted = false, slice_sizes = array<i64: 1, 1>}> : (tensor<101x101xf32>, tensor<6x6x2xi32>) -> tensor<6x6xf32>
def val_main_v108 (x3 : (⟨S4096, .i32⟩ : BufTy).Contents (Elt F)) (x4 : (⟨S101x101, .f32⟩ : BufTy).Contents (Elt F)) : (⟨S6x6, .f32⟩ : BufTy).Contents (Elt F) :=
  Host.gather gather_S101x101_S6x6x2_S6x6_n_01_n_n_01_2_11 (x4) (val_main_v107 (F := F) x3)

-- %c_20 = stablehlo.constant dense<0> : tensor<i32>
def val_main_c_20 : (⟨S_, .i32⟩ : BufTy).Contents (Elt F) :=
  constantI S_ 32 0#32

-- %109 = stablehlo.broadcast_in_dim %c_20, dims = [] : (tensor<i32>) -> tensor<1xi32>
def val_main_v109 : (⟨S1, .i32⟩ : BufTy).Contents (Elt F) :=
  broadcastInDim S1 ![] bcast_S_S1 (val_main_c_20 (F := F))

-- %c_21 = stablehlo.constant dense<0> : tensor<i32>
def val_main_c_21 : (⟨S_, .i32⟩ : BufTy).Contents (Elt F) :=
  constantI S_ 32 0#32

-- %110 = stablehlo.broadcast_in_dim %c_21, dims = [] : (tensor<i32>) -> tensor<1xi32>
def val_main_v110 : (⟨S1, .i32⟩ : BufTy).Contents (Elt F) :=
  broadcastInDim S1 ![] bcast_S_S1 (val_main_c_21 (F := F))

-- %111 = stablehlo.concatenate %109, %110, dim = 0 : (tensor<1xi32>, tensor<1xi32>) -> tensor<2xi32>
def val_main_v111 : (⟨S2, .i32⟩ : BufTy).Contents (Elt F) :=
  concatenate S2 0 [⟨S1, (val_main_v109 (F := F))⟩, ⟨S1, (val_main_v110 (F := F))⟩] concatenates_S1_S1_S2_d0

-- %112 = "stablehlo.scatter"(%88, %111, %108) <{indices_are_sorted = true, scatter_dimension_numbers = #stablehlo.scatter<update_window_dims = [0, 1], scatter_dims_to_operand_dims = [0, 1]>, unique_indices = true}> ( {
def val_main_v112 (x3 : (⟨S4096, .i32⟩ : BufTy).Contents (Elt F)) (x4 : (⟨S101x101, .f32⟩ : BufTy).Contents (Elt F)) : (⟨S4096x4096, .f32⟩ : BufTy).Contents (Elt F) :=
  Host.scatter scatter_S4096x4096_S2_S6x6_01_n_01_0 (fun _ b => b) (val_main_v88 (F := F) x3) (val_main_v111 (F := F)) (val_main_v108 (F := F) x3 x4)

-- %cst_22 = stablehlo.constant dense<0.000000e+00> : tensor<f32>
def val_main_cst_22 : (⟨S_, .f32⟩ : BufTy).Contents (Elt F) :=
  constant S_ .f32 0x00000000#32

-- %113 = stablehlo.broadcast_in_dim %cst_22, dims = [] : (tensor<f32>) -> tensor<4096x4096xf32>
def val_main_v113 : (⟨S4096x4096, .f32⟩ : BufTy).Contents (Elt F) :=
  broadcastInDim S4096x4096 ![] bcast_S_S4096x4096 (val_main_cst_22 (F := F))

-- %114 = stablehlo.maximum %113, %82 : tensor<4096x4096xf32>
def val_main_v114 (x1 : (⟨S4096x64, .f32⟩ : BufTy).Contents (Elt F)) : (⟨S4096x4096, .f32⟩ : BufTy).Contents (Elt F) :=
  maximumf (val_main_v113 (F := F)) (val_main_v82 (F := F) x1)

-- %115 = stablehlo.broadcast_in_dim %cst_22, dims = [] : (tensor<f32>) -> tensor<4096x4096xf32>
def val_main_v115 : (⟨S4096x4096, .f32⟩ : BufTy).Contents (Elt F) :=
  broadcastInDim S4096x4096 ![] bcast_S_S4096x4096 (val_main_cst_22 (F := F))

-- %116 = stablehlo.subtract %115, %82 : tensor<4096x4096xf32>
def val_main_v116 (x1 : (⟨S4096x64, .f32⟩ : BufTy).Contents (Elt F)) : (⟨S4096x4096, .f32⟩ : BufTy).Contents (Elt F) :=
  subf (val_main_v115 (F := F)) (val_main_v82 (F := F) x1)

-- %117 = stablehlo.compare NE, %116, %116, FLOAT : (tensor<4096x4096xf32>, tensor<4096x4096xf32>) -> tensor<4096x4096xi1>
def val_main_v117 (x1 : (⟨S4096x64, .f32⟩ : BufTy).Contents (Elt F)) : (⟨S4096x4096, .i1⟩ : BufTy).Contents (Elt F) :=
  cmpf .une (val_main_v116 (F := F) x1) (val_main_v116 (F := F) x1)

-- %118 = stablehlo.broadcast_in_dim %cst_22, dims = [] : (tensor<f32>) -> tensor<4096x4096xf32>
def val_main_v118 : (⟨S4096x4096, .f32⟩ : BufTy).Contents (Elt F) :=
  broadcastInDim S4096x4096 ![] bcast_S_S4096x4096 (val_main_cst_22 (F := F))

-- %119 = stablehlo.add %118, %82 : tensor<4096x4096xf32>
def val_main_v119 (x1 : (⟨S4096x64, .f32⟩ : BufTy).Contents (Elt F)) : (⟨S4096x4096, .f32⟩ : BufTy).Contents (Elt F) :=
  addf (val_main_v118 (F := F)) (val_main_v82 (F := F) x1)

-- %120 = stablehlo.abs %116 : tensor<4096x4096xf32>
def val_main_v120 (x1 : (⟨S4096x64, .f32⟩ : BufTy).Contents (Elt F)) : (⟨S4096x4096, .f32⟩ : BufTy).Contents (Elt F) :=
  Host.absf (val_main_v116 (F := F) x1)

-- %121 = stablehlo.negate %120 : tensor<4096x4096xf32>
def val_main_v121 (x1 : (⟨S4096x64, .f32⟩ : BufTy).Contents (Elt F)) : (⟨S4096x4096, .f32⟩ : BufTy).Contents (Elt F) :=
  Host.negf (val_main_v120 (F := F) x1)

-- %122 = stablehlo.exponential %121 : tensor<4096x4096xf32>
def val_main_v122 (x1 : (⟨S4096x64, .f32⟩ : BufTy).Contents (Elt F)) : (⟨S4096x4096, .f32⟩ : BufTy).Contents (Elt F) :=
  Host.exp (val_main_v121 (F := F) x1)

-- %123 = stablehlo.log_plus_one %122 : tensor<4096x4096xf32>
def val_main_v123 (x1 : (⟨S4096x64, .f32⟩ : BufTy).Contents (Elt F)) : (⟨S4096x4096, .f32⟩ : BufTy).Contents (Elt F) :=
  Host.log1p (val_main_v122 (F := F) x1)

-- %124 = stablehlo.add %114, %123 : tensor<4096x4096xf32>
def val_main_v124 (x1 : (⟨S4096x64, .f32⟩ : BufTy).Contents (Elt F)) : (⟨S4096x4096, .f32⟩ : BufTy).Contents (Elt F) :=
  addf (val_main_v114 (F := F) x1) (val_main_v123 (F := F) x1)

-- %125 = stablehlo.select %117, %119, %124 : tensor<4096x4096xi1>, tensor<4096x4096xf32>
def val_main_v125 (x1 : (⟨S4096x64, .f32⟩ : BufTy).Contents (Elt F)) : (⟨S4096x4096, .f32⟩ : BufTy).Contents (Elt F) :=
  select (val_main_v117 (F := F) x1) (val_main_v119 (F := F) x1) (val_main_v124 (F := F) x1)

-- %126 = stablehlo.multiply %112, %82 : tensor<4096x4096xf32>
def val_main_v126 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  mulf (val_main_v112 (F := F) x3 x4) (val_main_v82 (F := F) x1)

-- %127 = stablehlo.subtract %125, %126 : tensor<4096x4096xf32>
def val_main_v127 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  subf (val_main_v125 (F := F) x1) (val_main_v126 (F := F) x1 x3 x4)

-- %cst_23 = stablehlo.constant dense<1.000000e+00> : tensor<f32>
def val_main_cst_23 : (⟨S_, .f32⟩ : BufTy).Contents (Elt F) :=
  constant S_ .f32 0x3F800000#32

-- %128 = stablehlo.broadcast_in_dim %cst_23, dims = [] : (tensor<f32>) -> tensor<4096x4096xf32>
def val_main_v128 : (⟨S4096x4096, .f32⟩ : BufTy).Contents (Elt F) :=
  broadcastInDim S4096x4096 ![] bcast_S_S4096x4096 (val_main_cst_23 (F := F))

-- %129 = stablehlo.compare EQ, %112, %128, FLOAT : (tensor<4096x4096xf32>, tensor<4096x4096xf32>) -> tensor<4096x4096xi1>
def val_main_v129 (x3 : (⟨S4096, .i32⟩ : BufTy).Contents (Elt F)) (x4 : (⟨S101x101, .f32⟩ : BufTy).Contents (Elt F)) : (⟨S4096x4096, .i1⟩ : BufTy).Contents (Elt F) :=
  cmpf .oeq (val_main_v112 (F := F) x3 x4) (val_main_v128 (F := F))

-- %130 = stablehlo.not %129 : tensor<4096x4096xi1>
def val_main_v130 (x3 : (⟨S4096, .i32⟩ : BufTy).Contents (Elt F)) (x4 : (⟨S101x101, .f32⟩ : BufTy).Contents (Elt F)) : (⟨S4096x4096, .i1⟩ : BufTy).Contents (Elt F) :=
  noti (val_main_v129 (F := F) x3 x4)

-- %131 = stablehlo.convert %129 : (tensor<4096x4096xi1>) -> tensor<4096x4096xf32>
def val_main_v131 (x3 : (⟨S4096, .i32⟩ : BufTy).Contents (Elt F)) (x4 : (⟨S101x101, .f32⟩ : BufTy).Contents (Elt F)) : (⟨S4096x4096, .f32⟩ : BufTy).Contents (Elt F) :=
  uitofp .f32 (val_main_v129 (F := F) x3 x4)

-- %cst_24 = stablehlo.constant dense<0.000000e+00> : tensor<f32>
def val_main_cst_24 : (⟨S_, .f32⟩ : BufTy).Contents (Elt F) :=
  constant S_ .f32 0x00000000#32

-- %132 = stablehlo.reduce(%131 init: %cst_24) applies stablehlo.add across dimensions = [0, 1] : (tensor<4096x4096xf32>, tensor<f32>) -> tensor<f32> {
def val_main_v132 (x3 : (⟨S4096, .i32⟩ : BufTy).Contents (Elt F)) (x4 : (⟨S101x101, .f32⟩ : BufTy).Contents (Elt F)) : (⟨S_, .f32⟩ : BufTy).Contents (Elt F) :=
  Host.reduceAdd (val_main_v131 (F := F) x3 x4) (val_main_cst_24 (F := F)) reducesTo_S4096x4096_S_d0_1 h_S_

-- %cst_25 = stablehlo.constant dense<4.096000e+03> : tensor<f32>
def val_main_cst_25 : (⟨S_, .f32⟩ : BufTy).Contents (Elt F) :=
  constant S_ .f32 0x45800000#32

-- %133 = stablehlo.subtract %132, %cst_25 : tensor<f32>
def val_main_v133 (x3 : (⟨S4096, .i32⟩ : BufTy).Contents (Elt F)) (x4 : (⟨S101x101, .f32⟩ : BufTy).Contents (Elt F)) : (⟨S_, .f32⟩ : BufTy).Contents (Elt F) :=
  subf (val_main_v132 (F := F) x3 x4) (val_main_cst_25 (F := F))

-- %134 = stablehlo.convert %130 : (tensor<4096x4096xi1>) -> tensor<4096x4096xf32>
def val_main_v134 (x3 : (⟨S4096, .i32⟩ : BufTy).Contents (Elt F)) (x4 : (⟨S101x101, .f32⟩ : BufTy).Contents (Elt F)) : (⟨S4096x4096, .f32⟩ : BufTy).Contents (Elt F) :=
  uitofp .f32 (val_main_v130 (F := F) x3 x4)

-- %cst_26 = stablehlo.constant dense<0.000000e+00> : tensor<f32>
def val_main_cst_26 : (⟨S_, .f32⟩ : BufTy).Contents (Elt F) :=
  constant S_ .f32 0x00000000#32

-- %135 = stablehlo.reduce(%134 init: %cst_26) applies stablehlo.add across dimensions = [0, 1] : (tensor<4096x4096xf32>, tensor<f32>) -> tensor<f32> {
def val_main_v135 (x3 : (⟨S4096, .i32⟩ : BufTy).Contents (Elt F)) (x4 : (⟨S101x101, .f32⟩ : BufTy).Contents (Elt F)) : (⟨S_, .f32⟩ : BufTy).Contents (Elt F) :=
  Host.reduceAdd (val_main_v134 (F := F) x3 x4) (val_main_cst_26 (F := F)) reducesTo_S4096x4096_S_d0_1 h_S_

-- %cst_27 = stablehlo.constant dense<0.000000e+00> : tensor<f32>
def val_main_cst_27 : (⟨S_, .f32⟩ : BufTy).Contents (Elt F) :=
  constant S_ .f32 0x00000000#32

-- %136 = stablehlo.compare EQ, %135, %cst_27, FLOAT : (tensor<f32>, tensor<f32>) -> tensor<i1>
def val_main_v136 (x3 : (⟨S4096, .i32⟩ : BufTy).Contents (Elt F)) (x4 : (⟨S101x101, .f32⟩ : BufTy).Contents (Elt F)) : (⟨S_, .i1⟩ : BufTy).Contents (Elt F) :=
  cmpf .oeq (val_main_v135 (F := F) x3 x4) (val_main_cst_27 (F := F))

-- %cst_28 = stablehlo.constant dense<1.000000e+00> : tensor<f32>
def val_main_cst_28 : (⟨S_, .f32⟩ : BufTy).Contents (Elt F) :=
  constant S_ .f32 0x3F800000#32

-- @_where_0's %0 = stablehlo.convert %arg1 : tensor<f32>, in %137 = func.call @_where_0(…)
def val_main_call7_v0 : (⟨S_, .f32⟩ : BufTy).Contents (Elt F) :=
  id (val_main_cst_28 (F := F))

-- %137 = func.call @_where_0(…) result 0: @_where_0's %1 = stablehlo.select %arg0, %0, %arg2 : tensor<i1>, tensor<f32>
def val_main_v137 (x3 : (⟨S4096, .i32⟩ : BufTy).Contents (Elt F)) (x4 : (⟨S101x101, .f32⟩ : BufTy).Contents (Elt F)) : (⟨S_, .f32⟩ : BufTy).Contents (Elt F) :=
  select (val_main_v136 (F := F) x3 x4) (val_main_call7_v0 (F := F)) (val_main_v135 (F := F) x3 x4)

-- %cst_29 = stablehlo.constant dense<0.000000e+00> : tensor<f32>
def val_main_cst_29 : (⟨S_, .f32⟩ : BufTy).Contents (Elt F) :=
  constant S_ .f32 0x00000000#32

-- %138 = stablehlo.compare EQ, %133, %cst_29, FLOAT : (tensor<f32>, tensor<f32>) -> tensor<i1>
def val_main_v138 (x3 : (⟨S4096, .i32⟩ : BufTy).Contents (Elt F)) (x4 : (⟨S101x101, .f32⟩ : BufTy).Contents (Elt F)) : (⟨S_, .i1⟩ : BufTy).Contents (Elt F) :=
  cmpf .oeq (val_main_v133 (F := F) x3 x4) (val_main_cst_29 (F := F))

-- %cst_30 = stablehlo.constant dense<1.000000e+00> : tensor<f32>
def val_main_cst_30 : (⟨S_, .f32⟩ : BufTy).Contents (Elt F) :=
  constant S_ .f32 0x3F800000#32

-- @_where_0's %0 = stablehlo.convert %arg1 : tensor<f32>, in %139 = func.call @_where_0(…)
def val_main_call8_v0 : (⟨S_, .f32⟩ : BufTy).Contents (Elt F) :=
  id (val_main_cst_30 (F := F))

-- %139 = func.call @_where_0(…) result 0: @_where_0's %1 = stablehlo.select %arg0, %0, %arg2 : tensor<i1>, tensor<f32>
def val_main_v139 (x3 : (⟨S4096, .i32⟩ : BufTy).Contents (Elt F)) (x4 : (⟨S101x101, .f32⟩ : BufTy).Contents (Elt F)) : (⟨S_, .f32⟩ : BufTy).Contents (Elt F) :=
  select (val_main_v138 (F := F) x3 x4) (val_main_call8_v0 (F := F)) (val_main_v133 (F := F) x3 x4)

-- %140 = stablehlo.add %137, %139 : tensor<f32>
def val_main_v140 (x3 : (⟨S4096, .i32⟩ : BufTy).Contents (Elt F)) (x4 : (⟨S101x101, .f32⟩ : BufTy).Contents (Elt F)) : (⟨S_, .f32⟩ : BufTy).Contents (Elt F) :=
  addf (val_main_v137 (F := F) x3 x4) (val_main_v139 (F := F) x3 x4)

-- %141 = stablehlo.divide %140, %139 : tensor<f32>
def val_main_v141 (x3 : (⟨S4096, .i32⟩ : BufTy).Contents (Elt F)) (x4 : (⟨S101x101, .f32⟩ : BufTy).Contents (Elt F)) : (⟨S_, .f32⟩ : BufTy).Contents (Elt F) :=
  Host.divf (val_main_v140 (F := F) x3 x4) (val_main_v139 (F := F) x3 x4)

-- %142 = stablehlo.broadcast_in_dim %141, dims = [] : (tensor<f32>) -> tensor<4096x4096xf32>
def val_main_v142 (x3 : (⟨S4096, .i32⟩ : BufTy).Contents (Elt F)) (x4 : (⟨S101x101, .f32⟩ : BufTy).Contents (Elt F)) : (⟨S4096x4096, .f32⟩ : BufTy).Contents (Elt F) :=
  broadcastInDim S4096x4096 ![] bcast_S_S4096x4096 (val_main_v141 (F := F) x3 x4)

-- %143 = stablehlo.multiply %127, %142 : tensor<4096x4096xf32>
def val_main_v143 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  mulf (val_main_v127 (F := F) x1 x3 x4) (val_main_v142 (F := F) x3 x4)

-- %144 = stablehlo.divide %140, %137 : tensor<f32>
def val_main_v144 (x3 : (⟨S4096, .i32⟩ : BufTy).Contents (Elt F)) (x4 : (⟨S101x101, .f32⟩ : BufTy).Contents (Elt F)) : (⟨S_, .f32⟩ : BufTy).Contents (Elt F) :=
  Host.divf (val_main_v140 (F := F) x3 x4) (val_main_v137 (F := F) x3 x4)

-- %145 = stablehlo.broadcast_in_dim %144, dims = [] : (tensor<f32>) -> tensor<4096x4096xf32>
def val_main_v145 (x3 : (⟨S4096, .i32⟩ : BufTy).Contents (Elt F)) (x4 : (⟨S101x101, .f32⟩ : BufTy).Contents (Elt F)) : (⟨S4096x4096, .f32⟩ : BufTy).Contents (Elt F) :=
  broadcastInDim S4096x4096 ![] bcast_S_S4096x4096 (val_main_v144 (F := F) x3 x4)

-- %146 = stablehlo.multiply %127, %145 : tensor<4096x4096xf32>
def val_main_v146 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  mulf (val_main_v127 (F := F) x1 x3 x4) (val_main_v145 (F := F) x3 x4)

-- %147 = func.call @_where_1(…) result 0: @_where_1's %0 = stablehlo.select %arg0, %arg1, %arg2 : tensor<4096x4096xi1>, tensor<4096x4096xf32>
def val_main_v147 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  select (val_main_v129 (F := F) x3 x4) (val_main_v143 (F := F) x1 x3 x4) (val_main_v146 (F := F) x1 x3 x4)

-- %148 = stablehlo.iota dim = 0 : tensor<4096x4096xi32>
def val_main_v148 : (⟨S4096x4096, .i32⟩ : BufTy).Contents (Elt F) :=
  iotaInDim S4096x4096 32 0

-- %149 = stablehlo.iota dim = 1 : tensor<4096x4096xi32>
def val_main_v149 : (⟨S4096x4096, .i32⟩ : BufTy).Contents (Elt F) :=
  iotaInDim S4096x4096 32 1

-- %c_31 = stablehlo.constant dense<0> : tensor<i32>
def val_main_c_31 : (⟨S_, .i32⟩ : BufTy).Contents (Elt F) :=
  constantI S_ 32 0#32

-- %150 = stablehlo.broadcast_in_dim %c_31, dims = [] : (tensor<i32>) -> tensor<4096x4096xi32>
def val_main_v150 : (⟨S4096x4096, .i32⟩ : BufTy).Contents (Elt F) :=
  broadcastInDim S4096x4096 ![] bcast_S_S4096x4096 (val_main_c_31 (F := F))

-- %151 = stablehlo.add %148, %150 : tensor<4096x4096xi32>
def val_main_v151 : (⟨S4096x4096, .i32⟩ : BufTy).Contents (Elt F) :=
  addi (val_main_v148 (F := F)) (val_main_v150 (F := F))

-- %152 = stablehlo.compare EQ, %151, %149, SIGNED : (tensor<4096x4096xi32>, tensor<4096x4096xi32>) -> tensor<4096x4096xi1>
def val_main_v152 : (⟨S4096x4096, .i1⟩ : BufTy).Contents (Elt F) :=
  cmpi .eq (val_main_v151 (F := F)) (val_main_v149 (F := F))

-- %cst_32 = stablehlo.constant dense<0.000000e+00> : tensor<f32>
def val_main_cst_32 : (⟨S_, .f32⟩ : BufTy).Contents (Elt F) :=
  constant S_ .f32 0x00000000#32

-- @_where_2's %0 = stablehlo.convert %arg2 : tensor<f32>, in %153 = func.call @_where_2(…)
def val_main_call10_v0 : (⟨S_, .f32⟩ : BufTy).Contents (Elt F) :=
  id (val_main_cst_32 (F := F))

-- @_where_2's %1 = stablehlo.broadcast_in_dim %0, dims = [] : (tensor<f32>) -> tensor<4096x4096xf32>, in %153 = func.call @_where_2(…)
def val_main_call10_v1 : (⟨S4096x4096, .f32⟩ : BufTy).Contents (Elt F) :=
  broadcastInDim S4096x4096 ![] bcast_S_S4096x4096 (val_main_call10_v0 (F := F))

-- %153 = func.call @_where_2(…) result 0: @_where_2's %2 = stablehlo.select %arg0, %arg1, %1 : tensor<4096x4096xi1>, tensor<4096x4096xf32>
def val_main_v153 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  select (val_main_v152 (F := F)) (val_main_v147 (F := F) x1 x3 x4) (val_main_call10_v1 (F := F))

-- %154 = stablehlo.subtract %147, %153 : tensor<4096x4096xf32>
def val_main_v154 (x1 : (⟨S4096x64, .f32⟩ : BufTy).Contents (Elt F)) (x3 : (⟨S4096, .i32⟩ : BufTy).Contents (Elt F)) (x4 : (⟨S101x101, .f32⟩ : BufTy).Contents (Elt F)) : (⟨S4096x4096, .f32⟩ : BufTy).Contents (Elt F) :=
  subf (val_main_v147 (F := F) x1 x3 x4) (val_main_v153 (F := F) x1 x3 x4)

-- %cst_33 = stablehlo.constant dense<0.000000e+00> : tensor<f32>
def val_main_cst_33 : (⟨S_, .f32⟩ : BufTy).Contents (Elt F) :=
  constant S_ .f32 0x00000000#32

-- %155 = stablehlo.reduce(%154 init: %cst_33) applies stablehlo.add across dimensions = [0, 1] : (tensor<4096x4096xf32>, tensor<f32>) -> tensor<f32> {
def val_main_v155 (x1 : (⟨S4096x64, .f32⟩ : BufTy).Contents (Elt F)) (x3 : (⟨S4096, .i32⟩ : BufTy).Contents (Elt F)) (x4 : (⟨S101x101, .f32⟩ : BufTy).Contents (Elt F)) : (⟨S_, .f32⟩ : BufTy).Contents (Elt F) :=
  Host.reduceAdd (val_main_v154 (F := F) x1 x3 x4) (val_main_cst_33 (F := F)) reducesTo_S4096x4096_S_d0_1 h_S_

-- %cst_34 = stablehlo.constant dense<2.000000e+00> : tensor<f32>
def val_main_cst_34 : (⟨S_, .f32⟩ : BufTy).Contents (Elt F) :=
  constant S_ .f32 0x40000000#32

-- %156 = stablehlo.divide %155, %cst_34 : tensor<f32>
def val_main_v156 (x1 : (⟨S4096x64, .f32⟩ : BufTy).Contents (Elt F)) (x3 : (⟨S4096, .i32⟩ : BufTy).Contents (Elt F)) (x4 : (⟨S101x101, .f32⟩ : BufTy).Contents (Elt F)) : (⟨S_, .f32⟩ : BufTy).Contents (Elt F) :=
  Host.divf (val_main_v155 (F := F) x1 x3 x4) (val_main_cst_34 (F := F))

-- %cst_35 = stablehlo.constant dense<8.386560e+06> : tensor<f32>
def val_main_cst_35 : (⟨S_, .f32⟩ : BufTy).Contents (Elt F) :=
  constant S_ .f32 0x4AFFF000#32

-- %157 = stablehlo.divide %156, %cst_35 : tensor<f32>
def val_main_v157 (x1 : (⟨S4096x64, .f32⟩ : BufTy).Contents (Elt F)) (x3 : (⟨S4096, .i32⟩ : BufTy).Contents (Elt F)) (x4 : (⟨S101x101, .f32⟩ : BufTy).Contents (Elt F)) : (⟨S_, .f32⟩ : BufTy).Contents (Elt F) :=
  Host.divf (val_main_v156 (F := F) x1 x3 x4) (val_main_cst_35 (F := F))

-- %cst_36 = stablehlo.constant dense<1.000000e+00> : tensor<f32>
def val_main_cst_36 : (⟨S_, .f32⟩ : BufTy).Contents (Elt F) :=
  constant S_ .f32 0x3F800000#32

-- %158 = stablehlo.multiply %cst_36, %6 : tensor<f32>
def val_main_v158 (x2 : (⟨S4096x101, .f32⟩ : BufTy).Contents (Elt F)) (x3 : (⟨S4096, .i32⟩ : BufTy).Contents (Elt F)) : (⟨S_, .f32⟩ : BufTy).Contents (Elt F) :=
  mulf (val_main_cst_36 (F := F)) (val_main_v6 (F := F) x2 x3)

-- %cst_37 = stablehlo.constant dense<0.00999999977> : tensor<f32>
def val_main_cst_37 : (⟨S_, .f32⟩ : BufTy).Contents (Elt F) :=
  constant S_ .f32 0x3C23D70A#32

-- %159 = stablehlo.multiply %cst_37, %157 : tensor<f32>
def val_main_v159 (x1 : (⟨S4096x64, .f32⟩ : BufTy).Contents (Elt F)) (x3 : (⟨S4096, .i32⟩ : BufTy).Contents (Elt F)) (x4 : (⟨S101x101, .f32⟩ : BufTy).Contents (Elt F)) : (⟨S_, .f32⟩ : BufTy).Contents (Elt F) :=
  mulf (val_main_cst_37 (F := F)) (val_main_v157 (F := F) x1 x3 x4)

-- %160 = stablehlo.add %158, %159 : tensor<f32>
def val_main_v160 (x1 : (⟨S4096x64, .f32⟩ : BufTy).Contents (Elt F)) (x2 : (⟨S4096x101, .f32⟩ : BufTy).Contents (Elt F)) (x3 : (⟨S4096, .i32⟩ : BufTy).Contents (Elt F)) (x4 : (⟨S101x101, .f32⟩ : BufTy).Contents (Elt F)) : (⟨S_, .f32⟩ : BufTy).Contents (Elt F) :=
  addf (val_main_v158 (F := F) x2 x3) (val_main_v159 (F := F) x1 x3 x4)

/-- The term the Run module states for `main_v157` over any contents `V0` is the stage. -/
theorem val_main_v157_eq (V0 : Valuation τ sig (Elt F)) :
    Host.divf (Host.divf (Host.reduceAdd (subf (Cert.ReferenceIdeal.Value.res_main_v147 V0) (select (cmpi .eq (addi (iotaInDim S4096x4096 32 0) (broadcastInDim S4096x4096 ![] bcast_S_S4096x4096 (constantI S_ 32 0#32))) (iotaInDim S4096x4096 32 1)) (Cert.ReferenceIdeal.Value.res_main_v147 V0) (broadcastInDim S4096x4096 ![] bcast_S_S4096x4096 (id (constant S_ .f32 0x00000000#32))))) (constant S_ .f32 0x00000000#32) reducesTo_S4096x4096_S_d0_1 h_S_) (constant S_ .f32 0x40000000#32)) (constant S_ .f32 0x4AFFF000#32)
      = val_main_v157 (F := F) (V0 (Proc.devRef .tc main_arg1)) (V0 (Proc.devRef .tc main_arg3)) (V0 (Proc.devRef .tc main_arg4)) := rfl

/-- The term the Run module states for `main_v160` over any contents `V0` is the stage. -/
theorem val_main_v160_eq (V0 : Valuation τ sig (Elt F)) :
    addf (mulf (constant S_ .f32 0x3F800000#32) (Host.divf (Host.reduceAdd (Host.negf (shapeCast _ (select (Host.reduce IntOp.andi (andi (cmpi .sge (Cert.ReferenceIdeal.Value.res_main_call1_v5 V0) (broadcastInDim S4096x1x1 ![] bcast_S_S4096x1x1 (constantI S_ 32 0#32))) (cmpi .sle (Cert.ReferenceIdeal.Value.res_main_call1_v5 V0) (broadcastInDim S4096x1x1 ![0, 1, 2] bcast_S1x1x1_S4096x1x1_0_1_2 (broadcastInDim S1x1x1 ![2] bcast_S1_S1x1x1_2 (constantI S1 32 100#32))))) (constantI S_ 1 1#1) reducesTo_S4096x1x1_S4096x1_d2 h_S_) (Host.gather gather_S4096x101_S4096x1x1_S4096x1_n_1_0_0_1_2_11 (subf (Cert.ReferenceIdeal.Value.res_main_call0_v5 V0) (broadcastInDim S4096x101 ![0, 1] bcast_S4096x1_S4096x101_0_1 (Host.log (broadcastInDim S4096x1 ![0] bcast_S4096_S4096x1_0 (Host.reduceAdd (Host.exp (Cert.ReferenceIdeal.Value.res_main_call0_v5 V0)) (constant S_ .f32 0x00000000#32) reducesTo_S4096x101_S4096_d1 h_S_))))) (Cert.ReferenceIdeal.Value.res_main_call1_v5 V0)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32))) (mulf (constant S_ .f32 0x3C23D70A#32) (Host.divf (Host.divf (Host.reduceAdd (subf (Cert.ReferenceIdeal.Value.res_main_v147 V0) (select (cmpi .eq (addi (iotaInDim S4096x4096 32 0) (broadcastInDim S4096x4096 ![] bcast_S_S4096x4096 (constantI S_ 32 0#32))) (iotaInDim S4096x4096 32 1)) (Cert.ReferenceIdeal.Value.res_main_v147 V0) (broadcastInDim S4096x4096 ![] bcast_S_S4096x4096 (id (constant S_ .f32 0x00000000#32))))) (constant S_ .f32 0x00000000#32) reducesTo_S4096x4096_S_d0_1 h_S_) (constant S_ .f32 0x40000000#32)) (constant S_ .f32 0x4AFFF000#32)))
      = val_main_v160 (F := F) (V0 (Proc.devRef .tc main_arg1)) (V0 (Proc.devRef .tc main_arg2)) (V0 (Proc.devRef .tc main_arg3)) (V0 (Proc.devRef .tc main_arg4)) := rfl

end Cert.ReferenceIdeal.Read

end
-- ==== Proof.HashMath.lean ====
module

public import Idealize.ShloMosaic.PureOps.Ideal.Laws
public import Mathlib.Analysis.SpecialFunctions.Pow.Real
public import Mathlib.Algebra.Order.BigOperators.Ring.Finset

/-!
# Sums with infinite terms

What still holds of sums and products when some of the terms may be infinite: `⊤ - ⊤` is `⊥`, and `⊥` absorbs.
-/

@[expose] public section

set_option maxRecDepth 16384

noncomputable section

namespace Cert.HashMath

open Idealize.ShloMosaic

/-- A real sum has real terms. -/
theorem real_of_add {x y : EReal} {r : ℝ} (h : x + y = r) : (∃ a : ℝ, x = a) ∧ ∃ b : ℝ, y = b := by
  induction x with
  | bot => rw [EReal.bot_add] at h; exact absurd h (by simp)
  | top =>
    induction y with
    | bot => rw [EReal.add_bot] at h; exact absurd h (by simp)
    | top => exact absurd h (by simp)
    | coe b => exact absurd h (by simp)
  | coe a =>
    induction y with
    | bot => rw [EReal.add_bot] at h; exact absurd h (by simp)
    | top => exact absurd h (by simp)
    | coe b => exact ⟨⟨a, rfl⟩, b, rfl⟩

theorem real_of_sum {ι : Type} (s : Finset ι) (f : ι → EReal) :
    ∀ r : ℝ, ∑ i ∈ s, f i = r → ∀ i ∈ s, ∃ a : ℝ, f i = a := by
  classical
  induction s using Finset.induction_on with
  | empty => intro r _ i hi; simp at hi
  | insert j s hj ih =>
    intro r h i hi
    rw [Finset.sum_insert hj] at h
    obtain ⟨ha, b, hb⟩ := real_of_add h
    rcases Finset.mem_insert.mp hi with rfl | hi
    · exact ha
    · exact ih b hb i hi

/-- One negative infinity makes a sum negative infinity, -/
theorem sum_bot {ι : Type} [Fintype ι] (f : ι → EReal) (i : ι) (h : f i = ⊥) : ∑ i, f i = ⊥ := by
  classical
  rw [← Finset.add_sum_erase _ _ (Finset.mem_univ i), h, EReal.bot_add]

/-- and one positive infinity a sum of non-negative terms positive infinity. -/
theorem sum_top {ι : Type} [Fintype ι] (f : ι → EReal) (i : ι) (h : f i = ⊤) (h0 : ∀ i, 0 ≤ f i) : ∑ i, f i = ⊤ :=
  top_unique (h ▸ Finset.single_le_sum (fun j _ => h0 j) (Finset.mem_univ i))

/-- A sum without negative infinities is not negative infinity. -/
theorem sum_ne_bot {ι : Type} (s : Finset ι) (f : ι → EReal) (h : ∀ i, f i ≠ ⊥) : ∑ i ∈ s, f i ≠ ⊥ := by
  classical
  induction s using Finset.induction_on with
  | empty => simp
  | insert j s hj ih =>
    rw [Finset.sum_insert hj]
    exact fun q => (EReal.add_eq_bot_iff.mp q).elim (h j) ih

/-- The sum of reals. -/
theorem coe_sum {ι : Type} (s : Finset ι) (f : ι → ℝ) : ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

/-- Multiplying by a real that is not negative distributes. -/
theorem add_mul_real (x y : EReal) (c : ℝ) (hc : 0 ≤ c) : (x + y) * (c : EReal) = x * c + y * c :=
  EReal.right_distrib_of_nonneg_of_ne_top (EReal.coe_nonneg.mpr hc) (EReal.coe_ne_top c) x y

theorem sub_mul_real (x y : EReal) (c : ℝ) (hc : 0 ≤ c) : (x - y) * (c : EReal) = x * c - y * c := by
  rw [sub_eq_add_neg, add_mul_real _ _ c hc, EReal.neg_mul, ← sub_eq_add_neg]

theorem sum_mul_real {ι : Type} (s : Finset ι) (f : ι → EReal) (c : ℝ) (hc : 0 ≤ c) : (∑ i ∈ s, f i) * (c : EReal) = ∑ i ∈ s, f i * c := by
  classical
  induction s using Finset.induction_on with
  | empty => simp
  | insert j s hj ih => rw [Finset.sum_insert hj, Finset.sum_insert hj, add_mul_real _ _ c hc, ih]

theorem bot_mul_real (c : ℝ) (hc : 0 < c) : (⊥ : EReal) * c = ⊥ := EReal.bot_mul_coe_of_pos hc

/-- A number less itself is zero if it is real and negative infinity if it is not. -/
theorem sub_self_of_not_real (x : EReal) (h : ¬ ∃ r : ℝ, x = r) : x - x = ⊥ := by
  induction x with
  | bot => rw [sub_eq_add_neg, EReal.bot_add]
  | top => rw [sub_eq_add_neg, EReal.neg_top, EReal.add_bot]
  | coe r => exact absurd ⟨r, rfl⟩ h

/-- A sum of a square matrix without its diagonal. -/
theorem sum_off {ι : Type} [Fintype ι] [DecidableEq ι] (f : ι → ι → EReal) :
    ∑ i, ∑ j, (f i j - if i = j then f i j else 0) = ∑ i, ∑ j, f i j - ∑ i, f i i := by
  by_cases hr : ∀ i, ∃ r : ℝ, f i i = r
  · choose d hd using hr
    have e : ∀ i j, (f i j - if i = j then f i j else 0) = f i j + ((if i = j then -d i else 0 : ℝ) : EReal) := by
      intro i j
      by_cases h : i = j
      · subst h
        rw [if_pos rfl, if_pos rfl, EReal.coe_neg, ← hd, ← sub_eq_add_neg]
      · rw [if_neg h, if_neg h, sub_zero, EReal.coe_zero, add_zero]
    simp only [e, Finset.sum_add_distrib, hd, ← coe_sum]
    rw [sub_eq_add_neg, ← EReal.coe_neg]
    simp [Finset.sum_ite_eq, Finset.sum_neg_distrib]
  · push Not at hr
    obtain ⟨i, hi⟩ := hr
    rw [sum_bot _ i (sum_bot _ i (by rw [if_pos rfl]; exact sub_self_of_not_real _ (fun ⟨r, q⟩ => hi r q)))]
    by_cases hb : ∃ k, f k k = ⊥
    · obtain ⟨k, hk⟩ := hb
      rw [sum_bot _ k (sum_bot _ k hk), sub_eq_add_neg, EReal.bot_add]
    · push Not at hb
      have : ∑ k, f k k = ⊤ := by
        have q := sum_ne_bot Finset.univ (fun k => f k k) hb
        generalize hs : ∑ k, f k k = s at q
        induction s with
        | bot => exact absurd rfl q
        | top => rfl
        | coe r => obtain ⟨a, ha⟩ := real_of_sum Finset.univ (fun k => f k k) r hs i (Finset.mem_univ i); exact absurd ha (hi a)
      rw [this, sub_eq_add_neg, EReal.neg_top, EReal.add_bot]

/-- Weighing two kinds of pairs apart and leaving out the diagonal: summed apart, or pair by pair. -/
theorem weigh {ι : Type} [Fintype ι] [DecidableEq ι] (p : ι → ι → Prop) [∀ i j, Decidable (p i j)] (f : ι → ι → EReal) (c d : ℝ) (hc : 0 ≤ c) (hd : 0 ≤ d) :
    (∑ i, ∑ j, (if p i j then f i j else 0) - ∑ i, (if p i i then f i i else 0)) * (c : EReal)
        + (∑ i, ∑ j, (if p i j then 0 else f i j) - ∑ i, (if p i i then 0 else f i i)) * (d : EReal)
      = ∑ i, ∑ j, ((if p i j then f i j * c else f i j * d) - if i = j then (if p i j then f i j * c else f i j * d) else 0) := by
  rw [← sum_off (fun i j => if p i j then f i j else 0), ← sum_off (fun i j => if p i j then 0 else f i j),
    sum_mul_real _ _ c hc, sum_mul_real _ _ d hd, ← Finset.sum_add_distrib]
  refine Finset.sum_congr rfl fun i _ => ?_
  rw [sum_mul_real _ _ c hc, sum_mul_real _ _ d hd, ← Finset.sum_add_distrib]
  refine Finset.sum_congr rfl fun j _ => ?_
  by_cases h : i = j <;> by_cases q : p i j <;> simp only [h, q, if_true, if_false, sub_zero, zero_mul, zero_add, add_zero]
  all_goals first
    | rfl
    | (subst h; simp only [q, if_true, if_false, sub_zero, zero_mul, zero_add, add_zero, sub_mul_real _ _ c hc, sub_mul_real _ _ d hd])

/-- A sum over the batch of what is zero from the ninth row on. -/
theorem sum_first {M : Type} [AddCommMonoid M] (f : Fin 4096 → M) (h : ∀ i, 8 ≤ i.val → f i = 0) : ∑ a : Fin 8, f ⟨a.val, by omega⟩ = ∑ i, f i := by
  have e : ∑ i : Fin 4096, f i = ∑ i : Fin (8 + 4088), f ⟨i.val, by omega⟩ := rfl
  rw [e, Fin.sum_univ_add, Finset.sum_eq_zero (s := Finset.univ (α := Fin 4088)) (fun i _ => h _ (by simp)), add_zero]
  rfl

theorem sum_first2 {M : Type} [AddCommMonoid M] (f : Fin 4096 → Fin 4096 → M) (h : ∀ i j, (8 ≤ i.val ∨ 8 ≤ j.val) → f i j = 0) :
    ∑ a : Fin 8, ∑ b : Fin 8, f ⟨a.val, by omega⟩ ⟨b.val, by omega⟩ = ∑ i, ∑ j, f i j := by
  rw [← sum_first (fun i => ∑ j, f i j) (fun i hi => Finset.sum_eq_zero fun j _ => h i j (.inl hi))]
  exact Finset.sum_congr rfl fun a _ => sum_first (f ⟨a.val, by omega⟩) (fun j hj => h _ j (.inr hj))

/-- The softplus of a real, -/
def sp (x : ℝ) : ℝ := max x 0 + Real.log (1 + Real.exp (-|x|))

theorem log1p_exp (x : ℝ) : Ideal.log1p ((Real.exp x : ℝ) : EReal) = ((Real.log (1 + Real.exp x) : ℝ) : EReal) := by
  have : 0 < 1 + Real.exp x := by positivity
  rw [Ideal.log1p, show (1 : EReal) + ((Real.exp x : ℝ) : EReal) = ((1 + Real.exp x : ℝ) : EReal) by rw [EReal.coe_add, EReal.coe_one],
    Ideal.log_coe, if_neg (not_le.mpr this)]

theorem abs_coe (x : ℝ) : max (x : EReal) (-x) = ((|x| : ℝ) : EReal) := by
  rw [← EReal.coe_neg, ← EReal.coe_strictMono.monotone.map_max]; rfl

/-- with the exponential spelt as a power of two, -/
def softK (x : EReal) : EReal := max x 0 + Ideal.log1p (Ideal.exp2 (max x (-x) * ((-((Real.log 2)⁻¹) : ℝ) : EReal)))
theorem softK_coe (x : ℝ) : softK x = sp x := by
  have l2 : Real.log 2 ≠ 0 := (Real.log_pos (by norm_num)).ne'
  have e : Real.rpow 2 (|x| * -(Real.log 2)⁻¹) = Real.exp (-|x|) := by
    show (2 : ℝ) ^ (|x| * -(Real.log 2)⁻¹) = _
    rw [Real.rpow_def_of_pos (by norm_num)]
    congr 1
    field_simp
  rw [softK, abs_coe, ← EReal.coe_mul, Ideal.exp2_coe, e, log1p_exp, sp, EReal.coe_add, ← EReal.coe_zero, EReal.coe_strictMono.monotone.map_max]

/-- and as the logarithm of a sum of two exponentials. -/
def softR (x : EReal) : EReal := max 0 x + Ideal.log1p (Ideal.exp (-(max (0 - x) (-(0 - x)))))
theorem softR_coe (x : ℝ) : softR x = sp x := by
  rw [softR, show (0 : EReal) - x = ((-x : ℝ) : EReal) by rw [zero_sub, EReal.coe_neg], abs_coe, ← EReal.coe_neg, Ideal.exp_coe, abs_neg, log1p_exp, sp,
    EReal.coe_add, max_comm, ← EReal.coe_zero, EReal.coe_strictMono.monotone.map_max]
theorem softR_top : softR ⊤ = ⊤ := by
  rw [softR, max_eq_right (by simp)]
  have : (0 : EReal) ≤ Ideal.log1p (Ideal.exp (-(max (0 - ⊤) (-(0 - ⊤))))) := by
    rw [show (0 : EReal) - ⊤ = ⊥ by simp, show -(⊥ : EReal) = ⊤ by simp, max_eq_right (by simp), show -(⊤ : EReal) = ⊥ by simp, Ideal.exp_bot, Ideal.log1p,
      add_zero, ← EReal.coe_one, Ideal.log_coe, if_neg (by norm_num), Real.log_one]
    simp
  exact EReal.top_add_of_ne_bot (fun q => by rw [q] at this; simp at this)

/-- The squares of the class sums add up to the products within the classes. -/
theorem squares {ι : Type} [Fintype ι] (K : ι → Fin 128) (x : ι → ℝ) :
    ∑ a, (∑ i, (if K i = a then 1 else 0) * x i) * (∑ i, (if K i = a then 1 else 0) * x i) = ∑ i, ∑ j, (if K i = K j then 1 else 0) * (x i * x j) := by
  simp only [Finset.sum_mul_sum]
  rw [Finset.sum_comm]
  refine Finset.sum_congr rfl fun i _ => ?_
  rw [Finset.sum_comm]
  refine Finset.sum_congr rfl fun j _ => ?_
  rw [Finset.sum_eq_single (K i) (fun a _ h => by rw [if_neg (fun q => h q.symm)]; ring) (by simp), if_pos rfl]
  by_cases h : K i = K j
  · rw [if_pos h, if_pos h.symm]; ring
  · rw [if_neg h, if_neg (fun q => h q.symm)]; ring

/-- Among 4096 rows of 128 classes there are many pairs within one class. -/
theorem many (K : Fin 4096 → Fin 128) : (131072 : ℝ) ≤ ∑ i, ∑ j, if K i = K j then (1 : ℝ) else 0 := by
  have h := Finset.sum_mul_sq_le_sq_mul_sq (Finset.univ : Finset (Fin 128)) (fun a => ∑ i, (if K i = a then (1 : ℝ) else 0) * 1) (fun _ => 1)
  have q := squares K (fun _ => 1)
  have n : ∑ a, ∑ i, (if K i = a then (1 : ℝ) else 0) * 1 = 4096 := by
    rw [Finset.sum_comm]; simp
  simp only [← sq] at q
  simp only [mul_one] at h q n
  rw [n, q] at h
  simp only [one_pow, Finset.sum_const, Finset.card_univ, Fintype.card_fin] at h
  simp only [mul_one] at h
  rw [nsmul_eq_mul] at h
  push_cast at h
  linarith

end Cert.HashMath

end

end
-- ==== Proof.HashRows.lean ====
module

public import proofs.«01_k».proof.Proof.Steps
public import proofs.«01_k».proof.Proof.Rows
public import proofs.«01_k».proof.Proof.HashMath

/-!
# The hash loss, element by element

What the steps of the hash loss store, read at one element.
-/

@[expose] public section

set_option maxRecDepth 16384

noncomputable section

namespace Cert.KernelIdeal.HashRows

open Idealize.ShloMosaic Idealize.SL.Sem
open Cert.KernelIdeal Cert.KernelIdeal.Gen Cert.KernelIdeal.Step Cert.KernelIdeal.Rows Cert.HashMath

theorem named : (Named.named (F := Ideal) (φ := .bf16) κ "neg_log2e" 0xBFB9#16 : EReal) = ((-((Real.log 2)⁻¹) : ℝ) : EReal) :=
  IdealRules.named_const.ideal_named_scalar _ _ _ _ rfl

theorem half : Ideal.ofBits .f32 0x3F000000#32 = (((1 / 2 : ℝ)) : EReal) := by
  have : Ideal.ofBits .f32 0x3F000000#32 = ((8388608 : ℝ) * ((2 ^ 24)⁻¹ : ℝ) : EReal) := by simp [Ideal.ofBits, Ideal.ieee]
  rw [this, ← EReal.coe_mul]
  norm_num

/-- The softplus of one half's products with the other, summed by the second half's classes. -/
theorem soft (x5 : Vec Ideal S1x1x2048 .i32) (x0 x1 : Vec Ideal S2048x64 .bf16) (r : Fin 2048) (a : Fin 128) :
    (k0_pay69 x5 x0 x1 (ix2 r a) : EReal) = ∑ s : Fin 2048, softK (∑ k, x0 (ix2 r k) * x1 (ix2 s k)) * hit (x5 (ix3 0 0 s)) a.val := by
  pointwise [k0_pay69]
  simp only [onehot16, softK, named]
  rfl

theorem word67 (x4 : Vec Ideal S1x1x2048 .i32) (r : Fin 2048) (a : Fin 128) :
    (k0_pay67 x4 (ix2 r a) : EReal) = hit (x4 (ix3 0 0 r)) a.val := onehot x4 r a

/-- The two sums of a pair of halves. -/
theorem pair_sA (i : grid0.Coords) (x0 x1 : Vec Ideal S2048x64 .bf16) (x4 x5 : Vec Ideal S1x1x2048 .i32) (v : Acc Ideal) :
    ((pair i x0 x1 x4 x5 v).sA (ix2 0 0) : EReal)
      = v.sA (ix2 0 0) + (k0_pay70 (F := Ideal) (coord i) (late i) : EReal) * ∑ r : Fin 2048, ∑ a : Fin 128, (k0_pay69 x5 x0 x1 (ix2 r a) : EReal) := by
  show (k0_pay2 (k0_pay71 (k0_pay69 x5 x0 x1) (coord i) (late i)) v.sA (ix2 0 0) : EReal) = _
  generalize (k0_pay69 x5 x0 x1) = y
  generalize coord i = p
  generalize late i = q
  pointwise [k0_pay2, k0_pay71]

theorem pair_sP (i : grid0.Coords) (x0 x1 : Vec Ideal S2048x64 .bf16) (x4 x5 : Vec Ideal S1x1x2048 .i32) (v : Acc Ideal) :
    ((pair i x0 x1 x4 x5 v).sP (ix2 0 0) : EReal)
      = v.sP (ix2 0 0) + (k0_pay70 (F := Ideal) (coord i) (late i) : EReal)
          * ∑ r : Fin 2048, ∑ a : Fin 128, hit (x4 (ix3 0 0 r)) a.val * (k0_pay69 x5 x0 x1 (ix2 r a) : EReal) := by
  show (k0_pay1 (k0_pay72 (k0_pay67 x4) (k0_pay69 x5 x0 x1) (coord i) (late i) v.sP) (ix2 0 0) : EReal) = _
  generalize (k0_pay69 x5 x0 x1) = y
  generalize coord i = p
  generalize late i = q
  pointwise [k0_pay1, k0_pay72]
  simp only [word67]

theorem row_sh (x5 : Vec Ideal S1x1x2048 .i32) (v : Vec Ideal S128x64 .f32) (x1 : Vec Ideal S2048x64 .bf16) (a : Fin 128) (k : Fin 64) :
    (k0_pay23 (k0_pay68 x5) v x1 (ix2 a k) : EReal) = v (ix2 a k) + ∑ r : Fin 2048, hit (x5 (ix3 0 0 r)) a.val * x1 (ix2 r k) := by
  pointwise [k0_pay23]
  simp only [onehot16]

theorem row_nc (x5 : Vec Ideal S1x1x2048 .i32) (v : Vec Ideal S1x128 .f32) (a : Fin 128) :
    (k0_pay24 (k0_pay14 (k0_pay68 x5)) v (ix2 0 a) : EReal) = v (ix2 0 a) + ∑ r : Fin 2048, hit (x5 (ix3 0 0 r)) a.val := by
  pointwise [k0_pay24]
  simp only [onehot]

theorem norm (x1 : Vec Ideal S2048x64 .bf16) (r : Fin 2048) :
    (k0_pay28 x1 (ix1 r) : EReal) = (((1 / 2 : ℝ)) : EReal) * ∑ k, x1 (ix2 r k) * x1 (ix2 r k) := by
  rw [← half]
  pointwise [k0_pay28]

theorem row_dP (x1 : Vec Ideal S2048x64 .bf16) (v : Vec Ideal S1x1 .f32) :
    (k0_pay3 (k0_pay29 x1 v) (ix2 0 0) : EReal) = v (ix2 0 0) + ∑ r : Fin 2048, softK (k0_pay28 x1 (ix1 r)) := by
  pointwise [k0_pay3, k0_pay29]
  simp only [softK, named]
  rfl

theorem row_dT (x1 : Vec Ideal S2048x64 .bf16) (v : Vec Ideal S1x1 .f32) :
    (k0_pay4 (k0_pay28 x1) v (ix2 0 0) : EReal) = v (ix2 0 0) + ∑ r : Fin 2048, (k0_pay28 x1 (ix1 r) : EReal) := by
  generalize (k0_pay28 x1) = y
  pointwise [k0_pay4]

end Cert.KernelIdeal.HashRows

end

end
-- ==== Proof.HashLast.lean ====
module

public import proofs.«01_k».proof.Proof.Steps
public import proofs.«01_k».proof.Proof.Rows
public import proofs.«01_k».proof.Proof.HashMath
public import proofs.«01_k».proof.Proof.HashRows

/-!
# The first rows, and the sums of the hash loss

What the last point computes on the first eight rows, and from the accumulators.
-/

@[expose] public section

set_option maxRecDepth 16384

noncomputable section

namespace Cert.KernelIdeal.HashLast

open Idealize.ShloMosaic Idealize.SL.Sem
open Cert.KernelIdeal Cert.KernelIdeal.Gen Cert.KernelIdeal.Step Cert.KernelIdeal.Rows Cert.HashMath Cert.KernelIdeal.HashRows

/-- A word that is one or zero, as a number. -/
theorem flag (p : Prop) [Decidable p] (b : BitVec 1) (h : b = 1#1 ↔ p) :
    (FloatOps.sitofp (F := Ideal) .f32 (BitVec.setWidth 32 b) : EReal) = if p then 1 else 0 := by
  by_cases e : p
  · rw [if_pos e, h.2 e]
    show ((((BitVec.setWidth 32 1#1).toInt : ℝ)) : EReal) = 1
    norm_num [show (BitVec.setWidth 32 1#1).toInt = 1 from by decide]
  · have : b = 0#1 := by
      have q : b ≠ 1#1 := fun q => e (h.1 q)
      revert q; clear h; revert b; decide
    rw [if_neg e, this]
    show ((((BitVec.setWidth 32 0#1).toInt : ℝ)) : EReal) = 0
    norm_num [show (BitVec.setWidth 32 0#1).toInt = 0 from by decide]

theorem first8_apply (x8 : Vec Ideal S1x1x2048 .i32) (r : Fin 8) : first8 x8 (ix3 0 0 r) = x8 (ix3 0 0 ⟨r.val, by omega⟩) := by
  unfold first8
  pointwise

theorem valid (r s : Fin 8) : (k0_pay33 (F := Ideal) (ix2 r s) : EReal) = if r.val < 6 ∧ s.val < 6 then 1 else 0 := by
  pointwise [k0_pay33]
  exact flag _ _ (by revert r s; decide)

theorem eye (r s : Fin 8) : (k0_pay34 (F := Ideal) (ix2 r s) : EReal) = if r = s then 1 else 0 := by
  pointwise [k0_pay34]
  exact flag _ _ (by revert r s; decide)

theorem old (w : Vec Ideal S1x1x8 .i32) (r s : Fin 8) : (k0_pay35 (F := Ideal) w (ix2 r s) : EReal) = if w (ix3 0 0 r) = w (ix3 0 0 s) then 1 else 0 := by
  pointwise [k0_pay35, k0_pay31]
  exact ofBool_word _ _ _ Iff.rfl

theorem theta (x6 x7 : Vec Ideal S8x64 .bf16) (r s : Fin 8) : (k0_pay30 x6 x7 (ix2 r s) : EReal) = ∑ k, x6 (ix2 r k) * x7 (ix2 s k) := by
  pointwise [k0_pay30]

theorem given (w : Vec Ideal S1x1x8 .i32) (x9 : Vec Ideal S128x128 .f32) (r s : Fin 8) :
    (k0_pay32 w x9 (ix2 r s) : EReal) = ∑ b : Fin 128, (∑ a : Fin 128, hit (w (ix3 0 0 r)) a.val * x9 (ix2 a b)) * hit (w (ix3 0 0 s)) b.val := by
  pointwise [k0_pay32, k0_pay31]
  have e : ∀ (t : BitVec 32) (a : Fin 128), (FloatOps.sitofp (F := Ideal) .f32 (BitVec.setWidth 32 (IntOp.cmpi .eq t (BitVec.ofNat 32 a.val))) : EReal) = hit t a.val :=
    fun t a => ofBool_word _ _ _ Iff.rfl
  simp only [e]

theorem isOne (w : Vec Ideal S1x1x8 .i32) (x9 : Vec Ideal S128x128 .f32) (r s : Fin 8) :
    (k0_pay36 w x9 (ix2 r s) : EReal) = if (k0_pay32 w x9 (ix2 r s) : EReal) = 1 then 1 else 0 := by
  generalize hy : k0_pay32 w x9 = y
  pointwise [k0_pay36]
  rw [hy]
  refine flag _ _ ?_
  show Ideal.cmp .oeq (y (ix2 r s)) 1 = 1#1 ↔ (y (ix2 r s) : EReal) = 1
  by_cases h : (y (ix2 r s) : EReal) = 1 <;> simp [Ideal.cmp, h]

section Corr
variable (x6 x7 : Vec Ideal S8x64 .bf16) (x8 : Vec Ideal S1x1x2048 .i32) (x9 : Vec Ideal S128x128 .f32) (r s : Fin 8)

theorem soft8 : (k0_pay39 (k0_pay37 x6 x7) (k0_pay38 x6 x7) (ix2 r s) : EReal) = softK (k0_pay30 x6 x7 (ix2 r s)) := by
  pointwise [k0_pay39, k0_pay37, k0_pay38]
  simp only [softK, HashRows.named]
  rfl

/-- The two corrections of one pair, from its product `t`, its old and its new similarity `o` and `n`. -/
def fixP (t o n p v : EReal) : EReal := ((softK t - n * t) * p - (softK t - o * t) * o) * v
def fixN (t o n p v : EReal) : EReal := ((softK t - n * t) * (1 - p) - (softK t - o * t) * (1 - o)) * v

theorem corrP_apply : (corrP x6 x7 x8 x9 (ix2 r s) : EReal)
    = fixP (k0_pay30 x6 x7 (ix2 r s)) (k0_pay35 (first8 x8) (ix2 r s)) (k0_pay32 (first8 x8) x9 (ix2 r s)) (k0_pay36 (first8 x8) x9 (ix2 r s)) (k0_pay33 (F := Ideal) (ix2 r s)) := by
  unfold corrP fixP
  rw [← soft8]
  generalize k0_pay30 x6 x7 = t
  generalize k0_pay35 (first8 x8) = o
  generalize k0_pay32 (first8 x8) x9 = n
  generalize k0_pay36 (first8 x8) x9 = p
  generalize k0_pay33 (F := Ideal) = v
  pointwise [k0_pay42, k0_pay41, k0_pay40]

theorem one : Ideal.ofBits .f32 0x3F800000#32 = (1 : EReal) := by
  have : Ideal.ofBits .f32 0x3F800000#32 = ((8388608 : ℝ) * ((2 ^ 23)⁻¹ : ℝ) : EReal) := by simp [Ideal.ofBits, Ideal.ieee]
  rw [this, ← EReal.coe_mul]
  norm_num

theorem corrN_apply : (corrN x6 x7 x8 x9 (ix2 r s) : EReal)
    = fixN (k0_pay30 x6 x7 (ix2 r s)) (k0_pay35 (first8 x8) (ix2 r s)) (k0_pay32 (first8 x8) x9 (ix2 r s)) (k0_pay36 (first8 x8) x9 (ix2 r s)) (k0_pay33 (F := Ideal) (ix2 r s)) := by
  unfold corrN fixN
  rw [← soft8, ← one]
  generalize k0_pay30 x6 x7 = t
  generalize k0_pay35 (first8 x8) = o
  generalize k0_pay32 (first8 x8) x9 = n
  generalize k0_pay36 (first8 x8) x9 = p
  generalize k0_pay33 (F := Ideal) = v
  pointwise [k0_pay43, k0_pay41, k0_pay40]

end Corr

section Sum
variable (y p o n : FVec Ideal S8x8 .f32) (d e : Vec Ideal S1x1 .f32)

theorem nPos_apply (w : Vec Ideal S1x128 .f32) : (k0_pay44 y o p w : EReal)
    = ∑ a, (w (ix2 0 a) : EReal) * w (ix2 0 a) + ∑ r : Fin 8, ∑ s : Fin 8, ((p (ix2 r s) : EReal) - o (ix2 r s)) * y (ix2 r s) := by
  pointwise [k0_pay44]
  simp

theorem dots (w : Vec Ideal S128x64 .f32) : (k0_pay45 w : EReal) = (((1 / 2 : ℝ)) : EReal) * ∑ a, ∑ k, (w (ix2 a k) : EReal) * w (ix2 a k) := by
  rw [← half]
  pointwise [k0_pay45]

theorem sumP_apply (t : EReal) : (k0_pay48 (F := Ideal) y t (k0_pay46 d) : EReal) = ((d (ix2 0 0) : EReal) - t) + ∑ r : Fin 8, ∑ s : Fin 8, (y (ix2 r s) : EReal) := by
  pointwise [k0_pay48, k0_pay47, k0_pay46]
  simp

theorem sumN_apply : (k0_pay49 (F := Ideal) y (k0_pay46 d) e : EReal) = ((e (ix2 0 0) : EReal) - d (ix2 0 0)) + ∑ r : Fin 8, ∑ s : Fin 8, (y (ix2 r s) : EReal) := by
  pointwise [k0_pay49, k0_pay47, k0_pay46]
  simp

theorem diaP_apply : (k0_pay50 (F := Ideal) p y d e : EReal)
    = ((d (ix2 0 0) : EReal) - e (ix2 0 0)) + ∑ r : Fin 8, ∑ s : Fin 8, (y (ix2 r s) : EReal) * p (ix2 r s) := by
  pointwise [k0_pay50]
  simp

theorem diaN_apply : (k0_pay51 (F := Ideal) p y : EReal) = ∑ r : Fin 8, ∑ s : Fin 8, (y (ix2 r s) : EReal) * p (ix2 r s) := by
  pointwise [k0_pay51]

end Sum

/-- One in place of zero. -/
def one0 (x : EReal) : EReal := if x = 0 then 1 else x
/-- The loss from its four sums and two counts. -/
def total (P N dP dN s1 s0 : EReal) : EReal :=
  Ideal.div (Ideal.div ((P - dP) * Ideal.div (one0 s0 + one0 s1) (one0 s1) + (N - dN) * Ideal.div (one0 s0 + one0 s1) (one0 s0)) (2 : ℝ)) (8386560 : ℝ)

theorem two : Ideal.ofBits .f32 0x40000000#32 = ((2 : ℝ) : EReal) := by
  have : Ideal.ofBits .f32 0x40000000#32 = ((8388608 : ℝ) * ((2 ^ 22)⁻¹ : ℝ) : EReal) := by simp [Ideal.ofBits, Ideal.ieee]
  rw [this, ← EReal.coe_mul]
  norm_num

theorem size : Ideal.ofBits .f32 0x45800000#32 = ((4096 : ℝ) : EReal) := by
  have : Ideal.ofBits .f32 0x45800000#32 = ((8388608 : ℝ) * ((2 ^ 11)⁻¹ : ℝ) : EReal) := by simp [Ideal.ofBits, Ideal.ieee]
  rw [this, ← EReal.coe_mul]
  norm_num

theorem hash_apply (P N dP dN s1 s0 : EReal) :
    (k0_pay54 (F := Ideal) P N dP dN s1 s0 (Scalar.ofBits .f32 0x00000000#32) : EReal) = total P N dP dN s1 s0 := by
  unfold total
  pointwise [k0_pay54]
  rw [two, size]
  have e : Ideal.div (((4096 : ℝ) : EReal) * (((4096 : ℝ) : EReal) - 1)) ((2 : ℝ) : EReal) = ((8386560 : ℝ) : EReal) := by
    rw [Ideal.div_coe (by norm_num), ← EReal.coe_one, ← EReal.coe_sub, ← EReal.coe_mul, ← EReal.coe_mul]
    norm_num
  rw [e]
  rfl

end Cert.KernelIdeal.HashLast

end

end
-- ==== Proof.HashSum.lean ====
module

public import proofs.«01_k».proof.Proof.HashLast

/-!
# The hash loss as a sum over pairs

The loss over all pairs of rows, and its equality with the four sums and two counts the kernel reduces it to. `K` is the rows'
classes, `L` the given similarities (which count for the first six rows), `T` the products of the hash codes.
-/

@[expose] public section

set_option maxRecDepth 16384

noncomputable section

namespace Cert.HashSum

open Idealize.ShloMosaic Cert.HashMath
open Cert.KernelIdeal.HashLast (fixP fixN total one0)

variable (K : Fin 4096 → Fin 101) (L : Fin 101 → Fin 101 → EReal)

/-- One for a pair of one class. -/
def same (i j : Fin 4096) : ℝ := if K i = K j then 1 else 0
/-- The similarity of a pair, -/
def sim (i j : Fin 4096) : EReal := if i.val < 6 ∧ j.val < 6 then L (K i) (K j) else (same K i j : EReal)
/-- and the number of pairs where it is one, and where it is not. -/
def count : EReal := ∑ i, ∑ j, if sim K L i j = 1 then (1 : EReal) else 0
def rest : EReal := ∑ i, ∑ j, if sim K L i j = 1 then (0 : EReal) else 1
/-- The two weights. -/
def weightP (s1 s0 : EReal) : EReal := Ideal.div (one0 s0 + one0 s1) (one0 s1)
def weightN (s1 s0 : EReal) : EReal := Ideal.div (one0 s0 + one0 s1) (one0 s0)
/-- A pair's loss, -/
def pl (T : Fin 4096 → Fin 4096 → EReal) (i j : Fin 4096) : EReal := softR (T i j) - sim K L i j * T i j
/-- weighed, -/
def weighed (T : Fin 4096 → Fin 4096 → EReal) (s1 s0 : EReal) (i j : Fin 4096) : EReal :=
  if sim K L i j = 1 then pl K L T i j * weightP s1 s0 else pl K L T i j * weightN s1 s0
/-- and the loss, the diagonal left out. -/
def value (T : Fin 4096 → Fin 4096 → EReal) (s1 s0 : EReal) : EReal :=
  Ideal.div (Ideal.div (∑ i, ∑ j, (weighed K L T s1 s0 i j - if i = j then weighed K L T s1 s0 i j else 0)) (2 : ℝ)) (8386560 : ℝ)

/-! ## The counts -/

def n : ℝ := ∑ i, ∑ j, if sim K L i j = 1 then (1 : ℝ) else 0

theorem count_eq : count K L = (n K L : EReal) := by
  simp only [count, n, coe_sum]
  refine Finset.sum_congr rfl fun i _ => Finset.sum_congr rfl fun j _ => ?_
  split <;> simp

theorem rest_eq : rest K L = ((4096 * 4096 - n K L : ℝ) : EReal) := by
  have e : (4096 * 4096 - n K L : ℝ) = ∑ i, ∑ j, if sim K L i j = 1 then (0 : ℝ) else 1 := by
    have : (4096 * 4096 : ℝ) = ∑ i : Fin 4096, ∑ j : Fin 4096, (1 : ℝ) := by simp
    rw [this, n, ← Finset.sum_sub_distrib]
    refine Finset.sum_congr rfl fun i _ => ?_
    rw [← Finset.sum_sub_distrib]
    refine Finset.sum_congr rfl fun j _ => ?_
    split <;> simp
  rw [e]
  simp only [rest, coe_sum]
  refine Finset.sum_congr rfl fun i _ => Finset.sum_congr rfl fun j _ => ?_
  split <;> simp

theorem n_le : n K L ≤ 4096 * 4096 := by
  have : (4096 * 4096 : ℝ) = ∑ i : Fin 4096, ∑ j : Fin 4096, (1 : ℝ) := by simp
  rw [this]
  refine Finset.sum_le_sum fun i _ => Finset.sum_le_sum fun j _ => ?_
  split <;> norm_num

theorem many_pairs : (131008 : ℝ) ≤ n K L := by
  have h := many (fun i => Cert.KernelIdeal.Rows.lane (K i))
  have s : ∑ i : Fin 4096, ∑ j : Fin 4096, (if i.val < 6 ∧ j.val < 6 then (1 : ℝ) else 0) ≤ 64 := by
    rw [← sum_first2 (fun i j : Fin 4096 => if i.val < 6 ∧ j.val < 6 then (1 : ℝ) else 0) (fun i j h => if_neg (by omega))]
    refine (Finset.sum_le_sum fun a _ => Finset.sum_le_sum fun b _ => (show _ ≤ (1 : ℝ) by split <;> norm_num)).trans ?_
    simp
    norm_num
  have l : ∑ i, ∑ j, (same K i j - if i.val < 6 ∧ j.val < 6 then (1 : ℝ) else 0) ≤ n K L := by
    refine Finset.sum_le_sum fun i _ => Finset.sum_le_sum fun j _ => ?_
    have q : same K i j ≤ 1 := by unfold same; split <;> norm_num
    by_cases m : i.val < 6 ∧ j.val < 6
    · rw [if_pos m]
      split <;> linarith
    · rw [if_neg m, sim, if_neg m]
      unfold same
      by_cases e : K i = K j <;> simp [e]
  simp only [Finset.sum_sub_distrib] at l
  have e : ∑ i, ∑ j, same K i j = ∑ i, ∑ j, if Cert.KernelIdeal.Rows.lane (K i) = Cert.KernelIdeal.Rows.lane (K j) then (1 : ℝ) else 0 := by
    refine Finset.sum_congr rfl fun i _ => Finset.sum_congr rfl fun j _ => ?_
    unfold same
    exact if_congr ⟨fun q => congrArg _ q, fun q => Fin.ext (Fin.mk.inj q)⟩ rfl rfl
  rw [e] at l
  linarith

/-- Both weights are positive reals. -/
theorem weights : ∃ c d : ℝ, 0 < c ∧ 0 < d ∧ weightP (count K L - (4096 : ℝ)) (rest K L) = c ∧ weightN (count K L - (4096 : ℝ)) (rest K L) = d := by
  have h1 := many_pairs K L
  have h0 := n_le K L
  have e1 : one0 (count K L - (4096 : ℝ)) = ((n K L - 4096 : ℝ) : EReal) := by
    rw [count_eq, ← EReal.coe_sub, one0, if_neg]
    rw [← EReal.coe_zero, EReal.coe_eq_coe_iff]
    linarith
  obtain ⟨t, ht, e0⟩ : ∃ t : ℝ, 0 < t ∧ one0 (rest K L) = (t : EReal) := by
    rw [rest_eq, one0]
    by_cases z : (4096 * 4096 - n K L : ℝ) = 0
    · exact ⟨1, one_pos, by rw [z]; simp⟩
    · refine ⟨4096 * 4096 - n K L, lt_of_le_of_ne (by linarith) (Ne.symm z), if_neg ?_⟩
      rw [← EReal.coe_zero, EReal.coe_eq_coe_iff]
      exact z
  have p1 : 0 < n K L - 4096 := by linarith
  refine ⟨(t + (n K L - 4096)) * (1 / (n K L - 4096)), (t + (n K L - 4096)) * (1 / t), by positivity, by positivity, ?_, ?_⟩
  · rw [weightP, e1, e0, Ideal.div_coe p1.ne', ← EReal.coe_add, ← EReal.coe_mul]
  · rw [weightN, e1, e0, Ideal.div_coe ht.ne', ← EReal.coe_add, ← EReal.coe_mul]

/-! ## Real hash codes -/

section Real
variable (θ : Fin 4096 → Fin 4096 → ℝ)

/-- The corrections, of any pair. -/
def cP (i j : Fin 4096) : EReal :=
  fixP (θ i j) (same K i j) (L (K i) (K j)) (if L (K i) (K j) = 1 then 1 else 0) (if i.val < 6 ∧ j.val < 6 then 1 else 0)
def cN (i j : Fin 4096) : EReal :=
  fixN (θ i j) (same K i j) (L (K i) (K j)) (if L (K i) (K j) = 1 then 1 else 0) (if i.val < 6 ∧ j.val < 6 then 1 else 0)

theorem same_cases (i j : Fin 4096) : same K i j = 1 ∨ same K i j = 0 := by
  unfold same; split <;> simp

theorem add_sub_real (x : EReal) (r : ℝ) : (r : EReal) + (x - r) = x := by
  induction x with
  | bot => rw [sub_eq_add_neg, EReal.bot_add, EReal.add_bot]
  | top => rw [EReal.top_sub_coe, EReal.coe_add_top]
  | coe a => rw [← EReal.coe_sub, ← EReal.coe_add]; congr 1; ring

theorem positive (i j : Fin 4096) : (if sim K L i j = 1 then pl K L (fun i j => θ i j) i j else 0)
    = ((same K i j * sp (θ i j) - same K i j * θ i j : ℝ) : EReal) + cP K L θ i j := by
  unfold pl cP fixP sim
  rw [softR_coe, softK_coe]
  by_cases m : i.val < 6 ∧ j.val < 6
  · simp only [if_pos m]
    by_cases l : L (K i) (K j) = 1
    · rcases same_cases K i j with s | s
      · simp only [l, s, if_true, EReal.coe_one, one_mul, mul_one]
        norm_cast
        ring
      · simp only [l, s, if_true, EReal.coe_zero, one_mul, mul_one, mul_zero, zero_mul, sub_zero, zero_add]
    · rcases same_cases K i j with s | s
      · simp only [l, s, if_false, EReal.coe_one, one_mul, mul_one, mul_zero]
        norm_cast
        ring
      · simp only [l, s, if_false, EReal.coe_zero, one_mul, mul_one, mul_zero, zero_mul, sub_zero, zero_add]
  · simp only [if_neg m, mul_zero, add_zero]
    rcases same_cases K i j with s | s
    · simp only [s, EReal.coe_one, if_true, one_mul]
      norm_cast
    · simp [s]

theorem negative (i j : Fin 4096) : (if sim K L i j = 1 then 0 else pl K L (fun i j => θ i j) i j)
    = ((sp (θ i j) - same K i j * sp (θ i j) : ℝ) : EReal) + cN K L θ i j := by
  have one : (1 : EReal) - 1 = 0 := by rw [← EReal.coe_one, ← EReal.coe_sub, sub_self, EReal.coe_zero]
  unfold pl cN fixN sim
  rw [softR_coe, softK_coe]
  by_cases m : i.val < 6 ∧ j.val < 6
  · simp only [if_pos m]
    by_cases l : L (K i) (K j) = 1
    · rcases same_cases K i j with s | s
      · simp only [l, s, if_true, EReal.coe_one, one, one_mul, mul_one, mul_zero, sub_self, EReal.coe_zero, zero_add, sub_zero]
      · simp only [l, s, if_true, EReal.coe_zero, one, one_mul, mul_one, mul_zero, zero_mul, sub_zero]
        norm_cast
        ring
    · generalize (sp (θ i j) : EReal) - L (K i) (K j) * (θ i j : EReal) = x
      rcases same_cases K i j with s | s
      · simp only [l, s, if_false, EReal.coe_one, one, one_mul, mul_one, mul_zero, sub_zero, sub_self, EReal.coe_zero, zero_add]
      · simp only [l, s, if_false, EReal.coe_zero, one_mul, mul_one, mul_zero, zero_mul, sub_zero]
        exact (add_sub_real x _).symm
  · simp only [if_neg m, mul_zero, add_zero]
    rcases same_cases K i j with s | s
    · simp [s]
    · simp [s]

/-- The loss is what the kernel makes of its sums. -/
theorem value_real :
    total
        ((((∑ i, ∑ j, same K i j * sp (θ i j) : ℝ) : EReal) - ((∑ i, ∑ j, same K i j * θ i j : ℝ) : EReal)) + ∑ i, ∑ j, cP K L θ i j)
        ((((∑ i, ∑ j, sp (θ i j) : ℝ) : EReal) - ((∑ i, ∑ j, same K i j * sp (θ i j) : ℝ) : EReal)) + ∑ i, ∑ j, cN K L θ i j)
        ((((∑ i, sp (θ i i) : ℝ) : EReal) - ((∑ i, θ i i : ℝ) : EReal)) + ∑ i, cP K L θ i i)
        (∑ i, cN K L θ i i) (count K L - (4096 : ℝ)) (rest K L)
      = value K L (fun i j => θ i j) (count K L - (4096 : ℝ)) (rest K L) := by
  obtain ⟨c, d, hc, hd, ec, ed⟩ := weights K L
  have s : ∀ i, same K i i = 1 := fun i => if_pos rfl
  have P : ∑ i, ∑ j, (if sim K L i j = 1 then pl K L (fun i j => θ i j) i j else 0)
      = (((∑ i, ∑ j, same K i j * sp (θ i j) : ℝ) : EReal) - ((∑ i, ∑ j, same K i j * θ i j : ℝ) : EReal)) + ∑ i, ∑ j, cP K L θ i j := by
    simp only [positive, Finset.sum_add_distrib, ← coe_sum, Finset.sum_sub_distrib]
    rw [EReal.coe_sub]
  have N : ∑ i, ∑ j, (if sim K L i j = 1 then 0 else pl K L (fun i j => θ i j) i j)
      = (((∑ i, ∑ j, sp (θ i j) : ℝ) : EReal) - ((∑ i, ∑ j, same K i j * sp (θ i j) : ℝ) : EReal)) + ∑ i, ∑ j, cN K L θ i j := by
    simp only [negative, Finset.sum_add_distrib, ← coe_sum, Finset.sum_sub_distrib]
    rw [EReal.coe_sub]
  have dP : ∑ i, (if sim K L i i = 1 then pl K L (fun i j => θ i j) i i else 0)
      = (((∑ i, sp (θ i i) : ℝ) : EReal) - ((∑ i, θ i i : ℝ) : EReal)) + ∑ i, cP K L θ i i := by
    simp only [positive, s, one_mul, Finset.sum_add_distrib, ← coe_sum, Finset.sum_sub_distrib]
    rw [EReal.coe_sub]
  have dN : ∑ i, (if sim K L i i = 1 then 0 else pl K L (fun i j => θ i j) i i) = ∑ i, cN K L θ i i := by
    simp only [negative, s, one_mul, sub_self, EReal.coe_zero, zero_add]
  rw [← P, ← N, ← dP, ← dN]
  unfold total value weighed
  rw [ec, ed, ← weigh (fun i j => sim K L i j = 1) (pl K L fun i j => θ i j) c d hc.le hd.le]
  unfold weightP at ec
  unfold weightN at ed
  rw [ec, ed]

end Real

/-! ## An infinite hash code -/

/-- Where the product of a row with itself is infinite both are negative infinity. -/
theorem div_bot : Ideal.div (Ideal.div ⊥ (2 : ℝ)) (8386560 : ℝ) = ⊥ := by
  rw [Ideal.div_coe (y := 2) (by norm_num), bot_mul_real _ (by norm_num), Ideal.div_coe (by norm_num), bot_mul_real _ (by norm_num)]

theorem total_bot (N dP dN : EReal) : total ⊥ N dP dN (count K L - (4096 : ℝ)) (rest K L) = ⊥ := by
  obtain ⟨c, d, hc, hd, ec, ed⟩ := weights K L
  unfold weightP at ec
  rw [total, ec, sub_eq_add_neg, EReal.bot_add, bot_mul_real c hc, EReal.bot_add, div_bot]

theorem value_bot (T : Fin 4096 → Fin 4096 → EReal) (i : Fin 4096) (h : T i i = ⊤) :
    value K L T (count K L - (4096 : ℝ)) (rest K L) = ⊥ := by
  obtain ⟨c, d, hc, hd, ec, ed⟩ := weights K L
  have p : ¬ ∃ r : ℝ, pl K L T i i = r := by
    unfold pl
    rw [h, softR_top]
    rintro ⟨r, hr⟩
    rw [sub_eq_add_neg] at hr
    obtain ⟨⟨a, ha⟩, _⟩ := real_of_add hr
    exact absurd ha (by simp)
  have q : ∀ e : ℝ, 0 < e → ¬ ∃ r : ℝ, pl K L T i i * e = r := by
    intro e he
    rintro ⟨r, hr⟩
    generalize pl K L T i i = x at p hr
    induction x with
    | bot => rw [EReal.bot_mul_coe_of_pos he] at hr; exact absurd hr (by simp)
    | top => rw [EReal.top_mul_coe_of_pos he] at hr; exact absurd hr (by simp)
    | coe a => exact p ⟨a, rfl⟩
  have z : weighed K L T (count K L - (4096 : ℝ)) (rest K L) i i - (if i = i then weighed K L T (count K L - (4096 : ℝ)) (rest K L) i i else 0) = ⊥ := by
    rw [if_pos rfl]
    refine sub_self_of_not_real _ ?_
    unfold weighed
    rw [ec, ed]
    split
    · exact q c hc
    · exact q d hd
  unfold value
  rw [sum_bot _ i (sum_bot _ i z), div_bot]

end Cert.HashSum

end

end
-- ==== Proof.HashRef.lean ====
module

public import proofs.«01_k».proof.Proof.RefHash
public import proofs.«01_k».proof.Proof.RefLoss
public import proofs.«01_k».proof.Proof.HashSum
public import Idealize.ShloMosaic.Lib.Routing.OpsOne

/-!
# The reference's hash loss

Each array the reference computes for the hash loss, read at one pair of rows, and the loss as the sum over pairs of `HashSum`.
-/

@[expose] public section

set_option maxRecDepth 16384

noncomputable section

namespace Cert.ReferenceIdeal.HashRef

open Idealize.ShloMosaic Idealize.SL.Sem
open Cert.ReferenceIdeal Cert.ReferenceIdeal.Gen Cert.ReferenceIdeal.Read Cert.ReferenceIdeal.Pair Cert.Reals Cert.FirstMax Cert.HashMath Cert.HashSum
open Cert.KernelIdeal.Rows (hit)
open Cert.KernelIdeal.HashLast (one0)

/-- The product of two rows' hash codes, halved. -/
def prod (x1 : S4096x64.Idx → EReal) (i j : Fin 4096) : EReal := Ideal.div (∑ k, x1 (ix2 i k) * x1 (ix2 j k)) (2 : ℝ)

theorem product_entry (x1 : S4096x64.Idx → EReal) (i j : Fin 4096) : (val_main_v82 (F := Ideal) x1 (ix2 i j) : EReal) = prod x1 i j := by
  unfold prod
  rw [← Cert.KernelIdeal.HashLast.two]
  pointwise [val_main_v82, val_main_v81, val_main_v80, val_main_v79, val_main_cst_14]

theorem bit_eq (x y : EReal) : FloatOps.cmpf (F := Ideal) (φ := .f32) .oeq x y = BitVec.ofBool (decide (x = y)) := rfl

theorem bit_not (p : Prop) [Decidable p] : ~~~(BitVec.ofBool (decide p)) = BitVec.ofBool (decide (¬ p)) := by
  by_cases h : p <;> simp [h]

/-! ## The similarities -/

section Sim
variable (x3 : IVec S4096 32) (x4 : S101x101.Idx → EReal) (K : Fin 4096 → Fin 101) (hT : ∀ i, x3 (ix1 i) = BitVec.ofNat 32 (K i).val)

theorem onehot (i : Fin 4096) (a : Fin 101) : (val_main_v83 (F := Ideal) x3 (ix2 i a) : EReal) = hit (x3 (ix1 i)) a.val := by
  pointwise [val_main_v83, val_main_call6_v4, val_main_call6_v2, val_main_call6_v0, val_main_call6_v3, val_main_call6_v1]
  exact bit (x3 (ix1 i) = BitVec.ofNat 32 a.val)

include hT

theorem common (i j : Fin 4096) : (val_main_v85 (F := Ideal) x3 (ix2 i j) : EReal) = if K i = K j then 1 else 0 := by
  have h : (val_main_v85 (F := Ideal) x3 (ix2 i j) : EReal) = ∑ a, (val_main_v83 (F := Ideal) x3 (ix2 i a) : EReal) * val_main_v83 (F := Ideal) x3 (ix2 j a) := by
    pointwise [val_main_v85, val_main_v84]
  rw [h]
  simp only [onehot, hT, Cert.KernelIdeal.Loss.hit_class]
  rw [Finset.sum_eq_single (K i) (fun a _ q => by rw [if_neg (Ne.symm q), zero_mul]) (by simp), if_pos rfl, one_mul]
  exact if_congr eq_comm rfl rfl

theorem same_entry (i j : Fin 4096) : (val_main_v88 (F := Ideal) x3 (ix2 i j) : EReal) = (same K i j : EReal) := by
  have h : (val_main_v88 (F := Ideal) x3 (ix2 i j) : EReal) = FloatOps.uitofp (F := Ideal) .f32 (BitVec.ofBool (decide ((0 : EReal) < val_main_v85 (F := Ideal) x3 (ix2 i j)))) := by
    pointwise [val_main_v88, val_main_v87, val_main_v86, val_main_cst_15]
  rw [h, common x3 K hT, bit]
  unfold same
  by_cases e : K i = K j <;> simp [e]

theorem index_fst (a b : Fin 6) : val_main_v107 (F := Ideal) x3 (ix3 a b 0) = BitVec.ofNat 32 (K ⟨a.val, by omega⟩).val := by
  rw [← hT]
  pointwise [val_main_v107, val_main_v105, val_main_v106, val_main_v103, val_main_v97, val_main_v94, val_main_v96, val_main_v93, val_main_v95, val_main_c_16, val_main_c_17, val_main_v90, val_main_v89]
  exact Routing.wrap_of_lt _ _ (by have := congrArg BitVec.toNat (hT ⟨a.val, by omega⟩); rw [BitVec.toNat_ofNat] at this; omega)
theorem index_snd (a b : Fin 6) : val_main_v107 (F := Ideal) x3 (ix3 a b 1) = BitVec.ofNat 32 (K ⟨b.val, by omega⟩).val := by
  rw [← hT]
  pointwise [val_main_v107, val_main_v105, val_main_v106, val_main_v104, val_main_v102, val_main_v99, val_main_v101, val_main_v98, val_main_v100, val_main_c_18, val_main_c_19, val_main_v92, val_main_v91]
  exact Routing.wrap_of_lt _ _ (by have := congrArg BitVec.toNat (hT ⟨b.val, by omega⟩); rw [BitVec.toNat_ofNat] at this; omega)

omit hT in
/-- The entry two indices name. -/
theorem gather_entry (idx : IVec S6x6x2 32) (i j : Fin 6) (s t : Fin 101) (hs : idx (ix3 i j 0) = BitVec.ofNat 32 s.val) (ht : idx (ix3 i j 1) = BitVec.ofNat 32 t.val) :
    Host.gather gather_S101x101_S6x6x2_S6x6_n_01_n_n_01_2_11 x4 idx (ix2 i j) = x4 (ix2 s t) := by
  refine congrArg x4 (funext fun a => Fin.ext ?_)
  show GatherDims.start _ _ _ a + GatherDims.batchCoord _ _ a + GatherDims.offCoord _ _ a = _
  rw [GatherDims.offCoord_eq_zero _ _ _ (fun q => by revert q; fin_cases a <;> decide +kernel), Nat.add_zero,
    GatherDims.batchCoord_eq_zero _ _ _ List.not_mem_nil, Nat.add_zero]
  have e : ∀ q : Fin 2, GatherDims.start gather_S101x101_S6x6x2_S6x6_n_01_n_n_01_2_11 (ix2 i j) idx q = min (idx (ix3 i j q)).toInt.toNat 100 := by
    intro q
    unfold GatherDims.start
    rw [dif_pos (by fin_cases q <;> decide +kernel)]
    have z : ∀ b : Fin 2, (![101, 101] : Fin 2 → ℕ) b = 101 := by intro b; fin_cases b <;> rfl
    fin_cases q
    · show min (idx _).toInt.toNat 100 = _
      congr 4
      funext b
      match b with
      | ⟨0, _⟩ => rfl
      | ⟨1, _⟩ => rfl
      | ⟨2, _⟩ => rfl
    · show min (idx _).toInt.toNat 100 = _
      congr 4
      funext b
      match b with
      | ⟨0, _⟩ => rfl
      | ⟨1, _⟩ => rfl
      | ⟨2, _⟩ => rfl
  match a with
  | ⟨0, _⟩ =>
    refine (e 0).trans ?_
    rw [hs, toInt_ofNat _ (by omega)]
    show min s.val 100 = s.val
    omega
  | ⟨1, _⟩ =>
    refine (e 1).trans ?_
    rw [ht, toInt_ofNat _ (by omega)]
    show min t.val 100 = t.val
    omega

omit hT in
/-- Where the given similarities of the first six rows go. -/
theorem lands (a b : Fin 6) (i j : Fin 4096) :
    scatter_S4096x4096_S2_S6x6_01_n_01_0.resultIdx? (ix2 a b) (val_main_v111 (F := Ideal)) = some (ix2 i j) ↔ a.val = i.val ∧ b.val = j.val := by
  have z : ∀ q : Fin 2, (val_main_v111 (F := Ideal) (ix1 q)).toInt = 0 := by
    intro q
    fin_cases q
    · have : val_main_v111 (F := Ideal) (ix1 0) = 0#32 := by pointwise [val_main_v111, val_main_v109, val_main_v110, val_main_c_20, val_main_c_21]
      exact (congrArg BitVec.toInt this).trans (by decide)
    · have : val_main_v111 (F := Ideal) (ix1 1) = 0#32 := by pointwise [val_main_v111, val_main_v109, val_main_v110, val_main_c_20, val_main_c_21]
      exact (congrArg BitVec.toInt this).trans (by decide)
  have w0 : scatter_S4096x4096_S2_S6x6_01_n_01_0.window (ix2 a b) 0 = a.val := rfl
  have w1 : scatter_S4096x4096_S2_S6x6_01_n_01_0.window (ix2 a b) 1 = b.val := rfl
  have s : ∀ q : Fin 2, scatter_S4096x4096_S2_S6x6_01_n_01_0.start (ix2 a b) (val_main_v111 (F := Ideal)) q = 0 := fun q =>
    (Routing.start_pair (R := 4096) (C := 4096) scatter_S4096x4096_S2_S6x6_01_n_01_0 rfl rfl (val_main_v111 (F := Ideal)) (ix2 a b) q).trans (z q)
  refine (Routing.resultIdx?_ix2 (R := 4096) (C := 4096) _ _ _ i j).trans ?_
  rw [s, s, w0, w1]
  omega

theorem sim_entry (i j : Fin 4096) : (val_main_v112 (F := Ideal) x3 x4 (ix2 i j) : EReal) = sim K (fun s t => x4 (ix2 s t)) i j := by
  unfold val_main_v112 sim
  by_cases h : i.val < 6 ∧ j.val < 6
  · rw [if_pos h]
    refine Routing.scatter_set_hit _ _ _ _ _ _ (fun k hk => ?_) (ix2 ⟨i.val, h.1⟩ ⟨j.val, h.2⟩) ((lands _ _ i j).2 ⟨rfl, rfl⟩)
    obtain ⟨a, b, rfl⟩ : ∃ a b : Fin 6, k = ix2 a b := ⟨k 0, k 1, funext fun q => match q with
      | ⟨0, _⟩ => rfl
      | ⟨1, _⟩ => rfl⟩
    obtain ⟨ha, hb⟩ := (lands a b i j).1 hk
    refine (gather_entry x4 _ a b _ _ (index_fst x3 K hT a b) (index_snd x3 K hT a b)).trans ?_
    rw [show (⟨a.val, by omega⟩ : Fin 4096) = i from Fin.ext ha, show (⟨b.val, by omega⟩ : Fin 4096) = j from Fin.ext hb]
  · rw [if_neg h]
    refine (Routing.scatter_set_miss _ _ _ _ _ fun k hk => ?_).trans (same_entry x3 K hT i j)
    obtain ⟨a, b, rfl⟩ : ∃ a b : Fin 6, k = ix2 a b := ⟨k 0, k 1, funext fun q => match q with
      | ⟨0, _⟩ => rfl
      | ⟨1, _⟩ => rfl⟩
    obtain ⟨ha, hb⟩ := (lands a b i j).1 hk
    exact h ⟨by omega, by omega⟩

/-! ## The counts and the weights -/

theorem is_one (i j : Fin 4096) : val_main_v129 (F := Ideal) x3 x4 (ix2 i j) = BitVec.ofBool (decide (sim K (fun s t => x4 (ix2 s t)) i j = 1)) := by
  rw [← sim_entry x3 x4 K hT, ← Cert.KernelIdeal.HashLast.one]
  pointwise [val_main_v129, val_main_v128, val_main_cst_23]

theorem count_entry : (val_main_v132 (F := Ideal) x3 x4 ix0 : EReal) = count K (fun s t => x4 (ix2 s t)) := by
  have h : (val_main_v132 (F := Ideal) x3 x4 ix0 : EReal) = ∑ i : Fin 4096, ∑ j : Fin 4096, (FloatOps.uitofp (F := Ideal) .f32 (val_main_v129 (F := Ideal) x3 x4 (ix2 i j)) : EReal) := by
    pointwise [val_main_v132, val_main_v131, val_main_cst_24]
  rw [h]
  simp only [is_one x3 x4 K hT, bit]
  rfl

theorem rest_entry : (val_main_v135 (F := Ideal) x3 x4 ix0 : EReal) = rest K (fun s t => x4 (ix2 s t)) := by
  have h : (val_main_v135 (F := Ideal) x3 x4 ix0 : EReal) = ∑ i : Fin 4096, ∑ j : Fin 4096, (FloatOps.uitofp (F := Ideal) .f32 (~~~(val_main_v129 (F := Ideal) x3 x4 (ix2 i j))) : EReal) := by
    pointwise [val_main_v135, val_main_v134, val_main_v130, val_main_cst_26]
  rw [h]
  simp only [is_one x3 x4 K hT, bit_not, bit]
  unfold rest
  refine Finset.sum_congr rfl fun i _ => Finset.sum_congr rfl fun j _ => ?_
  by_cases e : sim K (fun s t => x4 (ix2 s t)) i j = 1 <;> simp [e]

omit hT in
theorem less_rows (y : FVec Ideal S_ .f32) : (subf y (constant S_ .f32 0x45800000#32) ix0 : EReal) = y ix0 - ((4096 : ℝ) : EReal) := by
  rw [← Cert.KernelIdeal.HashLast.size]
  pointwise

omit hT in
theorem one_scalar (y : FVec Ideal S_ .f32) :
    (select (cmpf .oeq y (constant S_ .f32 0x00000000#32)) (id (constant (F := Ideal) S_ .f32 0x3F800000#32 : FVec Ideal S_ .f32)) y ix0 : EReal) = one0 (y ix0) := by
  unfold one0
  pointwise
  rw [id, show (constant (F := Ideal) S_ .f32 0x3F800000#32 ix0 : EReal) = 1 by pointwise]

omit hT in
theorem ratio (y z : FVec Ideal S_ .f32) : (Host.divf y z ix0 : EReal) = Ideal.div (y ix0) (z ix0) := by
  pointwise

omit hT in
theorem total (y z : FVec Ideal S_ .f32) : (addf y z ix0 : EReal) = (y ix0 : EReal) + z ix0 := by
  pointwise

theorem positives : (val_main_v133 (F := Ideal) x3 x4 ix0 : EReal) = count K (fun s t => x4 (ix2 s t)) - (4096 : ℝ) := by
  unfold val_main_v133 val_main_cst_25
  rw [less_rows, count_entry x3 x4 K hT]

theorem one0_rest : (val_main_v137 (F := Ideal) x3 x4 ix0 : EReal) = one0 (rest K (fun s t => x4 (ix2 s t))) := by
  unfold val_main_v137 val_main_v136 val_main_cst_27 val_main_call7_v0 val_main_cst_28
  rw [one_scalar, rest_entry x3 x4 K hT]

theorem one0_count : (val_main_v139 (F := Ideal) x3 x4 ix0 : EReal) = one0 (count K (fun s t => x4 (ix2 s t)) - (4096 : ℝ)) := by
  unfold val_main_v139 val_main_v138 val_main_cst_29 val_main_call8_v0 val_main_cst_30
  rw [one_scalar, positives x3 x4 K hT]

theorem weightP_entry : (val_main_v141 (F := Ideal) x3 x4 ix0 : EReal) = weightP (count K (fun s t => x4 (ix2 s t)) - (4096 : ℝ)) (rest K (fun s t => x4 (ix2 s t))) := by
  unfold weightP val_main_v141 val_main_v140
  rw [ratio, total, one0_rest x3 x4 K hT, one0_count x3 x4 K hT]

theorem weightN_entry : (val_main_v144 (F := Ideal) x3 x4 ix0 : EReal) = weightN (count K (fun s t => x4 (ix2 s t)) - (4096 : ℝ)) (rest K (fun s t => x4 (ix2 s t))) := by
  unfold weightN val_main_v144 val_main_v140
  rw [ratio, total, one0_rest x3 x4 K hT, one0_count x3 x4 K hT]

/-! ## The pairs' losses -/

variable (x1 : S4096x64.Idx → EReal)

omit hT in
theorem soft_entry (i j : Fin 4096) : (val_main_v125 (F := Ideal) x1 (ix2 i j) : EReal) = softR (prod x1 i j) := by
  rw [← product_entry]
  have n : val_main_v117 (F := Ideal) x1 (ix2 i j) = 0#1 := by
    have h : val_main_v117 (F := Ideal) x1 (ix2 i j) = BitVec.ofBool (decide ((val_main_v116 (F := Ideal) x1 (ix2 i j) : EReal) ≠ val_main_v116 (F := Ideal) x1 (ix2 i j))) := rfl
    rw [h]
    simp
  have h : (val_main_v125 (F := Ideal) x1 (ix2 i j) : EReal)
      = Scalar.select (val_main_v117 (F := Ideal) x1 (ix2 i j)) (val_main_v119 (F := Ideal) x1 (ix2 i j) : EReal) (softR (val_main_v82 (F := Ideal) x1 (ix2 i j))) := by
    unfold softR
    pointwise [val_main_v125, val_main_v124, val_main_v114, val_main_v113, val_main_v123, val_main_v122, val_main_v121, val_main_v120, val_main_v116, val_main_v115, val_main_cst_22]
    rfl
  rw [h, n]
  rfl

theorem pl_entry (i j : Fin 4096) : (val_main_v127 (F := Ideal) x1 x3 x4 (ix2 i j) : EReal) = pl K (fun s t => x4 (ix2 s t)) (prod x1) i j := by
  unfold pl
  rw [← sim_entry x3 x4 K hT, ← soft_entry, ← product_entry]
  pointwise [val_main_v127, val_main_v126]

theorem weighed_entry (i j : Fin 4096) : (val_main_v147 (F := Ideal) x1 x3 x4 (ix2 i j) : EReal)
    = weighed K (fun s t => x4 (ix2 s t)) (prod x1) (count K (fun s t => x4 (ix2 s t)) - (4096 : ℝ)) (rest K (fun s t => x4 (ix2 s t))) i j := by
  unfold weighed
  rw [← weightP_entry x3 x4 K hT, ← weightN_entry x3 x4 K hT, ← pl_entry x3 x4 K hT, ← WordCmp.select_decide, ← is_one x3 x4 K hT]
  pointwise [val_main_v147, val_main_v143, val_main_v142, val_main_v146, val_main_v145]

omit hT in
theorem diagonal (i j : Fin 4096) : val_main_v152 (F := Ideal) (ix2 i j) = BitVec.ofBool (decide (i = j)) := by
  have h : val_main_v152 (F := Ideal) (ix2 i j) = BitVec.ofBool (decide (BitVec.ofNat 32 i.val + 0#32 = BitVec.ofNat 32 j.val)) := by
    pointwise [val_main_v152, val_main_v151, val_main_v148, val_main_v149, val_main_v150, val_main_c_31]
    rfl
  rw [h, BitVec.add_zero]
  congr 2
  refine propext ⟨fun q => Fin.ext ?_, fun q => by rw [q]⟩
  have := congrArg BitVec.toNat q
  simp only [BitVec.toNat_ofNat] at this
  omega

omit hT in
theorem pairs : Ideal.ofBits .f32 0x4AFFF000#32 = ((8386560 : ℝ) : EReal) := by
  have : Ideal.ofBits .f32 0x4AFFF000#32 = ((16773120 : ℝ) * ((2 ^ 1)⁻¹ : ℝ) : EReal) := by simp [Ideal.ofBits, Ideal.ieee]
  rw [this, ← EReal.coe_mul]
  norm_num

/-- The hash loss. -/
theorem hash_entry (q : S_.Idx) : (val_main_v157 (F := Ideal) x1 x3 x4 q : EReal)
    = value K (fun s t => x4 (ix2 s t)) (prod x1) (count K (fun s t => x4 (ix2 s t)) - (4096 : ℝ)) (rest K (fun s t => x4 (ix2 s t))) := by
  have hq : q = ix0 := funext fun a => a.elim0
  subst hq
  have h : (val_main_v157 (F := Ideal) x1 x3 x4 ix0 : EReal) = Ideal.div (Ideal.div (∑ i : Fin 4096, ∑ j : Fin 4096,
      ((val_main_v147 (F := Ideal) x1 x3 x4 (ix2 i j) : EReal) - Scalar.select (val_main_v152 (F := Ideal) (ix2 i j)) (val_main_v147 (F := Ideal) x1 x3 x4 (ix2 i j) : EReal) 0))
      (Ideal.ofBits .f32 0x40000000#32)) (Ideal.ofBits .f32 0x4AFFF000#32) := by
    pointwise [val_main_v157, val_main_v156, val_main_v155, val_main_v154, val_main_v153, val_main_call10_v1, val_main_call10_v0, val_main_cst_32, val_main_cst_33, val_main_cst_34, val_main_cst_35]
    rw [id, show (constant (F := Ideal) S_ .f32 0#32 ix0 : EReal) = 0 by pointwise]
  rw [h, pairs, Cert.KernelIdeal.HashLast.two]
  simp only [diagonal, WordCmp.select_decide, weighed_entry x3 x4 K hT]
  rfl

end Sim

/-- The whole loss. -/
theorem whole_entry (x1 : S4096x64.Idx → EReal) (x2 : S4096x101.Idx → EReal) (x3 : IVec S4096 32) (x4 : S101x101.Idx → EReal) (q : S_.Idx) :
    (val_main_v160 (F := Ideal) x1 x2 x3 x4 q : EReal)
      = Ideal.ofBits .f32 0x3F800000#32 * (val_main_v6 (F := Ideal) x2 x3 q : EReal) + Ideal.ofBits .f32 0x3C23D70A#32 * val_main_v157 (F := Ideal) x1 x3 x4 q := by
  have hq : q = ix0 := funext fun a => a.elim0
  subst hq
  pointwise [val_main_v160, val_main_v158, val_main_v159, val_main_cst_36, val_main_cst_37]

end Cert.ReferenceIdeal.HashRef

end

end
-- ==== Proof.HashBlocks.lean ====
module

public import proofs.«01_k».proof.Proof.Blocks

/-!
# The blocks of the hash loss

The hash codes, halved and whole, the targets and the given similarities, as the staging buffers hold them.
-/

@[expose] public section

set_option maxRecDepth 16384

noncomputable section

namespace Cert.KernelIdeal.HashBlocks

open Idealize.ShloMosaic Idealize.ShloMosaic.TcCoe Idealize.SL.Sem
open Cert.KernelIdeal Cert.KernelIdeal.Gen Cert.KernelIdeal.Blocks

variable {F : FTy → Type} [FloatOps F] [Named F]
variable (m : (ℓ : Loc nD τ sig) → Buf (Elt F) ℓ) (c : Dev nD)

/-- The three pairs of row halves: the first half, and the second. -/
abbrev fst : Fin 3 → Fin 2 := ![0, 0, 1]
abbrev snd : Fin 3 → Fin 2 := ![0, 1, 1]
/-- The grid's points, by their number. -/
abbrev at3 : Fin 3 → Fin cfg0.N := ![t0_0, t0_1, t0_2]

theorem index0 (p : Fin 3) : win0_0.index (at3 p) 0 = (fst p).val ∧ win0_0.index (at3 p) 1 = 0 := by
  fin_cases p <;> decide +kernel
theorem index1 (p : Fin 3) : win0_1.index (at3 p) 0 = (snd p).val ∧ win0_1.index (at3 p) 1 = 0 := by
  fin_cases p <;> decide +kernel
theorem index4 (p : Fin 3) : win0_4.index (at3 p) 0 = (fst p).val ∧ win0_4.index (at3 p) 1 = 0 ∧ win0_4.index (at3 p) 2 = 0 := by
  fin_cases p <;> decide +kernel
theorem index5 (p : Fin 3) : win0_5.index (at3 p) 0 = (snd p).val ∧ win0_5.index (at3 p) 1 = 0 ∧ win0_5.index (at3 p) 2 = 0 := by
  fin_cases p <;> decide +kernel
theorem index6 : win0_6.index t0_2 0 = 0 ∧ win0_6.index t0_2 1 = 0 := by decide +kernel
theorem index7 : win0_7.index t0_2 0 = 0 ∧ win0_7.index t0_2 1 = 0 := by decide +kernel
theorem index8 : win0_8.index t0_2 0 = 0 ∧ win0_8.index t0_2 1 = 0 ∧ win0_8.index t0_2 2 = 0 := by decide +kernel
theorem index9 : win0_9.index t0_2 0 = 0 ∧ win0_9.index t0_2 1 = 0 := by decide +kernel

/-- The operands the host prepares for it: the hash codes halved, and as they are, and the given similarities padded. -/
theorem entries :
    V m c main_v2 = truncf .bf16 (mulf (m ((c : Thread nD τ).loc main_arg1) : Vec F S4096x64 .f32)
        (broadcastInDim S4096x64 ![] bcast_S_S4096x64 (constant S_ .f32 0x3F000000#32))) bitsLt_bf16_f32
    ∧ V m c main_v3 = truncf .bf16 (m ((c : Thread nD τ).loc main_arg1) : Vec F S4096x64 .f32) bitsLt_bf16_f32
    ∧ V m c main_v5 = pad S128x128 ![0, 0] ![27, 27] ![0, 0] (m ((c : Thread nD τ).loc main_arg4) : Vec F S101x101 .f32)
        (sitofp .f32 (constantI S_ 32 0#32)) pads_S101x101_S128x128_0270_0270 h_S_ := by
  simp only [V, V0, hostOps0, hostOps0_1, hostOps0_2, hostOps0_3, hostOps0_4, hostOps0_5, hostOps0_6, hostOps0_7, hostOps0_8,
    List.flatten_cons, List.flatten_nil, List.append_nil, List.cons_append, List.nil_append, StableHlo.after_cons, StableHlo.after_nil]
  after_results_simp
  exact ⟨trivial, trivial, rfl⟩

theorem targets4 (p : Fin 3) (r : Fin 2048) :
    (iblk m c 4 (at3 p) : Vec F S1x1x2048 .i32) (ix3 0 0 r) = m ((c : Thread nD τ).loc main_arg3) (ix1 (rowOf (fst p) r)) := by
  blk_simp [iblk, index4 p]
  rw [(Blocks.entries m c).2.2.2]
  pointwise
  blk_ext [iblk, V, index4 p]
theorem targets5 (p : Fin 3) (r : Fin 2048) :
    (iblk m c 5 (at3 p) : Vec F S1x1x2048 .i32) (ix3 0 0 r) = m ((c : Thread nD τ).loc main_arg3) (ix1 (rowOf (snd p) r)) := by
  blk_simp [iblk, index5 p]
  rw [(Blocks.entries m c).2.2.2]
  pointwise
  blk_ext [iblk, V, index5 p]
theorem targets8 (r : Fin 2048) :
    (iblk m c 8 t0_2 : Vec F S1x1x2048 .i32) (ix3 0 0 r) = m ((c : Thread nD τ).loc main_arg3) (ix1 (rowOf 0 r)) := by
  blk_simp [iblk, index8]
  rw [(Blocks.entries m c).2.2.2]
  pointwise
  blk_ext [iblk, V, index8]

section AtIdeal
variable (m : (ℓ : Loc nD τ sig) → Buf (Elt Ideal) ℓ) (c : Dev nD)

/-- The hash code of row `i`. -/
def code (i : Fin 4096) (k : Fin 64) : EReal := m ((c : Thread nD τ).loc main_arg1) (ix2 i k)

theorem halved (i : Fin 4096) (k : Fin 64) :
    (V m c main_v2 (ix2 i k) : EReal) = code m c i k * Ideal.ofBits .f32 0x3F000000#32 := by
  rw [(entries m c).1]
  rfl
theorem whole (i : Fin 4096) (k : Fin 64) : (V m c main_v3 (ix2 i k) : EReal) = code m c i k := by
  rw [(entries m c).2.1]
  rfl

theorem codes0 (p : Fin 3) (r : Fin 2048) (k : Fin 64) :
    ((iblk m c 0 (at3 p) : Vec Ideal S2048x64 .bf16) (ix2 r k) : EReal) = code m c (rowOf (fst p) r) k * Ideal.ofBits .f32 0x3F000000#32 := by
  refine Eq.trans ?_ (halved m c (rowOf (fst p) r) k)
  blk_simp [iblk, index0 p]
  blk_ext [index0 p]

theorem codes1 (p : Fin 3) (r : Fin 2048) (k : Fin 64) :
    ((iblk m c 1 (at3 p) : Vec Ideal S2048x64 .bf16) (ix2 r k) : EReal) = code m c (rowOf (snd p) r) k := by
  refine Eq.trans ?_ (whole m c (rowOf (snd p) r) k)
  blk_simp [iblk, index1 p]
  blk_ext [index1 p]

/-- Row `r` of the first eight. -/
abbrev row8 (r : Fin 8) : Fin 4096 := ⟨r.val, by omega⟩

theorem codes6 (r : Fin 8) (k : Fin 64) :
    ((iblk m c 6 t0_2 : Vec Ideal S8x64 .bf16) (ix2 r k) : EReal) = code m c (row8 r) k * Ideal.ofBits .f32 0x3F000000#32 := by
  refine Eq.trans ?_ (halved m c (row8 r) k)
  blk_simp [iblk, index6]
  blk_ext [index6]

theorem codes7 (r : Fin 8) (k : Fin 64) : ((iblk m c 7 t0_2 : Vec Ideal S8x64 .bf16) (ix2 r k) : EReal) = code m c (row8 r) k := by
  refine Eq.trans ?_ (whole m c (row8 r) k)
  blk_simp [iblk, index7]
  blk_ext [index7]

end AtIdeal

theorem given (a b : Fin 101) :
    (iblk m c 9 t0_2 : Vec F S128x128 .f32) (ix2 ⟨a.val, by omega⟩ ⟨b.val, by omega⟩) = m ((c : Thread nD τ).loc main_arg4) (ix2 a b) := by
  refine Eq.trans ?_ ((congrFun (entries m c).2.2 (ix2 ⟨a.val, by omega⟩ ⟨b.val, by omega⟩)).trans (pad_square _ _ _ _))
  blk_simp [iblk, index9]
  blk_ext [index9]

end Cert.KernelIdeal.HashBlocks

end

end
-- ==== Proof.HashAcc.lean ====
module

public import proofs.«01_k».proof.Proof.HashBlocks
public import proofs.«01_k».proof.Proof.HashLast
public import proofs.«01_k».proof.Proof.HashSum
public import proofs.«01_k».proof.Proof.Sums

/-!
# The accumulators of the hash loss

What the accumulators of the hash loss hold at the end, and what the last point reads of the first eight rows.
-/

@[expose] public section

set_option maxRecDepth 16384

noncomputable section

namespace Cert.KernelIdeal.HashAcc

open Idealize.ShloMosaic Idealize.ShloMosaic.TcCoe Idealize.SL.Sem
open Cert.KernelIdeal Cert.KernelIdeal.Gen Cert.KernelIdeal.Step Cert.KernelIdeal.Body Cert.KernelIdeal.Rows Cert.KernelIdeal.Blocks Cert.KernelIdeal.Sums
open Cert.KernelIdeal.HashBlocks Cert.KernelIdeal.HashRows Cert.HashMath Cert.HashSum

/-- One for the lane of a class. -/
def ind (k : Fin 101) (a : Fin 128) : ℝ := if lane k = a then 1 else 0

theorem hit_real (k : Fin 101) (a : Fin 128) : hit (BitVec.ofNat 32 k.val) a.val = ((ind k a : ℝ) : EReal) := by
  unfold hit ind
  by_cases h : lane k = a
  · rw [if_pos h, if_pos (by rw [← h]; rfl), EReal.coe_one]
  · rw [if_neg h, EReal.coe_zero, if_neg]
    intro q
    have := congrArg BitVec.toNat q
    simp only [BitVec.toNat_ofNat] at this
    exact h (Fin.ext (by show k.val = a.val; omega))

theorem ind_sum (k : Fin 101) : ∑ a, ind k a = 1 := by
  simp [ind]

theorem ind_lane (k l : Fin 101) : ind l (lane k) = if k = l then 1 else 0 := by
  unfold ind
  refine if_congr ⟨fun q => Fin.ext (Fin.mk.inj q).symm, fun q => by rw [q]⟩ rfl rfl

/-- Summed over the lanes, and over the lane of one class. -/
theorem over_lanes (x : Fin 2048 → ℝ) (k : Fin 2048 → Fin 101) : ∑ a, ∑ s, x s * ind (k s) a = ∑ s, x s := by
  rw [Finset.sum_comm]
  refine Finset.sum_congr rfl fun s _ => ?_
  rw [← Finset.mul_sum, ind_sum, mul_one]

theorem over_lane (x : Fin 2048 → ℝ) (k : Fin 2048 → Fin 101) (l : Fin 101) :
    ∑ a, ind l a * ∑ s, x s * ind (k s) a = ∑ s, (if l = k s then 1 else 0) * x s := by
  rw [Finset.sum_eq_single (lane l) (fun a _ h => by rw [ind, if_neg (Ne.symm h), zero_mul]) (by simp), ind, if_pos rfl, one_mul]
  refine Finset.sum_congr rfl fun s _ => ?_
  rw [ind_lane, mul_comm]

/-- A batch is two halves, -/
theorem two_halves (f : Fin 4096 → ℝ) : ∑ i, f i = ∑ r : Fin 2048, f (rowOf 0 r) + ∑ r : Fin 2048, f (rowOf 1 r) := by
  rw [Fin.sum_univ_two_halves 2048 2048 rfl f]
  congr 1
  all_goals exact Finset.sum_congr rfl fun r _ => congrArg f (Fin.ext (by simp [rowOf] <;> omega))

/-- and a symmetric square three tiles, the mixed one twice. -/
theorem tiles (f : Fin 4096 → Fin 4096 → ℝ) (sym : ∀ i j, f i j = f j i) :
    ∑ r : Fin 2048, ∑ s : Fin 2048, f (rowOf 0 r) (rowOf 0 s) + 2 * ∑ r : Fin 2048, ∑ s : Fin 2048, f (rowOf 0 r) (rowOf 1 s)
      + ∑ r : Fin 2048, ∑ s : Fin 2048, f (rowOf 1 r) (rowOf 1 s) = ∑ i, ∑ j, f i j := by
  have e : ∑ r : Fin 2048, ∑ s : Fin 2048, f (rowOf 1 r) (rowOf 0 s) = ∑ r : Fin 2048, ∑ s : Fin 2048, f (rowOf 0 r) (rowOf 1 s) := by
    rw [Finset.sum_comm]
    exact Finset.sum_congr rfl fun r _ => Finset.sum_congr rfl fun s _ => sym _ _
  have inner : ∀ i, ∑ j, f i j = ∑ s : Fin 2048, f i (rowOf 0 s) + ∑ s : Fin 2048, f i (rowOf 1 s) := fun i => two_halves (f i)
  rw [two_halves fun i => ∑ j, f i j]
  simp only [inner, Finset.sum_add_distrib]
  rw [e]
  ring

variable (m : (ℓ : Loc nD τ sig) → Buf (Elt Ideal) ℓ) (c : Dev nD)

/-- The weights of the three tiles. -/
theorem tile_weight (p : Fin 3) : (k0_pay70 (F := Ideal) (coord (grid0.coords (at3 p))) (late (grid0.coords (at3 p))) : EReal) = (((![1, 2, 1] : Fin 3 → ℝ) p : ℝ) : EReal) := by
  have pick : ∀ (b : BitVec 1), (Scalar.select b (Ideal.ofBits .f32 0x3F800000#32) (Ideal.ofBits .f32 0x40000000#32) : EReal) = if b = 1#1 then ((1 : ℝ) : EReal) else ((2 : ℝ) : EReal) := by
    intro b
    rw [HashLast.one, HashLast.two, EReal.coe_one]
    rfl
  fin_cases p
  · exact (pick _).trans (if_pos (by decide +kernel))
  · exact (pick _).trans (if_neg (by decide +kernel))
  · exact (pick _).trans (if_pos (by decide +kernel))

theorem row_code (j : Fin 2) (r : Fin 2048) (k : Fin 64) : ((iblk m c 1 (pt j) : Vec Ideal S2048x64 .bf16) (ix2 r k) : EReal) = code m c (rowOf j r) k :=
  match j with
  | 0 => codes1 m c 0 r k
  | 1 => codes1 m c 1 r k

/-- The class sums of the hash codes, and the class sizes. -/
theorem sh_row (j : Fin 2) (v : Acc Ideal) (a : Fin 128) (k : Fin 64) : ((rowAt m c (pt j) v).sh (ix2 a k) : EReal)
    = v.sh (ix2 a k) + ∑ r : Fin 2048, hit (target m c (rowOf j r)) a.val * code m c (rowOf j r) k := by
  refine (row_sh _ _ _ _ _).trans ?_
  simp only [row_code, Blocks.targets]
  rfl

theorem acc_sh (a : Fin 128) (k : Fin 64) : ((acc2 m c).sh (ix2 a k) : EReal) = ∑ i, hit (target m c i) a.val * code m c i k := by
  have e2 : (acc2 m c).sh = (rowAt m c (pt 1) (pairAt m c t0_1 (acc0 m c))).sh := rfl
  have e1 : (pairAt m c t0_1 (acc0 m c)).sh = (rowAt m c (pt 0) (pairAt m c t0_0 zero)).sh := rfl
  have e0 : (pairAt m c t0_0 zero).sh = k0_pay7 (F := Ideal) := rfl
  rw [e2, sh_row, e1, sh_row, e0]
  exact halves (fun i => hit (target m c i) a.val * code m c i k) _ (by pointwise [k0_pay7])

theorem nc_row (j : Fin 2) (v : Acc Ideal) (a : Fin 128) : ((rowAt m c (pt j) v).nc (ix2 0 a) : EReal)
    = v.nc (ix2 0 a) + ∑ r : Fin 2048, hit (target m c (rowOf j r)) a.val := by
  refine (row_nc _ _ _).trans ?_
  simp only [Blocks.targets]
  rfl

theorem acc_nc (a : Fin 128) : ((acc2 m c).nc (ix2 0 a) : EReal) = ∑ i, hit (target m c i) a.val := by
  have e2 : (acc2 m c).nc = (rowAt m c (pt 1) (pairAt m c t0_1 (acc0 m c))).nc := rfl
  have e1 : (pairAt m c t0_1 (acc0 m c)).nc = (rowAt m c (pt 0) (pairAt m c t0_0 zero)).nc := rfl
  have e0 : (pairAt m c t0_0 zero).nc = k0_pay8 (F := Ideal) := rfl
  rw [e2, nc_row, e1, nc_row, e0]
  exact halves (fun i => hit (target m c i) a.val) _ (by pointwise [k0_pay8])

/-- Half a hash code's squared length. -/
def len (i : Fin 4096) : EReal := ((1 / 2 : ℝ) : EReal) * ∑ k, code m c i k * code m c i k

theorem norm_at (j : Fin 2) (r : Fin 2048) : (k0_pay28 (iblk m c 1 (pt j)) (ix1 r) : EReal) = len m c (rowOf j r) := by
  rw [norm]
  simp only [row_code]
  rfl

theorem dP_row (j : Fin 2) (v : Acc Ideal) : ((rowAt m c (pt j) v).dP (ix2 0 0) : EReal)
    = v.dP (ix2 0 0) + ∑ r : Fin 2048, softK (len m c (rowOf j r)) := by
  refine (row_dP _ _).trans ?_
  simp only [norm_at]

theorem acc_dP : ((acc2 m c).dP (ix2 0 0) : EReal) = ∑ i, softK (len m c i) := by
  have e2 : (acc2 m c).dP = (rowAt m c (pt 1) (pairAt m c t0_1 (acc0 m c))).dP := rfl
  have e1 : (pairAt m c t0_1 (acc0 m c)).dP = (rowAt m c (pt 0) (pairAt m c t0_0 zero)).dP := rfl
  have e0 : (pairAt m c t0_0 zero).dP = k0_pay63 (F := Ideal) k0_pay13 := rfl
  rw [e2, dP_row, e1, dP_row, e0]
  exact halves (fun i => softK (len m c i)) _ (by pointwise [k0_pay63, k0_pay13])

theorem dT_row (j : Fin 2) (v : Acc Ideal) : ((rowAt m c (pt j) v).dT (ix2 0 0) : EReal)
    = v.dT (ix2 0 0) + ∑ r : Fin 2048, len m c (rowOf j r) := by
  refine (row_dT _ _).trans ?_
  simp only [norm_at]

theorem acc_dT : ((acc2 m c).dT (ix2 0 0) : EReal) = ∑ i, len m c i := by
  have e2 : (acc2 m c).dT = (rowAt m c (pt 1) (pairAt m c t0_1 (acc0 m c))).dT := rfl
  have e1 : (pairAt m c t0_1 (acc0 m c)).dT = (rowAt m c (pt 0) (pairAt m c t0_0 zero)).dT := rfl
  have e0 : (pairAt m c t0_0 zero).dT = k0_pay64 (F := Ideal) := rfl
  rw [e2, dT_row, e1, dT_row, e0]
  exact halves (fun i => len m c i) _ (by pointwise [k0_pay64])

/-- The softplus of tile `p`, by the second row's class. -/
def tile (p : Fin 3) (r : Fin 2048) (a : Fin 128) : EReal := k0_pay69 (iblk m c 5 (at3 p)) (iblk m c 0 (at3 p)) (iblk m c 1 (at3 p)) (ix2 r a)

theorem sA_pair (p : Fin 3) (v : Acc Ideal) : ((pairAt m c (at3 p) v).sA (ix2 0 0) : EReal)
    = v.sA (ix2 0 0) + (((![1, 2, 1] : Fin 3 → ℝ) p : ℝ) : EReal) * ∑ r, ∑ a, tile m c p r a := by
  rw [← tile_weight]
  exact pair_sA _ _ _ _ _ _

theorem acc_sA : ((acc2 m c).sA (ix2 0 0) : EReal) = ((1 : ℝ) : EReal) * ∑ r, ∑ a, tile m c 0 r a + ((2 : ℝ) : EReal) * ∑ r, ∑ a, tile m c 1 r a
    + ((1 : ℝ) : EReal) * ∑ r, ∑ a, tile m c 2 r a := by
  have e2 : (acc2 m c).sA = (pairAt m c (at3 2) (acc1 m c)).sA := rfl
  have e1 : (acc1 m c).sA = (pairAt m c (at3 1) (acc0 m c)).sA := rfl
  have e0 : (acc0 m c).sA = (pairAt m c (at3 0) zero).sA := rfl
  have z : ((zero (F := Ideal)).sA (ix2 0 0) : EReal) = 0 := by show (k0_pay12 (F := Ideal) (ix2 0 0) : EReal) = 0; pointwise [k0_pay12]
  rw [e2, sA_pair, e1, sA_pair, e0, sA_pair, z, zero_add]
  rfl

theorem sP_pair (p : Fin 3) (v : Acc Ideal) : ((pairAt m c (at3 p) v).sP (ix2 0 0) : EReal)
    = v.sP (ix2 0 0) + (((![1, 2, 1] : Fin 3 → ℝ) p : ℝ) : EReal) * ∑ r, ∑ a : Fin 128, hit (target m c (rowOf (fst p) r)) a.val * tile m c p r a := by
  rw [← tile_weight]
  refine (pair_sP _ _ _ _ _ _).trans ?_
  simp only [targets4]
  rfl

theorem acc_sP : ((acc2 m c).sP (ix2 0 0) : EReal)
    = ((1 : ℝ) : EReal) * ∑ r, ∑ a : Fin 128, hit (target m c (rowOf 0 r)) a.val * tile m c 0 r a
    + ((2 : ℝ) : EReal) * ∑ r, ∑ a : Fin 128, hit (target m c (rowOf 0 r)) a.val * tile m c 1 r a
    + ((1 : ℝ) : EReal) * ∑ r, ∑ a : Fin 128, hit (target m c (rowOf 1 r)) a.val * tile m c 2 r a := by
  have e2 : (acc2 m c).sP = (pairAt m c (at3 2) (acc1 m c)).sP := rfl
  have e1 : (acc1 m c).sP = (pairAt m c (at3 1) (acc0 m c)).sP := rfl
  have e0 : (acc0 m c).sP = (pairAt m c (at3 0) zero).sP := rfl
  have z : ((zero (F := Ideal)).sP (ix2 0 0) : EReal) = 0 := by show (k0_pay11 (F := Ideal) (ix2 0 0) : EReal) = 0; pointwise [k0_pay11]
  rw [e2, sP_pair, e1, sP_pair, e0, sP_pair, z, zero_add]
  rfl

/-! ## The first eight rows -/

/-- The given similarity of two classes. -/
def L (a b : Fin 101) : EReal := m ((c : Thread nD τ).loc main_arg4) (ix2 a b)

section Eight
variable (K : Fin 4096 → Fin 101) (hK : ∀ i, target m c i = BitVec.ofNat 32 (K i).val)
include hK

theorem eight (r : Fin 8) : first8 (iblk m c 8 t0_2) (ix3 0 0 r) = BitVec.ofNat 32 (K (row8 r)).val := by
  rw [HashLast.first8_apply, targets8]
  refine Eq.trans ?_ (hK (row8 r))
  exact congrArg (fun i => target m c i) (Fin.ext (by simp [rowOf]))

theorem old8 (r s : Fin 8) : (k0_pay35 (F := Ideal) (first8 (iblk m c 8 t0_2)) (ix2 r s) : EReal) = (same K (row8 r) (row8 s) : EReal) := by
  rw [HashLast.old, eight m c K hK, eight m c K hK]
  unfold same
  by_cases h : K (row8 r) = K (row8 s)
  · rw [if_pos h, if_pos (by rw [h]), EReal.coe_one]
  · rw [if_neg h, EReal.coe_zero, if_neg]
    intro q
    have := congrArg BitVec.toNat q
    simp only [BitVec.toNat_ofNat] at this
    exact h (Fin.ext (by omega))

theorem given8 (r s : Fin 8) : (k0_pay32 (first8 (iblk m c 8 t0_2)) (iblk m c 9 t0_2) (ix2 r s) : EReal) = L m c (K (row8 r)) (K (row8 s)) := by
  rw [HashLast.given]
  simp only [eight m c K hK, hit_real]
  rw [Finset.sum_eq_single (lane (K (row8 s))) (fun b _ h => by rw [show ind (K (row8 s)) b = 0 from if_neg (Ne.symm h), EReal.coe_zero, mul_zero]) (by simp),
    show ind (K (row8 s)) (lane (K (row8 s))) = 1 from if_pos rfl, EReal.coe_one, mul_one,
    Finset.sum_eq_single (lane (K (row8 r))) (fun b _ h => by rw [show ind (K (row8 r)) b = 0 from if_neg (Ne.symm h), EReal.coe_zero, zero_mul]) (by simp),
    show ind (K (row8 r)) (lane (K (row8 r))) = 1 from if_pos rfl, EReal.coe_one, one_mul]
  exact given m c (K (row8 r)) (K (row8 s))

theorem one8 (r s : Fin 8) : (k0_pay36 (first8 (iblk m c 8 t0_2)) (iblk m c 9 t0_2) (ix2 r s) : EReal) = if L m c (K (row8 r)) (K (row8 s)) = 1 then 1 else 0 := by
  rw [HashLast.isOne, given8 m c K hK]

/-- The number of positive pairs. -/
theorem pos_count : (nPos (iblk m c 8 t0_2) (iblk m c 9 t0_2) (acc2 m c) : EReal) = count K (L m c) := by
  unfold nPos
  rw [HashLast.nPos_apply]
  simp only [old8 m c K hK, one8 m c K hK, HashLast.valid, acc_nc, hK, hit_real, ← coe_sum, ← EReal.coe_mul]
  have sq := squares (fun i => lane (K i)) (fun _ => 1)
  simp only [mul_one] at sq
  have sm : ∀ i j, (if lane (K i) = lane (K j) then (1 : ℝ) else 0) = same K i j := fun i j => by
    unfold same
    exact if_congr ⟨fun q => Fin.ext (Fin.mk.inj q), fun q => by rw [q]⟩ rfl rfl
  simp only [sm] at sq
  have d : ∀ r s : Fin 8, ((if L m c (K (row8 r)) (K (row8 s)) = 1 then (1 : EReal) else 0) - (same K (row8 r) (row8 s) : EReal)) * (if r.val < 6 ∧ s.val < 6 then 1 else 0)
      = (((fun i j : Fin 4096 => ((if L m c (K i) (K j) = 1 then (1 : ℝ) else 0) - same K i j) * (if i.val < 6 ∧ j.val < 6 then 1 else 0)) (row8 r) (row8 s) : ℝ) : EReal) := by
    intro r s
    dsimp only
    rw [EReal.coe_mul, EReal.coe_sub]
    split <;> split <;> simp
  simp only [d, ← coe_sum]
  rw [sum_first2 (fun i j : Fin 4096 => ((if L m c (K i) (K j) = 1 then (1 : ℝ) else 0) - same K i j) * (if i.val < 6 ∧ j.val < 6 then 1 else 0))
    (fun i j h => by rw [if_neg (show ¬(i.val < 6 ∧ j.val < 6) by omega), mul_zero])]
  unfold ind
  rw [sq, ← EReal.coe_add, count_eq, n, ← Finset.sum_add_distrib]
  congr 1
  refine Finset.sum_congr rfl fun i _ => ?_
  rw [← Finset.sum_add_distrib]
  refine Finset.sum_congr rfl fun j _ => ?_
  unfold sim
  by_cases h : i.val < 6 ∧ j.val < 6
  · rw [if_pos h, if_pos h]; ring
  · rw [if_neg h, if_neg h]
    unfold same
    by_cases e : K i = K j <;> simp [e]

theorem first_count : (k0_pay52 (F := Ideal) (nPos (iblk m c 8 t0_2) (iblk m c 9 t0_2) (acc2 m c)) : EReal) = count K (L m c) - (4096 : ℝ) := by
  rw [pos_count m c K hK]
  show count K (L m c) - Ideal.ofBits .f32 0x45800000#32 = _
  rw [HashLast.size]

theorem second_count : (k0_pay53 (F := Ideal) (nPos (iblk m c 8 t0_2) (iblk m c 9 t0_2) (acc2 m c)) : EReal) = rest K (L m c) := by
  rw [pos_count m c K hK]
  show Ideal.ofBits .f32 0x45800000#32 * Ideal.ofBits .f32 0x45800000#32 - count K (L m c) = _
  rw [HashLast.size, rest_eq, count_eq, EReal.coe_sub, EReal.coe_mul]

end Eight

end Cert.KernelIdeal.HashAcc

end

end
-- ==== Proof.HashKernel.lean ====
module

public import proofs.«01_k».proof.Proof.HashAcc
public import proofs.«01_k».proof.Proof.Outs

/-!
# The hash loss of the kernel

From its accumulators and the first eight rows, the hash loss of all pairs. Where a hash code is not real, both losses are negative infinity.
-/

@[expose] public section

set_option maxRecDepth 16384

noncomputable section

namespace Cert.KernelIdeal.HashLoss

open Idealize.ShloMosaic Idealize.ShloMosaic.TcCoe Idealize.SL.Sem
open Cert.KernelIdeal Cert.KernelIdeal.Gen Cert.KernelIdeal.Step Cert.KernelIdeal.Body Cert.KernelIdeal.Rows Cert.KernelIdeal.Blocks Cert.KernelIdeal.Sums
open Cert.KernelIdeal.HashBlocks Cert.KernelIdeal.HashRows Cert.KernelIdeal.HashAcc Cert.HashMath Cert.HashSum

variable (m : (ℓ : Loc nD τ sig) → Buf (Elt Ideal) ℓ) (c : Dev nD)
variable (K : Fin 4096 → Fin 101) (hK : ∀ i, target m c i = BitVec.ofNat 32 (K i).val)

theorem ind_ind (i j : Fin 4096) : (if lane (K i) = lane (K j) then (1 : ℝ) else 0) = same K i j := by
  unfold same
  exact if_congr ⟨fun q => Fin.ext (Fin.mk.inj q), fun q => by rw [q]⟩ rfl rfl

/-- Half the inner product of two hash codes. -/
def dot (h : Fin 4096 → Fin 64 → ℝ) (i j : Fin 4096) : ℝ := ∑ k, h i k * (1 / 2) * h j k

theorem dot_symm (h : Fin 4096 → Fin 64 → ℝ) (i j : Fin 4096) : dot h i j = dot h j i :=
  Finset.sum_congr rfl fun k _ => by ring

/-- The class sums' squared lengths are the inner products within the classes. -/
theorem within (h : Fin 4096 → Fin 64 → ℝ) :
    (1 / 2) * ∑ a : Fin 128, ∑ k, (∑ i, ind (K i) a * h i k) * (∑ i, ind (K i) a * h i k) = ∑ i, ∑ j, same K i j * dot h i j := by
  rw [Finset.sum_comm]
  have e : ∀ k, ∑ a : Fin 128, (∑ i, ind (K i) a * h i k) * (∑ i, ind (K i) a * h i k) = ∑ i, ∑ j, same K i j * (h i k * h j k) := by
    intro k
    refine (squares (fun i => lane (K i)) (fun i => h i k)).trans ?_
    simp only [ind_ind]
  simp only [e]
  rw [Finset.sum_comm, Finset.mul_sum]
  refine Finset.sum_congr rfl fun i _ => ?_
  rw [Finset.sum_comm, Finset.mul_sum]
  refine Finset.sum_congr rfl fun j _ => ?_
  rw [← Finset.mul_sum, dot, Finset.mul_sum, Finset.mul_sum, Finset.mul_sum]
  refine Finset.sum_congr rfl fun k _ => ?_
  ring

section Real
variable (h : Fin 4096 → Fin 64 → ℝ) (hh : ∀ i k, code m c i k = (h i k : EReal))
include hh

theorem len_real (i : Fin 4096) : len m c i = (dot h i i : EReal) := by
  unfold len
  simp only [hh, ← EReal.coe_mul, ← coe_sum]
  congr 1
  rw [dot, Finset.mul_sum]
  exact Finset.sum_congr rfl fun k _ => by ring

theorem dP_real : ((acc2 m c).dP (ix2 0 0) : EReal) = ((∑ i, sp (dot h i i) : ℝ) : EReal) := by
  rw [acc_dP, coe_sum]
  simp only [len_real m c h hh, softK_coe]

theorem dT_real : ((acc2 m c).dT (ix2 0 0) : EReal) = ((∑ i, dot h i i : ℝ) : EReal) := by
  rw [acc_dT, coe_sum]
  simp only [len_real m c h hh]

theorem theta8 (r s : Fin 8) : (k0_pay30 (iblk m c 6 t0_2) (iblk m c 7 t0_2) (ix2 r s) : EReal) = (dot h (row8 r) (row8 s) : EReal) := by
  rw [HashLast.theta]
  simp only [codes6, codes7, hh, half, ← EReal.coe_mul, ← coe_sum]
  rfl

include hK

theorem tile_real (p : Fin 3) (r : Fin 2048) (a : Fin 128) :
    tile m c p r a = ((∑ s : Fin 2048, sp (dot h (rowOf (fst p) r) (rowOf (snd p) s)) * ind (K (rowOf (snd p) s)) a : ℝ) : EReal) := by
  unfold tile
  rw [soft, coe_sum]
  refine Finset.sum_congr rfl fun s _ => ?_
  have t5 : (iblk m c 5 (at3 p) : Vec Ideal S1x1x2048 .i32) (ix3 0 0 s) = BitVec.ofNat 32 (K (rowOf (snd p) s)).val := (targets5 m c p s).trans (hK _)
  rw [t5, hit_real, EReal.coe_mul, ← softK_coe, dot]
  simp only [codes0, codes1, hh, half, ← EReal.coe_mul, ← coe_sum]

theorem tile_sum (p : Fin 3) : ∑ r, ∑ a, tile m c p r a = ((∑ r : Fin 2048, ∑ s : Fin 2048, sp (dot h (rowOf (fst p) r) (rowOf (snd p) s)) : ℝ) : EReal) := by
  simp only [tile_real m c K hK h hh, ← coe_sum]
  congr 1
  exact Finset.sum_congr rfl fun r _ => over_lanes (fun s => sp (dot h (rowOf (fst p) r) (rowOf (snd p) s))) (fun s => K (rowOf (snd p) s))

theorem tile_same (p : Fin 3) : ∑ r, ∑ a : Fin 128, hit (target m c (rowOf (fst p) r)) a.val * tile m c p r a
    = ((∑ r : Fin 2048, ∑ s : Fin 2048, same K (rowOf (fst p) r) (rowOf (snd p) s) * sp (dot h (rowOf (fst p) r) (rowOf (snd p) s)) : ℝ) : EReal) := by
  simp only [tile_real m c K hK h hh, hK, hit_real, ← EReal.coe_mul, ← coe_sum]
  congr 1
  exact Finset.sum_congr rfl fun r _ => over_lane (fun s => sp (dot h (rowOf (fst p) r) (rowOf (snd p) s))) (fun s => K (rowOf (snd p) s)) (K (rowOf (fst p) r))

theorem sA_real : ((acc2 m c).sA (ix2 0 0) : EReal) = ((∑ i, ∑ j, sp (dot h i j) : ℝ) : EReal) := by
  rw [acc_sA, tile_sum m c K hK h hh, tile_sum m c K hK h hh, tile_sum m c K hK h hh,
    ← tiles (fun i j => sp (dot h i j)) (fun i j => congrArg sp (dot_symm h i j)),
    EReal.coe_add, EReal.coe_add, EReal.coe_mul, EReal.coe_one, one_mul, one_mul]
  rfl

theorem sP_real : ((acc2 m c).sP (ix2 0 0) : EReal) = ((∑ i, ∑ j, same K i j * sp (dot h i j) : ℝ) : EReal) := by
  have t0 := tile_same m c K hK h hh 0
  have t1 := tile_same m c K hK h hh 1
  have t2 := tile_same m c K hK h hh 2
  have f0 : fst 0 = 0 := rfl
  have f1 : fst 1 = 0 := rfl
  have f2 : fst 2 = 1 := rfl
  rw [f0] at t0
  rw [f1] at t1
  rw [f2] at t2
  rw [acc_sP, t0, t1, t2, ← tiles (fun i j => same K i j * sp (dot h i j)) (fun i j => by
      show same K i j * sp (dot h i j) = same K j i * sp (dot h j i)
      rw [dot_symm h i j]
      unfold same
      rw [if_congr eq_comm rfl rfl]),
    EReal.coe_add, EReal.coe_add, EReal.coe_mul, EReal.coe_one, one_mul, one_mul]
  rfl

theorem dots_real : (k0_pay45 (acc2 m c).sh : EReal) = ((∑ i, ∑ j, same K i j * dot h i j : ℝ) : EReal) := by
  rw [HashLast.dots, ← within K h]
  simp only [acc_sh, hK, hit_real, hh, ← EReal.coe_mul, ← coe_sum]

theorem corrP_real (r s : Fin 8) : (corrP (iblk m c 6 t0_2) (iblk m c 7 t0_2) (iblk m c 8 t0_2) (iblk m c 9 t0_2) (ix2 r s) : EReal)
    = cP K (L m c) (dot h) (row8 r) (row8 s) := by
  rw [HashLast.corrP_apply, theta8 m c h hh, old8 m c K hK, given8 m c K hK, one8 m c K hK, HashLast.valid]
  rfl

theorem corrN_real (r s : Fin 8) : (corrN (iblk m c 6 t0_2) (iblk m c 7 t0_2) (iblk m c 8 t0_2) (iblk m c 9 t0_2) (ix2 r s) : EReal)
    = cN K (L m c) (dot h) (row8 r) (row8 s) := by
  rw [HashLast.corrN_apply, theta8 m c h hh, old8 m c K hK, given8 m c K hK, one8 m c K hK, HashLast.valid]
  rfl

omit hK hh in
theorem cP_far (M : Fin 101 → Fin 101 → EReal) (i j : Fin 4096) (q : 8 ≤ i.val ∨ 8 ≤ j.val) : cP K M (dot h) i j = 0 := by
  unfold cP HashLast.fixP
  rw [if_neg (show ¬(i.val < 6 ∧ j.val < 6) by omega), mul_zero]

omit hK hh in
theorem cN_far (M : Fin 101 → Fin 101 → EReal) (i j : Fin 4096) (q : 8 ≤ i.val ∨ 8 ≤ j.val) : cN K M (dot h) i j = 0 := by
  unfold cN HashLast.fixN
  rw [if_neg (show ¬(i.val < 6 ∧ j.val < 6) by omega), mul_zero]

theorem sumP_real : (sumP (iblk m c 6 t0_2) (iblk m c 7 t0_2) (iblk m c 8 t0_2) (iblk m c 9 t0_2) (acc2 m c) : EReal)
    = (((∑ i, ∑ j, same K i j * sp (dot h i j) : ℝ) : EReal) - ((∑ i, ∑ j, same K i j * dot h i j : ℝ) : EReal)) + ∑ i, ∑ j, cP K (L m c) (dot h) i j := by
  unfold sumP
  rw [HashLast.sumP_apply, sP_real m c K hK h hh, dots_real m c K hK h hh, ← sum_first2 _ (cP_far K h (L m c))]
  simp only [corrP_real m c K hK h hh]

theorem sumN_real : (sumN (iblk m c 6 t0_2) (iblk m c 7 t0_2) (iblk m c 8 t0_2) (iblk m c 9 t0_2) (acc2 m c) : EReal)
    = (((∑ i, ∑ j, sp (dot h i j) : ℝ) : EReal) - ((∑ i, ∑ j, same K i j * sp (dot h i j) : ℝ) : EReal)) + ∑ i, ∑ j, cN K (L m c) (dot h) i j := by
  unfold sumN
  rw [HashLast.sumN_apply, sP_real m c K hK h hh, sA_real m c K hK h hh, ← sum_first2 _ (cN_far K h (L m c))]
  simp only [corrN_real m c K hK h hh]

theorem diaP_real : (diaP (iblk m c 6 t0_2) (iblk m c 7 t0_2) (iblk m c 8 t0_2) (iblk m c 9 t0_2) (acc2 m c) : EReal)
    = (((∑ i, sp (dot h i i) : ℝ) : EReal) - ((∑ i, dot h i i : ℝ) : EReal)) + ∑ i, cP K (L m c) (dot h) i i := by
  unfold diaP
  rw [HashLast.diaP_apply, dP_real m c h hh, dT_real m c h hh, ← sum_first _ (fun i q => cP_far K h (L m c) i i (.inl q))]
  simp only [corrP_real m c K hK h hh, HashLast.eye, mul_ite, mul_one, mul_zero, Finset.sum_ite_eq, Finset.mem_univ, if_true]

theorem diaN_real : (diaN (iblk m c 6 t0_2) (iblk m c 7 t0_2) (iblk m c 8 t0_2) (iblk m c 9 t0_2) : EReal)
    = ∑ i, cN K (L m c) (dot h) i i := by
  unfold diaN
  rw [HashLast.diaN_apply, ← sum_first _ (fun i q => cN_far K h (L m c) i i (.inl q))]
  simp only [corrN_real m c K hK h hh, HashLast.eye, mul_ite, mul_one, mul_zero, Finset.sum_ite_eq, Finset.mem_univ, if_true]

end Real

/-- The reference's half inner product. -/
def half_dot (i j : Fin 4096) : EReal := Ideal.div (∑ k, code m c i k * code m c j k) (2 : ℝ)

theorem half_dot_real (h : Fin 4096 → Fin 64 → ℝ) (hh : ∀ i k, code m c i k = (h i k : EReal)) : half_dot m c = fun i j => (dot h i j : EReal) := by
  funext i j
  unfold half_dot
  simp only [hh, ← EReal.coe_mul, ← coe_sum]
  rw [Ideal.div_coe (by norm_num), ← EReal.coe_mul]
  congr 1
  rw [dot, Finset.sum_mul]
  exact Finset.sum_congr rfl fun k _ => by ring

theorem square_nonneg (x : EReal) : 0 ≤ x * x := by
  induction x with
  | bot => simp
  | top => simp
  | coe x => rw [← EReal.coe_mul]; exact_mod_cast mul_self_nonneg x

theorem square_top (x : EReal) (h : ¬ ∃ r : ℝ, x = r) : x * x = ⊤ := by
  induction x with
  | bot => simp
  | top => simp
  | coe x => exact absurd ⟨x, rfl⟩ h

theorem half_top : ((1 / 2 : ℝ) : EReal) * ⊤ = ⊤ := EReal.coe_mul_top_of_pos (by norm_num)

theorem half_dot_top (i : Fin 4096) (k : Fin 64) (q : ¬ ∃ r : ℝ, code m c i k = r) : half_dot m c i i = ⊤ := by
  unfold half_dot
  rw [sum_top _ k (square_top _ q) (fun k => square_nonneg _), Ideal.div_coe (by norm_num), mul_comm, half_top]

include hK

theorem dots_top (i : Fin 4096) (k : Fin 64) (q : ¬ ∃ r : ℝ, code m c i k = r) : (k0_pay45 (acc2 m c).sh : EReal) = ⊤ := by
  have n : ¬ ∃ r : ℝ, ((acc2 m c).sh (ix2 (lane (K i)) k) : EReal) = r := by
    rintro ⟨r, e⟩
    rw [acc_sh] at e
    obtain ⟨x, hx⟩ := real_of_sum _ _ r e i (Finset.mem_univ i)
    rw [hK, hit_real, show ind (K i) (lane (K i)) = 1 from if_pos rfl, EReal.coe_one, one_mul] at hx
    exact q ⟨x, hx⟩
  rw [HashLast.dots, sum_top (fun a => ∑ k, ((acc2 m c).sh (ix2 a k) : EReal) * (acc2 m c).sh (ix2 a k)) (lane (K i))
    (sum_top _ k (square_top _ n) (fun k => square_nonneg _)) (fun a => Finset.sum_nonneg fun k _ => square_nonneg _), half_top]

theorem hash_entry : (hashLoss (iblk m c 6 t0_2) (iblk m c 7 t0_2) (iblk m c 8 t0_2) (iblk m c 9 t0_2) (acc2 m c) : EReal)
    = value K (L m c) (half_dot m c) (count K (L m c) - (4096 : ℝ)) (rest K (L m c)) := by
  unfold hashLoss
  rw [HashLast.hash_apply, first_count m c K hK, second_count m c K hK]
  by_cases q : ∀ i k, ∃ r : ℝ, code m c i k = r
  · choose h hh using q
    rw [sumP_real m c K hK h hh, sumN_real m c K hK h hh, diaP_real m c K hK h hh, diaN_real m c K hK h hh, value_real, half_dot_real m c h hh]
  · push Not at q
    obtain ⟨i, k, q⟩ := q
    have q' : ¬ ∃ r : ℝ, code m c i k = r := fun ⟨r, e⟩ => q r e
    have e : (sumP (iblk m c 6 t0_2) (iblk m c 7 t0_2) (iblk m c 8 t0_2) (iblk m c 9 t0_2) (acc2 m c) : EReal) = ⊥ := by
      unfold sumP
      rw [HashLast.sumP_apply, dots_top m c K hK i k q', sub_eq_add_neg, EReal.neg_top, EReal.add_bot, EReal.bot_add]
    rw [e, total_bot, value_bot K (L m c) (half_dot m c) i (half_dot_top m c i k q')]

omit hK in
/-- The whole loss is the two losses, weighed. -/
theorem whole_entry : (loss (iblk m c 6 t0_2) (iblk m c 7 t0_2) (iblk m c 8 t0_2) (iblk m c 9 t0_2) (acc2 m c) : EReal)
    = Ideal.ofBits .f32 0x3F800000#32 * (k0_pay55 (acc2 m c).nl : EReal)
      + Ideal.ofBits .f32 0x3C23D70A#32 * (hashLoss (iblk m c 6 t0_2) (iblk m c 7 t0_2) (iblk m c 8 t0_2) (iblk m c 9 t0_2) (acc2 m c) : EReal) := by
  unfold loss hashLoss
  generalize sumP (iblk m c 6 t0_2) (iblk m c 7 t0_2) (iblk m c 8 t0_2) (iblk m c 9 t0_2) (acc2 m c) = a
  generalize sumN (iblk m c 6 t0_2) (iblk m c 7 t0_2) (iblk m c 8 t0_2) (iblk m c 9 t0_2) (acc2 m c) = b
  generalize diaP (iblk m c 6 t0_2) (iblk m c 7 t0_2) (iblk m c 8 t0_2) (iblk m c 9 t0_2) (acc2 m c) = d
  generalize diaN (iblk m c 6 t0_2) (iblk m c 7 t0_2) (iblk m c 8 t0_2) (iblk m c 9 t0_2) = e
  generalize nPos (iblk m c 8 t0_2) (iblk m c 9 t0_2) (acc2 m c) = n
  generalize (acc2 m c).nl = l
  rfl

end Cert.KernelIdeal.HashLoss

end

end
-- ==== Proof.Equal.lean ====
module

public import proofs.«01_k».proof.Proof.Tame
public import proofs.«01_k».proof.Proof.KernelMatrix
public import proofs.«01_k».proof.Proof.RefMatrix
public import proofs.«01_k».proof.Proof.RefLoss
public import proofs.«01_k».proof.Proof.HashRef
public import proofs.«01_k».proof.Proof.HashKernel
public import proofs.«01_k».proof.Proof.Frames

/-!
# The results agree

From equal arguments within the precondition, the kernel's five results are the reference's.
-/

@[expose] public section

set_option maxRecDepth 16384

noncomputable section

namespace Cert.Equal

open Idealize.ShloMosaic Idealize.SL.Sem
open Cert.KernelIdeal.Sums (target logit feature)

variable [hT : Cert.Pre_tame.Facts]
  (m : (ℓ : Loc Cert.KernelIdeal.nD Cert.KernelIdeal.τ Cert.KernelIdeal.sig) → Buf (Elt Ideal) ℓ)
  (h : Cert.Pre_KernelIdeal_tame m) (c : Dev Cert.KernelIdeal.nD)

/-- The arguments, as arrays. -/
def a0 : Cert.ReferenceIdeal.S4096x128.Idx → EReal := m ((c.tc : Thread Cert.KernelIdeal.nD Cert.KernelIdeal.τ).loc Cert.KernelIdeal.main_arg0)
def a1 : Cert.ReferenceIdeal.S4096x64.Idx → EReal := m ((c.tc : Thread Cert.KernelIdeal.nD Cert.KernelIdeal.τ).loc Cert.KernelIdeal.main_arg1)
def a2 : Cert.ReferenceIdeal.S4096x101.Idx → EReal := m ((c.tc : Thread Cert.KernelIdeal.nD Cert.KernelIdeal.τ).loc Cert.KernelIdeal.main_arg2)
def a3 : IVec Cert.ReferenceIdeal.S4096 32 := m ((c.tc : Thread Cert.KernelIdeal.nD Cert.KernelIdeal.τ).loc Cert.KernelIdeal.main_arg3)
def a4 : Cert.ReferenceIdeal.S101x101.Idx → EReal := m ((c.tc : Thread Cert.KernelIdeal.nD Cert.KernelIdeal.τ).loc Cert.KernelIdeal.main_arg4)
def a5 : Cert.ReferenceIdeal.S101x101.Idx → EReal := m ((c.tc : Thread Cert.KernelIdeal.nD Cert.KernelIdeal.τ).loc Cert.KernelIdeal.main_arg5)
def a6 : Cert.ReferenceIdeal.S101x101.Idx → EReal := m ((c.tc : Thread Cert.KernelIdeal.nD Cert.KernelIdeal.τ).loc Cert.KernelIdeal.main_arg6)

/-- The kernel's five results. -/
def sim : Cert.KernelIdeal.S101x101.Idx → EReal :=
  extractStridedSlice Cert.KernelIdeal.S101x101 ![0, 0] (Cert.KernelIdeal.Body.res12 m c) Cert.KernelIdeal.Gen.slices_S128x128_S101x101_0_0
def cnt : Cert.KernelIdeal.S101x101.Idx → EReal :=
  extractStridedSlice Cert.KernelIdeal.S101x101 ![0, 0] (Cert.KernelIdeal.Body.res13 m c) Cert.KernelIdeal.Gen.slices_S128x128_S101x101_0_0
def hash : Cert.KernelIdeal.S_.Idx → EReal :=
  shapeCast Cert.KernelIdeal.S_ (extractStridedSlice Cert.KernelIdeal.S1x1 ![0, 0] (Cert.KernelIdeal.Body.res14 m c)
    Cert.KernelIdeal.Gen.slices_S1x128_S1x1_0_0) Cert.KernelIdeal.Gen.shapeCasts_S1x1_S_
def loss : Cert.KernelIdeal.S_.Idx → EReal :=
  shapeCast Cert.KernelIdeal.S_ (extractStridedSlice Cert.KernelIdeal.S1x1 ![0, 1] (Cert.KernelIdeal.Body.res14 m c)
    Cert.KernelIdeal.Gen.slices_S1x128_S1x1_0_1) Cert.KernelIdeal.Gen.shapeCasts_S1x1_S_
def whole : Cert.KernelIdeal.S_.Idx → EReal :=
  shapeCast Cert.KernelIdeal.S_ (extractStridedSlice Cert.KernelIdeal.S1x1 ![0, 2] (Cert.KernelIdeal.Body.res14 m c)
    Cert.KernelIdeal.Gen.slices_S1x128_S1x1_0_2) Cert.KernelIdeal.Gen.shapeCasts_S1x1_S_

/-- An index of a square matrix is a row and a lane. -/
theorem index2 (q : Cert.KernelIdeal.S101x101.Idx) : ∃ a b : Fin 101, q = ix2 a b :=
  ⟨q 0, q 1, funext fun a => match a with
    | ⟨0, _⟩ => rfl
    | ⟨1, _⟩ => rfl⟩

include h

/-- Result 1. -/
theorem sim_eq : Cert.ReferenceIdeal.Read.val_main_v77 (F := Ideal) (a0 m c) (a2 m c) (a3 m c) (a5 m c) = sim m c := by
  funext q
  obtain ⟨a, b, rfl⟩ := index2 q
  refine (Cert.ReferenceIdeal.Matrix.sim_entry (a0 m c) (a2 m c) (a3 m c) (fun i => Cert.Tame.target_lt m h c i) (a5 m c) a b).trans ?_
  exact ((Cert.KernelIdeal.Tail.cut _ a b).trans (Cert.KernelIdeal.Matrix.sim_entry m c a b)).symm

/-- Result 2. -/
theorem cnt_eq : Cert.ReferenceIdeal.Read.val_main_v78 (F := Ideal) (a2 m c) (a3 m c) (a6 m c) = cnt m c := by
  funext q
  obtain ⟨a, b, rfl⟩ := index2 q
  refine (Cert.ReferenceIdeal.Matrix.cnt_entry (a2 m c) (a3 m c) (fun i => Cert.Tame.target_lt m h c i) (a6 m c) a b).trans ?_
  exact ((Cert.KernelIdeal.Tail.cut _ a b).trans (Cert.KernelIdeal.Matrix.cnt_entry m c a b)).symm

/-- The class of a row's target. -/
theorem target_class (i : Fin 4096) : target m c i = BitVec.ofNat 32 (⟨(target m c i).toNat, Cert.Tame.target_lt m h c i⟩ : Fin 101).val := by
  simp

/-- Result 4. -/
theorem loss_eq : Cert.ReferenceIdeal.Read.val_main_v6 (F := Ideal) (a2 m c) (a3 m c) = loss m c := by
  funext q
  refine (Cert.ReferenceIdeal.Loss.loss_entry (a2 m c) (a3 m c) _ (target_class m h c) (fun i k => Cert.Tame.logit_real m h c i k) q).trans ?_
  exact ((Cert.KernelIdeal.Tail.cut_1 _ q).trans (Cert.KernelIdeal.Loss.loss_entry m c _ (target_class m h c))).symm

/-- Result 3. -/
theorem hash_eq : Cert.ReferenceIdeal.Read.val_main_v157 (F := Ideal) (a1 m c) (a3 m c) (a4 m c) = hash m c := by
  funext q
  refine (Cert.ReferenceIdeal.HashRef.hash_entry (a3 m c) (a4 m c) _ (target_class m h c) (a1 m c) q).trans ?_
  exact ((Cert.KernelIdeal.Tail.cut_0 _ q).trans ((Cert.KernelIdeal.Outs.lane_0 _ _ _ _ _).trans
    (Cert.KernelIdeal.HashLoss.hash_entry m c _ (target_class m h c)))).symm

/-- Result 5. -/
theorem whole_eq : Cert.ReferenceIdeal.Read.val_main_v160 (F := Ideal) (a1 m c) (a2 m c) (a3 m c) (a4 m c) = whole m c := by
  funext q
  refine (Cert.ReferenceIdeal.HashRef.whole_entry (a1 m c) (a2 m c) (a3 m c) (a4 m c) q).trans ?_
  rw [loss_eq m h c, hash_eq m h c]
  refine ((Cert.KernelIdeal.Tail.cut_2 _ q).trans ((Cert.KernelIdeal.Outs.lane_2 _ _ _ _ _).trans
    ((Cert.KernelIdeal.HashLoss.whole_entry m c).trans ?_))).symm
  have e1 : loss m c q = (Cert.KernelIdeal.Gen.k0_pay55 (Cert.KernelIdeal.Body.acc2 m c).nl : EReal) :=
    (Cert.KernelIdeal.Tail.cut_1 _ q).trans (Cert.KernelIdeal.Outs.lane_1 _ _ _ _ _)
  have e0 : hash m c q = _ := (Cert.KernelIdeal.Tail.cut_0 _ q).trans (Cert.KernelIdeal.Outs.lane_0 _ _ _ _ _)
  rw [e1, e0]

end Cert.Equal

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal
public import Idealize.ShloMosaic.Adequacy
public import Idealize.ShloMosaic.Init

/-!
# The claim

The pieces proved elsewhere, put together in the order the claim states them.
-/

@[expose] public section

noncomputable section

namespace Cert.Proof

open Idealize.ShloMosaic Idealize.SL.Sem Cert.Kernel

/-- The two named constants stand where the rules allow them. -/
theorem constants : Cert.preserves_Kernel_KernelIdeal :=
  ⟨IdealRules.named_const.statement Cert.KernelIdeal.κ "neg_log2e" _ _ _ rfl,
   IdealRules.named_const.statement Cert.KernelIdeal.κ "mask" _ _ _ rfl⟩

/-- The five results agree: each run's are the arrays `Cert.Equal` names, and neither changes its arguments. -/
theorem values : Cert.algebraic_KernelIdeal_ReferenceIdeal_pre_tame (hPre_tame := Cert.Tame.facts) := by
  letI := Cert.Tame.facts
  intro m g m' g' hpre hargs
  refine ⟨fun c => Cert.Equal.sim m c, fun c => Cert.Equal.cnt m c, fun c => Cert.Equal.hash m c, fun c => Cert.Equal.loss m c,
    fun c => Cert.Equal.whole m c, ?_, ?_⟩
  · refine (θ_run _ _ _).mono (fun r h c => ?_) (θ_run_and (Cert.KernelIdeal.Tail.results m g) (Cert.Frames.kernelIdeal m g))
    exact ⟨(h.1 c).1, (h.1 c).2.1, (h.1 c).2.2.1, (h.1 c).2.2.2.1, (h.1 c).2.2.2.2, h.2.1 c⟩
  · refine (θ_run _ _ _).mono (fun r h c => ?_) (Cert.ReferenceIdeal.Value.run m' g')
    obtain ⟨e0, e1, e2, e3, e4, e5, e6, e7⟩ := hargs c
    refine ⟨(h c).1.trans ?_, (h c).2.1.trans ?_, (h c).2.2.1.trans ?_, (h c).2.2.2.1.trans ?_, (h c).2.2.2.2.1.trans ?_, (h c).2.2.2.2.2⟩
    · rw [Cert.ReferenceIdeal.Read.val_main_v77_eq]
      exact (congr (congr (congr (congrArg (Cert.ReferenceIdeal.Read.val_main_v77 (F := Ideal)) e0) e2) e3) e5).trans (Cert.Equal.sim_eq m hpre c)
    · rw [Cert.ReferenceIdeal.Read.val_main_v78_eq]
      exact (congr (congr (congrArg (Cert.ReferenceIdeal.Read.val_main_v78 (F := Ideal)) e2) e3) e6).trans (Cert.Equal.cnt_eq m hpre c)
    · rw [Cert.ReferenceIdeal.Read.val_main_v157_eq]
      exact (congr (congr (congrArg (Cert.ReferenceIdeal.Read.val_main_v157 (F := Ideal)) e1) e3) e4).trans (Cert.Equal.hash_eq m hpre c)
    · rw [Cert.ReferenceIdeal.Read.val_main_v6_eq]
      exact (congr (congrArg (Cert.ReferenceIdeal.Read.val_main_v6 (F := Ideal)) e2) e3).trans (Cert.Equal.loss_eq m hpre c)
    · rw [Cert.ReferenceIdeal.Read.val_main_v160_eq]
      exact (congr (congr (congr (congrArg (Cert.ReferenceIdeal.Read.val_main_v160 (F := Ideal)) e1) e2) e3) e4).trans (Cert.Equal.whole_eq m hpre c)

theorem claim : Cert.Claim :=
  ⟨Cert.Kernel.Gen.facts, Cert.KernelIdeal.Gen.facts, Cert.ReferenceIdeal.Gen.facts, Cert.Tame.facts,
    fun m g _ => Cert.Frames.kernel m g, fun m g _ => Cert.Frames.kernelIdeal m g, fun m g _ => Cert.Frames.kernelIdeal m g,
    fun m g _ => Cert.Frames.reference m g, fun m g _ => Cert.Frames.reference m g, constants, values⟩

end Cert.Proof

end
